-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  IdealRules.named_const.Statement Cert.Kernel2Ideal.κ "gelu_c2" .f32 0x3D122279#32 ((80338380498831 / 2251799813685248 : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)) (v2 : (c : Dev Cert.Kernel2Ideal.nD) → Buf (Elt Ideal) ((c.tc : Thread Cert.Kernel2Ideal.nD Cert.Kernel2Ideal.τ).loc Cert.Kernel2Ideal.main_v9_2)) (v3 : (c : Dev Cert.Kernel2Ideal.nD) → Buf (Elt Ideal) ((c.tc : Thread Cert.Kernel2Ideal.nD Cert.Kernel2Ideal.τ).loc Cert.Kernel2Ideal.main_v9_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_v9_2) = v2 c
          ∧ r.2.mem ((c.tc : Thread Cert.Kernel2Ideal.nD Cert.Kernel2Ideal.τ).loc Cert.Kernel2Ideal.main_v9_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v69) = v0 c
          ∧ r.2.mem ((c.tc : Thread Cert.Reference2Ideal.nD Cert.Reference2Ideal.τ).loc Cert.Reference2Ideal.main_v71) = v1 c
          ∧ r.2.mem ((c.tc : Thread Cert.Reference2Ideal.nD Cert.Reference2Ideal.τ).loc Cert.Reference2Ideal.main_v73) = v2 c
          ∧ r.2.mem ((c.tc : Thread Cert.Reference2Ideal.nD Cert.Reference2Ideal.τ).loc Cert.Reference2Ideal.main_v76) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)) (v2 : (c : Dev Cert.Kernel3Ideal.nD) → Buf (Elt Ideal) ((c.tc : Thread Cert.Kernel3Ideal.nD Cert.Kernel3Ideal.τ).loc Cert.Kernel3Ideal.main_v9_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_v9_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_v45) = v1 c
          ∧ r.2.mem ((c.tc : Thread Cert.Reference3Ideal.nD Cert.Reference3Ideal.τ).loc Cert.Reference3Ideal.main_v49) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v13_2)) (v1 : (c : Dev Cert.Kernel5Ideal.nD) → Buf (Elt Ideal) ((c.tc : Thread Cert.Kernel5Ideal.nD Cert.Kernel5Ideal.τ).loc Cert.Kernel5Ideal.main_v13_3)) (v2 : (c : Dev Cert.Kernel5Ideal.nD) → Buf (Elt Ideal) ((c.tc : Thread Cert.Kernel5Ideal.nD Cert.Kernel5Ideal.τ).loc Cert.Kernel5Ideal.main_v13_4)) (v3 : (c : Dev Cert.Kernel5Ideal.nD) → Buf (Elt Ideal) ((c.tc : Thread Cert.Kernel5Ideal.nD Cert.Kernel5Ideal.τ).loc Cert.Kernel5Ideal.main_v13_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13_2) = v0 c
          ∧ r.2.mem ((c.tc : Thread Cert.Kernel5Ideal.nD Cert.Kernel5Ideal.τ).loc Cert.Kernel5Ideal.main_v13_3) = v1 c
          ∧ r.2.mem ((c.tc : Thread Cert.Kernel5Ideal.nD Cert.Kernel5Ideal.τ).loc Cert.Kernel5Ideal.main_v13_4) = v2 c
          ∧ r.2.mem ((c.tc : Thread Cert.Kernel5Ideal.nD Cert.Kernel5Ideal.τ).loc Cert.Kernel5Ideal.main_v13_5) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v99) = v0 c
          ∧ r.2.mem ((c.tc : Thread Cert.Reference5Ideal.nD Cert.Reference5Ideal.τ).loc Cert.Reference5Ideal.main_v102) = v1 c
          ∧ r.2.mem ((c.tc : Thread Cert.Reference5Ideal.nD Cert.Reference5Ideal.τ).loc Cert.Reference5Ideal.main_v106) = v2 c
          ∧ r.2.mem ((c.tc : Thread Cert.Reference5Ideal.nD Cert.Reference5Ideal.τ).loc Cert.Reference5Ideal.main_v111) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v13_0)) (v1 : (c : Dev Cert.Kernel6Ideal.nD) → Buf (Elt Ideal) ((c.tc : Thread Cert.Kernel6Ideal.nD Cert.Kernel6Ideal.τ).loc Cert.Kernel6Ideal.main_v13_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13_0) = v0 c
          ∧ r.2.mem ((c.tc : Thread Cert.Kernel6Ideal.nD Cert.Kernel6Ideal.τ).loc Cert.Kernel6Ideal.main_v13_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v131) = v0 c
          ∧ r.2.mem ((c.tc : Thread Cert.Reference6Ideal.nD Cert.Reference6Ideal.τ).loc Cert.Reference6Ideal.main_v134) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite2 : Cert.Pre_finite2.Facts) (hPre_finite6 : Cert.Pre_finite6.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite2.lean ====
abbrev S1x16384x1024 : Shape := ⟨3, ![1, 16384, 1024]⟩
abbrev S1x1024 : Shape := ⟨2, ![1, 1024]⟩
abbrev S1x1024x3080 : Shape := ⟨3, ![1, 1024, 3080]⟩
abbrev S1x512 : Shape := ⟨2, ![1, 512]⟩
abbrev S1x8x128x128 : Shape := ⟨4, ![1, 8, 128, 128]⟩
abbrev S1x8x128 : Shape := ⟨3, ![1, 8, 128]⟩
abbrev S_ : Shape := ⟨0, ![]⟩

class Facts : Prop where
  bcast_S_S1x16384x1024 : S_.BroadcastsInDim S1x16384x1024 (![] : Fin 0 → Fin S1x16384x1024.rank)
  reducesTo_S1x16384x1024_S_d0_1_2 : S1x16384x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x3080 : S_.BroadcastsInDim S1x1024x3080 (![] : Fin 0 → Fin S1x1024x3080.rank)
  reducesTo_S1x1024x3080_S_d0_1_2 : S1x1024x3080.ReducesTo [0, 1, 2] S_

variable [Facts]

def fn_part1 {F : FTy → Type} [FloatOps F] (main_arg4 : FVec F S1x1024x3080 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024x3080 .f32 := Host.absf main_arg4
  let main_cst_6 : FVec F S_ .f32 := constant S_ .f32 0x7F800000#32
  let main_v20 : FVec F S1x1024x3080 .f32 := broadcastInDim S1x1024x3080 ![] bcast_S_S1x1024x3080 main_cst_6
  let main_v21 : IVec S1x1024x3080 1 := cmpf .olt main_v19 main_v20
  let main_c_7 : IVec S_ 1 := constantI S_ 1 1#1
  let main_v22 : IVec S_ 1 := (fun x v => Host.reduce IntOp.andi x v reducesTo_S1x1024x3080_S_d0_1_2 h_S_) main_v21 main_c_7
  let main_v23 : IVec S_ 1 := andi main_v18 main_v22
  main_v23

def fn {F : FTy → Type} [FloatOps F] (main_arg0 : FVec F S1x16384x1024 .f32) (main_arg1 : FVec F S1x1024 .f32) (main_arg2 : FVec F S1x1024 .f32) (main_arg3 : FVec F S1x1024 .f32) (main_arg4 : FVec F S1x1024x3080 .f32) (main_arg5 : FVec F S1x512 .f32) (main_arg6 : FVec F S1x8x128x128 .f32) (main_arg7 : FVec F S1x8x128 .f32) : IVec S_ 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_c : IVec S_ 1 := constantI S_ 1 1#1
  let main_v3 : IVec S_ 1 := (fun x v => Host.reduce IntOp.andi x v reducesTo_S1x16384x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_v13 main_v16
-- ==== Pre_finite6.lean ====
abbrev S16384x1536 : Shape := ⟨2, ![16384, 1536]⟩
abbrev S16384x128 : Shape := ⟨2, ![16384, 128]⟩
abbrev S1x4x1536 : Shape := ⟨3, ![1, 4, 1536]⟩
abbrev S1x4 : Shape := ⟨2, ![1, 4]⟩
abbrev S_ : Shape := ⟨0, ![]⟩

class Facts : Prop where
  bcast_S_S16384x1536 : S_.BroadcastsInDim S16384x1536 (![] : Fin 0 → Fin S16384x1536.rank)
  reducesTo_S16384x1536_S_d0_1 : S16384x1536.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S1x4x1536 : S_.BroadcastsInDim S1x4x1536 (![] : Fin 0 → Fin S1x4x1536.rank)
  reducesTo_S1x4x1536_S_d0_1_2 : S1x4x1536.ReducesTo [0, 1, 2] S_
  bcast_S_S1x4 : S_.BroadcastsInDim S1x4 (![] : Fin 0 → Fin S1x4.rank)
  reducesTo_S1x4_S_d0_1 : S1x4.ReducesTo [0, 1] S_

variable [Facts]

def fn_part1 {F : FTy → Type} [FloatOps F] (main_arg4 : FVec F S1x4 .f32) (main_v13 : IVec S_ 1) (main_v16 : IVec S1x4 1) : IVec S_ 1 :=
  let main_c_5 : IVec S_ 1 := constantI S_ 1 1#1
  let main_v17 : IVec S_ 1 := (fun x v => Host.reduce IntOp.andi x v reducesTo_S1x4_S_d0_1 h_S_) main_v16 main_c_5
  let main_v18 : IVec S_ 1 := andi main_v13 main_v17
  let main_v19 : FVec F S1x4 .f32 := Host.absf main_arg4
  let main_cst_6 : FVec F S_ .f32 := constant S_ .f32 0x7F800000#32
  let main_v20 : FVec F S1x4 .f32 := broadcastInDim S1x4 ![] bcast_S_S1x4 main_cst_6
  let main_v21 : IVec S1x4 1 := cmpf .olt main_v19 main_v20
  let main_c_7 : IVec S_ 1 := constantI S_ 1 1#1
  let main_v22 : IVec S_ 1 := (fun x v => Host.reduce IntOp.andi x v reducesTo_S1x4_S_d0_1 h_S_) main_v21 main_c_7
  let main_v23 : IVec S_ 1 := andi main_v18 main_v22
  main_v23

def fn {F : FTy → Type} [FloatOps F] (main_arg0 : FVec F S16384x1536 .f32) (main_arg1 : FVec F S16384x128 .f32) (main_arg2 : FVec F S1x4x1536 .f32) (main_arg3 : FVec F S1x4 .f32) (main_arg4 : FVec F S1x4 .f32) : IVec S_ 1 :=
  let main_v0 : FVec F S16384x1536 .f32 := Host.absf main_arg0
  let main_cst : FVec F S_ .f32 := constant S_ .f32 0x7F800000#32
  let main_v1 : FVec F S16384x1536 .f32 := broadcastInDim S16384x1536 ![] bcast_S_S16384x1536 main_cst
  let main_v2 : IVec S16384x1536 1 := cmpf .olt main_v0 main_v1
  let main_c : IVec S_ 1 := constantI S_ 1 1#1
  let main_v3 : IVec S_ 1 := (fun x v => Host.reduce IntOp.andi x v reducesTo_S16384x1536_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S1x4x1536 .f32 := Host.absf main_arg2
  let main_cst_2 : FVec F S_ .f32 := constant S_ .f32 0x7F800000#32
  let main_v10 : FVec F S1x4x1536 .f32 := broadcastInDim S1x4x1536 ![] bcast_S_S1x4x1536 main_cst_2
  let main_v11 : IVec S1x4x1536 1 := cmpf .olt main_v9 main_v10
  let main_c_3 : IVec S_ 1 := constantI S_ 1 1#1
  let main_v12 : IVec S_ 1 := (fun x v => Host.reduce IntOp.andi x v reducesTo_S1x4x1536_S_d0_1_2 h_S_) main_v11 main_c_3
  let main_v13 : IVec S_ 1 := andi main_v8 main_v12
  let main_v14 : FVec F S1x4 .f32 := Host.absf main_arg3
  let main_cst_4 : FVec F S_ .f32 := constant S_ .f32 0x7F800000#32
  let main_v15 : FVec F S1x4 .f32 := broadcastInDim S1x4 ![] bcast_S_S1x4 main_cst_4
  let main_v16 : IVec S1x4 1 := cmpf .olt main_v14 main_v15
  fn_part1 (F := F) main_arg4 main_v13 main_v16
-- ==== Kernel.lean ====
abbrev S16384x512 : Shape := ⟨2, ![16384, 512]⟩
abbrev S128x8x128 : Shape := ⟨3, ![128, 8, 128]⟩
abbrev S1x128 : Shape := ⟨2, ![1, 128]⟩
abbrev S128 : Shape := ⟨1, ![128]⟩
abbrev S8x128 : Shape := ⟨2, ![8, 128]⟩
abbrev S512x512 : Shape := ⟨2, ![512, 512]⟩
abbrev S4x8x128 : Shape := ⟨3, ![4, 8, 128]⟩
abbrev S4x128x128 : Shape := ⟨3, ![4, 128, 128]⟩
abbrev S1x128x128 : Shape := ⟨3, ![1, 128, 128]⟩
abbrev S128x128 : Shape := ⟨2, ![128, 128]⟩
abbrev S1x1x128 : Shape := ⟨3, ![1, 1, 128]⟩
abbrev S128x1 : Shape := ⟨2, ![128, 1]⟩

abbrev nBuf : Space → Nat
  | .hbm => 12
  | .vmem => 18
  | .smem => 0
  | _ => 0

abbrev bufTy : (tb : Table) → Fin (tcTables nBuf tb) → BufTy
  | .hbm, ⟨0, _⟩ => ⟨S16384x512, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S128x8x128, .f32⟩
  | .hbm, ⟨6, _⟩ => ⟨S16384x512, .f32⟩
  | .hbm, ⟨7, _⟩ => ⟨S1x128, .f32⟩
  | .hbm, ⟨8, _⟩ => ⟨S128, .f32⟩
  | .hbm, ⟨9, _⟩ => ⟨S1x128, .f32⟩
  | .hbm, ⟨10, _⟩ => ⟨S8x128, .f32⟩
  | .hbm, ⟨11, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S4x8x128, .f32⟩
  | .local _ .vmem, ⟨11, _⟩ => ⟨S4x8x128, .f32⟩
  | .local _ .vmem, ⟨12, _⟩ => ⟨S512x512, .f32⟩
  | .local _ .vmem, ⟨13, _⟩ => ⟨S512x512, .f32⟩
  | .local _ .vmem, ⟨14, _⟩ => ⟨S8x128, .f32⟩
  | .local _ .vmem, ⟨15, _⟩ => ⟨S512x512, .f32⟩
  | .local _ .vmem, ⟨16, _⟩ => ⟨S512x512, .f32⟩
  | .local _ .vmem, ⟨17, _⟩ => ⟨S4x128x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16384x512 : Shape := ⟨2, ![16384, 512]⟩
abbrev S128x8x128 : Shape := ⟨3, ![128, 8, 128]⟩
abbrev S1x128 : Shape := ⟨2, ![1, 128]⟩
abbrev S128x128x4x128 : Shape := ⟨4, ![128, 128, 4, 128]⟩
abbrev S128x4x128x128 : Shape := ⟨4, ![128, 4, 128, 128]⟩
abbrev S128x4x128 : Shape := ⟨3, ![128, 4, 128]⟩
abbrev S_ : Shape := ⟨0, ![]⟩
abbrev S4x128x128 : Shape := ⟨3, ![4, 128, 128]⟩
abbrev S1x4x128x128 : Shape := ⟨4, ![1, 4, 128, 128]⟩
abbrev S1x4x128 : Shape := ⟨3, ![1, 4, 128]⟩
abbrev S4x128 : Shape := ⟨2, ![4, 128]⟩
abbrev S4x1x128 : Shape := ⟨3, ![4, 1, 128]⟩
abbrev S16384x4x128 : Shape := ⟨3, ![16384, 4, 128]⟩
abbrev S128 : Shape := ⟨1, ![128]⟩
abbrev S16384x4 : Shape := ⟨2, ![16384, 4]⟩
abbrev S16384x4x1 : Shape := ⟨3, ![16384, 4, 1]⟩
abbrev S1x1x128 : Shape := ⟨3, ![1, 1, 128]⟩

abbrev nBuf : Space → Nat
  | .hbm => 116
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S128x8x128, .f32⟩
  | .hbm, ⟨6, _⟩ => ⟨S16384x512, .f32⟩
  | .hbm, ⟨7, _⟩ => ⟨S1x128, .f32⟩
  | .hbm, ⟨8, _⟩ => ⟨S16384x512, .f32⟩
  | .hbm, ⟨9, _⟩ => ⟨S128x128x4x128, .f32⟩
  | .hbm, ⟨10, _⟩ => ⟨S128x4x128x128, .f32⟩
  | .hbm, ⟨11, _⟩ => ⟨S16384x512, .f32⟩
  | .hbm, ⟨12, _⟩ => ⟨S128x128x4x128, .f32⟩
  | .hbm, ⟨13, _⟩ => ⟨S128x4x128x128, .f32⟩
  | .hbm, ⟨14, _⟩ => ⟨S16384x512, .f32⟩
  | .hbm, ⟨15, _⟩ => ⟨S128x128x4x128, .f32⟩
  | .hbm, ⟨16, _⟩ => ⟨S128x4x128x128, .f32⟩
  | .hbm, ⟨17, _⟩ => ⟨S128x128x4x128, .f32⟩
  | .hbm, ⟨18, _⟩ => ⟨S128x4x128x128, .f32⟩
  | .hbm, ⟨19, _⟩ => ⟨S16384x512, .f32⟩
  | .hbm, ⟨20, _⟩ => ⟨S128x128x4x128, .f32⟩
  | .hbm, ⟨21, _⟩ => ⟨S128x4x128x128, .f32⟩
  | .hbm, ⟨22, _⟩ => ⟨S128x4x128, .f32⟩
  | .hbm, ⟨23, _⟩ => ⟨S_, .f32⟩
  | .hbm, ⟨24, _⟩ => ⟨S4x128x128, .f32⟩
  | .hbm, ⟨25, _⟩ => ⟨S_, .f32⟩
  | .hbm, ⟨26, _⟩ => ⟨S128x4x128x128, .f32⟩
  | .hbm, ⟨27, _⟩ => ⟨S_, .i32⟩
  | .hbm, ⟨28, _⟩ => ⟨S128x4x128x128, .f32⟩
  | .hbm, ⟨29, _⟩ => ⟨S128x4x128x128, .f32⟩
  | .hbm, ⟨30, _⟩ => ⟨S128x4x128x128, .f32⟩
  | .hbm, ⟨31, _⟩ => ⟨S128x4x128x128, .f32⟩
  | .hbm, ⟨32, _⟩ => ⟨S128x4x128x128, .f32⟩
  | .hbm, ⟨33, _⟩ => ⟨S128x4x128, .f32⟩
  | .hbm, ⟨34, _⟩ => ⟨S_, .i32⟩
  | .hbm, ⟨35, _⟩ => ⟨S4x128x128, .f32⟩
  | .hbm, ⟨36, _⟩ => ⟨S128x4x128x128, .f32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S1x4x128x128, .f32⟩
  | .hbm, ⟨43, _⟩ => ⟨S4x128x128, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1x4x128x128, .f32⟩
  | .hbm, ⟨48, _⟩ => ⟨S4x128x128, .f32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S1x4x128x128, .f32⟩
  | .hbm, ⟨53, _⟩ => ⟨S4x128x128, .f32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S1x4x128x128, .f32⟩
  | .hbm, ⟨58, _⟩ => ⟨S4x128x128, .f32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S1x4x128x128, .f32⟩
  | .hbm, ⟨63, _⟩ => ⟨S4x128x128, .f32⟩
  | .hbm, ⟨64, _⟩ => ⟨S_, .i32⟩
  | .hbm, ⟨65, _⟩ => ⟨S_, .i32⟩
  | .hbm, ⟨66, _⟩ => ⟨S1x4x128, .f32⟩
  | .hbm, ⟨67, _⟩ => ⟨S4x128, .f32⟩
  | .hbm, ⟨68, _⟩ => ⟨S4x128x128, .f32⟩
  | .hbm, ⟨69, _⟩ => ⟨S4x128x128, .f32⟩
  | .hbm, ⟨70, _⟩ => ⟨S4x128x128, .f32⟩
  | .hbm, ⟨71, _⟩ => ⟨S4x128x128, .f32⟩
  | .hbm, ⟨72, _⟩ => ⟨S4x128x128, .f32⟩
  | .hbm, ⟨73, _⟩ => ⟨S4x1x128, .f32⟩
  | .hbm, ⟨74, _⟩ => ⟨S4x128x128, .f32⟩
  | .hbm, ⟨75, _⟩ => ⟨S4x128x128, .f32⟩
  | .hbm, ⟨76, _⟩ => ⟨S4x128x128, .f32⟩
  | .hbm, ⟨77, _⟩ => ⟨S4x128x128, .f32⟩
  | .hbm, ⟨78, _⟩ => ⟨S1x4x128x128, .f32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S128x4x128x128, .f32⟩
  | .hbm, ⟨83, _⟩ => ⟨S_, .i32⟩
  | .hbm, ⟨84, _⟩ => ⟨S_, .i32⟩
  | .hbm, ⟨85, _⟩ => ⟨S128x128x4x128, .f32⟩
  | .hbm, ⟨86, _⟩ => ⟨S16384x4x128, .f32⟩
  | .hbm, ⟨87, _⟩ => ⟨S128, .f32⟩
  | .hbm, ⟨88, _⟩ => ⟨S16384x4x128, .f32⟩
  | .hbm, ⟨89, _⟩ => ⟨S_, .f32⟩
  | .hbm, ⟨90, _⟩ => ⟨S16384x4, .f32⟩
  | .hbm, ⟨91, _⟩ => ⟨S16384x4x1, .f32⟩
  | .hbm, ⟨92, _⟩ => ⟨S_, .f32⟩
  | .hbm, ⟨93, _⟩ => ⟨S16384x4x1, .f32⟩
  | .hbm, ⟨94, _⟩ => ⟨S16384x4x1, .f32⟩
  | .hbm, ⟨95, _⟩ => ⟨S_, .f32⟩
  | .hbm, ⟨96, _⟩ => ⟨S16384x4x1, .f32⟩
  | .hbm, ⟨97, _⟩ => ⟨S16384x4x1, .f32⟩
  | .hbm, ⟨98, _⟩ => ⟨S16384x4x1, .f32⟩
  | .hbm, ⟨99, _⟩ => ⟨S16384x4x128, .f32⟩
  | .hbm, ⟨100, _⟩ => ⟨S16384x4x128, .f32⟩
  | .hbm, ⟨101, _⟩ => ⟨S1x1x128, .f32⟩
  | .hbm, ⟨102, _⟩ => ⟨S16384x4x128, .f32⟩
  | .hbm, ⟨103, _⟩ => ⟨S16384x4x128, .f32⟩
  | .hbm, ⟨104, _⟩ => ⟨S16384x4x128, .f32⟩
  | .hbm, ⟨105, _⟩ => ⟨S16384x4x128, .f32⟩
  | .hbm, ⟨106, _⟩ => ⟨S16384x4x128, .f32⟩
  | .hbm, ⟨107, _⟩ => ⟨S_, .f32⟩
  | .hbm, ⟨108, _⟩ => ⟨S16384x4x128, .f32⟩
  | .hbm, ⟨109, _⟩ => ⟨S16384x4x128, .f32⟩
  | .hbm, ⟨110, _⟩ => ⟨S_, .f32⟩
  | .hbm, ⟨111, _⟩ => ⟨S16384x4x128, .f32⟩
  | .hbm, ⟨112, _⟩ => ⟨S16384x4x128, .f32⟩
  | .hbm, ⟨113, _⟩ => ⟨S16384x4x128, .f32⟩
  | .hbm, ⟨114, _⟩ => ⟨S16384x4x128, .f32⟩
  | .hbm, ⟨115, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_c : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev main_v17_3 : Ref sig .tc := ⟨.hbm, 31, rfl⟩
abbrev main_v17_4 : Ref sig .tc := ⟨.hbm, 32, rfl⟩
abbrev main_v17_5 : Ref sig .tc := ⟨.hbm, 33, rfl⟩
abbrev main_v17_6 : Ref sig .tc := ⟨.hbm, 34, rfl⟩
abbrev main_v17_7 : Ref sig .tc := ⟨.hbm, 35, rfl⟩
abbrev main_v17_8 : Ref sig .tc := ⟨.hbm, 36, rfl⟩
abbrev main_while0c_c_12 : Ref sig .tc := ⟨.hbm, 37, rfl⟩
abbrev main_while0c_v38 : Ref sig .tc := ⟨.hbm, 38, rfl⟩
abbrev main_while0b_call0_c : Ref sig .tc := ⟨.hbm, 39, rfl⟩
abbrev main_while0b_call0_c_0 : Ref sig .tc := ⟨.hbm, 40, rfl⟩
abbrev main_while0b_call0_c_1 : Ref sig .tc := ⟨.hbm, 41, rfl⟩
abbrev main_while0b_call0_v0 : Ref sig .tc := ⟨.hbm, 42, rfl⟩
abbrev main_while0b_v38 : Ref sig .tc := ⟨.hbm, 43, rfl⟩
abbrev main_while0b_call1_c : Ref sig .tc := ⟨.hbm, 44, rfl⟩
abbrev main_while0b_call1_c_0 : Ref sig .tc := ⟨.hbm, 45, rfl⟩
abbrev main_while0b_call1_c_1 : Ref sig .tc := ⟨.hbm, 46, rfl⟩
abbrev main_while0b_call1_v0 : Ref sig .tc := ⟨.hbm, 47, rfl⟩
abbrev main_while0b_v39 : Ref sig .tc := ⟨.hbm, 48, rfl⟩
abbrev main_while0b_call2_c : Ref sig .tc := ⟨.hbm, 49, rfl⟩
abbrev main_while0b_call2_c_0 : Ref sig .tc := ⟨.hbm, 50, rfl⟩
abbrev main_while0b_call2_c_1 : Ref sig .tc := ⟨.hbm, 51, rfl⟩
abbrev main_while0b_call2_v0 : Ref sig .tc := ⟨.hbm, 52, rfl⟩
abbrev main_while0b_v40 : Ref sig .tc := ⟨.hbm, 53, rfl⟩
abbrev main_while0b_call3_c : Ref sig .tc := ⟨.hbm, 54, rfl⟩
abbrev main_while0b_call3_c_0 : Ref sig .tc := ⟨.hbm, 55, rfl⟩
abbrev main_while0b_call3_c_1 : Ref sig .tc := ⟨.hbm, 56, rfl⟩
abbrev main_while0b_call3_v0 : Ref sig .tc := ⟨.hbm, 57, rfl⟩
abbrev main_while0b_v41 : Ref sig .tc := ⟨.hbm, 58, rfl⟩
abbrev main_while0b_call4_c : Ref sig .tc := ⟨.hbm, 59, rfl⟩
abbrev main_while0b_call4_c_0 : Ref sig .tc := ⟨.hbm, 60, rfl⟩
abbrev main_while0b_call4_c_1 : Ref sig .tc := ⟨.hbm, 61, rfl⟩
abbrev main_while0b_call4_v0 : Ref sig .tc := ⟨.hbm, 62, rfl⟩
abbrev main_while0b_v42 : Ref sig .tc := ⟨.hbm, 63, rfl⟩
abbrev main_while0b_call5_c : Ref sig .tc := ⟨.hbm, 64, rfl⟩
abbrev main_while0b_call5_c_0 : Ref sig .tc := ⟨.hbm, 65, rfl⟩
abbrev main_while0b_call5_v0 : Ref sig .tc := ⟨.hbm, 66, rfl⟩
abbrev main_while0b_v43 : Ref sig .tc := ⟨.hbm, 67, rfl⟩
abbrev main_while0b_v44 : Ref sig .tc := ⟨.hbm, 68, rfl⟩
abbrev main_while0b_v45 : Ref sig .tc := ⟨.hbm, 69, rfl⟩
abbrev main_while0b_v46 : Ref sig .tc := ⟨.hbm, 70, rfl⟩
abbrev main_while0b_v47 : Ref sig .tc := ⟨.hbm, 71, rfl⟩
abbrev main_while0b_v48 : Ref sig .tc := ⟨.hbm, 72, rfl⟩
abbrev main_while0b_v49 : Ref sig .tc := ⟨.hbm, 73, rfl⟩
abbrev main_while0b_v50 : Ref sig .tc := ⟨.hbm, 74, rfl⟩
abbrev main_while0b_v51 : Ref sig .tc := ⟨.hbm, 75, rfl⟩
abbrev main_while0b_v52 : Ref sig .tc := ⟨.hbm, 76, rfl⟩
abbrev main_while0b_v53 : Ref sig .tc := ⟨.hbm, 77, rfl⟩
abbrev main_while0b_call6_v0 : Ref sig .tc := ⟨.hbm, 78, rfl⟩
abbrev main_while0b_call6_c : Ref sig .tc := ⟨.hbm, 79, rfl⟩
abbrev main_while0b_call6_c_0 : Ref sig .tc := ⟨.hbm, 80, rfl⟩
abbrev main_while0b_call6_c_1 : Ref sig .tc := ⟨.hbm, 81, rfl⟩
abbrev main_while0b_v54 : Ref sig .tc := ⟨.hbm, 82, rfl⟩
abbrev main_while0b_c_12 : Ref sig .tc := ⟨.hbm, 83, rfl⟩
abbrev main_while0b_v55 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_cst_1 : Ref sig .tc := ⟨.hbm, 89, rfl⟩
abbrev main_v22 : Ref sig .tc := ⟨.hbm, 90, rfl⟩
abbrev main_v23 : Ref sig .tc := ⟨.hbm, 91, rfl⟩
abbrev main_cst_2 : Ref sig .tc := ⟨.hbm, 92, rfl⟩
abbrev main_v24 : Ref sig .tc := ⟨.hbm, 93, rfl⟩
abbrev main_v25 : Ref sig .tc := ⟨.hbm, 94, rfl⟩
abbrev main_cst_3 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev main_call7_v0 : Ref sig .tc := ⟨.hbm, 105, rfl⟩
abbrev main_call7_v1 : Ref sig .tc := ⟨.hbm, 106, rfl⟩
abbrev main_call7_cst : Ref sig .tc := ⟨.hbm, 107, rfl⟩
abbrev main_call7_v2 : Ref sig .tc := ⟨.hbm, 108, rfl⟩
abbrev main_call7_v3 : Ref sig .tc := ⟨.hbm, 109, rfl⟩
abbrev main_call7_cst_0 : Ref sig .tc := ⟨.hbm, 110, rfl⟩
abbrev main_call7_v4 : Ref sig .tc := ⟨.hbm, 111, rfl⟩
abbrev main_call7_v5 : Ref sig .tc := ⟨.hbm, 112, rfl⟩
abbrev main_v35 : Ref sig .tc := ⟨.hbm, 113, rfl⟩
abbrev main_v36 : Ref sig .tc := ⟨.hbm, 114, rfl⟩
abbrev main_v37 : Ref sig .tc := ⟨.hbm, 115, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S1x16384x1024 : Shape := ⟨3, ![1, 16384, 1024]⟩
abbrev S1x1024 : Shape := ⟨2, ![1, 1024]⟩
abbrev S1x1024x3080 : Shape := ⟨3, ![1, 1024, 3080]⟩
abbrev S1x512 : Shape := ⟨2, ![1, 512]⟩
abbrev S1x8x128x128 : Shape := ⟨4, ![1, 8, 128, 128]⟩
abbrev S1x8x128 : Shape := ⟨3, ![1, 8, 128]⟩
abbrev S16384x1024 : Shape := ⟨2, ![16384, 1024]⟩
abbrev S1024x3080 : Shape := ⟨2, ![1024, 3080]⟩
abbrev S_ : Shape := ⟨0, ![]⟩
abbrev S1024x3200 : Shape := ⟨2, ![1024, 3200]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S8x128x128 : Shape := ⟨3, ![8, 128, 128]⟩
abbrev S16384x512 : Shape := ⟨2, ![16384, 512]⟩
abbrev S16384x1536 : Shape := ⟨2, ![16384, 1536]⟩
abbrev S16384x128 : Shape := ⟨2, ![16384, 128]⟩
abbrev S512x1024 : Shape := ⟨2, ![512, 1024]⟩
abbrev S512x512 : Shape := ⟨2, ![512, 512]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩
abbrev S128x128 : Shape := ⟨2, ![128, 128]⟩
abbrev S1x128x128 : Shape := ⟨3, ![1, 128, 128]⟩
abbrev S1024x1536 : Shape := ⟨2, ![1024, 1536]⟩
abbrev S1024x512 : Shape := ⟨2, ![1024, 512]⟩
abbrev S1024x128 : Shape := ⟨2, ![1024, 128]⟩

abbrev nBuf : Space → Nat
  | .hbm => 23
  | .vmem => 17
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024x3080, .f32⟩
  | .hbm, ⟨5, _⟩ => ⟨S1x512, .f32⟩
  | .hbm, ⟨6, _⟩ => ⟨S1x8x128x128, .f32⟩
  | .hbm, ⟨7, _⟩ => ⟨S1x8x128, .f32⟩
  | .hbm, ⟨8, _⟩ => ⟨S16384x1024, .f32⟩
  | .hbm, ⟨9, _⟩ => ⟨S1024x3080, .f32⟩
  | .hbm, ⟨10, _⟩ => ⟨S_, .i32⟩
  | .hbm, ⟨11, _⟩ => ⟨S_, .f32⟩
  | .hbm, ⟨12, _⟩ => ⟨S1024x3200, .f32⟩
  | .hbm, ⟨13, _⟩ => ⟨S1024x3200, .bf16⟩
  | .hbm, ⟨14, _⟩ => ⟨S8x128, .f32⟩
  | .hbm, ⟨15, _⟩ => ⟨S128x8, .f32⟩
  | .hbm, ⟨16, _⟩ => ⟨S128x8x64, .f32⟩
  | .hbm, ⟨17, _⟩ => ⟨S128x512, .f32⟩
  | .hbm, ⟨18, _⟩ => ⟨S8x128x128, .f32⟩
  | .hbm, ⟨19, _⟩ => ⟨S16384x512, .f32⟩
  | .hbm, ⟨20, _⟩ => ⟨S16384x1536, .f32⟩
  | .hbm, ⟨21, _⟩ => ⟨S16384x512, .f32⟩
  | .hbm, ⟨22, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x3200, .bf16⟩
  | .local _ .vmem, ⟨6, _⟩ => ⟨S1x512, .f32⟩
  | .local _ .vmem, ⟨7, _⟩ => ⟨S8x128x128, .f32⟩
  | .local _ .vmem, ⟨8, _⟩ => ⟨S128x512, .f32⟩
  | .local _ .vmem, ⟨9, _⟩ => ⟨S512x512, .f32⟩
  | .local _ .vmem, ⟨10, _⟩ => ⟨S512x512, .f32⟩
  | .local _ .vmem, ⟨11, _⟩ => ⟨S512x1536, .f32⟩
  | .local _ .vmem, ⟨12, _⟩ => ⟨S512x1536, .f32⟩
  | .local _ .vmem, ⟨13, _⟩ => ⟨S512x512, .f32⟩
  | .local _ .vmem, ⟨14, _⟩ => ⟨S512x512, .f32⟩
  | .local _ .vmem, ⟨15, _⟩ => ⟨S512x128, .f32⟩
  | .local _ .vmem, ⟨16, _⟩ => ⟨S512x128, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel2Ideal.lean ====
variable {F : FTy → Type} [FloatOps F] [Named F]
def κ : String → Option EReal := fun
  | "gelu_c2" => some ((80338380498831 / 2251799813685248 : ℝ) : EReal)
  | _ => none
-- ==== Reference2Ideal.lean ====
abbrev S1x16384x1024 : Shape := ⟨3, ![1, 16384, 1024]⟩
abbrev S1x1024 : Shape := ⟨2, ![1, 1024]⟩
abbrev S1x1024x3080 : Shape := ⟨3, ![1, 1024, 3080]⟩
abbrev S1x512 : Shape := ⟨2, ![1, 512]⟩
abbrev S1x8x128x128 : Shape := ⟨4, ![1, 8, 128, 128]⟩
abbrev S1x8x128 : Shape := ⟨3, ![1, 8, 128]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1024x3080 : Shape := ⟨2, ![1024, 3080]⟩
abbrev S1x16384x3080 : Shape := ⟨3, ![1, 16384, 3080]⟩
abbrev S1x16384x512 : Shape := ⟨3, ![1, 16384, 512]⟩
abbrev S512 : Shape := ⟨1, ![512]⟩
abbrev S1x1x512 : Shape := ⟨3, ![1, 1, 512]⟩
abbrev S1x128x128x8x64 : Shape := ⟨5, ![1, 128, 128, 8, 64]⟩
abbrev S128x128 : Shape := ⟨2, ![128, 128]⟩
abbrev S8x128x128 : Shape := ⟨3, ![8, 128, 128]⟩
abbrev S8x1x128x64x128 : Shape := ⟨5, ![8, 1, 128, 64, 128]⟩
abbrev S8x128 : Shape := ⟨2, ![8, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S16384x512 : Shape := ⟨2, ![16384, 512]⟩
abbrev S1x16384x1536 : Shape := ⟨3, ![1, 16384, 1536]⟩
abbrev S16384x1536 : Shape := ⟨2, ![16384, 1536]⟩
abbrev S1x16384x8 : Shape := ⟨3, ![1, 16384, 8]⟩
abbrev S16384x8 : Shape := ⟨2, ![16384, 8]⟩
abbrev S16384x128 : Shape := ⟨2, ![16384, 128]⟩

abbrev nBuf : Space → Nat
  | .hbm => 111
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024x3080, .f32⟩
  | .hbm, ⟨5, _⟩ => ⟨S1x512, .f32⟩
  | .hbm, ⟨6, _⟩ => ⟨S1x8x128x128, .f32⟩
  | .hbm, ⟨7, _⟩ => ⟨S1x8x128, .f32⟩
  | .hbm, ⟨8, _⟩ => ⟨S1024, .f32⟩
  | .hbm, ⟨9, _⟩ => ⟨S1x16384x1024, .f32⟩
  | .hbm, ⟨10, _⟩ => ⟨S_, .f32⟩
  | .hbm, ⟨11, _⟩ => ⟨S1x16384, .f32⟩
  | .hbm, ⟨12, _⟩ => ⟨S1x16384x1, .f32⟩
  | .hbm, ⟨13, _⟩ => ⟨S_, .f32⟩
  | .hbm, ⟨14, _⟩ => ⟨S1x16384x1, .f32⟩
  | .hbm, ⟨15, _⟩ => ⟨S1x16384x1, .f32⟩
  | .hbm, ⟨16, _⟩ => ⟨S_, .f32⟩
  | .hbm, ⟨17, _⟩ => ⟨S1x16384x1, .f32⟩
  | .hbm, ⟨18, _⟩ => ⟨S1x16384x1, .f32⟩
  | .hbm, ⟨19, _⟩ => ⟨S1x16384x1, .f32⟩
  | .hbm, ⟨20, _⟩ => ⟨S1x16384x1024, .f32⟩
  | .hbm, ⟨21, _⟩ => ⟨S1x16384x1024, .f32⟩
  | .hbm, ⟨22, _⟩ => ⟨S1x1x1024, .f32⟩
  | .hbm, ⟨23, _⟩ => ⟨S1x16384x1024, .f32⟩
  | .hbm, ⟨24, _⟩ => ⟨S1x16384x1024, .f32⟩
  | .hbm, ⟨25, _⟩ => ⟨S1x1x1024, .f32⟩
  | .hbm, ⟨26, _⟩ => ⟨S_, .f32⟩
  | .hbm, ⟨27, _⟩ => ⟨S1x1x1024, .f32⟩
  | .hbm, ⟨28, _⟩ => ⟨S1x1x1024, .f32⟩
  | .hbm, ⟨29, _⟩ => ⟨S1x16384x1024, .f32⟩
  | .hbm, ⟨30, _⟩ => ⟨S1x16384x1024, .f32⟩
  | .hbm, ⟨31, _⟩ => ⟨S1x1x1024, .f32⟩
  | .hbm, ⟨32, _⟩ => ⟨S1x16384x1024, .f32⟩
  | .hbm, ⟨33, _⟩ => ⟨S1x16384x1024, .f32⟩
  | .hbm, ⟨34, _⟩ => ⟨S1024x3080, .f32⟩
  | .hbm, ⟨35, _⟩ => ⟨S1x16384x3080, .f32⟩
  | .hbm, ⟨36, _⟩ => ⟨S1x16384x1024, .f32⟩
  | .hbm, ⟨37, _⟩ => ⟨S1x16384x1024, .f32⟩
  | .hbm, ⟨38, _⟩ => ⟨S1x16384x1024, .f32⟩
  | .hbm, ⟨39, _⟩ => ⟨S_, .f32⟩
  | .hbm, ⟨40, _⟩ => ⟨S1x16384x1024, .f32⟩
  | .hbm, ⟨41, _⟩ => ⟨S1x16384x1024, .f32⟩
  | .hbm, ⟨42, _⟩ => ⟨S1x16384x1024, .f32⟩
  | .hbm, ⟨43, _⟩ => ⟨S_, .f32⟩
  | .hbm, ⟨44, _⟩ => ⟨S1x16384x1024, .f32⟩
  | .hbm, ⟨45, _⟩ => ⟨S1x16384x1024, .f32⟩
  | .hbm, ⟨46, _⟩ => ⟨S1x16384x1024, .f32⟩
  | .hbm, ⟨47, _⟩ => ⟨S_, .f32⟩
  | .hbm, ⟨48, _⟩ => ⟨S1x16384x1024, .f32⟩
  | .hbm, ⟨49, _⟩ => ⟨S1x16384x1024, .f32⟩
  | .hbm, ⟨50, _⟩ => ⟨S_, .f32⟩
  | .hbm, ⟨51, _⟩ => ⟨S1x16384x1024, .f32⟩
  | .hbm, ⟨52, _⟩ => ⟨S1x16384x1024, .f32⟩
  | .hbm, ⟨53, _⟩ => ⟨S1x16384x1024, .f32⟩
  | .hbm, ⟨54, _⟩ => ⟨S1x16384x512, .f32⟩
  | .hbm, ⟨55, _⟩ => ⟨S1x16384x512, .f32⟩
  | .hbm, ⟨56, _⟩ => ⟨S512, .f32⟩
  | .hbm, ⟨57, _⟩ => ⟨S1x16384x512, .f32⟩
  | .hbm, ⟨58, _⟩ => ⟨S_, .f32⟩
  | .hbm, ⟨59, _⟩ => ⟨S1x16384, .f32⟩
  | .hbm, ⟨60, _⟩ => ⟨S1x16384x1, .f32⟩
  | .hbm, ⟨61, _⟩ => ⟨S_, .f32⟩
  | .hbm, ⟨62, _⟩ => ⟨S1x16384x1, .f32⟩
  | .hbm, ⟨63, _⟩ => ⟨S1x16384x1, .f32⟩
  | .hbm, ⟨64, _⟩ => ⟨S_, .f32⟩
  | .hbm, ⟨65, _⟩ => ⟨S1x16384x1, .f32⟩
  | .hbm, ⟨66, _⟩ => ⟨S1x16384x1, .f32⟩
  | .hbm, ⟨67, _⟩ => ⟨S1x16384x1, .f32⟩
  | .hbm, ⟨68, _⟩ => ⟨S1x16384x512, .f32⟩
  | .hbm, ⟨69, _⟩ => ⟨S1x16384x512, .f32⟩
  | .hbm, ⟨70, _⟩ => ⟨S1x1x512, .f32⟩
  | .hbm, ⟨71, _⟩ => ⟨S1x16384x512, .f32⟩
  | .hbm, ⟨72, _⟩ => ⟨S1x16384x512, .f32⟩
  | .hbm, ⟨73, _⟩ => ⟨S1x128x128x8x64, .f32⟩
  | .hbm, ⟨74, _⟩ => ⟨S_, .i1⟩
  | .hbm, ⟨75, _⟩ => ⟨S128x128, .i1⟩
  | .hbm, ⟨76, _⟩ => ⟨S128x128, .i32⟩
  | .hbm, ⟨77, _⟩ => ⟨S_, .i32⟩
  | .hbm, ⟨78, _⟩ => ⟨S128x128, .i32⟩
  | .hbm, ⟨79, _⟩ => ⟨S128x128, .i32⟩
  | .hbm, ⟨80, _⟩ => ⟨S128x128, .i32⟩
  | .hbm, ⟨81, _⟩ => ⟨S128x128, .i1⟩
  | .hbm, ⟨82, _⟩ => ⟨S_, .i1⟩
  | .hbm, ⟨83, _⟩ => ⟨S128x128, .i1⟩
  | .hbm, ⟨84, _⟩ => ⟨S128x128, .i1⟩
  | .hbm, ⟨85, _⟩ => ⟨S8x128x128, .f32⟩
  | .hbm, ⟨86, _⟩ => ⟨S_, .f32⟩
  | .hbm, ⟨87, _⟩ => ⟨S_, .f32⟩
  | .hbm, ⟨88, _⟩ => ⟨S8x128x128, .i1⟩
  | .hbm, ⟨89, _⟩ => ⟨S8x128x128, .f32⟩
  | .hbm, ⟨90, _⟩ => ⟨S8x128x128, .f32⟩
  | .hbm, ⟨91, _⟩ => ⟨S8x1x128x64x128, .f32⟩
  | .hbm, ⟨92, _⟩ => ⟨S1x128x128x8x64, .f32⟩
  | .hbm, ⟨93, _⟩ => ⟨S8x128, .f32⟩
  | .hbm, ⟨94, _⟩ => ⟨S128x8, .f32⟩
  | .hbm, ⟨95, _⟩ => ⟨S128x8x1, .f32⟩
  | .hbm, ⟨96, _⟩ => ⟨S1x1x128x8x1, .f32⟩
  | .hbm, ⟨97, _⟩ => ⟨S1x128x128x8x64, .f32⟩
  | .hbm, ⟨98, _⟩ => ⟨S1x128x128x8x64, .f32⟩
  | .hbm, ⟨99, _⟩ => ⟨S1x16384x512, .f32⟩
  | .hbm, ⟨100, _⟩ => ⟨S1x16384x512, .f32⟩
  | .hbm, ⟨101, _⟩ => ⟨S16384x512, .f32⟩
  | .hbm, ⟨102, _⟩ => ⟨S1x16384x1536, .f32⟩
  | .hbm, ⟨103, _⟩ => ⟨S16384x1536, .f32⟩
  | .hbm, ⟨104, _⟩ => ⟨S1x16384x512, .f32⟩
  | .hbm, ⟨105, _⟩ => ⟨S16384x512, .f32⟩
  | .hbm, ⟨106, _⟩ => ⟨S1x16384x8, .f32⟩
  | .hbm, ⟨107, _⟩ => ⟨S16384x8, .f32⟩
  | .hbm, ⟨108, _⟩ => ⟨S_, .i32⟩
  | .hbm, ⟨109, _⟩ => ⟨S_, .f32⟩
  | .hbm, ⟨110, _⟩ => ⟨S16384x128, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c : Ref sig .tc := ⟨.hbm, 74, rfl⟩
abbrev main_v55 : Ref sig .tc := ⟨.hbm, 75, rfl⟩
abbrev main_call0_v0 : Ref sig .tc := ⟨.hbm, 76, rfl⟩
abbrev main_call0_c : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_c_0 : Ref sig .tc := ⟨.hbm, 82, rfl⟩
abbrev main_call0_v5 : Ref sig .tc := ⟨.hbm, 83, rfl⟩
abbrev main_v56 : Ref sig .tc := ⟨.hbm, 84, rfl⟩
abbrev main_v57 : Ref sig .tc := ⟨.hbm, 85, rfl⟩
abbrev main_cst_10 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_11 : Ref sig .tc := ⟨.hbm, 108, rfl⟩
abbrev main_call2_v0 : Ref sig .tc := ⟨.hbm, 109, rfl⟩
abbrev main_v76 : Ref sig .tc := ⟨.hbm, 110, rfl⟩

abbrev nD : Nat := 1
abbrev τ : Topo := Topo.v7x

variable {F : FTy → Type} [FloatOps F]
-- ==== Kernel3.lean ====
abbrev S1x16384x1024 : Shape := ⟨3, ![1, 16384, 1024]⟩
abbrev S16384x512 : Shape := ⟨2, ![16384, 512]⟩
abbrev S1x1024x1024 : Shape := ⟨3, ![1, 1024, 1024]⟩
abbrev S1x1024 : Shape := ⟨2, ![1, 1024]⟩
abbrev S1x1024x2048 : Shape := ⟨3, ![1, 1024, 2048]⟩
abbrev S1x8x128x128 : Shape := ⟨4, ![1, 8, 128, 128]⟩
abbrev S16384x1024 : Shape := ⟨2, ![16384, 1024]⟩
abbrev S1024x1024 : Shape := ⟨2, ![1024, 1024]⟩
abbrev S1024x2048 : Shape := ⟨2, ![1024, 2048]⟩
abbrev S8x128x128 : Shape := ⟨3, ![8, 128, 128]⟩
abbrev S16384x2048 : Shape := ⟨2, ![16384, 2048]⟩
abbrev S512x1024 : Shape := ⟨2, ![512, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S512x128 : Shape := ⟨2, ![512, 128]⟩
abbrev S1x128x128 : Shape := ⟨3, ![1, 128, 128]⟩
abbrev S128x128 : Shape := ⟨2, ![128, 128]⟩

abbrev nBuf : Space → Nat
  | .hbm => 23
  | .vmem => 20
  | .smem => 0
  | _ => 0

abbrev bufTy : (tb : Table) → Fin (tcTables nBuf tb) → BufTy
  | .hbm, ⟨0, _⟩ => ⟨S1x16384x1024, .f32⟩
  | .hbm, ⟨1, _⟩ => ⟨S16384x512, .f32⟩
  | .hbm, ⟨2, _⟩ => ⟨S16384x512, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024x2048, .f32⟩
  | .hbm, ⟨9, _⟩ => ⟨S1x8x128x128, .f32⟩
  | .hbm, ⟨10, _⟩ => ⟨S1x8x128x128, .f32⟩
  | .hbm, ⟨11, _⟩ => ⟨S16384x1024, .f32⟩
  | .hbm, ⟨12, _⟩ => ⟨S1024x1024, .f32⟩
  | .hbm, ⟨13, _⟩ => ⟨S1024x1024, .bf16⟩
  | .hbm, ⟨14, _⟩ => ⟨S1024x2048, .f32⟩
  | .hbm, ⟨15, _⟩ => ⟨S1024x2048, .bf16⟩
  | .hbm, ⟨16, _⟩ => ⟨S8x128x128, .f32⟩
  | .hbm, ⟨17, _⟩ => ⟨S8x128x128, .bf16⟩
  | .hbm, ⟨18, _⟩ => ⟨S8x128x128, .f32⟩
  | .hbm, ⟨19, _⟩ => ⟨S8x128x128, .bf16⟩
  | .hbm, ⟨20, _⟩ => ⟨S16384x1024, .f32⟩
  | .hbm, ⟨21, _⟩ => ⟨S16384x1024, .bf16⟩
  | .hbm, ⟨22, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1024x2048, .bf16⟩
  | .local _ .vmem, ⟨12, _⟩ => ⟨S8x128x128, .bf16⟩
  | .local _ .vmem, ⟨13, _⟩ => ⟨S8x128x128, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x2048, .f32⟩
  | .local _ .vmem, ⟨19, _⟩ => ⟨S512x2048, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S1x16384x1024 : Shape := ⟨3, ![1, 16384, 1024]⟩
abbrev S16384x512 : Shape := ⟨2, ![16384, 512]⟩
abbrev S1x1024x1024 : Shape := ⟨3, ![1, 1024, 1024]⟩
abbrev S1x1024 : Shape := ⟨2, ![1, 1024]⟩
abbrev S1x1024x2048 : Shape := ⟨3, ![1, 1024, 2048]⟩
abbrev S1x8x128x128 : Shape := ⟨4, ![1, 8, 128, 128]⟩
abbrev S16384x1024 : Shape := ⟨2, ![16384, 1024]⟩
abbrev S1x1x1024 : Shape := ⟨3, ![1, 1, 1024]⟩
abbrev S1024x1024 : Shape := ⟨2, ![1024, 1024]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1024x2048 : Shape := ⟨2, ![1024, 2048]⟩
abbrev S16384x2048 : Shape := ⟨2, ![16384, 2048]⟩
abbrev S16384x8x2x128 : Shape := ⟨4, ![16384, 8, 2, 128]⟩
abbrev S16384x8x1x128 : Shape := ⟨4, ![16384, 8, 1, 128]⟩
abbrev S16384x8x128 : Shape := ⟨3, ![16384, 8, 128]⟩
abbrev S8x128x128 : Shape := ⟨3, ![8, 128, 128]⟩
abbrev S8x128x16384 : Shape := ⟨3, ![8, 128, 16384]⟩

abbrev nBuf : Space → Nat
  | .hbm => 65
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S16384x512, .f32⟩
  | .hbm, ⟨2, _⟩ => ⟨S16384x512, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024x2048, .f32⟩
  | .hbm, ⟨9, _⟩ => ⟨S1x8x128x128, .f32⟩
  | .hbm, ⟨10, _⟩ => ⟨S1x8x128x128, .f32⟩
  | .hbm, ⟨11, _⟩ => ⟨S16384x1024, .f32⟩
  | .hbm, ⟨12, _⟩ => ⟨S1x16384x1024, .f32⟩
  | .hbm, ⟨13, _⟩ => ⟨S1x1x1024, .f32⟩
  | .hbm, ⟨14, _⟩ => ⟨S1024x1024, .f32⟩
  | .hbm, ⟨15, _⟩ => ⟨S1x16384x1024, .f32⟩
  | .hbm, ⟨16, _⟩ => ⟨S1x16384x1024, .f32⟩
  | .hbm, ⟨17, _⟩ => ⟨S1x16384x1024, .f32⟩
  | .hbm, ⟨18, _⟩ => ⟨S1x16384x1024, .f32⟩
  | .hbm, ⟨19, _⟩ => ⟨S1024, .f32⟩
  | .hbm, ⟨20, _⟩ => ⟨S1x16384x1024, .f32⟩
  | .hbm, ⟨21, _⟩ => ⟨S_, .f32⟩
  | .hbm, ⟨22, _⟩ => ⟨S1x16384, .f32⟩
  | .hbm, ⟨23, _⟩ => ⟨S1x16384x1, .f32⟩
  | .hbm, ⟨24, _⟩ => ⟨S_, .f32⟩
  | .hbm, ⟨25, _⟩ => ⟨S1x16384x1, .f32⟩
  | .hbm, ⟨26, _⟩ => ⟨S1x16384x1, .f32⟩
  | .hbm, ⟨27, _⟩ => ⟨S_, .f32⟩
  | .hbm, ⟨28, _⟩ => ⟨S1x16384x1, .f32⟩
  | .hbm, ⟨29, _⟩ => ⟨S1x16384x1, .f32⟩
  | .hbm, ⟨30, _⟩ => ⟨S1x16384x1, .f32⟩
  | .hbm, ⟨31, _⟩ => ⟨S1x16384x1024, .f32⟩
  | .hbm, ⟨32, _⟩ => ⟨S1x16384x1024, .f32⟩
  | .hbm, ⟨33, _⟩ => ⟨S1x1x1024, .f32⟩
  | .hbm, ⟨34, _⟩ => ⟨S1x16384x1024, .f32⟩
  | .hbm, ⟨35, _⟩ => ⟨S1x16384x1024, .f32⟩
  | .hbm, ⟨36, _⟩ => ⟨S1x1x1024, .f32⟩
  | .hbm, ⟨37, _⟩ => ⟨S_, .f32⟩
  | .hbm, ⟨38, _⟩ => ⟨S1x1x1024, .f32⟩
  | .hbm, ⟨39, _⟩ => ⟨S1x1x1024, .f32⟩
  | .hbm, ⟨40, _⟩ => ⟨S1x16384x1024, .f32⟩
  | .hbm, ⟨41, _⟩ => ⟨S1x16384x1024, .f32⟩
  | .hbm, ⟨42, _⟩ => ⟨S1x1x1024, .f32⟩
  | .hbm, ⟨43, _⟩ => ⟨S1x16384x1024, .f32⟩
  | .hbm, ⟨44, _⟩ => ⟨S1x16384x1024, .f32⟩
  | .hbm, ⟨45, _⟩ => ⟨S16384x1024, .f32⟩
  | .hbm, ⟨46, _⟩ => ⟨S1024x2048, .f32⟩
  | .hbm, ⟨47, _⟩ => ⟨S16384x2048, .f32⟩
  | .hbm, ⟨48, _⟩ => ⟨S16384x8x2x128, .f32⟩
  | .hbm, ⟨49, _⟩ => ⟨S16384x8x1x128, .f32⟩
  | .hbm, ⟨50, _⟩ => ⟨S16384x8x128, .f32⟩
  | .hbm, ⟨51, _⟩ => ⟨S8x128x128, .f32⟩
  | .hbm, ⟨52, _⟩ => ⟨S8x128x16384, .f32⟩
  | .hbm, ⟨53, _⟩ => ⟨S16384x8x128, .f32⟩
  | .hbm, ⟨54, _⟩ => ⟨S16384x8x1x128, .f32⟩
  | .hbm, ⟨55, _⟩ => ⟨S16384x8x128, .f32⟩
  | .hbm, ⟨56, _⟩ => ⟨S8x128x128, .f32⟩
  | .hbm, ⟨57, _⟩ => ⟨S8x128x16384, .f32⟩
  | .hbm, ⟨58, _⟩ => ⟨S16384x8x128, .f32⟩
  | .hbm, ⟨59, _⟩ => ⟨S16384x1024, .f32⟩
  | .hbm, ⟨60, _⟩ => ⟨S16384x1024, .bf16⟩
  | .hbm, ⟨61, _⟩ => ⟨S16384x8x1x128, .f32⟩
  | .hbm, ⟨62, _⟩ => ⟨S16384x8x1x128, .f32⟩
  | .hbm, ⟨63, _⟩ => ⟨S16384x8x2x128, .f32⟩
  | .hbm, ⟨64, _⟩ => ⟨S16384x2048, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== Kernel4.lean ====
abbrev S1x1024 : Shape := ⟨2, ![1, 1024]⟩
abbrev S1x1024x6144 : Shape := ⟨3, ![1, 1024, 6144]⟩
abbrev S1x6144 : Shape := ⟨2, ![1, 6144]⟩
abbrev S8x1024 : Shape := ⟨2, ![8, 1024]⟩
abbrev S1024x6144 : Shape := ⟨2, ![1024, 6144]⟩
abbrev S6144 : Shape := ⟨1, ![6144]⟩
abbrev S8x6144 : Shape := ⟨2, ![8, 6144]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024x6144, .f32⟩
  | .hbm, ⟨2, _⟩ => ⟨S1x6144, .f32⟩
  | .hbm, ⟨3, _⟩ => ⟨S8x1024, .f32⟩
  | .hbm, ⟨4, _⟩ => ⟨S1024x6144, .f32⟩
  | .hbm, ⟨5, _⟩ => ⟨S6144, .f32⟩
  | .hbm, ⟨6, _⟩ => ⟨S1x6144, .f32⟩
  | .hbm, ⟨7, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S1x1024 : Shape := ⟨2, ![1, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S6144 : Shape := ⟨1, ![6144]⟩
abbrev S8x6144 : Shape := ⟨2, ![8, 6144]⟩

abbrev nBuf : Space → Nat
  | .hbm => 18
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024x6144, .f32⟩
  | .hbm, ⟨2, _⟩ => ⟨S1x6144, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024x6144, .f32⟩
  | .hbm, ⟨13, _⟩ => ⟨S1x6144, .f32⟩
  | .hbm, ⟨14, _⟩ => ⟨S6144, .f32⟩
  | .hbm, ⟨15, _⟩ => ⟨S1x6144, .f32⟩
  | .hbm, ⟨16, _⟩ => ⟨S1x6144, .f32⟩
  | .hbm, ⟨17, _⟩ => ⟨S8x6144, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel5.lean ====
abbrev S16384x1536 : Shape := ⟨2, ![16384, 1536]⟩
abbrev S16384x128 : Shape := ⟨2, ![16384, 128]⟩
abbrev S1x4x1536 : Shape := ⟨3, ![1, 4, 1536]⟩
abbrev S1x4 : Shape := ⟨2, ![1, 4]⟩
abbrev S4x1536 : Shape := ⟨2, ![4, 1536]⟩
abbrev S_ : Shape := ⟨0, ![]⟩
abbrev S8x1536 : Shape := ⟨2, ![8, 1536]⟩
abbrev S8x128 : Shape := ⟨2, ![8, 128]⟩
abbrev S4 : Shape := ⟨1, ![4]⟩
abbrev S1 : Shape := ⟨1, ![1]⟩
abbrev S2 : Shape := ⟨1, ![2]⟩
abbrev S16384x512 : Shape := ⟨2, ![16384, 512]⟩
abbrev S128x8x128 : Shape := ⟨3, ![128, 8, 128]⟩
abbrev S256x1536 : Shape := ⟨2, ![256, 1536]⟩
abbrev S256x128 : Shape := ⟨2, ![256, 128]⟩
abbrev S256x512 : Shape := ⟨2, ![256, 512]⟩
abbrev S2x8x128 : Shape := ⟨3, ![2, 8, 128]⟩
abbrev S1x1536 : Shape := ⟨2, ![1, 1536]⟩
abbrev S248x1536 : Shape := ⟨2, ![248, 1536]⟩
abbrev S1x128 : Shape := ⟨2, ![1, 128]⟩
abbrev S128x128 : Shape := ⟨2, ![128, 128]⟩
abbrev S128 : Shape := ⟨1, ![128]⟩
abbrev S128x1 : Shape := ⟨2, ![128, 1]⟩
abbrev S1x1x128 : Shape := ⟨3, ![1, 1, 128]⟩

abbrev nBuf : Space → Nat
  | .hbm => 31
  | .vmem => 20
  | .smem => 0
  | _ => 0

abbrev bufTy : (tb : Table) → Fin (tcTables nBuf tb) → BufTy
  | .hbm, ⟨0, _⟩ => ⟨S16384x1536, .f32⟩
  | .hbm, ⟨1, _⟩ => ⟨S16384x128, .f32⟩
  | .hbm, ⟨2, _⟩ => ⟨S1x4x1536, .f32⟩
  | .hbm, ⟨3, _⟩ => ⟨S1x4, .f32⟩
  | .hbm, ⟨4, _⟩ => ⟨S1x4, .f32⟩
  | .hbm, ⟨5, _⟩ => ⟨S4x1536, .f32⟩
  | .hbm, ⟨6, _⟩ => ⟨S_, .i32⟩
  | .hbm, ⟨7, _⟩ => ⟨S_, .f32⟩
  | .hbm, ⟨8, _⟩ => ⟨S8x1536, .f32⟩
  | .hbm, ⟨9, _⟩ => ⟨S_, .f32⟩
  | .hbm, ⟨10, _⟩ => ⟨S8x128, .f32⟩
  | .hbm, ⟨11, _⟩ => ⟨S4, .f32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S8x128, .f32⟩
  | .hbm, ⟨18, _⟩ => ⟨S4, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S8x128, .f32⟩
  | .hbm, ⟨25, _⟩ => ⟨S16384x512, .f32⟩
  | .hbm, ⟨26, _⟩ => ⟨S16384x512, .bf16⟩
  | .hbm, ⟨27, _⟩ => ⟨S16384x512, .bf16⟩
  | .hbm, ⟨28, _⟩ => ⟨S16384x512, .bf16⟩
  | .hbm, ⟨29, _⟩ => ⟨S16384x512, .bf16⟩
  | .hbm, ⟨30, _⟩ => ⟨S128x8x128, .f32⟩
  | .local _ .vmem, ⟨0, _⟩ => ⟨S256x1536, .f32⟩
  | .local _ .vmem, ⟨1, _⟩ => ⟨S256x1536, .f32⟩
  | .local _ .vmem, ⟨2, _⟩ => ⟨S8x1536, .f32⟩
  | .local _ .vmem, ⟨3, _⟩ => ⟨S8x1536, .f32⟩
  | .local _ .vmem, ⟨4, _⟩ => ⟨S256x128, .f32⟩
  | .local _ .vmem, ⟨5, _⟩ => ⟨S256x128, .f32⟩
  | .local _ .vmem, ⟨6, _⟩ => ⟨S8x1536, .f32⟩
  | .local _ .vmem, ⟨7, _⟩ => ⟨S8x128, .f32⟩
  | .local _ .vmem, ⟨8, _⟩ => ⟨S256x512, .f32⟩
  | .local _ .vmem, ⟨9, _⟩ => ⟨S256x512, .f32⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S2x8x128, .f32⟩
  | .local _ .vmem, ⟨19, _⟩ => ⟨S2x8x128, .f32⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_v13_2 : Ref sig .tc := ⟨.hbm, 27, rfl⟩
abbrev main_v13_3 : Ref sig .tc := ⟨.hbm, 28, rfl⟩
abbrev main_v13_4 : Ref sig .tc := ⟨.hbm, 29, rfl⟩
abbrev main_v13_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S16384x1536 : Shape := ⟨2, ![16384, 1536]⟩
abbrev S16384x128 : Shape := ⟨2, ![16384, 128]⟩
abbrev S1x4x1536 : Shape := ⟨3, ![1, 4, 1536]⟩
abbrev S1x4 : Shape := ⟨2, ![1, 4]⟩
abbrev S_ : Shape := ⟨0, ![]⟩
abbrev S3x1536 : Shape := ⟨2, ![3, 1536]⟩
abbrev S16387x1536 : Shape := ⟨2, ![16387, 1536]⟩
abbrev S1x1x1536 : Shape := ⟨3, ![1, 1, 1536]⟩
abbrev S1536 : Shape := ⟨1, ![1536]⟩
abbrev S1x1536 : Shape := ⟨2, ![1, 1536]⟩
abbrev S16384x512 : Shape := ⟨2, ![16384, 512]⟩
abbrev S16384x4x128 : Shape := ⟨3, ![16384, 4, 128]⟩
abbrev S16384x4 : Shape := ⟨2, ![16384, 4]⟩
abbrev S16384x4x1 : Shape := ⟨3, ![16384, 4, 1]⟩
abbrev S128x128x4x128 : Shape := ⟨4, ![128, 128, 4, 128]⟩
abbrev S128x4x128x128 : Shape := ⟨4, ![128, 4, 128, 128]⟩
abbrev S4 : Shape := ⟨1, ![4]⟩
abbrev S128x128x4 : Shape := ⟨3, ![128, 128, 4]⟩
abbrev S128x4x128 : Shape := ⟨3, ![128, 4, 128]⟩
abbrev S128x128 : Shape := ⟨2, ![128, 128]⟩
abbrev S128x4x1x128 : Shape := ⟨4, ![128, 4, 1, 128]⟩
abbrev S128x4x128x1 : Shape := ⟨4, ![128, 4, 128, 1]⟩
abbrev S128x4x1 : Shape := ⟨3, ![128, 4, 1]⟩
abbrev S128x4 : Shape := ⟨2, ![128, 4]⟩
abbrev S128x8x128 : Shape := ⟨3, ![128, 8, 128]⟩

abbrev nBuf : Space → Nat
  | .hbm => 164
  | .vmem => 0
  | .smem => 0
  | _ => 0

abbrev hbmTy0_0 (i : Nat) : BufTy := match i % 128 with
  | 0 => ⟨S16384x1536, .f32⟩
  | 1 => ⟨S16384x128, .f32⟩
  | 2 => ⟨S1x4x1536, .f32⟩
  | 3 => ⟨S1x4, .f32⟩
  | 4 => ⟨S1x4, .f32⟩
  | 5 => ⟨S_, .f32⟩
  | 6 => ⟨S3x1536, .f32⟩
  | 7 => ⟨S16387x1536, .f32⟩
  | 8 => ⟨S16384x1536, .f32⟩
  | 9 => ⟨S1x1x1536, .f32⟩
  | 10 => ⟨S1536, .f32⟩
  | 11 => ⟨S1x1536, .f32⟩
  | 12 => ⟨S16384x1536, .f32⟩
  | 13 => ⟨S16384x1536, .f32⟩
  | 14 => ⟨S16384x1536, .f32⟩
  | 15 => ⟨S1x1x1536, .f32⟩
  | 16 => ⟨S1536, .f32⟩
  | 17 => ⟨S1x1536, .f32⟩
  | 18 => ⟨S16384x1536, .f32⟩
  | 19 => ⟨S16384x1536, .f32⟩
  | 20 => ⟨S16384x1536, .f32⟩
  | 21 => ⟨S16384x1536, .f32⟩
  | 22 => ⟨S1x1x1536, .f32⟩
  | 23 => ⟨S1536, .f32⟩
  | 24 => ⟨S1x1536, .f32⟩
  | 25 => ⟨S16384x1536, .f32⟩
  | 26 => ⟨S16384x1536, .f32⟩
  | 27 => ⟨S16384x1536, .f32⟩
  | 28 => ⟨S16384x1536, .f32⟩
  | 29 => ⟨S1x1x1536, .f32⟩
  | 30 => ⟨S1536, .f32⟩
  | 31 => ⟨S1x1536, .f32⟩
  | 32 => ⟨S16384x1536, .f32⟩
  | 33 => ⟨S16384x1536, .f32⟩
  | 34 => ⟨S16384x1536, .f32⟩
  | 35 => ⟨S16384x1536, .f32⟩
  | 36 => ⟨S16384x1536, .f32⟩
  | 37 => ⟨S_, .f32⟩
  | 38 => ⟨S16384x1536, .f32⟩
  | 39 => ⟨S16384x1536, .f32⟩
  | 40 => ⟨S_, .f32⟩
  | 41 => ⟨S16384x1536, .f32⟩
  | 42 => ⟨S16384x1536, .f32⟩
  | 43 => ⟨S16384x1536, .f32⟩
  | 44 => ⟨S16384x512, .f32⟩
  | 45 => ⟨S16384x4x128, .f32⟩
  | 46 => ⟨S16384x4x128, .f32⟩
  | 47 => ⟨S_, .f32⟩
  | 48 => ⟨S16384x4, .f32⟩
  | 49 => ⟨S16384x4x1, .f32⟩
  | 50 => ⟨S_, .f32⟩
  | 51 => ⟨S16384x4x1, .f32⟩
  | 52 => ⟨S16384x4x1, .f32⟩
  | 53 => ⟨S16384x4x1, .f32⟩
  | 54 => ⟨S16384x4x128, .f32⟩
  | 55 => ⟨S16384x4x128, .f32⟩
  | 56 => ⟨S128x128x4x128, .f32⟩
  | 57 => ⟨S128x4x128x128, .f32⟩
  | 58 => ⟨S_, .f32⟩
  | 59 => ⟨S128x4x128x128, .f32⟩
  | 60 => ⟨S128x4x128x128, .f32⟩
  | 61 => ⟨S16384x512, .f32⟩
  | 62 => ⟨S16384x4x128, .f32⟩
  | 63 => ⟨S16384x4x128, .f32⟩
  | 64 => ⟨S_, .f32⟩
  | 65 => ⟨S16384x4, .f32⟩
  | 66 => ⟨S16384x4x1, .f32⟩
  | 67 => ⟨S_, .f32⟩
  | 68 => ⟨S16384x4x1, .f32⟩
  | 69 => ⟨S16384x4x1, .f32⟩
  | 70 => ⟨S16384x4x1, .f32⟩
  | 71 => ⟨S16384x4x128, .f32⟩
  | 72 => ⟨S16384x4x128, .f32⟩
  | 73 => ⟨S128x128x4x128, .f32⟩
  | 74 => ⟨S128x4x128x128, .f32⟩
  | 75 => ⟨S4, .f32⟩
  | 76 => ⟨S4, .f32⟩
  | 77 => ⟨S4, .f32⟩
  | 78 => ⟨S16384x4, .f32⟩
  | 79 => ⟨S4, .f32⟩
  | 80 => ⟨S1x4, .f32⟩
  | 81 => ⟨S16384x4, .f32⟩
  | 82 => ⟨S16384x4, .f32⟩
  | 83 => ⟨S_, .f32⟩
  | 84 => ⟨S16384x4, .f32⟩
  | 85 => ⟨S16384x4, .f32⟩
  | 86 => ⟨S16384x4, .f32⟩
  | 87 => ⟨S16384x4, .f32⟩
  | 88 => ⟨S16384x4, .i1⟩
  | 89 => ⟨S16384x4, .f32⟩
  | 90 => ⟨S16384x4, .f32⟩
  | 91 => ⟨S16384x4, .f32⟩
  | 92 => ⟨S16384x4, .f32⟩
  | 93 => ⟨S16384x4, .f32⟩
  | 94 => ⟨S16384x4, .f32⟩
  | 95 => ⟨S16384x4, .f32⟩
  | 96 => ⟨S16384x4, .f32⟩
  | 97 => ⟨S1x4, .f32⟩
  | 98 => ⟨S16384x4, .f32⟩
  | 99 => ⟨S16384x4, .f32⟩
  | 100 => ⟨S128x128x4, .f32⟩
  | 101 => ⟨S128x4x128, .f32⟩
  | 102 => ⟨S_, .i1⟩
  | 103 => ⟨S128x128, .i1⟩
  | 104 => ⟨S128x128, .i32⟩
  | 105 => ⟨S_, .i32⟩
  | 106 => ⟨S128x128, .i32⟩
  | 107 => ⟨S128x128, .i32⟩
  | 108 => ⟨S128x128, .i32⟩
  | 109 => ⟨S128x128, .i1⟩
  | 110 => ⟨S_, .i1⟩
  | 111 => ⟨S128x128, .i1⟩
  | 112 => ⟨S128x128, .i1⟩
  | 113 => ⟨S128x4x1x128, .f32⟩
  | 114 => ⟨S_, .f32⟩
  | 115 => ⟨S_, .f32⟩
  | 116 => ⟨S128x4x128x128, .i1⟩
  | 117 => ⟨S128x4x128x128, .f32⟩
  | 118 => ⟨S128x4x128x128, .f32⟩
  | 119 => ⟨S128x4x128x128, .f32⟩
  | 120 => ⟨S_, .f32⟩
  | 121 => ⟨S128x4x128, .f32⟩
  | 122 => ⟨S128x4x128x1, .f32⟩
  | 123 => ⟨S128x4x1x128, .f32⟩
  | 124 => ⟨S128x4x128x128, .f32⟩
  | 125 => ⟨S128x4x128x128, .f32⟩
  | 126 => ⟨S128x4x128x128, .f32⟩
  | 127 => ⟨S_, .f32⟩
  | _ => ⟨S16384x1536, .f32⟩

abbrev hbmTy0_1 (i : Nat) : BufTy := match i % 128 with
  | 0 => ⟨S_, .f32⟩
  | 1 => ⟨S128x4x128x128, .i1⟩
  | 2 => ⟨S128x4x128x128, .f32⟩
  | 3 => ⟨S128x4x128x128, .f32⟩
  | 4 => ⟨S128x4x128x128, .f32⟩
  | 5 => ⟨S128x4x128x128, .f32⟩
  | 6 => ⟨S128x4x128x128, .f32⟩
  | 7 => ⟨S128x4x128, .f32⟩
  | 8 => ⟨S128x4x128x1, .f32⟩
  | 9 => ⟨S128x4x128x128, .f32⟩
  | 10 => ⟨S128x4x128x128, .f32⟩
  | 11 => ⟨S128x4x1, .f32⟩
  | 12 => ⟨S128x4, .f32⟩
  | 13 => ⟨S128x4x1, .f32⟩
  | 14 => ⟨S128x4x128, .f32⟩
  | 15 => ⟨S128x4x128, .f32⟩
  | 16 => ⟨S128x4x128, .f32⟩
  | 17 => ⟨S128x4x128x1, .f32⟩
  | 18 => ⟨S128x4x128x128, .f32⟩
  | 19 => ⟨S128x4x128x128, .f32⟩
  | 20 => ⟨S128x128x4x128, .f32⟩
  | 21 => ⟨S16384x512, .f32⟩
  | 22 => ⟨S16384x512, .bf16⟩
  | 23 => ⟨S128x128x4x128, .f32⟩
  | 24 => ⟨S16384x512, .f32⟩
  | 25 => ⟨S16384x512, .bf16⟩
  | 26 => ⟨S128x4x128x128, .f32⟩
  | 27 => ⟨S128x128x4x128, .f32⟩
  | 28 => ⟨S16384x512, .f32⟩
  | 29 => ⟨S16384x512, .bf16⟩
  | 30 => ⟨S128x4, .f32⟩
  | 31 => ⟨S128x4x1, .f32⟩
  | 32 => ⟨S128x4x128, .f32⟩
  | 33 => ⟨S_, .f32⟩
  | 34 => ⟨S128x4x128, .f32⟩
  | 35 => ⟨S128x8x128, .f32⟩
  | _ => ⟨S16384x1536, .f32⟩

abbrev hbmTy (i : Nat) : BufTy := match i / 128 with
  | 0 => hbmTy0_0 i
  | 1 => hbmTy0_1 i
  | _ => ⟨S16384x1536, .f32⟩

abbrev bufTy : (tb : Table) → Fin (tcTables nBuf tb) → BufTy
  | .hbm, ⟨i, _⟩ => hbmTy i
  | _, _ => ⟨S16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_0 : Ref sig .tc := ⟨.hbm, 47, rfl⟩
abbrev main_v33 : Ref sig .tc := ⟨.hbm, 48, rfl⟩
abbrev main_v34 : Ref sig .tc := ⟨.hbm, 49, rfl⟩
abbrev main_cst_1 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_2 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_3 : Ref sig .tc := ⟨.hbm, 64, rfl⟩
abbrev main_v47 : Ref sig .tc := ⟨.hbm, 65, rfl⟩
abbrev main_v48 : Ref sig .tc := ⟨.hbm, 66, rfl⟩
abbrev main_cst_4 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_call1_cst : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_v6 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c : Ref sig .tc := ⟨.hbm, 102, rfl⟩
abbrev main_v70 : Ref sig .tc := ⟨.hbm, 103, rfl⟩
abbrev main_call2_v0 : Ref sig .tc := ⟨.hbm, 104, rfl⟩
abbrev main_call2_c : Ref sig .tc := ⟨.hbm, 105, rfl⟩
abbrev main_call2_v1 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_call2_c_0 : Ref sig .tc := ⟨.hbm, 110, rfl⟩
abbrev main_call2_v5 : Ref sig .tc := ⟨.hbm, 111, rfl⟩
abbrev main_v71 : Ref sig .tc := ⟨.hbm, 112, rfl⟩
abbrev main_v72 : Ref sig .tc := ⟨.hbm, 113, rfl⟩
abbrev main_cst_5 : Ref sig .tc := ⟨.hbm, 114, rfl⟩
abbrev main_call3_v0 : Ref sig .tc := ⟨.hbm, 115, rfl⟩
abbrev main_call3_v1 : Ref sig .tc := ⟨.hbm, 116, rfl⟩
abbrev main_call3_v2 : Ref sig .tc := ⟨.hbm, 117, rfl⟩
abbrev main_call3_v3 : Ref sig .tc := ⟨.hbm, 118, rfl⟩
abbrev main_v73 : Ref sig .tc := ⟨.hbm, 119, rfl⟩
abbrev main_cst_6 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_cst_7 : Ref sig .tc := ⟨.hbm, 127, rfl⟩
abbrev main_call4_v0 : Ref sig .tc := ⟨.hbm, 128, rfl⟩
abbrev main_call4_v1 : Ref sig .tc := ⟨.hbm, 129, rfl⟩
abbrev main_call4_v2 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_cst_8 : Ref sig .tc := ⟨.hbm, 161, rfl⟩
abbrev main_v110 : Ref sig .tc := ⟨.hbm, 162, rfl⟩
abbrev main_v111 : Ref sig .tc := ⟨.hbm, 163, rfl⟩

abbrev nD : Nat := 1
abbrev τ : Topo := Topo.v7x

variable {F : FTy → Type} [FloatOps F]
-- ==== Kernel6.lean ====
abbrev S16384x1536 : Shape := ⟨2, ![16384, 1536]⟩
abbrev S16384x128 : Shape := ⟨2, ![16384, 128]⟩
abbrev S1x4x1536 : Shape := ⟨3, ![1, 4, 1536]⟩
abbrev S1x4 : Shape := ⟨2, ![1, 4]⟩
abbrev S4x1536 : Shape := ⟨2, ![4, 1536]⟩
abbrev S_ : Shape := ⟨0, ![]⟩
abbrev S8x1536 : Shape := ⟨2, ![8, 1536]⟩
abbrev S8x128 : Shape := ⟨2, ![8, 128]⟩
abbrev S4 : Shape := ⟨1, ![4]⟩
abbrev S1 : Shape := ⟨1, ![1]⟩
abbrev S2 : Shape := ⟨1, ![2]⟩
abbrev S16384x512 : Shape := ⟨2, ![16384, 512]⟩
abbrev S128x8x128 : Shape := ⟨3, ![128, 8, 128]⟩
abbrev S256x1536 : Shape := ⟨2, ![256, 1536]⟩
abbrev S256x128 : Shape := ⟨2, ![256, 128]⟩
abbrev S256x512 : Shape := ⟨2, ![256, 512]⟩
abbrev S2x8x128 : Shape := ⟨3, ![2, 8, 128]⟩
abbrev S1x1536 : Shape := ⟨2, ![1, 1536]⟩
abbrev S248x1536 : Shape := ⟨2, ![248, 1536]⟩
abbrev S1x128 : Shape := ⟨2, ![1, 128]⟩
abbrev S128x128 : Shape := ⟨2, ![128, 128]⟩
abbrev S128 : Shape := ⟨1, ![128]⟩
abbrev S128x1 : Shape := ⟨2, ![128, 1]⟩
abbrev S1x1x128 : Shape := ⟨3, ![1, 1, 128]⟩

abbrev nBuf : Space → Nat
  | .hbm => 31
  | .vmem => 20
  | .smem => 0
  | _ => 0

abbrev bufTy : (tb : Table) → Fin (tcTables nBuf tb) → BufTy
  | .hbm, ⟨0, _⟩ => ⟨S16384x1536, .f32⟩
  | .hbm, ⟨1, _⟩ => ⟨S16384x128, .f32⟩
  | .hbm, ⟨2, _⟩ => ⟨S1x4x1536, .f32⟩
  | .hbm, ⟨3, _⟩ => ⟨S1x4, .f32⟩
  | .hbm, ⟨4, _⟩ => ⟨S1x4, .f32⟩
  | .hbm, ⟨5, _⟩ => ⟨S4x1536, .f32⟩
  | .hbm, ⟨6, _⟩ => ⟨S_, .i32⟩
  | .hbm, ⟨7, _⟩ => ⟨S_, .f32⟩
  | .hbm, ⟨8, _⟩ => ⟨S8x1536, .f32⟩
  | .hbm, ⟨9, _⟩ => ⟨S_, .f32⟩
  | .hbm, ⟨10, _⟩ => ⟨S8x128, .f32⟩
  | .hbm, ⟨11, _⟩ => ⟨S4, .f32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S8x128, .f32⟩
  | .hbm, ⟨18, _⟩ => ⟨S4, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S8x128, .f32⟩
  | .hbm, ⟨25, _⟩ => ⟨S16384x512, .f32⟩
  | .hbm, ⟨26, _⟩ => ⟨S16384x512, .bf16⟩
  | .hbm, ⟨27, _⟩ => ⟨S16384x512, .bf16⟩
  | .hbm, ⟨28, _⟩ => ⟨S16384x512, .bf16⟩
  | .hbm, ⟨29, _⟩ => ⟨S16384x512, .bf16⟩
  | .hbm, ⟨30, _⟩ => ⟨S128x8x128, .f32⟩
  | .local _ .vmem, ⟨0, _⟩ => ⟨S256x1536, .f32⟩
  | .local _ .vmem, ⟨1, _⟩ => ⟨S256x1536, .f32⟩
  | .local _ .vmem, ⟨2, _⟩ => ⟨S8x1536, .f32⟩
  | .local _ .vmem, ⟨3, _⟩ => ⟨S8x1536, .f32⟩
  | .local _ .vmem, ⟨4, _⟩ => ⟨S256x128, .f32⟩
  | .local _ .vmem, ⟨5, _⟩ => ⟨S256x128, .f32⟩
  | .local _ .vmem, ⟨6, _⟩ => ⟨S8x1536, .f32⟩
  | .local _ .vmem, ⟨7, _⟩ => ⟨S8x128, .f32⟩
  | .local _ .vmem, ⟨8, _⟩ => ⟨S256x512, .f32⟩
  | .local _ .vmem, ⟨9, _⟩ => ⟨S256x512, .f32⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S2x8x128, .f32⟩
  | .local _ .vmem, ⟨19, _⟩ => ⟨S2x8x128, .f32⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_v13_2 : Ref sig .tc := ⟨.hbm, 27, rfl⟩
abbrev main_v13_3 : Ref sig .tc := ⟨.hbm, 28, rfl⟩
abbrev main_v13_4 : Ref sig .tc := ⟨.hbm, 29, rfl⟩
abbrev main_v13_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S16384x1536 : Shape := ⟨2, ![16384, 1536]⟩
abbrev S16384x128 : Shape := ⟨2, ![16384, 128]⟩
abbrev S1x4x1536 : Shape := ⟨3, ![1, 4, 1536]⟩
abbrev S1x4 : Shape := ⟨2, ![1, 4]⟩
abbrev S_ : Shape := ⟨0, ![]⟩
abbrev S3x1536 : Shape := ⟨2, ![3, 1536]⟩
abbrev S16387x1536 : Shape := ⟨2, ![16387, 1536]⟩
abbrev S1x1x1536 : Shape := ⟨3, ![1, 1, 1536]⟩
abbrev S1536 : Shape := ⟨1, ![1536]⟩
abbrev S1x1536 : Shape := ⟨2, ![1, 1536]⟩
abbrev S16384x512 : Shape := ⟨2, ![16384, 512]⟩
abbrev S16384x4x128 : Shape := ⟨3, ![16384, 4, 128]⟩
abbrev S16384x4 : Shape := ⟨2, ![16384, 4]⟩
abbrev S16384x4x1 : Shape := ⟨3, ![16384, 4, 1]⟩
abbrev S128x128x4x128 : Shape := ⟨4, ![128, 128, 4, 128]⟩
abbrev S128x4x128x128 : Shape := ⟨4, ![128, 4, 128, 128]⟩
abbrev S4 : Shape := ⟨1, ![4]⟩
abbrev S128x128x4 : Shape := ⟨3, ![128, 128, 4]⟩
abbrev S128x4x128 : Shape := ⟨3, ![128, 4, 128]⟩
abbrev S128x128 : Shape := ⟨2, ![128, 128]⟩
abbrev S128x4x1x128 : Shape := ⟨4, ![128, 4, 1, 128]⟩
abbrev S128x4x128x1 : Shape := ⟨4, ![128, 4, 128, 1]⟩

abbrev nBuf : Space → Nat
  | .hbm => 198
  | .vmem => 0
  | .smem => 0
  | _ => 0

abbrev hbmTy0_0 (i : Nat) : BufTy := match i % 128 with
  | 0 => ⟨S16384x1536, .f32⟩
  | 1 => ⟨S16384x128, .f32⟩
  | 2 => ⟨S1x4x1536, .f32⟩
  | 3 => ⟨S1x4, .f32⟩
  | 4 => ⟨S1x4, .f32⟩
  | 5 => ⟨S_, .f32⟩
  | 6 => ⟨S3x1536, .f32⟩
  | 7 => ⟨S16387x1536, .f32⟩
  | 8 => ⟨S16384x1536, .f32⟩
  | 9 => ⟨S1x1x1536, .f32⟩
  | 10 => ⟨S1536, .f32⟩
  | 11 => ⟨S1x1536, .f32⟩
  | 12 => ⟨S16384x1536, .f32⟩
  | 13 => ⟨S16384x1536, .f32⟩
  | 14 => ⟨S16384x1536, .f32⟩
  | 15 => ⟨S1x1x1536, .f32⟩
  | 16 => ⟨S1536, .f32⟩
  | 17 => ⟨S1x1536, .f32⟩
  | 18 => ⟨S16384x1536, .f32⟩
  | 19 => ⟨S16384x1536, .f32⟩
  | 20 => ⟨S16384x1536, .f32⟩
  | 21 => ⟨S16384x1536, .f32⟩
  | 22 => ⟨S1x1x1536, .f32⟩
  | 23 => ⟨S1536, .f32⟩
  | 24 => ⟨S1x1536, .f32⟩
  | 25 => ⟨S16384x1536, .f32⟩
  | 26 => ⟨S16384x1536, .f32⟩
  | 27 => ⟨S16384x1536, .f32⟩
  | 28 => ⟨S16384x1536, .f32⟩
  | 29 => ⟨S1x1x1536, .f32⟩
  | 30 => ⟨S1536, .f32⟩
  | 31 => ⟨S1x1536, .f32⟩
  | 32 => ⟨S16384x1536, .f32⟩
  | 33 => ⟨S16384x1536, .f32⟩
  | 34 => ⟨S16384x1536, .f32⟩
  | 35 => ⟨S16384x1536, .f32⟩
  | 36 => ⟨S16384x1536, .f32⟩
  | 37 => ⟨S_, .f32⟩
  | 38 => ⟨S16384x1536, .f32⟩
  | 39 => ⟨S16384x1536, .f32⟩
  | 40 => ⟨S_, .f32⟩
  | 41 => ⟨S16384x1536, .f32⟩
  | 42 => ⟨S16384x1536, .f32⟩
  | 43 => ⟨S16384x1536, .f32⟩
  | 44 => ⟨S16384x512, .f32⟩
  | 45 => ⟨S16384x4x128, .f32⟩
  | 46 => ⟨S16384x4x128, .f32⟩
  | 47 => ⟨S_, .f32⟩
  | 48 => ⟨S16384x4, .f32⟩
  | 49 => ⟨S16384x4x1, .f32⟩
  | 50 => ⟨S_, .f32⟩
  | 51 => ⟨S16384x4x1, .f32⟩
  | 52 => ⟨S16384x4x1, .f32⟩
  | 53 => ⟨S16384x4x1, .f32⟩
  | 54 => ⟨S16384x4x128, .f32⟩
  | 55 => ⟨S16384x4x128, .f32⟩
  | 56 => ⟨S128x128x4x128, .f32⟩
  | 57 => ⟨S128x4x128x128, .f32⟩
  | 58 => ⟨S16384x512, .f32⟩
  | 59 => ⟨S16384x4x128, .f32⟩
  | 60 => ⟨S128x128x4x128, .f32⟩
  | 61 => ⟨S128x4x128x128, .f32⟩
  | 62 => ⟨S4, .f32⟩
  | 63 => ⟨S4, .f32⟩
  | 64 => ⟨S4, .f32⟩
  | 65 => ⟨S16384x4, .f32⟩
  | 66 => ⟨S4, .f32⟩
  | 67 => ⟨S1x4, .f32⟩
  | 68 => ⟨S16384x4, .f32⟩
  | 69 => ⟨S16384x4, .f32⟩
  | 70 => ⟨S_, .f32⟩
  | 71 => ⟨S16384x4, .f32⟩
  | 72 => ⟨S16384x4, .f32⟩
  | 73 => ⟨S16384x4, .f32⟩
  | 74 => ⟨S16384x4, .f32⟩
  | 75 => ⟨S16384x4, .i1⟩
  | 76 => ⟨S16384x4, .f32⟩
  | 77 => ⟨S16384x4, .f32⟩
  | 78 => ⟨S16384x4, .f32⟩
  | 79 => ⟨S16384x4, .f32⟩
  | 80 => ⟨S16384x4, .f32⟩
  | 81 => ⟨S16384x4, .f32⟩
  | 82 => ⟨S16384x4, .f32⟩
  | 83 => ⟨S16384x4, .f32⟩
  | 84 => ⟨S1x4, .f32⟩
  | 85 => ⟨S16384x4, .f32⟩
  | 86 => ⟨S16384x4, .f32⟩
  | 87 => ⟨S16384x4, .f32⟩
  | 88 => ⟨S16384x4, .f32⟩
  | 89 => ⟨S16384x4, .f32⟩
  | 90 => ⟨S_, .f32⟩
  | 91 => ⟨S16384x4, .f32⟩
  | 92 => ⟨S16384x4, .f32⟩
  | 93 => ⟨S_, .f32⟩
  | 94 => ⟨S16384x4, .f32⟩
  | 95 => ⟨S16384x4, .f32⟩
  | 96 => ⟨S128x128x4, .f32⟩
  | 97 => ⟨S128x4x128, .f32⟩
  | 98 => ⟨S128x128x4, .f32⟩
  | 99 => ⟨S128x4x128, .f32⟩
  | 100 => ⟨S_, .i1⟩
  | 101 => ⟨S128x128, .i1⟩
  | 102 => ⟨S128x128, .i32⟩
  | 103 => ⟨S_, .i32⟩
  | 104 => ⟨S128x128, .i32⟩
  | 105 => ⟨S128x128, .i32⟩
  | 106 => ⟨S128x128, .i32⟩
  | 107 => ⟨S128x128, .i1⟩
  | 108 => ⟨S_, .i1⟩
  | 109 => ⟨S128x128, .i1⟩
  | 110 => ⟨S128x128, .i1⟩
  | 111 => ⟨S_, .i1⟩
  | 112 => ⟨S128x128, .i1⟩
  | 113 => ⟨S128x128, .i32⟩
  | 114 => ⟨S_, .i32⟩
  | 115 => ⟨S128x128, .i32⟩
  | 116 => ⟨S128x128, .i32⟩
  | 117 => ⟨S128x128, .i32⟩
  | 118 => ⟨S128x128, .i1⟩
  | 119 => ⟨S_, .i1⟩
  | 120 => ⟨S128x128, .i1⟩
  | 121 => ⟨S128x128, .i1⟩
  | 122 => ⟨S128x4x1x128, .f32⟩
  | 123 => ⟨S_, .f32⟩
  | 124 => ⟨S_, .f32⟩
  | 125 => ⟨S128x4x128x128, .i1⟩
  | 126 => ⟨S128x4x128x128, .f32⟩
  | 127 => ⟨S128x4x128x128, .f32⟩
  | _ => ⟨S16384x1536, .f32⟩

abbrev hbmTy0_1 (i : Nat) : BufTy := match i % 128 with
  | 0 => ⟨S128x4x128x128, .f32⟩
  | 1 => ⟨S_, .f32⟩
  | 2 => ⟨S128x4x128, .f32⟩
  | 3 => ⟨S128x4x128x1, .f32⟩
  | 4 => ⟨S128x4x1x128, .f32⟩
  | 5 => ⟨S128x4x128x128, .f32⟩
  | 6 => ⟨S128x4x128x128, .f32⟩
  | 7 => ⟨S128x4x128x128, .f32⟩
  | 8 => ⟨S_, .f32⟩
  | 9 => ⟨S_, .f32⟩
  | 10 => ⟨S128x4x128x128, .i1⟩
  | 11 => ⟨S128x4x128x128, .f32⟩
  | 12 => ⟨S128x4x128x128, .f32⟩
  | 13 => ⟨S128x4x128x128, .f32⟩
  | 14 => ⟨S128x4x128x1, .f32⟩
  | 15 => ⟨S128x4x128x128, .f32⟩
  | 16 => ⟨S128x4x128x128, .f32⟩
  | 17 => ⟨S128x4x128x128, .f32⟩
  | 18 => ⟨S128x4x128x128, .f32⟩
  | 19 => ⟨S_, .f32⟩
  | 20 => ⟨S_, .f32⟩
  | 21 => ⟨S128x4x128x128, .i1⟩
  | 22 => ⟨S128x4x128x128, .f32⟩
  | 23 => ⟨S128x4x128x128, .f32⟩
  | 24 => ⟨S128x4x128x1, .f32⟩
  | 25 => ⟨S128x4x128x128, .f32⟩
  | 26 => ⟨S128x4x128x128, .f32⟩
  | 27 => ⟨S128x4x128, .f32⟩
  | 28 => ⟨S128x4x128x1, .f32⟩
  | 29 => ⟨S128x4x128x128, .f32⟩
  | 30 => ⟨S128x4x128x128, .f32⟩
  | 31 => ⟨S128x4x128x128, .f32⟩
  | 32 => ⟨S128x4x128x128, .f32⟩
  | 33 => ⟨S128x4x128x128, .f32⟩
  | 34 => ⟨S128x4x128x128, .f32⟩
  | 35 => ⟨S128x4x128x128, .f32⟩
  | 36 => ⟨S128x4x128x128, .f32⟩
  | 37 => ⟨S128x4x128x128, .f32⟩
  | 38 => ⟨S128x4x128x128, .f32⟩
  | 39 => ⟨S128x4x128x128, .f32⟩
  | 40 => ⟨S128x4x128x128, .f32⟩
  | 41 => ⟨S128x4x128x128, .f32⟩
  | 42 => ⟨S128x4x128x128, .f32⟩
  | 43 => ⟨S128x4x128x128, .f32⟩
  | 44 => ⟨S128x4x128x128, .f32⟩
  | 45 => ⟨S128x4x128x128, .f32⟩
  | 46 => ⟨S128x4x128x128, .f32⟩
  | 47 => ⟨S128x4x128x128, .f32⟩
  | 48 => ⟨S128x4x128x128, .f32⟩
  | 49 => ⟨S128x4x128x128, .f32⟩
  | 50 => ⟨S128x4x128x128, .f32⟩
  | 51 => ⟨S128x4x128x128, .f32⟩
  | 52 => ⟨S128x4x128x128, .f32⟩
  | 53 => ⟨S128x4x128x128, .f32⟩
  | 54 => ⟨S128x4x128x128, .f32⟩
  | 55 => ⟨S128x4x128x128, .f32⟩
  | 56 => ⟨S128x4x128x128, .f32⟩
  | 57 => ⟨S128x4x128x128, .f32⟩
  | 58 => ⟨S128x4x128x128, .f32⟩
  | 59 => ⟨S128x4x128x128, .f32⟩
  | 60 => ⟨S128x4x128x128, .f32⟩
  | 61 => ⟨S128x4x128x128, .f32⟩
  | 62 => ⟨S128x4x128x128, .f32⟩
  | 63 => ⟨S128x4x128x128, .f32⟩
  | 64 => ⟨S128x4x128x128, .f32⟩
  | 65 => ⟨S128x128x4x128, .f32⟩
  | 66 => ⟨S16384x512, .f32⟩
  | 67 => ⟨S128x128x4x128, .f32⟩
  | 68 => ⟨S16384x512, .f32⟩
  | 69 => ⟨S16384x512, .bf16⟩
  | _ => ⟨S16384x1536, .f32⟩

abbrev hbmTy (i : Nat) : BufTy := match i / 128 with
  | 0 => hbmTy0_0 i
  | 1 => hbmTy0_1 i
  | _ => ⟨S16384x1536, .f32⟩

abbrev bufTy : (tb : Table) → Fin (tcTables nBuf tb) → BufTy
  | .hbm, ⟨i, _⟩ => hbmTy i
  | _, _ => ⟨S16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_0 : Ref sig .tc := ⟨.hbm, 47, rfl⟩
abbrev main_v33 : Ref sig .tc := ⟨.hbm, 48, rfl⟩
abbrev main_v34 : Ref sig .tc := ⟨.hbm, 49, rfl⟩
abbrev main_cst_1 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_call1_cst : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_2 : Ref sig .tc := ⟨.hbm, 90, rfl⟩
abbrev main_v61 : Ref sig .tc := ⟨.hbm, 91, rfl⟩
abbrev main_v62 : Ref sig .tc := ⟨.hbm, 92, rfl⟩
abbrev main_cst_3 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c : Ref sig .tc := ⟨.hbm, 100, rfl⟩
abbrev main_v69 : Ref sig .tc := ⟨.hbm, 101, rfl⟩
abbrev main_call2_v0 : Ref sig .tc := ⟨.hbm, 102, rfl⟩
abbrev main_call2_c : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_c_0 : Ref sig .tc := ⟨.hbm, 108, rfl⟩
abbrev main_call2_v5 : Ref sig .tc := ⟨.hbm, 109, rfl⟩
abbrev main_v70 : Ref sig .tc := ⟨.hbm, 110, rfl⟩
abbrev main_c_4 : Ref sig .tc := ⟨.hbm, 111, rfl⟩
abbrev main_v71 : Ref sig .tc := ⟨.hbm, 112, rfl⟩
abbrev main_call3_v0 : Ref sig .tc := ⟨.hbm, 113, rfl⟩
abbrev main_call3_c : Ref sig .tc := ⟨.hbm, 114, rfl⟩
abbrev main_call3_v1 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_call3_c_0 : Ref sig .tc := ⟨.hbm, 119, rfl⟩
abbrev main_call3_v5 : Ref sig .tc := ⟨.hbm, 120, rfl⟩
abbrev main_v72 : Ref sig .tc := ⟨.hbm, 121, rfl⟩
abbrev main_v73 : Ref sig .tc := ⟨.hbm, 122, rfl⟩
abbrev main_cst_5 : Ref sig .tc := ⟨.hbm, 123, rfl⟩
abbrev main_call4_v0 : Ref sig .tc := ⟨.hbm, 124, rfl⟩
abbrev main_call4_v1 : Ref sig .tc := ⟨.hbm, 125, rfl⟩
abbrev main_call4_v2 : Ref sig .tc := ⟨.hbm, 126, rfl⟩
abbrev main_call4_v3 : Ref sig .tc := ⟨.hbm, 127, rfl⟩
abbrev main_v74 : Ref sig .tc := ⟨.hbm, 128, rfl⟩
abbrev main_cst_6 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_cst_7 : Ref sig .tc := ⟨.hbm, 136, rfl⟩
abbrev main_call5_v0 : Ref sig .tc := ⟨.hbm, 137, rfl⟩
abbrev main_call5_v1 : Ref sig .tc := ⟨.hbm, 138, rfl⟩
abbrev main_call5_v2 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_cst_8 : Ref sig .tc := ⟨.hbm, 147, rfl⟩
abbrev main_call6_v0 : Ref sig .tc := ⟨.hbm, 148, rfl⟩
abbrev main_call6_v1 : Ref sig .tc := ⟨.hbm, 149, rfl⟩
abbrev main_call6_v2 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩

abbrev nD : Nat := 1
abbrev τ : Topo := Topo.v7x

variable {F : FTy → Type} [FloatOps F]
-- ==== Proof.Core.lean ====
/-
  The arithmetic both sides of the value claims are read down to, on extended reals and plain coordinates: an array
  read at natural-number coordinates (`at2`, `at3`), a matrix product as a sum, and the chunked recurrence's step.
-/
module

public import Idealize.ShloMosaic.Lib.ValueIdx
public import Idealize.ShloMosaic.Lib.ValueIdxCore
public import Idealize.ShloMosaic.Lib.ValueLayout
public import Idealize.ShloMosaic.Lib.ValueLayoutCasts
public import Idealize.ShloMosaic.Lib.IdealHost
public import Idealize.ShloMosaic.Lib.KernelVsHost
public import Idealize.ShloMosaic.Lib.StackMember
public import Idealize.ShloMosaic.Lib.DynamicIndex
public import Idealize.ShloMosaic.Lib.Pipeline.Value
public import Idealize.ShloMosaic.Lib.Tactic

@[expose] public section

noncomputable section

open Idealize.ShloMosaic Idealize.ShloMosaic.ValueIdx Idealize.ShloMosaic.StackMember

namespace Cert.Core

/-! ## Arrays at natural-number coordinates -/

/-- A matrix read at natural-number coordinates (each taken modulo its extent, so that the reading is total). -/
def at2 {n0 n1 : ℕ} [NeZero n0] [NeZero n1] {α : Type} (x : (⟨2, ![n0, n1]⟩ : Shape).Idx → α) (r c : ℕ) : α :=
  x (ix2 (Fin.ofNat n0 r) (Fin.ofNat n1 c))

/-- A rank-3 array read at natural-number coordinates. -/
def at3 {n0 n1 n2 : ℕ} [NeZero n0] [NeZero n1] [NeZero n2] {α : Type} (x : (⟨3, ![n0, n1, n2]⟩ : Shape).Idx → α)
    (p r c : ℕ) : α :=
  x (ix3 (Fin.ofNat n0 p) (Fin.ofNat n1 r) (Fin.ofNat n2 c))

/-- Inside the matrix, the element at an index is the reading at its coordinates. -/
theorem at2_of {n0 n1 : ℕ} [NeZero n0] [NeZero n1] {α : Type} (x : (⟨2, ![n0, n1]⟩ : Shape).Idx → α) (i : (⟨2, ![n0, n1]⟩ : Shape).Idx)
    {r c : ℕ} (hr : (i 0).val = r) (hc : (i 1).val = c) : x i = at2 x r c := by
  unfold at2
  congr 1
  funext a
  apply Fin.ext
  match a with
  | ⟨0, _⟩ => show (i 0).val = r % n0; rw [hr]; exact (Nat.mod_eq_of_lt (hr ▸ idx2_lt0 i)).symm
  | ⟨1, _⟩ => show (i 1).val = c % n1; rw [hc]; exact (Nat.mod_eq_of_lt (hc ▸ idx2_lt1 i)).symm

/-- Inside a rank-3 array, likewise. -/
theorem at3_of {n0 n1 n2 : ℕ} [NeZero n0] [NeZero n1] [NeZero n2] {α : Type} (x : (⟨3, ![n0, n1, n2]⟩ : Shape).Idx → α)
    (i : (⟨3, ![n0, n1, n2]⟩ : Shape).Idx) {p r c : ℕ} (hp : (i 0).val = p) (hr : (i 1).val = r) (hc : (i 2).val = c) :
    x i = at3 x p r c := by
  unfold at3
  congr 1
  funext a
  apply Fin.ext
  match a with
  | ⟨0, _⟩ => show (i 0).val = p % n0; rw [hp]; exact (Nat.mod_eq_of_lt (hp ▸ (i 0).isLt)).symm
  | ⟨1, _⟩ => show (i 1).val = r % n1; rw [hr]; exact (Nat.mod_eq_of_lt (hr ▸ (i 1).isLt)).symm
  | ⟨2, _⟩ => show (i 2).val = c % n2; rw [hc]; exact (Nat.mod_eq_of_lt (hc ▸ (i 2).isLt)).symm

/-! ## The recurrence of one head, chunk by chunk -/

/-- A chunk's matrix of one head: 128 rows (or channels) by 128 channels. -/
abbrev Mat := Fin 128 → Fin 128 → EReal

/-- The 128 × 128 part of an array from row `r` and column `c` on. -/
def cut (M : ℕ → ℕ → EReal) (r c : ℕ) : Mat := fun a l => M (r + a.val) (c + l.val)

/-- Chunk `n` of head `h` of a token-by-channel array: rows `128 n …`, channels `128 h …`. -/
def sub (M : ℕ → ℕ → EReal) (n h : ℕ) : Mat := cut M (128 * n) (128 * h)

/-- The corrected values of a chunk: `u - w S`. -/
def vnew (u w s : Mat) : Mat := fun a l => u a l - ∑ k : Fin 128, w a k * s k l

/-- The state after a chunk: the old state decayed, channel by channel, plus `kᵀ v`. -/
def stp (u w kd : Mat) (eg : Fin 128 → EReal) (s : Mat) : Mat := fun k l => s k l * eg l + ∑ c : Fin 128, kd k c * vnew u w s c l

/-- The chunk's outputs: the part read off the old state plus the part from inside the chunk. -/
def outm (u w q t s : Mat) : Mat := fun a l => (∑ k : Fin 128, q a k * s k l) + ∑ c : Fin 128, t a c * vnew u w s c l

/-- The outputs normalised over a head's channels, weighted, and gated by `z · σ(z)`. -/
def gated (g : Fin 128 → EReal) (o z : Mat) : Mat := fun a l =>
  o a l * Ideal.rsqrt (Ideal.div (∑ j : Fin 128, o a j * o a j) (Ideal.ofBits .f32 0x43000000#32) + Ideal.ofBits .f32 0x358637BD#32) * g l
    * (z a l * Ideal.logistic (z a l))

/-- The states of head `h`, chunk after chunk from chunk 0, starting at `s`. -/
def states (U W K : ℕ → ℕ → EReal) (E : ℕ → ℕ → ℕ → EReal) (h : ℕ) (s : Mat) : ℕ → Mat
  | 0 => s
  | n + 1 => stp (sub U n h) (sub W n h) (sub K n h) (fun l => E n h l.val) (states U W K E h s n)

/-- What chunk `n` of head `h` gives: the recurrence's outputs, normalised and gated. -/
def outs (U W Q T K Z : ℕ → ℕ → EReal) (E : ℕ → ℕ → ℕ → EReal) (g : Fin 128 → EReal) (h : ℕ) (s : Mat) (n : ℕ) : Mat :=
  gated g (outm (sub U n h) (sub W n h) (sub Q n h) (sub T n h) (states U W K E h s n)) (sub Z n h)

/-- The states over a shifted window of chunks are the later states of the whole sequence. -/
theorem states_shift {U W K U' W' K' : ℕ → ℕ → EReal} {E E' : ℕ → ℕ → ℕ → EReal} {h : ℕ} {s : Mat} (n0 N : ℕ)
    (hU : ∀ b < N, sub U' b h = sub U (n0 + b) h) (hW : ∀ b < N, sub W' b h = sub W (n0 + b) h)
    (hK : ∀ b < N, sub K' b h = sub K (n0 + b) h) (hE : ∀ b < N, (fun l : Fin 128 => E' b h l.val) = fun l : Fin 128 => E (n0 + b) h l.val) :
    ∀ b ≤ N, states U' W' K' E' h (states U W K E h s n0) b = states U W K E h s (n0 + b)
  | 0, _ => rfl
  | b + 1, hb => by
    show stp _ _ _ _ (states U' W' K' E' h (states U W K E h s n0) b) = stp _ _ _ _ (states U W K E h s (n0 + b))
    rw [states_shift n0 N hU hW hK hE b (by omega), hU b hb, hW b hb, hK b hb, hE b hb]
    rfl

/-! ## Vectors as matrices -/

/-- A 128 × 128 vector as a matrix. -/
def mat {α : Type} (v : (⟨2, ![128, 128]⟩ : Shape).Idx → α) : Fin 128 → Fin 128 → α := fun a l => v (ix2 a l)

/-- The plain product of two matrices into a zero accumulator, element by element. -/
theorem matmul_plain_apply {m k n : ℕ} {φ₁ φ₂ : FTy} (prec : Option ContractPrecision) (A : FVec Ideal ⟨2, ![m, k]⟩ φ₁)
    (B : FVec Ideal ⟨2, ![k, n]⟩ φ₂) (a : Fin m) (b : Fin n) :
    matmul (DotDims.plain m k n) prec A B (constant (⟨2, ![m, n]⟩ : Shape) .f32 0x00000000#32) (ix2 a b) = ∑ c : Fin k, A (ix2 a c) * B (ix2 c b) := by
  rw [matmul_zero_eq_dotGeneral, dotGeneral_plain_apply]

end Cert.Core

end
-- ==== Proof.ScanPay.lean ====
/-
  The recurrence kernel's step of one chunk and one head, named once (`stV`, `outV`): the sixteen groups of stored
  values of its body (four chunks by four heads) are these two functions of the loaded blocks and the state. Then both
  read element by element.
-/
module

public import proofs.«01_k».proof.Proof.Gen.KernelIdeal.Value
public import proofs.«01_k».proof.Proof.Core

@[expose] public section

noncomputable section

open Idealize.ShloMosaic Idealize.ShloMosaic.ValueIdx

namespace Cert.KernelIdeal.Val

open Cert.KernelIdeal Cert.KernelIdeal.Gen Cert.Core

section Any
variable {F : FTy → Type} [FloatOps F]

/-- The corrected values of a chunk, rounded for the products that follow. -/
def vnV (u : FVec F S128x128 .f32) (w : FVec F S128x128 .bf16) (s : FVec F S128x128 .f32) : FVec F S128x128 .bf16 :=
  truncf .bf16 (subf u (matmul dot_S128x128_S128x128_S128x128_1_0_0_1_n_n none w (truncf .bf16 s bitsLt_bf16_f32)
    (constant S128x128 .f32 0x00000000#32))) bitsLt_bf16_f32

/-- The state after the chunk. -/
def stV (u : FVec F S128x128 .f32) (w k : FVec F S128x128 .bf16) (e : FVec F S1x1x128 .f32) (s : FVec F S128x128 .f32) : FVec F S128x128 .f32 :=
  addf (mulf s (broadcastTo S128x128 (shapeCast S1x128 e shapeCasts_S1x1x128_S1x128) broadcasts_S1x128_S128x128))
    (matmul dot_S128x128_S128x128_S128x128_1_0_0_1_n_n none k (vnV u w s) (constant S128x128 .f32 0x00000000#32))

/-- The chunk's outputs before the norm. -/
def oV (u : FVec F S128x128 .f32) (w q t : FVec F S128x128 .bf16) (s : FVec F S128x128 .f32) : FVec F S128x128 .f32 :=
  addf (matmul dot_S128x128_S128x128_S128x128_1_0_0_1_n_n none q (truncf .bf16 s bitsLt_bf16_f32) (constant S128x128 .f32 0x00000000#32))
    (matmul dot_S128x128_S128x128_S128x128_1_0_0_1_n_n none t (vnV u w s) (constant S128x128 .f32 0x00000000#32))

/-- The norm over a head's channels with its weights, then the gate. -/
def gateV (g : FVec F S1x128 .f32) (o z : FVec F S128x128 .f32) : FVec F S128x128 .f32 :=
  mulf (mulf (mulf o (broadcastTo S128x128 (rsqrt (addf (divf (shapeCast S128x1
      (multiReduction .add [1] S128 (mulf o o) 0x00000000#32 reduces_S128x128_S128 (.inl rfl) rfl) shapeCasts_S128_S128x1)
      (broadcast S128x1 (Scalar.ofBits .f32 0x43000000#32))) (broadcast S128x1 (Scalar.ofBits .f32 0x358637BD#32))))
      broadcasts_S128x1_S128x128)) (broadcastTo S128x128 g broadcasts_S1x128_S128x128)) (mulf z (logistic z))

/-- What the kernel stores for the chunk. -/
def outV (g : FVec F S1x128 .f32) (u : FVec F S128x128 .f32) (w q t : FVec F S128x128 .bf16) (z : FVec F S128x128 .f32)
    (s : FVec F S128x128 .f32) : FVec F S128x128 .f32 := gateV g (oV u w q t s) z

/-! The body's sixteen groups, chunk by chunk and within a chunk head by head. -/

theorem st_0 (v5 : Vec F S1x128x128 .f32) (u : Vec F S128x128 .f32) (w k : Vec F S128x128 .bf16) (e : Vec F S1x1x128 .f32) :
    k0_pay13 (k0_pay10 v5 u w) (k0_pay12 v5 e) k = stV u w k e (k0_pay5 v5) := rfl
theorem ou_0 (v5 : Vec F S1x128x128 .f32) (g : FVec F S1x128 .f32) (u : Vec F S128x128 .f32) (w q t : Vec F S128x128 .bf16) (z : Vec F S128x128 .f32) :
    k0_pay14 g (k0_pay11 v5 u w q t) z = outV g u w q t z (k0_pay5 v5) := rfl
theorem st_1 (s : FVec F S128x128 .f32) (u : Vec F S128x128 .f32) (w k : Vec F S128x128 .bf16) (e : Vec F S1x1x128 .f32) :
    k0_pay19 (k0_pay16 s u w) (k0_pay18 s e) k = stV u w k e s := rfl
theorem ou_1 (s : FVec F S128x128 .f32) (g : FVec F S1x128 .f32) (u : Vec F S128x128 .f32) (w q t : Vec F S128x128 .bf16) (z : Vec F S128x128 .f32) :
    k0_pay20 g (k0_pay17 s u w q t) z = outV g u w q t z s := rfl
theorem st_2 (s : FVec F S128x128 .f32) (u : Vec F S128x128 .f32) (w k : Vec F S128x128 .bf16) (e : Vec F S1x1x128 .f32) :
    k0_pay25 (k0_pay22 s u w) (k0_pay24 s e) k = stV u w k e s := rfl
theorem ou_2 (s : FVec F S128x128 .f32) (g : FVec F S1x128 .f32) (u : Vec F S128x128 .f32) (w q t : Vec F S128x128 .bf16) (z : Vec F S128x128 .f32) :
    k0_pay26 g (k0_pay23 s u w q t) z = outV g u w q t z s := rfl
theorem st_3 (s : FVec F S128x128 .f32) (u : Vec F S128x128 .f32) (w k : Vec F S128x128 .bf16) (e : Vec F S1x1x128 .f32) :
    k0_pay31 (k0_pay28 s u w) (k0_pay30 s e) k = stV u w k e s := rfl
theorem ou_3 (s : FVec F S128x128 .f32) (g : FVec F S1x128 .f32) (u : Vec F S128x128 .f32) (w q t : Vec F S128x128 .bf16) (z : Vec F S128x128 .f32) :
    k0_pay32 g (k0_pay29 s u w q t) z = outV g u w q t z s := rfl
theorem st_4 (s : FVec F S128x128 .f32) (u : Vec F S128x128 .f32) (w k : Vec F S128x128 .bf16) (e : Vec F S1x1x128 .f32) :
    k0_pay37 (k0_pay34 s u w) (k0_pay36 s e) k = stV u w k e s := rfl
theorem ou_4 (s : FVec F S128x128 .f32) (g : FVec F S1x128 .f32) (u : Vec F S128x128 .f32) (w q t : Vec F S128x128 .bf16) (z : Vec F S128x128 .f32) :
    k0_pay38 g (k0_pay35 s u w q t) z = outV g u w q t z s := rfl
theorem st_5 (s : FVec F S128x128 .f32) (u : Vec F S128x128 .f32) (w k : Vec F S128x128 .bf16) (e : Vec F S1x1x128 .f32) :
    k0_pay43 (k0_pay40 s u w) (k0_pay42 s e) k = stV u w k e s := rfl
theorem ou_5 (s : FVec F S128x128 .f32) (g : FVec F S1x128 .f32) (u : Vec F S128x128 .f32) (w q t : Vec F S128x128 .bf16) (z : Vec F S128x128 .f32) :
    k0_pay44 g (k0_pay41 s u w q t) z = outV g u w q t z s := rfl
theorem st_6 (s : FVec F S128x128 .f32) (u : Vec F S128x128 .f32) (w k : Vec F S128x128 .bf16) (e : Vec F S1x1x128 .f32) :
    k0_pay49 (k0_pay46 s u w) (k0_pay48 s e) k = stV u w k e s := rfl
theorem ou_6 (s : FVec F S128x128 .f32) (g : FVec F S1x128 .f32) (u : Vec F S128x128 .f32) (w q t : Vec F S128x128 .bf16) (z : Vec F S128x128 .f32) :
    k0_pay50 g (k0_pay47 s u w q t) z = outV g u w q t z s := rfl
theorem st_7 (s : FVec F S128x128 .f32) (u : Vec F S128x128 .f32) (w k : Vec F S128x128 .bf16) (e : Vec F S1x1x128 .f32) :
    k0_pay55 (k0_pay52 s u w) (k0_pay54 s e) k = stV u w k e s := rfl
theorem ou_7 (s : FVec F S128x128 .f32) (g : FVec F S1x128 .f32) (u : Vec F S128x128 .f32) (w q t : Vec F S128x128 .bf16) (z : Vec F S128x128 .f32) :
    k0_pay56 g (k0_pay53 s u w q t) z = outV g u w q t z s := rfl
theorem st_8 (s : FVec F S128x128 .f32) (u : Vec F S128x128 .f32) (w k : Vec F S128x128 .bf16) (e : Vec F S1x1x128 .f32) :
    k0_pay61 (k0_pay58 s u w) (k0_pay60 s e) k = stV u w k e s := rfl
theorem ou_8 (s : FVec F S128x128 .f32) (g : FVec F S1x128 .f32) (u : Vec F S128x128 .f32) (w q t : Vec F S128x128 .bf16) (z : Vec F S128x128 .f32) :
    k0_pay62 g (k0_pay59 s u w q t) z = outV g u w q t z s := rfl
theorem st_9 (s : FVec F S128x128 .f32) (u : Vec F S128x128 .f32) (w k : Vec F S128x128 .bf16) (e : Vec F S1x1x128 .f32) :
    k0_pay67 (k0_pay64 s u w) (k0_pay66 s e) k = stV u w k e s := rfl
theorem ou_9 (s : FVec F S128x128 .f32) (g : FVec F S1x128 .f32) (u : Vec F S128x128 .f32) (w q t : Vec F S128x128 .bf16) (z : Vec F S128x128 .f32) :
    k0_pay68 g (k0_pay65 s u w q t) z = outV g u w q t z s := rfl
theorem st_10 (s : FVec F S128x128 .f32) (u : Vec F S128x128 .f32) (w k : Vec F S128x128 .bf16) (e : Vec F S1x1x128 .f32) :
    k0_pay73 (k0_pay70 s u w) (k0_pay72 s e) k = stV u w k e s := rfl
theorem ou_10 (s : FVec F S128x128 .f32) (g : FVec F S1x128 .f32) (u : Vec F S128x128 .f32) (w q t : Vec F S128x128 .bf16) (z : Vec F S128x128 .f32) :
    k0_pay74 g (k0_pay71 s u w q t) z = outV g u w q t z s := rfl
theorem st_11 (s : FVec F S128x128 .f32) (u : Vec F S128x128 .f32) (w k : Vec F S128x128 .bf16) (e : Vec F S1x1x128 .f32) :
    k0_pay79 (k0_pay76 s u w) (k0_pay78 s e) k = stV u w k e s := rfl
theorem ou_11 (s : FVec F S128x128 .f32) (g : FVec F S1x128 .f32) (u : Vec F S128x128 .f32) (w q t : Vec F S128x128 .bf16) (z : Vec F S128x128 .f32) :
    k0_pay80 g (k0_pay77 s u w q t) z = outV g u w q t z s := rfl
theorem st_12 (s : FVec F S128x128 .f32) (u : Vec F S128x128 .f32) (w k : Vec F S128x128 .bf16) (e : Vec F S1x1x128 .f32) :
    k0_pay85 (k0_pay82 s u w) (k0_pay84 s e) k = stV u w k e s := rfl
theorem ou_12 (s : FVec F S128x128 .f32) (g : FVec F S1x128 .f32) (u : Vec F S128x128 .f32) (w q t : Vec F S128x128 .bf16) (z : Vec F S128x128 .f32) :
    k0_pay86 g (k0_pay83 s u w q t) z = outV g u w q t z s := rfl
theorem st_13 (s : FVec F S128x128 .f32) (u : Vec F S128x128 .f32) (w k : Vec F S128x128 .bf16) (e : Vec F S1x1x128 .f32) :
    k0_pay91 (k0_pay88 s u w) (k0_pay90 s e) k = stV u w k e s := rfl
theorem ou_13 (s : FVec F S128x128 .f32) (g : FVec F S1x128 .f32) (u : Vec F S128x128 .f32) (w q t : Vec F S128x128 .bf16) (z : Vec F S128x128 .f32) :
    k0_pay92 g (k0_pay89 s u w q t) z = outV g u w q t z s := rfl
theorem st_14 (s : FVec F S128x128 .f32) (u : Vec F S128x128 .f32) (w k : Vec F S128x128 .bf16) (e : Vec F S1x1x128 .f32) :
    k0_pay97 (k0_pay94 s u w) (k0_pay96 s e) k = stV u w k e s := rfl
theorem ou_14 (s : FVec F S128x128 .f32) (g : FVec F S1x128 .f32) (u : Vec F S128x128 .f32) (w q t : Vec F S128x128 .bf16) (z : Vec F S128x128 .f32) :
    k0_pay98 g (k0_pay95 s u w q t) z = outV g u w q t z s := rfl
theorem st_15 (s : FVec F S128x128 .f32) (u : Vec F S128x128 .f32) (w k : Vec F S128x128 .bf16) (e : Vec F S1x1x128 .f32) :
    k0_pay103 (k0_pay100 s u w) (k0_pay102 s e) k = stV u w k e s := rfl
theorem ou_15 (s : FVec F S128x128 .f32) (g : FVec F S1x128 .f32) (u : Vec F S128x128 .f32) (w q t : Vec F S128x128 .bf16) (z : Vec F S128x128 .f32) :
    k0_pay104 g (k0_pay101 s u w q t) z = outV g u w q t z s := rfl

end Any

/-! ## Element by element -/

/-- A row's decay factors. -/
def egv {α : Type} (e : S1x1x128.Idx → α) : Fin 128 → α := fun l => e (ix3 0 0 l)

/-- A row's norm weights. -/
def rowv {α : Type} (g : S1x128.Idx → α) : Fin 128 → α := fun l => g (ix2 0 l)

theorem dot_eq : dot_S128x128_S128x128_S128x128_1_0_0_1_n_n = DotDims.plain 128 128 128 := rfl

theorem mat_vnV (u : FVec Ideal S128x128 .f32) (w : FVec Ideal S128x128 .bf16) (s : FVec Ideal S128x128 .f32) :
    mat (vnV u w s) = vnew (mat u) (mat w) (mat s) := by
  funext a l
  show u (ix2 a l) - matmul _ none w _ _ (ix2 a l) = _
  rw [dot_eq, matmul_plain_apply]
  rfl

theorem mat_stV (u : FVec Ideal S128x128 .f32) (w k : FVec Ideal S128x128 .bf16) (e : FVec Ideal S1x1x128 .f32) (s : FVec Ideal S128x128 .f32) :
    mat (stV u w k e s) = stp (mat u) (mat w) (mat k) (egv e) (mat s) := by
  funext a l
  show s (ix2 a l) * broadcastTo S128x128 _ _ (ix2 a l) + matmul _ none k _ _ (ix2 a l) = _
  rw [dot_eq, matmul_plain_apply, broadcastTo_1b_ab_apply, shapeCast_1ab_ab_apply]
  unfold stp
  rw [← mat_vnV]
  rfl

theorem mat_oV (u : FVec Ideal S128x128 .f32) (w q t : FVec Ideal S128x128 .bf16) (s : FVec Ideal S128x128 .f32) :
    mat (oV u w q t s) = outm (mat u) (mat w) (mat q) (mat t) (mat s) := by
  funext a l
  show matmul _ none q _ _ (ix2 a l) + matmul _ none t _ _ (ix2 a l) = _
  rw [dot_eq, matmul_plain_apply, matmul_plain_apply]
  unfold outm
  rw [← mat_vnV]
  rfl

/-- A row's sum. -/
theorem row_sum (x : FVec Ideal S128x128 .f32) (h : S128x128.Reduces [1] S128) (hφ) (hacc) (a : Fin 128) :
    multiReduction .add [1] S128 x 0x00000000#32 h hφ hacc (ix1 a) = ∑ j : Fin 128, x (ix2 a j) := by
  refine (Ideal.multiReduction_add_single x _ h hφ hacc (ix1 a)).trans (Finset.sum_congr rfl fun j _ => congrArg x (funext fun d => ?_))
  match d with
  | ⟨0, _⟩ => rfl
  | ⟨1, _⟩ => rfl

theorem mat_gateV (g : FVec Ideal S1x128 .f32) (o z : FVec Ideal S128x128 .f32) :
    mat (gateV g o z) = gated (rowv g) (mat o) (mat z) := by
  funext a l
  show o (ix2 a l) * broadcastTo S128x128 _ _ (ix2 a l) * broadcastTo S128x128 _ _ (ix2 a l) * (z (ix2 a l) * Ideal.logistic (z (ix2 a l))) = _
  rw [broadcastTo_1b_ab_apply, broadcastTo_apply _ broadcasts_S128x1_S128x128 (ix2 a l) (ix2 a 0) (by intro d; match d with | ⟨0, _⟩ => rfl | ⟨1, _⟩ => rfl)]
  show o (ix2 a l) * Ideal.rsqrt (Ideal.div (shapeCast S128x1 _ _ (ix2 a 0)) _ + _) * _ * _ = _
  rw [shapeCast_a_a1_apply]
  exact congrArg (fun x => o (ix2 a l) * Ideal.rsqrt (Ideal.div x (Ideal.ofBits .f32 0x43000000#32) + Ideal.ofBits .f32 0x358637BD#32)
    * g (ix2 0 l) * (z (ix2 a l) * Ideal.logistic (z (ix2 a l)))) (row_sum (mulf o o) _ _ _ a)

theorem mat_outV (g : FVec Ideal S1x128 .f32) (u : FVec Ideal S128x128 .f32) (w q t : FVec Ideal S128x128 .bf16) (z s : FVec Ideal S128x128 .f32) :
    mat (outV g u w q t z s) = gated (rowv g) (outm (mat u) (mat w) (mat q) (mat t) (mat s)) (mat z) := by
  unfold outV
  rw [mat_gateV, mat_oV]

/-- A loaded 128 × 128 block. -/
theorem mat_ld {φ : EltTy} (x : S512x512.Idx → Elt Ideal φ) (r c : ℕ) (inb) :
    mat (View.ld (Val := Elt Ideal) x (Rect.unit (s := S512x512) ![r, c] ![128, 128] inb)) = fun a l => at2 x (r + a.val) (c + l.val) := by
  funext a l
  exact at2_of x _ (by show r + 1 * a.val = _; omega) (by show c + 1 * l.val = _; omega)

/-- A loaded row of decay factors. -/
theorem egv_ld (x : S4x8x128.Idx → Elt Ideal .f32) (b h : ℕ) (inb) :
    egv (View.ld (Val := Elt Ideal) x (Rect.unit (s := S4x8x128) ![b, h, 0] ![1, 1, 128] inb)) = fun l => at3 x b h l.val := by
  funext l
  exact at3_of x _ (by show b + 1 * 0 = _; omega) (by show h + 1 * 0 = _; omega) (by show 0 + 1 * l.val = _; omega)

/-- The loaded row of norm weights. -/
theorem rowv_ld (x : S8x128.Idx → Elt Ideal .f32) (inb) :
    rowv (k0_pay4 (View.ld (Val := Elt Ideal) x (Rect.unit (s := S8x128) ![0, 0] ![1, 128] inb))) = fun l => at2 x 0 l.val := by
  funext l
  unfold k0_pay4
  dsimp only
  rw [shapeCast_self]
  exact at2_of x _ (by show 0 + 1 * 0 = _; omega) (by show 0 + 1 * l.val = _; omega)

/-- A loaded state. -/
theorem mat_state (x : S4x128x128.Idx → Elt Ideal .f32) (h : ℕ) (inb) (hc) :
    mat (shapeCast S128x128 (View.ld (Val := Elt Ideal) x (Rect.unit (s := S4x128x128) ![h, 0, 0] ![1, 128, 128] inb)) hc) = fun k l => at3 x h k.val l.val := by
  funext k l
  unfold mat
  rw [shapeCast_1ab_ab_apply]
  exact at3_of x _ (by show h + 1 * 0 = _; omega) (by show 0 + 1 * k.val = _; omega) (by show 0 + 1 * l.val = _; omega)

end Cert.KernelIdeal.Val

end
-- ==== Proof.ScanOut.lean ====
/-
  What one grid point of the recurrence kernel leaves: in the carried scratch the four heads' states after its four
  chunks, in the output block the four chunks' gated outputs, head by head.
-/
module

public import proofs.«01_k».proof.Proof.ScanPay
public import Idealize.ShloMosaic.Lib.Pipeline.CanonAppend

@[expose] public section

set_option maxRecDepth 65536

noncomputable section

open Idealize.ShloMosaic Idealize.ShloMosaic.ValueIdx Idealize.ShloMosaic.Tactic

namespace Cert.KernelIdeal.Val

open Cert.KernelIdeal Cert.KernelIdeal.Gen Cert.Core

/-- The states a point leaves, of its blocks and the states it starts from. -/
def endStates (x0 : Vec Ideal S512x512 .f32) (x1 x4 : Vec Ideal S512x512 .bf16) (x5 : Vec Ideal S4x8x128 .f32)
    (xs0 : Vec Ideal S4x128x128 .f32) (h : ℕ) (b : ℕ) : Mat :=
  states (at2 x0) (at2 x1) (at2 x4) (at3 x5) h (fun k l => at3 xs0 h k.val l.val) b

/-- The gated outputs of a point's chunk `b`, head `h`. -/
def chunkOut (x0 : Vec Ideal S512x512 .f32) (x1 x2 x3 x4 : Vec Ideal S512x512 .bf16) (x5 : Vec Ideal S4x8x128 .f32)
    (x6 : Vec Ideal S512x512 .f32) (x7 : Vec Ideal S8x128 .f32) (xs0 : Vec Ideal S4x128x128 .f32) (b h : ℕ) : Mat :=
  outs (at2 x0) (at2 x1) (at2 x2) (at2 x3) (at2 x4) (at2 x6) (at3 x5) (fun l => at2 x7 0 l.val) h (fun k l => at3 xs0 h k.val l.val) b

/-- A stored state block agrees with a family of matrices that has this one at head `h`. -/
theorem state_piece (T : ℕ → Mat) (h : ℕ) (off : Fin 3 → ℕ) (ho : off = ![h, 0, 0]) (inb)
    (v : FVec Ideal S128x128 .f32) (hc) (hv : mat v = T h) (x : (Rect.unit (s := S4x128x128) off S1x128x128.size inb).shape.Idx) :
    shapeCast S1x128x128 v hc x
      = (fun y : S4x128x128.Idx => T (y 0).val (y 1) (y 2)) ((Rect.unit (s := S4x128x128) off S1x128x128.size inb).emb x) := by
  subst ho
  obtain ⟨u, k, l, rfl⟩ : ∃ (u : Fin 1) (k l : Fin 128), x = ix3 u k l := ⟨x 0, x 1, x 2, eq_ix3 x⟩
  rw [shapeCast_ab_1ab_apply]
  have e0 : (((Rect.unit (s := S4x128x128) ![h, 0, 0] S1x128x128.size inb).emb (ix3 u k l)) 0).val = h := by
    show h + 1 * u.val = h; omega
  have e1 : (((Rect.unit (s := S4x128x128) ![h, 0, 0] S1x128x128.size inb).emb (ix3 u k l)) 1) = k := Fin.ext (by
    show 0 + 1 * k.val = k.val; omega)
  have e2 : (((Rect.unit (s := S4x128x128) ![h, 0, 0] S1x128x128.size inb).emb (ix3 u k l)) 2) = l := Fin.ext (by
    show 0 + 1 * l.val = l.val; omega)
  show _ = T (((Rect.unit (s := S4x128x128) ![h, 0, 0] S1x128x128.size inb).emb (ix3 u k l)) 0).val _ _
  rw [e0, e1, e2, ← hv]
  rfl

/-- The output block laid out from its chunk-by-head tiles. -/
def tiles (T : ℕ → ℕ → Mat) : S512x512.Idx → EReal := fun y =>
  T ((y 0).val / 128) ((y 1).val / 128) ⟨(y 0).val % 128, Nat.mod_lt _ (by decide)⟩ ⟨(y 1).val % 128, Nat.mod_lt _ (by decide)⟩

/-- A stored output tile agrees with the tiling that has it at chunk `b` and head `h`. -/
theorem out_piece (T : ℕ → ℕ → Mat) (b h : ℕ) (off : Fin 2 → ℕ) (ho : off = ![128 * b, 128 * h]) (inb)
    (v : FVec Ideal S128x128 .f32) (hv : mat v = T b h) (x : (Rect.unit (s := S512x512) off S128x128.size inb).shape.Idx) :
    v x = tiles T ((Rect.unit (s := S512x512) off S128x128.size inb).emb x) := by
  subst ho
  obtain ⟨k, l, rfl⟩ : ∃ (k l : Fin 128), x = ix2 k l := ⟨x 0, x 1, eq_ix2 x⟩
  have e0 : (((Rect.unit (s := S512x512) ![128 * b, 128 * h] S128x128.size inb).emb (ix2 k l)) 0).val = 128 * b + k.val := by
    show 128 * b + 1 * k.val = _; omega
  have e1 : (((Rect.unit (s := S512x512) ![128 * b, 128 * h] S128x128.size inb).emb (ix2 k l)) 1).val = 128 * h + l.val := by
    show 128 * h + 1 * l.val = _; omega
  unfold tiles
  simp only [e0, e1]
  have hk := k.isLt
  have hl := l.isLt
  rw [show (128 * b + k.val) / 128 = b by omega, show (128 * h + l.val) / 128 = h by omega, ← hv]
  show v (ix2 k l) = v _
  congr 2 <;> apply Fin.ext
  · show k.val = (128 * b + k.val) % 128; omega
  · show l.val = (128 * h + l.val) % 128; omega

theorem sout_B (c : Dev nD) (i : grid0.Coords) (arg1 : Memref sig .tc .vmem S512x512 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S4x8x128 .f32) (harg6 : arg6.IsWhole) (arg7 : Memref sig .tc .vmem S512x512 .f32) (harg7 : arg7.IsWhole) (arg8 : Memref sig .tc .vmem S8x128 .f32) (harg8 : arg8.IsWhole) (arg9 : Memref sig .tc .vmem S512x512 .f32) (harg9 : arg9.IsWhole) (arg10 : Memref sig .tc .vmem S4x128x128 .f32) (harg10 : arg10.IsWhole) (hc0 : ¬cond0_0 i) (x0 : Vec Ideal S512x512 .f32) (x1 : Vec Ideal S512x512 .bf16) (x2 : Vec Ideal S512x512 .bf16) (x3 : Vec Ideal S512x512 .bf16) (x4 : Vec Ideal S512x512 .bf16) (x5 : Vec Ideal S4x8x128 .f32) (x6 : Vec Ideal S512x512 .f32) (x7 : Vec Ideal S8x128 .f32) (xs0 : Vec Ideal S4x128x128 .f32) :
    sout0_B_0 c i arg1 harg1 arg2 harg2 arg3 harg3 arg4 harg4 arg5 harg5 arg6 harg6 arg7 harg7 arg8 harg8 arg9 harg9 arg10 harg10 hc0 x0 x1 x2 x3 x4 x5 x6 x7 xs0
      = fun y => endStates x0 x1 x4 x5 xs0 (y 0).val 4 (y 1) (y 2) := by
  funext y
  unfold sout0_B_0
  refine View.read_writes_apply_of_pieces _ _ (fun y : S4x128x128.Idx => (fun h => endStates x0 x1 x4 x5 xs0 h 4) (y 0).val (y 1) (y 2)) _ ?_ y (scover0_B_0 c i arg1 harg1 arg2 harg2 arg3 harg3 arg4 harg4 arg5 harg5 arg6 harg6 arg7 harg7 arg8 harg8 arg9 harg9 arg10 harg10 hc0 x0 x1 x2 x3 x4 x5 x6 x7 xs0 y)
  unfold kernelRun0_B
  dsimp only
  sl_unfold_words
  simp only [View.readAt_eq_ld, harg1.read_unread, harg2.read_unread, harg3.read_unread, harg4.read_unread, harg5.read_unread, harg6.read_unread, harg7.read_unread, harg8.read_unread, harg10.read_unread, st_0, st_1, st_2, st_3, st_4, st_5, st_6, st_7, st_8, st_9, st_10, st_11, st_12, st_13, st_14, st_15, k0_pay105, k0_pay106, k0_pay1, k0_pay2, List.forall_mem_cons]
  refine ⟨?_, ?_, ?_, ?_, ?_⟩
  · intro x
    refine state_piece (fun h => endStates x0 x1 x4 x5 xs0 h 4) 3 _ rfl _ _ shapeCasts_S128x128_S1x128x128 ?_ x
    simp only [mat_outV, mat_stV, k0_pay5, k0_pay6, k0_pay7, k0_pay8]
    repeat rw [mat_ld]
    repeat rw [egv_ld]
    try rw [rowv_ld]
    rw [mat_state]
    rfl
  · intro x
    refine state_piece (fun h => endStates x0 x1 x4 x5 xs0 h 4) 2 _ rfl _ _ shapeCasts_S128x128_S1x128x128 ?_ x
    simp only [mat_outV, mat_stV, k0_pay5, k0_pay6, k0_pay7, k0_pay8]
    repeat rw [mat_ld]
    repeat rw [egv_ld]
    try rw [rowv_ld]
    rw [mat_state]
    rfl
  · intro x
    refine state_piece (fun h => endStates x0 x1 x4 x5 xs0 h 4) 1 _ rfl _ _ shapeCasts_S128x128_S1x128x128 ?_ x
    simp only [mat_outV, mat_stV, k0_pay5, k0_pay6, k0_pay7, k0_pay8]
    repeat rw [mat_ld]
    repeat rw [egv_ld]
    try rw [rowv_ld]
    rw [mat_state]
    rfl
  · intro x
    refine state_piece (fun h => endStates x0 x1 x4 x5 xs0 h 4) 0 _ rfl _ _ shapeCasts_S128x128_S1x128x128 ?_ x
    simp only [mat_outV, mat_stV, k0_pay5, k0_pay6, k0_pay7, k0_pay8]
    repeat rw [mat_ld]
    repeat rw [egv_ld]
    try rw [rowv_ld]
    rw [mat_state]
    rfl
  · exact fun x hx => absurd hx List.not_mem_nil

theorem out_B (c : Dev nD) (i : grid0.Coords) (arg1 : Memref sig .tc .vmem S512x512 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S4x8x128 .f32) (harg6 : arg6.IsWhole) (arg7 : Memref sig .tc .vmem S512x512 .f32) (harg7 : arg7.IsWhole) (arg8 : Memref sig .tc .vmem S8x128 .f32) (harg8 : arg8.IsWhole) (arg9 : Memref sig .tc .vmem S512x512 .f32) (harg9 : arg9.IsWhole) (arg10 : Memref sig .tc .vmem S4x128x128 .f32) (harg10 : arg10.IsWhole) (hc0 : ¬cond0_0 i) (x0 : Vec Ideal S512x512 .f32) (x1 : Vec Ideal S512x512 .bf16) (x2 : Vec Ideal S512x512 .bf16) (x3 : Vec Ideal S512x512 .bf16) (x4 : Vec Ideal S512x512 .bf16) (x5 : Vec Ideal S4x8x128 .f32) (x6 : Vec Ideal S512x512 .f32) (x7 : Vec Ideal S8x128 .f32) (xs0 : Vec Ideal S4x128x128 .f32) :
    out0_B_8 c i arg1 harg1 arg2 harg2 arg3 harg3 arg4 harg4 arg5 harg5 arg6 harg6 arg7 harg7 arg8 harg8 arg9 harg9 arg10 harg10 hc0 x0 x1 x2 x3 x4 x5 x6 x7 xs0
      = tiles (chunkOut x0 x1 x2 x3 x4 x5 x6 x7 xs0) := by
  funext y
  unfold out0_B_8
  refine View.read_writes_apply_of_pieces _ _ (tiles (chunkOut x0 x1 x2 x3 x4 x5 x6 x7 xs0)) _ ?_ y (cover0_B_8 c i arg1 harg1 arg2 harg2 arg3 harg3 arg4 harg4 arg5 harg5 arg6 harg6 arg7 harg7 arg8 harg8 arg9 harg9 arg10 harg10 hc0 x0 x1 x2 x3 x4 x5 x6 x7 xs0 y)
  unfold kernelRun0_B
  dsimp only
  sl_unfold_words
  simp only [View.readAt_eq_ld, harg1.read_unread, harg2.read_unread, harg3.read_unread, harg4.read_unread, harg5.read_unread, harg6.read_unread, harg7.read_unread, harg8.read_unread, harg10.read_unread, st_0, st_1, st_2, st_3, st_4, st_5, st_6, st_7, st_8, st_9, st_10, st_11, st_12, st_13, st_14, st_15, ou_0, ou_1, ou_2, ou_3, ou_4, ou_5, ou_6, ou_7, ou_8, ou_9, ou_10, ou_11, ou_12, ou_13, ou_14, ou_15, List.forall_mem_cons]
  refine ⟨?_, ?_, ?_, ?_, ?_, ?_, ?_, ?_, ?_, ?_, ?_, ?_, ?_, ?_, ?_, ?_, ?_⟩
  · intro x
    refine out_piece (chunkOut x0 x1 x2 x3 x4 x5 x6 x7 xs0) 3 3 _ rfl _ _ ?_ x
    simp only [mat_outV, mat_stV, k0_pay5, k0_pay6, k0_pay7, k0_pay8]
    repeat rw [mat_ld]
    repeat rw [egv_ld]
    try rw [rowv_ld]
    rw [mat_state]
    rfl
  · intro x
    refine out_piece (chunkOut x0 x1 x2 x3 x4 x5 x6 x7 xs0) 3 2 _ rfl _ _ ?_ x
    simp only [mat_outV, mat_stV, k0_pay5, k0_pay6, k0_pay7, k0_pay8]
    repeat rw [mat_ld]
    repeat rw [egv_ld]
    try rw [rowv_ld]
    rw [mat_state]
    rfl
  · intro x
    refine out_piece (chunkOut x0 x1 x2 x3 x4 x5 x6 x7 xs0) 3 1 _ rfl _ _ ?_ x
    simp only [mat_outV, mat_stV, k0_pay5, k0_pay6, k0_pay7, k0_pay8]
    repeat rw [mat_ld]
    repeat rw [egv_ld]
    try rw [rowv_ld]
    rw [mat_state]
    rfl
  · intro x
    refine out_piece (chunkOut x0 x1 x2 x3 x4 x5 x6 x7 xs0) 3 0 _ rfl _ _ ?_ x
    simp only [mat_outV, mat_stV, k0_pay5, k0_pay6, k0_pay7, k0_pay8]
    repeat rw [mat_ld]
    repeat rw [egv_ld]
    try rw [rowv_ld]
    rw [mat_state]
    rfl
  · intro x
    refine out_piece (chunkOut x0 x1 x2 x3 x4 x5 x6 x7 xs0) 2 3 _ rfl _ _ ?_ x
    simp only [mat_outV, mat_stV, k0_pay5, k0_pay6, k0_pay7, k0_pay8]
    repeat rw [mat_ld]
    repeat rw [egv_ld]
    try rw [rowv_ld]
    rw [mat_state]
    rfl
  · intro x
    refine out_piece (chunkOut x0 x1 x2 x3 x4 x5 x6 x7 xs0) 2 2 _ rfl _ _ ?_ x
    simp only [mat_outV, mat_stV, k0_pay5, k0_pay6, k0_pay7, k0_pay8]
    repeat rw [mat_ld]
    repeat rw [egv_ld]
    try rw [rowv_ld]
    rw [mat_state]
    rfl
  · intro x
    refine out_piece (chunkOut x0 x1 x2 x3 x4 x5 x6 x7 xs0) 2 1 _ rfl _ _ ?_ x
    simp only [mat_outV, mat_stV, k0_pay5, k0_pay6, k0_pay7, k0_pay8]
    repeat rw [mat_ld]
    repeat rw [egv_ld]
    try rw [rowv_ld]
    rw [mat_state]
    rfl
  · intro x
    refine out_piece (chunkOut x0 x1 x2 x3 x4 x5 x6 x7 xs0) 2 0 _ rfl _ _ ?_ x
    simp only [mat_outV, mat_stV, k0_pay5, k0_pay6, k0_pay7, k0_pay8]
    repeat rw [mat_ld]
    repeat rw [egv_ld]
    try rw [rowv_ld]
    rw [mat_state]
    rfl
  · intro x
    refine out_piece (chunkOut x0 x1 x2 x3 x4 x5 x6 x7 xs0) 1 3 _ rfl _ _ ?_ x
    simp only [mat_outV, mat_stV, k0_pay5, k0_pay6, k0_pay7, k0_pay8]
    repeat rw [mat_ld]
    repeat rw [egv_ld]
    try rw [rowv_ld]
    rw [mat_state]
    rfl
  · intro x
    refine out_piece (chunkOut x0 x1 x2 x3 x4 x5 x6 x7 xs0) 1 2 _ rfl _ _ ?_ x
    simp only [mat_outV, mat_stV, k0_pay5, k0_pay6, k0_pay7, k0_pay8]
    repeat rw [mat_ld]
    repeat rw [egv_ld]
    try rw [rowv_ld]
    rw [mat_state]
    rfl
  · intro x
    refine out_piece (chunkOut x0 x1 x2 x3 x4 x5 x6 x7 xs0) 1 1 _ rfl _ _ ?_ x
    simp only [mat_outV, mat_stV, k0_pay5, k0_pay6, k0_pay7, k0_pay8]
    repeat rw [mat_ld]
    repeat rw [egv_ld]
    try rw [rowv_ld]
    rw [mat_state]
    rfl
  · intro x
    refine out_piece (chunkOut x0 x1 x2 x3 x4 x5 x6 x7 xs0) 1 0 _ rfl _ _ ?_ x
    simp only [mat_outV, mat_stV, k0_pay5, k0_pay6, k0_pay7, k0_pay8]
    repeat rw [mat_ld]
    repeat rw [egv_ld]
    try rw [rowv_ld]
    rw [mat_state]
    rfl
  · intro x
    refine out_piece (chunkOut x0 x1 x2 x3 x4 x5 x6 x7 xs0) 0 3 _ rfl _ _ ?_ x
    simp only [mat_outV, mat_stV, k0_pay5, k0_pay6, k0_pay7, k0_pay8]
    repeat rw [mat_ld]
    repeat rw [egv_ld]
    try rw [rowv_ld]
    rw [mat_state]
    rfl
  · intro x
    refine out_piece (chunkOut x0 x1 x2 x3 x4 x5 x6 x7 xs0) 0 2 _ rfl _ _ ?_ x
    simp only [mat_outV, mat_stV, k0_pay5, k0_pay6, k0_pay7, k0_pay8]
    repeat rw [mat_ld]
    repeat rw [egv_ld]
    try rw [rowv_ld]
    rw [mat_state]
    rfl
  · intro x
    refine out_piece (chunkOut x0 x1 x2 x3 x4 x5 x6 x7 xs0) 0 1 _ rfl _ _ ?_ x
    simp only [mat_outV, mat_stV, k0_pay5, k0_pay6, k0_pay7, k0_pay8]
    repeat rw [mat_ld]
    repeat rw [egv_ld]
    try rw [rowv_ld]
    rw [mat_state]
    rfl
  · intro x
    refine out_piece (chunkOut x0 x1 x2 x3 x4 x5 x6 x7 xs0) 0 0 _ rfl _ _ ?_ x
    simp only [mat_outV, mat_stV, k0_pay5, k0_pay6, k0_pay7, k0_pay8]
    repeat rw [mat_ld]
    repeat rw [egv_ld]
    try rw [rowv_ld]
    rw [mat_state]
    rfl
  · exact fun x hx => absurd hx List.not_mem_nil

/-- The reset states: zero everywhere. -/
def zeroSt : Vec Ideal S4x128x128 .f32 := fun _ => (0 : EReal)

/-- A load of the scratch after the reset reads zeros. -/
theorem zero_load {sp : Space} (v : View sig .tc sp S4x128x128 .f32) (off sz : Fin 3 → ℕ) (inb) (inb') :
    v.readCov [(⟨Rect.unit (s := S4x128x128) ![0, 0, 0] ![4, 128, 128] inb, k0_pay3 (F := Ideal)⟩ : View.Piece (Elt Ideal) S4x128x128 .f32)]
        (Rect.unit (s := S4x128x128) off sz inb').toLoadRect
      = View.ld (Val := Elt Ideal) zeroSt (Rect.unit (s := S4x128x128) off sz inb') := by
  have hz : (![0, 0, 0] : Fin 3 → ℕ) = fun _ => 0 := by funext a; fin_cases a <;> rfl
  rw [View.readCov_eq_canon']
  funext j
  have e := View.canon_unit_zero (Val := Elt Ideal) (S := S4x128x128) (e := .f32) hz inb (k0_pay3 (F := Ideal))
  refine (congrFun e _).trans ?_
  exact Ideal.ofBits_zero_f32

/-- Four stores of one head each cover the scratch. -/
theorem heads_cover (w0 w1 w2 w3 : FVec Ideal S1x128x128 .f32) (i0 i1 i2 i3) (y : S4x128x128.Idx) :
    ∃ p ∈ [(⟨Rect.unit (s := S4x128x128) ![3, 0, 0] ![1, 128, 128] i3, w3⟩ : View.Piece (Elt Ideal) S4x128x128 .f32),
      ⟨Rect.unit (s := S4x128x128) ![2, 0, 0] ![1, 128, 128] i2, w2⟩, ⟨Rect.unit (s := S4x128x128) ![1, 0, 0] ![1, 128, 128] i1, w1⟩,
      ⟨Rect.unit (s := S4x128x128) ![0, 0, 0] ![1, 128, 128] i0, w0⟩], y ∈ p.1.set :=
  View.cover_of_tiledL _ ![1, 128, 128] (by sl_kernel_rfl) y

theorem sout_A (c : Dev nD) (i : grid0.Coords) (arg1 : Memref sig .tc .vmem S512x512 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S4x8x128 .f32) (harg6 : arg6.IsWhole) (arg7 : Memref sig .tc .vmem S512x512 .f32) (harg7 : arg7.IsWhole) (arg8 : Memref sig .tc .vmem S8x128 .f32) (harg8 : arg8.IsWhole) (arg9 : Memref sig .tc .vmem S512x512 .f32) (harg9 : arg9.IsWhole) (arg10 : Memref sig .tc .vmem S4x128x128 .f32) (harg10 : arg10.IsWhole) (hc0 : cond0_0 i) (x0 : Vec Ideal S512x512 .f32) (x1 : Vec Ideal S512x512 .bf16) (x2 : Vec Ideal S512x512 .bf16) (x3 : Vec Ideal S512x512 .bf16) (x4 : Vec Ideal S512x512 .bf16) (x5 : Vec Ideal S4x8x128 .f32) (x6 : Vec Ideal S512x512 .f32) (x7 : Vec Ideal S8x128 .f32) :
    sout0_A_0 c i arg1 harg1 arg2 harg2 arg3 harg3 arg4 harg4 arg5 harg5 arg6 harg6 arg7 harg7 arg8 harg8 arg9 harg9 arg10 harg10 hc0 x0 x1 x2 x3 x4 x5 x6 x7
      = fun y => endStates x0 x1 x4 x5 zeroSt (y 0).val 4 (y 1) (y 2) := by
  funext y
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, st_0, st_1, st_2, st_3, st_4, st_5, st_6, st_7, st_8, st_9, st_10, st_11, st_12, st_13, st_14, st_15, k0_pay105, k0_pay106, k0_pay1, k0_pay2, zero_load]
  refine View.canon_append_of_pieces (fun y : S4x128x128.Idx => (fun h => endStates x0 x1 x4 x5 zeroSt h 4) (y 0).val (y 1) (y 2))
    [_] [_, _, _, _] ?_ y (heads_cover _ _ _ _ _ _ _ _ y)
  simp only [List.forall_mem_cons]
  refine ⟨?_, ?_, ?_, ?_, ?_⟩
  · intro x
    refine state_piece (fun h => endStates x0 x1 x4 x5 zeroSt h 4) 3 _ rfl _ _ shapeCasts_S128x128_S1x128x128 ?_ x
    simp only [mat_outV, mat_stV, k0_pay5, k0_pay6, k0_pay7, k0_pay8]
    repeat rw [mat_ld]
    repeat rw [egv_ld]
    try rw [rowv_ld]
    rw [mat_state]
    rfl
  · intro x
    refine state_piece (fun h => endStates x0 x1 x4 x5 zeroSt h 4) 2 _ rfl _ _ shapeCasts_S128x128_S1x128x128 ?_ x
    simp only [mat_outV, mat_stV, k0_pay5, k0_pay6, k0_pay7, k0_pay8]
    repeat rw [mat_ld]
    repeat rw [egv_ld]
    try rw [rowv_ld]
    rw [mat_state]
    rfl
  · intro x
    refine state_piece (fun h => endStates x0 x1 x4 x5 zeroSt h 4) 1 _ rfl _ _ shapeCasts_S128x128_S1x128x128 ?_ x
    simp only [mat_outV, mat_stV, k0_pay5, k0_pay6, k0_pay7, k0_pay8]
    repeat rw [mat_ld]
    repeat rw [egv_ld]
    try rw [rowv_ld]
    rw [mat_state]
    rfl
  · intro x
    refine state_piece (fun h => endStates x0 x1 x4 x5 zeroSt h 4) 0 _ rfl _ _ shapeCasts_S128x128_S1x128x128 ?_ x
    simp only [mat_outV, mat_stV, k0_pay5, k0_pay6, k0_pay7, k0_pay8]
    repeat rw [mat_ld]
    repeat rw [egv_ld]
    try rw [rowv_ld]
    rw [mat_state]
    rfl
  · exact fun x hx => absurd hx List.not_mem_nil

theorem out_A (c : Dev nD) (i : grid0.Coords) (arg1 : Memref sig .tc .vmem S512x512 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S4x8x128 .f32) (harg6 : arg6.IsWhole) (arg7 : Memref sig .tc .vmem S512x512 .f32) (harg7 : arg7.IsWhole) (arg8 : Memref sig .tc .vmem S8x128 .f32) (harg8 : arg8.IsWhole) (arg9 : Memref sig .tc .vmem S512x512 .f32) (harg9 : arg9.IsWhole) (arg10 : Memref sig .tc .vmem S4x128x128 .f32) (harg10 : arg10.IsWhole) (hc0 : cond0_0 i) (x0 : Vec Ideal S512x512 .f32) (x1 : Vec Ideal S512x512 .bf16) (x2 : Vec Ideal S512x512 .bf16) (x3 : Vec Ideal S512x512 .bf16) (x4 : Vec Ideal S512x512 .bf16) (x5 : Vec Ideal S4x8x128 .f32) (x6 : Vec Ideal S512x512 .f32) (x7 : Vec Ideal S8x128 .f32) :
    out0_A_8 c i arg1 harg1 arg2 harg2 arg3 harg3 arg4 harg4 arg5 harg5 arg6 harg6 arg7 harg7 arg8 harg8 arg9 harg9 arg10 harg10 hc0 x0 x1 x2 x3 x4 x5 x6 x7
      = tiles (chunkOut x0 x1 x2 x3 x4 x5 x6 x7 zeroSt) := by
  funext y
  unfold out0_A_8
  refine View.read_writes_apply_of_pieces _ _ (tiles (chunkOut x0 x1 x2 x3 x4 x5 x6 x7 zeroSt)) _ ?_ y (cover0_A_8 c i arg1 harg1 arg2 harg2 arg3 harg3 arg4 harg4 arg5 harg5 arg6 harg6 arg7 harg7 arg8 harg8 arg9 harg9 arg10 harg10 hc0 x0 x1 x2 x3 x4 x5 x6 x7 y)
  unfold kernelRun0_A
  dsimp only
  sl_unfold_words
  simp only [View.readAt_eq_ld, harg1.read_unread, harg2.read_unread, harg3.read_unread, harg4.read_unread, harg5.read_unread, harg6.read_unread, harg7.read_unread, harg8.read_unread, st_0, st_1, st_2, st_3, st_4, st_5, st_6, st_7, st_8, st_9, st_10, st_11, st_12, st_13, st_14, st_15, ou_0, ou_1, ou_2, ou_3, ou_4, ou_5, ou_6, ou_7, ou_8, ou_9, ou_10, ou_11, ou_12, ou_13, ou_14, ou_15, zero_load, List.forall_mem_cons]
  refine ⟨?_, ?_, ?_, ?_, ?_, ?_, ?_, ?_, ?_, ?_, ?_, ?_, ?_, ?_, ?_, ?_, ?_⟩
  · intro x
    refine out_piece (chunkOut x0 x1 x2 x3 x4 x5 x6 x7 zeroSt) 3 3 _ rfl _ _ ?_ x
    simp only [mat_outV, mat_stV, k0_pay5, k0_pay6, k0_pay7, k0_pay8]
    repeat rw [mat_ld]
    repeat rw [egv_ld]
    try rw [rowv_ld]
    rw [mat_state]
    rfl
  · intro x
    refine out_piece (chunkOut x0 x1 x2 x3 x4 x5 x6 x7 zeroSt) 3 2 _ rfl _ _ ?_ x
    simp only [mat_outV, mat_stV, k0_pay5, k0_pay6, k0_pay7, k0_pay8]
    repeat rw [mat_ld]
    repeat rw [egv_ld]
    try rw [rowv_ld]
    rw [mat_state]
    rfl
  · intro x
    refine out_piece (chunkOut x0 x1 x2 x3 x4 x5 x6 x7 zeroSt) 3 1 _ rfl _ _ ?_ x
    simp only [mat_outV, mat_stV, k0_pay5, k0_pay6, k0_pay7, k0_pay8]
    repeat rw [mat_ld]
    repeat rw [egv_ld]
    try rw [rowv_ld]
    rw [mat_state]
    rfl
  · intro x
    refine out_piece (chunkOut x0 x1 x2 x3 x4 x5 x6 x7 zeroSt) 3 0 _ rfl _ _ ?_ x
    simp only [mat_outV, mat_stV, k0_pay5, k0_pay6, k0_pay7, k0_pay8]
    repeat rw [mat_ld]
    repeat rw [egv_ld]
    try rw [rowv_ld]
    rw [mat_state]
    rfl
  · intro x
    refine out_piece (chunkOut x0 x1 x2 x3 x4 x5 x6 x7 zeroSt) 2 3 _ rfl _ _ ?_ x
    simp only [mat_outV, mat_stV, k0_pay5, k0_pay6, k0_pay7, k0_pay8]
    repeat rw [mat_ld]
    repeat rw [egv_ld]
    try rw [rowv_ld]
    rw [mat_state]
    rfl
  · intro x
    refine out_piece (chunkOut x0 x1 x2 x3 x4 x5 x6 x7 zeroSt) 2 2 _ rfl _ _ ?_ x
    simp only [mat_outV, mat_stV, k0_pay5, k0_pay6, k0_pay7, k0_pay8]
    repeat rw [mat_ld]
    repeat rw [egv_ld]
    try rw [rowv_ld]
    rw [mat_state]
    rfl
  · intro x
    refine out_piece (chunkOut x0 x1 x2 x3 x4 x5 x6 x7 zeroSt) 2 1 _ rfl _ _ ?_ x
    simp only [mat_outV, mat_stV, k0_pay5, k0_pay6, k0_pay7, k0_pay8]
    repeat rw [mat_ld]
    repeat rw [egv_ld]
    try rw [rowv_ld]
    rw [mat_state]
    rfl
  · intro x
    refine out_piece (chunkOut x0 x1 x2 x3 x4 x5 x6 x7 zeroSt) 2 0 _ rfl _ _ ?_ x
    simp only [mat_outV, mat_stV, k0_pay5, k0_pay6, k0_pay7, k0_pay8]
    repeat rw [mat_ld]
    repeat rw [egv_ld]
    try rw [rowv_ld]
    rw [mat_state]
    rfl
  · intro x
    refine out_piece (chunkOut x0 x1 x2 x3 x4 x5 x6 x7 zeroSt) 1 3 _ rfl _ _ ?_ x
    simp only [mat_outV, mat_stV, k0_pay5, k0_pay6, k0_pay7, k0_pay8]
    repeat rw [mat_ld]
    repeat rw [egv_ld]
    try rw [rowv_ld]
    rw [mat_state]
    rfl
  · intro x
    refine out_piece (chunkOut x0 x1 x2 x3 x4 x5 x6 x7 zeroSt) 1 2 _ rfl _ _ ?_ x
    simp only [mat_outV, mat_stV, k0_pay5, k0_pay6, k0_pay7, k0_pay8]
    repeat rw [mat_ld]
    repeat rw [egv_ld]
    try rw [rowv_ld]
    rw [mat_state]
    rfl
  · intro x
    refine out_piece (chunkOut x0 x1 x2 x3 x4 x5 x6 x7 zeroSt) 1 1 _ rfl _ _ ?_ x
    simp only [mat_outV, mat_stV, k0_pay5, k0_pay6, k0_pay7, k0_pay8]
    repeat rw [mat_ld]
    repeat rw [egv_ld]
    try rw [rowv_ld]
    rw [mat_state]
    rfl
  · intro x
    refine out_piece (chunkOut x0 x1 x2 x3 x4 x5 x6 x7 zeroSt) 1 0 _ rfl _ _ ?_ x
    simp only [mat_outV, mat_stV, k0_pay5, k0_pay6, k0_pay7, k0_pay8]
    repeat rw [mat_ld]
    repeat rw [egv_ld]
    try rw [rowv_ld]
    rw [mat_state]
    rfl
  · intro x
    refine out_piece (chunkOut x0 x1 x2 x3 x4 x5 x6 x7 zeroSt) 0 3 _ rfl _ _ ?_ x
    simp only [mat_outV, mat_stV, k0_pay5, k0_pay6, k0_pay7, k0_pay8]
    repeat rw [mat_ld]
    repeat rw [egv_ld]
    try rw [rowv_ld]
    rw [mat_state]
    rfl
  · intro x
    refine out_piece (chunkOut x0 x1 x2 x3 x4 x5 x6 x7 zeroSt) 0 2 _ rfl _ _ ?_ x
    simp only [mat_outV, mat_stV, k0_pay5, k0_pay6, k0_pay7, k0_pay8]
    repeat rw [mat_ld]
    repeat rw [egv_ld]
    try rw [rowv_ld]
    rw [mat_state]
    rfl
  · intro x
    refine out_piece (chunkOut x0 x1 x2 x3 x4 x5 x6 x7 zeroSt) 0 1 _ rfl _ _ ?_ x
    simp only [mat_outV, mat_stV, k0_pay5, k0_pay6, k0_pay7, k0_pay8]
    repeat rw [mat_ld]
    repeat rw [egv_ld]
    try rw [rowv_ld]
    rw [mat_state]
    rfl
  · intro x
    refine out_piece (chunkOut x0 x1 x2 x3 x4 x5 x6 x7 zeroSt) 0 0 _ rfl _ _ ?_ x
    simp only [mat_outV, mat_stV, k0_pay5, k0_pay6, k0_pay7, k0_pay8]
    repeat rw [mat_ld]
    repeat rw [egv_ld]
    try rw [rowv_ld]
    rw [mat_state]
    rfl
  · exact fun x hx => absurd hx List.not_mem_nil

end Cert.KernelIdeal.Val

end
-- ==== Proof.ScanKernel.lean ====
/-
  The array the recurrence kernel leaves: at a token's row and a head's channel the gated output of the token's chunk,
  of the states run from zero over all chunks before it.
-/
module

public import proofs.«01_k».proof.Proof.ScanOut
public import proofs.«01_k».proof.Proof.Gen.KernelIdeal.Value

@[expose] public section

set_option maxRecDepth 65536

noncomputable section

open Idealize.ShloMosaic Idealize.ShloMosaic.TcCoe Idealize.ShloMosaic.ValueIdx Idealize.ShloMosaic.Tactic

namespace Cert.KernelIdeal.Val

open Cert.KernelIdeal Cert.KernelIdeal.Gen Cert.KernelIdeal.Value Cert.Core

variable (m : (ℓ : Loc nD τ sig) → Buf (Elt Ideal) ℓ) (c : Dev nD)

/-! ## The windows' blocks as parts of the arguments -/

theorem idx0 : ∀ t : Fin cfg0.N, win0_0.index t 0 = t.val ∧ win0_0.index t 1 = 0 := by decide +kernel

/-- Window 0 at point `t`: rows `512 t …` of argument 0, head by head. -/
theorem blk0 (t : Fin cfg0.N) (b h : ℕ) (hb : b < 4) (hh : h < 4) :
    sub (at2 (iblk m c 0 t : S512x512.Idx → EReal)) b h = sub (at2 (m ((c : Thread nD τ).loc main_arg0) : S16384x512.Idx → EReal)) (4 * t.val + b) h := by
  funext a l
  have ha := a.isLt
  have hl := l.isLt
  unfold sub cut
  conv_lhs => unfold at2
  unfold iblk
  rw [View.read_apply]
  show V m c main_arg0 _ = _
  rw [V_main_arg0]
  refine at2_of (m ((c : Thread nD τ).loc main_arg0) : S16384x512.Idx → EReal) _ ?_ ?_
  · show win0_0.index t 0 * 512 + 1 * ((128 * b + a.val) % 512) = _
    rw [(idx0 t).1]; omega
  · show win0_0.index t 1 * 512 + 1 * ((128 * h + l.val) % 512) = _
    rw [(idx0 t).2]; omega

theorem idx1 : ∀ t : Fin cfg0.N, win0_1.index t 0 = t.val ∧ win0_1.index t 1 = 0 := by decide +kernel

/-- Window 1 at point `t`: rows `512 t …` of argument 1, head by head. -/
theorem blk1 (t : Fin cfg0.N) (b h : ℕ) (hb : b < 4) (hh : h < 4) :
    sub (at2 (iblk m c 1 t : S512x512.Idx → EReal)) b h = sub (at2 (m ((c : Thread nD τ).loc main_arg1) : S16384x512.Idx → EReal)) (4 * t.val + b) h := by
  funext a l
  have ha := a.isLt
  have hl := l.isLt
  unfold sub cut
  conv_lhs => unfold at2
  unfold iblk
  rw [View.read_apply]
  show V m c main_arg1 _ = _
  rw [V_main_arg1]
  refine at2_of (m ((c : Thread nD τ).loc main_arg1) : S16384x512.Idx → EReal) _ ?_ ?_
  · show win0_1.index t 0 * 512 + 1 * ((128 * b + a.val) % 512) = _
    rw [(idx1 t).1]; omega
  · show win0_1.index t 1 * 512 + 1 * ((128 * h + l.val) % 512) = _
    rw [(idx1 t).2]; omega

theorem idx2 : ∀ t : Fin cfg0.N, win0_2.index t 0 = t.val ∧ win0_2.index t 1 = 0 := by decide +kernel

/-- Window 2 at point `t`: rows `512 t …` of argument 2, head by head. -/
theorem blk2 (t : Fin cfg0.N) (b h : ℕ) (hb : b < 4) (hh : h < 4) :
    sub (at2 (iblk m c 2 t : S512x512.Idx → EReal)) b h = sub (at2 (m ((c : Thread nD τ).loc main_arg2) : S16384x512.Idx → EReal)) (4 * t.val + b) h := by
  funext a l
  have ha := a.isLt
  have hl := l.isLt
  unfold sub cut
  conv_lhs => unfold at2
  unfold iblk
  rw [View.read_apply]
  show V m c main_arg2 _ = _
  rw [V_main_arg2]
  refine at2_of (m ((c : Thread nD τ).loc main_arg2) : S16384x512.Idx → EReal) _ ?_ ?_
  · show win0_2.index t 0 * 512 + 1 * ((128 * b + a.val) % 512) = _
    rw [(idx2 t).1]; omega
  · show win0_2.index t 1 * 512 + 1 * ((128 * h + l.val) % 512) = _
    rw [(idx2 t).2]; omega

theorem idx3 : ∀ t : Fin cfg0.N, win0_3.index t 0 = t.val ∧ win0_3.index t 1 = 0 := by decide +kernel

/-- Window 3 at point `t`: rows `512 t …` of argument 3, head by head. -/
theorem blk3 (t : Fin cfg0.N) (b h : ℕ) (hb : b < 4) (hh : h < 4) :
    sub (at2 (iblk m c 3 t : S512x512.Idx → EReal)) b h = sub (at2 (m ((c : Thread nD τ).loc main_arg3) : S16384x512.Idx → EReal)) (4 * t.val + b) h := by
  funext a l
  have ha := a.isLt
  have hl := l.isLt
  unfold sub cut
  conv_lhs => unfold at2
  unfold iblk
  rw [View.read_apply]
  show V m c main_arg3 _ = _
  rw [V_main_arg3]
  refine at2_of (m ((c : Thread nD τ).loc main_arg3) : S16384x512.Idx → EReal) _ ?_ ?_
  · show win0_3.index t 0 * 512 + 1 * ((128 * b + a.val) % 512) = _
    rw [(idx3 t).1]; omega
  · show win0_3.index t 1 * 512 + 1 * ((128 * h + l.val) % 512) = _
    rw [(idx3 t).2]; omega

theorem idx4 : ∀ t : Fin cfg0.N, win0_4.index t 0 = t.val ∧ win0_4.index t 1 = 0 := by decide +kernel

/-- Window 4 at point `t`: rows `512 t …` of argument 4, head by head. -/
theorem blk4 (t : Fin cfg0.N) (b h : ℕ) (hb : b < 4) (hh : h < 4) :
    sub (at2 (iblk m c 4 t : S512x512.Idx → EReal)) b h = sub (at2 (m ((c : Thread nD τ).loc main_arg4) : S16384x512.Idx → EReal)) (4 * t.val + b) h := by
  funext a l
  have ha := a.isLt
  have hl := l.isLt
  unfold sub cut
  conv_lhs => unfold at2
  unfold iblk
  rw [View.read_apply]
  show V m c main_arg4 _ = _
  rw [V_main_arg4]
  refine at2_of (m ((c : Thread nD τ).loc main_arg4) : S16384x512.Idx → EReal) _ ?_ ?_
  · show win0_4.index t 0 * 512 + 1 * ((128 * b + a.val) % 512) = _
    rw [(idx4 t).1]; omega
  · show win0_4.index t 1 * 512 + 1 * ((128 * h + l.val) % 512) = _
    rw [(idx4 t).2]; omega

theorem idx6 : ∀ t : Fin cfg0.N, win0_6.index t 0 = t.val ∧ win0_6.index t 1 = 0 := by decide +kernel

/-- Window 6 at point `t`: rows `512 t …` of argument 6, head by head. -/
theorem blk6 (t : Fin cfg0.N) (b h : ℕ) (hb : b < 4) (hh : h < 4) :
    sub (at2 (iblk m c 6 t : S512x512.Idx → EReal)) b h = sub (at2 (m ((c : Thread nD τ).loc main_arg6) : S16384x512.Idx → EReal)) (4 * t.val + b) h := by
  funext a l
  have ha := a.isLt
  have hl := l.isLt
  unfold sub cut
  conv_lhs => unfold at2
  unfold iblk
  rw [View.read_apply]
  show V m c main_arg6 _ = _
  rw [V_main_arg6]
  refine at2_of (m ((c : Thread nD τ).loc main_arg6) : S16384x512.Idx → EReal) _ ?_ ?_
  · show win0_6.index t 0 * 512 + 1 * ((128 * b + a.val) % 512) = _
    rw [(idx6 t).1]; omega
  · show win0_6.index t 1 * 512 + 1 * ((128 * h + l.val) % 512) = _
    rw [(idx6 t).2]; omega

theorem idx5 : ∀ t : Fin cfg0.N, win0_5.index t 0 = t.val ∧ win0_5.index t 1 = 0 ∧ win0_5.index t 2 = 0 := by decide +kernel

/-- Window 5 at point `t`: the decay rows of the point's four chunks. -/
theorem blk5 (t : Fin cfg0.N) (b h : ℕ) (hb : b < 4) (hh : h < 4) :
    (fun l : Fin 128 => at3 (iblk m c 5 t : S4x8x128.Idx → EReal) b h l.val)
      = fun l : Fin 128 => at3 (m ((c : Thread nD τ).loc main_arg5) : S128x8x128.Idx → EReal) (4 * t.val + b) h l.val := by
  funext l
  have hl := l.isLt
  conv_lhs => unfold at3
  unfold iblk
  rw [View.read_apply]
  show V m c main_arg5 _ = _
  rw [V_main_arg5]
  refine at3_of (m ((c : Thread nD τ).loc main_arg5) : S128x8x128.Idx → EReal) _ ?_ ?_ ?_
  · show win0_5.index t 0 * 4 + 1 * (b % 4) = _
    rw [(idx5 t).1]; omega
  · show win0_5.index t 1 * 8 + 1 * (h % 8) = _
    rw [(idx5 t).2.1]; omega
  · show win0_5.index t 2 * 128 + 1 * (l.val % 128) = _
    rw [(idx5 t).2.2]; omega

theorem idx7 : ∀ t : Fin cfg0.N, win0_7.index t 0 = 0 ∧ win0_7.index t 1 = 0 := by decide +kernel

/-- The norm weights the host repeats on eight rows. -/
theorem V_main_v2 : V m c main_v2 = (broadcastInDim S8x128 ![0, 1] bcast_S1x128_S8x128_0_1 (broadcastInDim S1x128 ![1] bcast_S128_S1x128_1
    (shapeCast S128 (m ((c : Thread nD τ).loc main_arg7) : Vec Ideal S1x128 .f32) shapeCasts_S1x128_S128)) : Vec Ideal S8x128 .f32) := by
  show StableHlo.after hostOps0 _ (Proc.devRef .tc main_v2) = _
  after_results
  rfl

/-- Window 7 at any point: the norm weights. -/
theorem blk7 (t : Fin cfg0.N) :
    (fun l : Fin 128 => at2 (iblk m c 7 t : S8x128.Idx → EReal) 0 l.val)
      = fun l : Fin 128 => at2 (m ((c : Thread nD τ).loc main_arg7) : S1x128.Idx → EReal) 0 l.val := by
  funext l
  have hl := l.isLt
  conv_lhs => unfold at2
  unfold iblk
  rw [View.read_apply]
  show V m c main_v2 _ = _
  rw [V_main_v2]
  rw [broadcastInDim_apply _ _ _ _ (ix2 0 l) (fun a => by
    match a with
    | ⟨0, _⟩ => rfl
    | ⟨1, _⟩ =>
      show l.val = if (128 : ℕ) = 1 then 0 else win0_7.index t 1 * 128 + 1 * (l.val % 128)
      rw [if_neg (by decide), (idx7 t).2]; omega)]
  rw [broadcastInDim_apply _ _ _ _ (ix1 l) (fun a => by
    match a with
    | ⟨0, _⟩ => rfl)]
  rw [shapeCast_1a_a_apply]
  exact at2_of (m ((c : Thread nD τ).loc main_arg7) : S1x128.Idx → EReal) _ rfl rfl

/-! ## The carried states, point after point -/

/-- The states of head `h` after the first `n` chunks, of the launch's arguments. -/
abbrev stateOf (h n : ℕ) : Mat :=
  states (at2 (m ((c : Thread nD τ).loc main_arg0) : S16384x512.Idx → EReal)) (at2 (m ((c : Thread nD τ).loc main_arg1) : S16384x512.Idx → EReal))
    (at2 (m ((c : Thread nD τ).loc main_arg4) : S16384x512.Idx → EReal)) (at3 (m ((c : Thread nD τ).loc main_arg5) : S128x8x128.Idx → EReal)) h (fun _ _ => 0) n

/-- The gated outputs of chunk `n`, head `h`, of the launch's arguments. -/
abbrev outOf (h n : ℕ) : Mat :=
  outs (at2 (m ((c : Thread nD τ).loc main_arg0) : S16384x512.Idx → EReal)) (at2 (m ((c : Thread nD τ).loc main_arg1) : S16384x512.Idx → EReal))
    (at2 (m ((c : Thread nD τ).loc main_arg2) : S16384x512.Idx → EReal)) (at2 (m ((c : Thread nD τ).loc main_arg3) : S16384x512.Idx → EReal))
    (at2 (m ((c : Thread nD τ).loc main_arg4) : S16384x512.Idx → EReal)) (at2 (m ((c : Thread nD τ).loc main_arg6) : S16384x512.Idx → EReal))
    (at3 (m ((c : Thread nD τ).loc main_arg5) : S128x8x128.Idx → EReal))
    (fun l => at2 (m ((c : Thread nD τ).loc main_arg7) : S1x128.Idx → EReal) 0 l.val) h (fun _ _ => 0) n

/-- A point's states from states that are the sequence's at its first chunk. -/
theorem endStates_eq (t : Fin cfg0.N) (xs0 : Vec Ideal S4x128x128 .f32) (h : ℕ) (hh : h < 4)
    (hx : (fun k l : Fin 128 => at3 xs0 h k.val l.val) = stateOf m c h (4 * t.val)) (b : ℕ) (hb : b ≤ 4) :
    endStates (iblk m c 0 t) (iblk m c 1 t) (iblk m c 4 t) (iblk m c 5 t) xs0 h b = stateOf m c h (4 * t.val + b) := by
  unfold endStates
  rw [hx]
  exact states_shift (4 * t.val) 4 (fun b hb => blk0 m c t b h hb hh) (fun b hb => blk1 m c t b h hb hh) (fun b hb => blk4 m c t b h hb hh)
    (fun b hb => blk5 m c t b h hb hh) b hb

/-- And its outputs. -/
theorem chunkOut_eq (t : Fin cfg0.N) (xs0 : Vec Ideal S4x128x128 .f32) (h : ℕ) (hh : h < 4)
    (hx : (fun k l : Fin 128 => at3 xs0 h k.val l.val) = stateOf m c h (4 * t.val)) (b : ℕ) (hb : b < 4) :
    chunkOut (iblk m c 0 t) (iblk m c 1 t) (iblk m c 2 t) (iblk m c 3 t) (iblk m c 4 t) (iblk m c 5 t) (iblk m c 6 t) (iblk m c 7 t) xs0 b h = outOf m c h (4 * t.val + b) := by
  have e := endStates_eq m c t xs0 h hh hx b (by omega)
  unfold endStates at e
  unfold chunkOut outs
  rw [e, blk0 m c t b h hb hh, blk1 m c t b h hb hh, blk2 m c t b h hb hh, blk3 m c t b h hb hh, blk6 m c t b h hb hh, blk7 m c t]
  rfl

/-- A stack of states read at a head. -/
theorem at3_heads (T : ℕ → Mat) (h : ℕ) (hh : h < 4) :
    (fun k l : Fin 128 => at3 (fun y : S4x128x128.Idx => T (y 0).val (y 1) (y 2)) h k.val l.val) = T h := by
  funext k l
  have hk := k.isLt
  have hl := l.isLt
  unfold at3
  show T (h % 4) ⟨k.val % 128, _⟩ ⟨l.val % 128, _⟩ = T h k l
  rw [Nat.mod_eq_of_lt hh]
  exact congrArg₂ (T h) (Fin.ext (Nat.mod_eq_of_lt hk)) (Fin.ext (Nat.mod_eq_of_lt hl))

/-- What the scratch holds after point `n`: every head's state after `4 (n + 1)` chunks. -/
theorem scratch : ∀ (n : ℕ) (hn : n < cfg0.N),
    (outsAt0 m c n hn).2 = fun y : S4x128x128.Idx => stateOf m c (y 0).val (4 * (n + 1)) (y 1) (y 2)
  | 0, hn => by
    rw [outsAt0_zero, stAt0_A m c ⟨0, hn⟩ _ (Nat.zero_mod _)]
    dsimp only
    rw [sout_A]
    funext y
    exact congrFun (congrFun (endStates_eq m c ⟨0, hn⟩ zeroSt (y 0).val (y 0).isLt rfl 4 le_rfl) _) _
  | n + 1, hn => by
    have hN := lt_of_lt_of_eq hn (show cfg0.N = 32 from N_0)
    rw [outsAt0_succ, stAt0_B m c ⟨n + 1, hn⟩ _ (by show ¬(n + 1) % 32 = 0; omega)]
    dsimp only
    rw [sout_B]
    funext y
    exact congrFun (congrFun (endStates_eq m c ⟨n + 1, hn⟩ _ (y 0).val (y 0).isLt
      (by rw [scratch n]; exact at3_heads (fun h => stateOf m c h (4 * (n + 1))) _ (y 0).isLt) 4 le_rfl) _) _

/-- A tiling depends only on the tiles inside the block. -/
theorem tiles_congr (T T' : ℕ → ℕ → Mat) (h : ∀ b < 4, ∀ h < 4, T b h = T' b h) : tiles T = tiles T' := by
  funext y
  have h0 : (y 0).val < 512 := idx2_lt0 y
  have h1 : (y 1).val < 512 := idx2_lt1 y
  unfold tiles
  rw [h _ (by omega) _ (by omega)]

/-- What point `n` leaves in the output block: the gated outputs of chunks `4 n …`. -/
theorem written (n : ℕ) (hn : n < cfg0.N) :
    (outsAt0 m c n hn).1 = tiles (fun b h => outOf m c h (4 * n + b)) := by
  cases n with
  | zero =>
    rw [outsAt0_zero, stAt0_A m c ⟨0, hn⟩ _ (Nat.zero_mod _)]
    dsimp only
    rw [out_A]
    exact tiles_congr _ _ fun b hb h hh => chunkOut_eq m c ⟨0, hn⟩ zeroSt h hh rfl b hb
  | succ n =>
    have hN := lt_of_lt_of_eq hn (show cfg0.N = 32 from N_0)
    rw [outsAt0_succ, stAt0_B m c ⟨n + 1, hn⟩ _ (by show ¬(n + 1) % 32 = 0; omega)]
    dsimp only
    rw [out_B]
    exact tiles_congr _ _ fun b hb h hh => chunkOut_eq m c ⟨n + 1, hn⟩ _ h hh
      (by rw [scratch m c n]; exact at3_heads (fun h => stateOf m c h (4 * (n + 1))) _ hh) b hb

/-- The array the kernel leaves. -/
def result : S16384x512.Idx → EReal := fun i =>
  outOf m c ((i 1).val / 128) ((i 0).val / 128) ⟨(i 0).val % 128, Nat.mod_lt _ (by decide)⟩ ⟨(i 1).val % 128, Nat.mod_lt _ (by decide)⟩

theorem G8_eq : (G8 m c : S16384x512.Idx → EReal) = result m c := by
  funext i
  have h0 : (i 0).val < 16384 := idx2_lt0 i
  have h1 : (i 1).val < 512 := idx2_lt1 i
  have hp : pt8Of i = (i 0).val / 512 := by show 1 * ((i 0).val / 512 - 0) + 1 * ((i 1).val / 512 - 0) = _; omega
  have hlt : pt8Of i < cfg0.N := by rw [hp, show cfg0.N = 32 from N_0]; omega
  unfold G8
  rw [dif_pos hlt, ← outsAt0_sweep m c (pt8Of i) hlt, written]
  unfold tiles result
  show outOf m c ((i 1).val % 512 / 128) (4 * pt8Of i + (i 0).val % 512 / 128) ⟨(i 0).val % 512 % 128, _⟩ ⟨(i 1).val % 512 % 128, _⟩ = _
  have e1 : (i 1).val % 512 / 128 = (i 1).val / 128 := by omega
  have e2 : 4 * pt8Of i + (i 0).val % 512 / 128 = (i 0).val / 128 := by rw [hp]; omega
  have e3 : (i 0).val % 512 % 128 = (i 0).val % 128 := by omega
  have e4 : (i 1).val % 512 % 128 = (i 1).val % 128 := by omega
  rw [e1, e2]
  simp only [e3, e4]

end Cert.KernelIdeal.Val

end
-- ==== Proof.ScanTrip.lean ====
/-
  The run of the recurrence's reference as a sequence of loop states: what the carried buffers hold after `k` trips is
  the `k`-th iterate of one trip's step, and the result is read from the last state.
-/
module

public import proofs.«01_k».proof.Proof.ScanKernel
public import proofs.«01_k».proof.Proof.Gen.ReferenceIdeal.Run
public import proofs.«01_k».proof.Proof.Gen.ReferenceIdeal.Step

@[expose] public section

noncomputable section

open Idealize.ShloMosaic Idealize.ShloMosaic.TcCoe Idealize.SL.Sem Idealize.ShloMosaic.StableHlo

namespace Cert.ReferenceIdeal.Trip

open Cert.ReferenceIdeal Cert.ReferenceIdeal.Gen Cert.ReferenceIdeal.Value Cert.ReferenceIdeal.Step

/-- The loop state a valuation of the buffers holds. -/
def view (V : Valuation τ sig (Elt Ideal)) : State Ideal where
  main_v17_7 := V (Proc.devRef .tc main_v17_7)
  main_v17_8 := V (Proc.devRef .tc main_v17_8)
  main_v17_0 := V (Proc.devRef .tc main_v17_0)
  main_v17_1 := V (Proc.devRef .tc main_v17_1)
  main_v17_2 := V (Proc.devRef .tc main_v17_2)
  main_v17_3 := V (Proc.devRef .tc main_v17_3)
  main_v17_4 := V (Proc.devRef .tc main_v17_4)
  main_v17_5 := V (Proc.devRef .tc main_v17_5)

/-- The buffer that counts the trips holds the number `j`. -/
def Counts (j : ℕ) (V : Valuation τ sig (Elt Ideal)) : Prop :=
  V (Proc.devRef .tc main_v17_6) = constantI S_ 32 (BitVec.ofNat 32 j)

variable {V : Valuation τ sig (Elt Ideal)} {j : ℕ}

/-- One trip's new recurrence states. -/
theorem new_states (h : Counts j V) : Value.step_main_v17_7 V = b38 j (view V) := by
  unfold Counts at h
  unfold Value.step_main_v17_7 res_main_while0b_v45
  rw [h]
  rfl

/-- One trip's new collection of outputs. -/
theorem new_outputs (h : Counts j V) : Value.step_main_v17_8 V = b43 j (view V) := by
  unfold Counts at h
  unfold Value.step_main_v17_8 res_main_while0b_v45
  rw [h]
  rfl

/-- One trip counts one further. -/
theorem counts_step (h : Counts j V) : Counts (j + 1) (STEP V) := by
  refine (STEP_main_v17_6 V).trans ?_
  unfold Counts at h
  unfold Value.step_main_v17_6
  rw [h]
  funext i
  show BitVec.ofNat 32 j + 1#32 = BitVec.ofNat 32 (j + 1)
  simp only [BitVec.ofNat_add]

/-- One trip's step of the buffers is the step of the loop state. -/
theorem view_step (h : Counts j V) : view (STEP V) = step j (view V) := by
  have e7 := (STEP_main_v17_7 V).trans (new_states h)
  have e8 := (STEP_main_v17_8 V).trans (new_outputs h)
  unfold view at *
  unfold step
  rw [e7, e8, STEP_main_v17_0, STEP_main_v17_1, STEP_main_v17_2, STEP_main_v17_3, STEP_main_v17_4, STEP_main_v17_5]

variable (m : (ℓ : Loc nD τ sig) → Buf (Elt Ideal) ℓ) (c : Dev nD)

/-- The loop state before the first trip, of the memory the run starts from. -/
def first : State Ideal :=
  init (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

set_option maxRecDepth 65536 in
set_option maxHeartbeats 1000000 in
/-- What the operations before the loop leave in the carried buffers. -/
theorem view_entry : view (entryContents preI m c) = first m c := by
  unfold view first init
  congr 1 <;> (simp only [entryContents, afterL_cons, afterL_nil]; after_reads_simp) <;> rfl

set_option maxRecDepth 65536 in
set_option maxHeartbeats 1000000 in
/-- The trips are counted from zero. -/
theorem counts_entry : Counts 0 (entryContents preI m c) := by
  unfold Counts
  (simp only [entryContents, afterL_cons, afterL_nil]; after_reads_simp) <;> rfl

/-- After `k` trips the buffers hold the `k`-th state of any sequence that starts at the first state and goes on by `step`. -/
theorem view_iter (it : ℕ → State Ideal) (h0 : it 0 = first m c) (hs : ∀ n, it (n + 1) = step n (it n)) :
    ∀ k, view (STEP^[k] (entryContents preI m c)) = it k ∧ Counts k (STEP^[k] (entryContents preI m c))
  | 0 => ⟨(view_entry m c).trans h0.symm, counts_entry m c⟩
  | k + 1 => by
    obtain ⟨e, n⟩ := view_iter it h0 hs k
    rw [Function.iterate_succ_apply', hs k]
    exact ⟨(view_step n).trans (congrArg (step k) e), counts_step n⟩

set_option maxRecDepth 8192 in
/-- The operations after the loop read the collected outputs of a loop state and two arguments. -/
theorem out_of (s : State Ideal) (a6 : S16384x512.Idx → EReal) (a7 : S1x128.Idx → EReal)
    (e : V (Proc.devRef .tc main_v17_8) = s.main_v17_8) (e6 : V (Proc.devRef .tc main_arg6) = a6) (e7 : V (Proc.devRef .tc main_arg7) = a7) :
    out_main_v37 V = R_main_v37 s a6 a7 := by
  unfold out_main_v37 R_main_v37
  rw [e, e6, e7]
  try rfl

/-- The result, of the last loop state and the two arguments read after the loop. -/
theorem out_eq (it : ℕ → State Ideal) (h0 : it 0 = first m c) (hs : ∀ n, it (n + 1) = step n (it n)) (k : ℕ) :
    out_main_v37 (STEP^[k] (entryContents preI m c))
      = R_main_v37 (it k) (m ((c.tc : Thread nD τ).loc main_arg6)) (m ((c.tc : Thread nD τ).loc main_arg7)) :=
  out_of (it k) _ _ (congrArg State.main_v17_8 (view_iter m c it h0 hs k).1) (iter_main_arg6 m c k) (iter_main_arg7 m c k)

end Cert.ReferenceIdeal.Trip

end

end
-- ==== Proof.ScanRef.lean ====
/-
  The reference of the recurrence: its loop's state after `n` trips holds every head's state after `n` chunks and the
  outputs of the chunks already visited; its result reads those outputs, normalised and gated.
-/
module

public import proofs.«01_k».proof.Proof.ScanKernel
public import proofs.«01_k».proof.Proof.ScanTrip
public import Idealize.ShloMosaic.Lib.WordCmp

@[expose] public section

set_option maxRecDepth 65536

noncomputable section

open Idealize.ShloMosaic Idealize.ShloMosaic.TcCoe Idealize.ShloMosaic.ValueIdx Idealize.ShloMosaic.StackMember Idealize.ShloMosaic.WordCmp

namespace Cert.ReferenceIdeal.Val

open Cert.ReferenceIdeal Cert.ReferenceIdeal.Gen Cert.ReferenceIdeal.Step Cert.Core

/-! ## Reading the reshaped arrays -/

/-- The chunked, head-first layout of a token-by-channel array: chunk `n`, head `h`, row `a`, channel `l`. -/
theorem chunks_apply (x : S16384x512.Idx → EReal) (hc) (ht) (n : Fin 128) (h : Fin 4) (a l : Fin 128) :
    transpose S128x4x128x128 [0, 2, 1, 3] (shapeCast S128x128x4x128 x hc) ht (ix4 n h a l) = at2 x (128 * n.val + a.val) (128 * h.val + l.val) := by
  have hn := n.isLt; have hh := h.isLt; have ha := a.isLt; have hl := l.isLt
  rw [transpose_apply _ _ ht _ (ix4 n a h l) (fun b => by fin_cases b <;> rfl),
    shapeCast_apply x hc (ix4 n a h l) (ix2 ⟨128 * n.val + a.val, by omega⟩ ⟨128 * h.val + l.val, by omega⟩)
      (by rw [Shape.rowMajor_val_two, Shape.rowMajor_val_four]
          show (128 * n.val + a.val) * 512 + (128 * h.val + l.val) = ((n.val * 128 + a.val) * 4 + h.val) * 128 + l.val
          omega)]
  exact at2_of x _ rfl rfl

/-- The token-first layout of the collected outputs: token `r` of head `h` is row `r % 128` of chunk `r / 128`. -/
theorem tokens_apply (x : S128x4x128x128.Idx → EReal) (ht) (hc) (r : Fin 16384) (h : Fin 4) (l : Fin 128) :
    shapeCast S16384x4x128 (transpose S128x128x4x128 [0, 2, 1, 3] x ht) hc (ix3 r h l)
      = x (ix4 ⟨r.val / 128, by have := r.isLt; omega⟩ h ⟨r.val % 128, Nat.mod_lt _ (by decide)⟩ l) := by
  have hr := r.isLt; have hh := h.isLt; have hl := l.isLt
  rw [shapeCast_apply _ hc (ix3 r h l) (ix4 ⟨r.val / 128, by omega⟩ ⟨r.val % 128, Nat.mod_lt _ (by decide)⟩ h l)
      (by rw [Shape.rowMajor_val_three, Shape.rowMajor_val_four]
          show ((r.val / 128 * 128 + r.val % 128) * 4 + h.val) * 128 + l.val = (r.val * 4 + h.val) * 128 + l.val
          rw [Nat.div_add_mod'])]
  exact transpose_apply _ _ ht _ _ (fun b => by fin_cases b <;> rfl)

/-- A token-by-channel array split into heads. -/
theorem heads_apply (x : S16384x512.Idx → EReal) (hc) (r : Fin 16384) (h : Fin 4) (l : Fin 128) :
    shapeCast S16384x4x128 x hc (ix3 r h l) = at2 x r.val (128 * h.val + l.val) := by
  have hh := h.isLt; have hl := l.isLt
  rw [shapeCast_apply x hc (ix3 r h l) (ix2 r ⟨128 * h.val + l.val, by omega⟩)
      (by rw [Shape.rowMajor_val_two, Shape.rowMajor_val_three]
          show r.val * 512 + (128 * h.val + l.val) = (r.val * 4 + h.val) * 128 + l.val
          omega)]
  exact at2_of x _ rfl rfl

/-- Trip `j`'s block of a chunked array. -/
theorem trip_apply (x : S128x4x128x128.Idx → EReal) (start : Fin 4 → Int) (hf) (hc) (j : Fin 128)
    (hs : ∀ k, start k = ((![j.val, 0, 0, 0] : Fin 4 → ℕ) k : Int)) (h : Fin 4) (a l : Fin 128) :
    shapeCast S4x128x128 (Host.dynamicSlice S1x4x128x128 x start hf) hc (ix3 h a l) = x (ix4 j h a l) := by
  have hj := j.isLt
  rw [dynamicSlice_eq_extract S1x4x128x128 x start hf ![j.val, 0, 0, 0]
      ⟨rfl, fun a => by
        match a with
        | ⟨0, _⟩ => show j.val + 1 ≤ 128; omega
        | ⟨1, _⟩ => show 0 + 4 ≤ 4; omega
        | ⟨2, _⟩ => show 0 + 128 ≤ 128; omega
        | ⟨3, _⟩ => show 0 + 128 ≤ 128; omega⟩ hs,
    shapeCast_1abc_abc_apply]
  refine extractStridedSlice_apply _ x _ _ _ fun a => ?_
  match a with
  | ⟨0, _⟩ => show j.val = j.val + 0; omega
  | ⟨1, _⟩ => show h.val = 0 + h.val; omega
  | ⟨2, _⟩ => exact (Nat.zero_add _).symm
  | ⟨3, _⟩ => show l.val = 0 + l.val; omega

/-- Trip `j`'s decay rows. -/
theorem tripE_apply (x : S128x4x128.Idx → EReal) (start : Fin 3 → Int) (hf) (hc) (j : Fin 128)
    (hs : ∀ k, start k = ((![j.val, 0, 0] : Fin 3 → ℕ) k : Int)) (h : Fin 4) (l : Fin 128) :
    shapeCast S4x128 (Host.dynamicSlice S1x4x128 x start hf) hc (ix2 h l) = x (ix3 j h l) := by
  have hj := j.isLt
  rw [dynamicSlice_eq_extract S1x4x128 x start hf ![j.val, 0, 0]
      ⟨rfl, fun a => by
        match a with
        | ⟨0, _⟩ => show j.val + 1 ≤ 128; omega
        | ⟨1, _⟩ => show 0 + 4 ≤ 4; omega
        | ⟨2, _⟩ => show 0 + 128 ≤ 128; omega⟩ hs,
    shapeCast_1ab_ab_apply]
  refine extractStridedSlice_apply _ x _ _ _ fun a => ?_
  match a with
  | ⟨0, _⟩ => show j.val = j.val + 0; omega
  | ⟨1, _⟩ => show h.val = 0 + h.val; omega
  | ⟨2, _⟩ => show l.val = 0 + l.val; omega

theorem starts4 (j : ℕ) (hj : j < 128) (k : Fin 4) :
    ((((![(constantI S_ 32 (BitVec.ofNat 32 j) : S_.Idx → BitVec 32), constantI S_ 32 0#32, constantI S_ 32 0#32, constantI S_ 32 0#32] : Fin 4 → (S_.Idx → BitVec 32))) k (Shape.Idx.first h_S_)).toInt)
      = ((![j, 0, 0, 0] : Fin 4 → ℕ) k : Int) := by
  match k with
  | ⟨0, _⟩ => exact Idealize.ShloMosaic.toInt_ofNat_of_lt (by omega)
  | ⟨1, _⟩ => rfl
  | ⟨2, _⟩ => rfl
  | ⟨3, _⟩ => rfl

theorem starts3 (j : ℕ) (hj : j < 128) (k : Fin 3) :
    ((((![(constantI S_ 32 (BitVec.ofNat 32 j) : S_.Idx → BitVec 32), constantI S_ 32 0#32, constantI S_ 32 0#32] : Fin 3 → (S_.Idx → BitVec 32))) k (Shape.Idx.first h_S_)).toInt)
      = ((![j, 0, 0] : Fin 3 → ℕ) k : Int) := by
  match k with
  | ⟨0, _⟩ => exact Idealize.ShloMosaic.toInt_ofNat_of_lt (by omega)
  | ⟨1, _⟩ => rfl
  | ⟨2, _⟩ => rfl

/-! ## The states, trip after trip -/

variable (a0 : S16384x512.Idx → EReal) (a1 a2 a3 a4 : S16384x512.Idx → EReal) (a5 : S128x8x128.Idx → EReal)

/-- The sequence of the loop's states. -/
def it : ℕ → State Ideal
  | 0 => init (F := Ideal) a0 a1 a2 a3 a4 a5
  | n + 1 => step n (it n)

/-- A head's state after `n` chunks. -/
abbrev stateOf (h n : ℕ) : Mat := states (at2 a0) (at2 a1) (at2 a4) (at3 a5) h (fun _ _ => 0) n

/-- A chunk's outputs before the norm and the gate. -/
abbrev rawOf (h n : ℕ) : Mat := outm (sub (at2 a0) n h) (sub (at2 a1) n h) (sub (at2 a2) n h) (sub (at2 a3) n h) (stateOf a0 a1 a4 a5 h n)

/-- What the state before trip `n` holds. -/
structure Inv (n : ℕ) (s : State Ideal) : Prop where
  q : ∀ (j : Fin 128) (h : Fin 4) (a l : Fin 128), s.main_v17_0 (ix4 j h a l) = sub (at2 a2) j.val h.val a l
  t : ∀ (j : Fin 128) (h : Fin 4) (a l : Fin 128), s.main_v17_1 (ix4 j h a l) = sub (at2 a3) j.val h.val a l
  w : ∀ (j : Fin 128) (h : Fin 4) (a l : Fin 128), s.main_v17_2 (ix4 j h a l) = sub (at2 a1) j.val h.val a l
  u : ∀ (j : Fin 128) (h : Fin 4) (a l : Fin 128), s.main_v17_3 (ix4 j h a l) = sub (at2 a0) j.val h.val a l
  k : ∀ (j : Fin 128) (h : Fin 4) (a l : Fin 128), s.main_v17_4 (ix4 j h a l) = sub (at2 a4) j.val h.val a l
  e : ∀ (j : Fin 128) (h : Fin 4) (l : Fin 128), s.main_v17_5 (ix3 j h l) = at3 a5 j.val h.val l.val
  st : ∀ (h : Fin 4) (k l : Fin 128), s.main_v17_7 (ix3 h k l) = stateOf a0 a1 a4 a5 h.val n k l
  o : ∀ (j : Fin 128) (h : Fin 4) (a l : Fin 128), j.val < n → s.main_v17_8 (ix4 j h a l) = rawOf a0 a1 a2 a3 a4 a5 h.val j.val a l

theorem inv_init : Inv a0 a1 a2 a3 a4 a5 0 (init (F := Ideal) a0 a1 a2 a3 a4 a5) where
  q j h a l := chunks_apply a2 shapeCasts_S16384x512_S128x128x4x128 transposes_S128x128x4x128_S128x4x128x128_0_2_1_3 j h a l
  t j h a l := chunks_apply a3 shapeCasts_S16384x512_S128x128x4x128 transposes_S128x128x4x128_S128x4x128x128_0_2_1_3 j h a l
  w j h a l := chunks_apply a1 shapeCasts_S16384x512_S128x128x4x128 transposes_S128x128x4x128_S128x4x128x128_0_2_1_3 j h a l
  u j h a l := chunks_apply a0 shapeCasts_S16384x512_S128x128x4x128 transposes_S128x128x4x128_S128x4x128x128_0_2_1_3 j h a l
  k j h a l := chunks_apply a4 shapeCasts_S16384x512_S128x128x4x128 transposes_S128x128x4x128_S128x4x128x128_0_2_1_3 j h a l
  e j h l := by
    have hj := j.isLt; have hh := h.isLt; have hl := l.isLt
    show extractStridedSlice S128x4x128 ![0, 0, 0] a5 slices_S128x8x128_S128x4x128_0_0_0 (ix3 j h l) = _
    exact (extractStridedSlice_apply _ a5 _ _ (ix3 j ⟨h.val, by omega⟩ l) (fun a => by fin_cases a <;> exact (Nat.zero_add _).symm)).trans
      (at3_of a5 _ rfl rfl rfl)
  st h k l := Ideal.ofBits_zero_f32
  o j h a l hj := absurd hj (Nat.not_lt_zero _)

variable {a0 a1 a2 a3 a4 a5}

/-- One trip's corrected values. -/
theorem b30_apply {n : ℕ} {s : State Ideal} (hs : Inv a0 a1 a2 a3 a4 a5 n s) (hn : n < 128) (h : Fin 4) (a l : Fin 128) :
    b30 n s (ix3 h a l) = vnew (sub (at2 a0) n h.val) (sub (at2 a1) n h.val) (stateOf a0 a1 a4 a5 h.val n) a l := by
  show b19 n s (ix3 h a l) - b29 n s (ix3 h a l) = _
  have e1 : b19 n s (ix3 h a l) = sub (at2 a0) n h.val a l :=
    (trip_apply s.main_v17_3 _ _ _ ⟨n, hn⟩ (starts4 n hn) h a l).trans (hs.u ⟨n, hn⟩ h a l)
  have e2 : b29 n s (ix3 h a l) = ∑ k : Fin 128, sub (at2 a1) n h.val a k * stateOf a0 a1 a4 a5 h.val n k l := by
    refine (dotGeneral_stack_apply _ none (b14 n s) s.main_v17_7 h a l).trans (Finset.sum_congr rfl fun k _ => ?_)
    rw [hs.st h k l]
    exact congrArg (· * _) ((trip_apply s.main_v17_2 _ _ _ ⟨n, hn⟩ (starts4 n hn) h a k).trans (hs.w ⟨n, hn⟩ h a k))
  rw [e1, e2]
  rfl

/-- One trip's outputs. -/
theorem b33_apply {n : ℕ} {s : State Ideal} (hs : Inv a0 a1 a2 a3 a4 a5 n s) (hn : n < 128) (h : Fin 4) (a l : Fin 128) :
    b33 n s (ix3 h a l) = rawOf a0 a1 a2 a3 a4 a5 h.val n a l := by
  show b31 n s (ix3 h a l) + b32 n s (ix3 h a l) = _
  have e1 : b31 n s (ix3 h a l) = ∑ k : Fin 128, sub (at2 a2) n h.val a k * stateOf a0 a1 a4 a5 h.val n k l := by
    refine (dotGeneral_stack_apply _ none (b4 n s) s.main_v17_7 h a l).trans (Finset.sum_congr rfl fun k _ => ?_)
    rw [hs.st h k l]
    exact congrArg (· * _) ((trip_apply s.main_v17_0 _ _ _ ⟨n, hn⟩ (starts4 n hn) h a k).trans (hs.q ⟨n, hn⟩ h a k))
  have e2 : b32 n s (ix3 h a l) = ∑ c : Fin 128, sub (at2 a3) n h.val a c * vnew (sub (at2 a0) n h.val) (sub (at2 a1) n h.val) (stateOf a0 a1 a4 a5 h.val n) c l := by
    refine (dotGeneral_stack_apply _ none (b9 n s) (b30 n s) h a l).trans (Finset.sum_congr rfl fun k _ => ?_)
    rw [b30_apply hs hn h k l]
    exact congrArg (· * _) ((trip_apply s.main_v17_1 _ _ _ ⟨n, hn⟩ (starts4 n hn) h a k).trans (hs.t ⟨n, hn⟩ h a k))
  rw [e1, e2]
  rfl

/-- One trip's new states. -/
theorem b38_apply {n : ℕ} {s : State Ideal} (hs : Inv a0 a1 a2 a3 a4 a5 n s) (hn : n < 128) (h : Fin 4) (k l : Fin 128) :
    b38 n s (ix3 h k l) = stateOf a0 a1 a4 a5 h.val (n + 1) k l := by
  show s.main_v17_7 (ix3 h k l) * b35 n s (ix3 h k l) + b37 n s (ix3 h k l) = _
  have e0 : b35 n s (ix3 h k l) = at3 a5 n h.val l.val := by
    refine (broadcastInDim_apply _ _ (b34 n s) _ (ix3 h 0 l) (fun a => by fin_cases a <;> rfl)).trans ?_
    refine (broadcastInDim_apply _ _ (b28 n s) _ (ix2 h l) (fun a => by fin_cases a <;> rfl)).trans ?_
    exact (tripE_apply s.main_v17_5 _ _ _ ⟨n, hn⟩ (starts3 n hn) h l).trans (hs.e ⟨n, hn⟩ h l)
  have e2 : b37 n s (ix3 h k l) = ∑ c : Fin 128, sub (at2 a4) n h.val k c * vnew (sub (at2 a0) n h.val) (sub (at2 a1) n h.val) (stateOf a0 a1 a4 a5 h.val n) c l := by
    refine (dotGeneral_stack_apply _ none (b24 n s) (b30 n s) h k l).trans (Finset.sum_congr rfl fun c _ => ?_)
    rw [b30_apply hs hn h c l]
    exact congrArg (· * _) ((trip_apply s.main_v17_4 _ _ _ ⟨n, hn⟩ (starts4 n hn) h k c).trans (hs.k ⟨n, hn⟩ h k c))
  rw [e0, e2, hs.st h k l]
  rfl

/-- The collected outputs after a trip: the trip's chunk replaced. -/
theorem b43_apply {n : ℕ} {s : State Ideal} (hn : n < 128) (j : Fin 128) (h : Fin 4) (a l : Fin 128) :
    b43 n s (ix4 j h a l) = if j.val = n then b33 n s (ix3 h a l) else s.main_v17_8 (ix4 j h a l) := by
  have hj := j.isLt; have hh := h.isLt; have ha := a.isLt; have hl := l.isLt
  unfold b43
  refine (congrFun (dynamicUpdateSlice_eq_update s.main_v17_8 (b39 n s) _ updateFits_S128x4x128x128_S1x4x128x128 ![n, 0, 0, 0]
      ⟨rfl, fun a => by
        match a with
        | ⟨0, _⟩ => show n + 1 ≤ 128; omega
        | ⟨1, _⟩ => show 0 + 4 ≤ 4; omega
        | ⟨2, _⟩ => show 0 + 128 ≤ 128; omega
        | ⟨3, _⟩ => show 0 + 128 ≤ 128; omega⟩ (starts4 n hn)) _).trans ?_
  unfold updateSlice
  by_cases e : j.val = n
  · rw [if_pos e, dif_pos (fun b => by
      match b with
      | ⟨0, _⟩ => show n ≤ j.val ∧ j.val < n + 1; omega
      | ⟨1, _⟩ => show 0 ≤ h.val ∧ h.val < 0 + 4; omega
      | ⟨2, _⟩ => show 0 ≤ a.val ∧ a.val < 0 + 128; omega
      | ⟨3, _⟩ => show 0 ≤ l.val ∧ l.val < 0 + 128; omega)]
    exact broadcastInDim_apply _ _ (b33 n s) _ (ix3 h a l) (fun b => by fin_cases b <;> rfl)
  · rw [if_neg e, dif_neg (fun hin => e (by
      have h0 : n ≤ j.val ∧ j.val < n + 1 := hin (0 : Fin 4)
      omega))]

theorem inv_step {n : ℕ} {s : State Ideal} (hs : Inv a0 a1 a2 a3 a4 a5 n s) (hn : n < 128) : Inv a0 a1 a2 a3 a4 a5 (n + 1) (step n s) where
  q := hs.q
  t := hs.t
  w := hs.w
  u := hs.u
  k := hs.k
  e := hs.e
  st h k l := b38_apply hs hn h k l
  o j h a l hj := by
    refine (b43_apply (s := s) hn j h a l).trans ?_
    by_cases e : j.val = n
    · rw [if_pos e, b33_apply hs hn, e]
    · rw [if_neg e]; exact hs.o j h a l (by omega)

theorem inv_it : ∀ n ≤ 128, Inv a0 a1 a2 a3 a4 a5 n (it a0 a1 a2 a3 a4 a5 n)
  | 0, _ => inv_init a0 a1 a2 a3 a4 a5
  | n + 1, h => inv_step (inv_it n (by omega)) (by omega)

/-! ## The result -/

/-- The collected outputs, token by token and head by head. -/
def gathered (s : State Ideal) : S16384x4x128.Idx → EReal :=
  shapeCast _ (transpose S128x128x4x128 [0, 2, 1, 3] s.main_v17_8 transposes_S128x4x128x128_S128x128x4x128_0_2_1_3) shapeCasts_S128x128x4x128_S16384x4x128

/-- The root of the mean square over a head's channels, spread over the channels. -/
def norms (x : S16384x4x128.Idx → EReal) : S16384x4x128.Idx → EReal :=
  broadcastInDim S16384x4x128 ![0, 1, 2] bcast_S16384x4x1_S16384x4x128_0_1_2
    (Host.rsqrt (F := Ideal) (φ := .f32) (addf (F := Ideal) (φ := .f32) (Host.divf (F := Ideal) (φ := .f32) (broadcastInDim S16384x4x1 ![0, 1] bcast_S16384x4_S16384x4x1_0_1
      (Host.reduceAdd (F := Ideal) (φ := .f32) (mulf (F := Ideal) (φ := .f32) x x) (constant S_ .f32 0x00000000#32) reducesTo_S16384x4x128_S16384x4_d2 h_S_))
      (broadcastInDim S16384x4x1 ![] bcast_S_S16384x4x1 (constant S_ .f32 0x43000000#32))) (broadcastInDim S16384x4x1 ![] bcast_S_S16384x4x1 (constant S_ .f32 0x358637BD#32))))

/-- The norm's weight, spread over tokens and heads. -/
def weights (a7 : S1x128.Idx → EReal) : S16384x4x128.Idx → EReal :=
  broadcastInDim S16384x4x128 ![0, 1, 2] bcast_S1x1x128_S16384x4x128_0_1_2 (broadcastInDim S1x1x128 ![2] bcast_S128_S1x1x128_2 (shapeCast S128 a7 shapeCasts_S1x128_S128))

theorem norms_apply (x : S16384x4x128.Idx → EReal) (r : Fin 16384) (h : Fin 4) (l : Fin 128) :
    norms x (ix3 r h l) = Ideal.rsqrt (Ideal.div (∑ j : Fin 128, x (ix3 r h j) * x (ix3 r h j)) (Ideal.ofBits .f32 0x43000000#32) + Ideal.ofBits .f32 0x358637BD#32) := by
  unfold norms
  rw [broadcastInDim_apply _ _ _ _ (ix3 r h 0) (fun a => by fin_cases a <;> rfl)]
  have e : broadcastInDim S16384x4x1 ![0, 1] bcast_S16384x4_S16384x4x1_0_1
      (Host.reduceAdd (F := Ideal) (φ := .f32) (mulf (F := Ideal) (φ := .f32) x x) (constant S_ .f32 0x00000000#32) reducesTo_S16384x4x128_S16384x4_d2 h_S_) (ix3 r h 0)
      = ∑ j : Fin 128, x (ix3 r h j) * x (ix3 r h j) := by
    rw [broadcastInDim_apply _ _ _ _ (ix2 r h) (fun a => by fin_cases a <;> rfl), hostReduceAdd_apply,
      Ideal.hostReduceAdd_single _ (by decide)]
    refine (congrArg (· + _) Ideal.ofBits_zero_f32).trans ((zero_add _).trans (Finset.sum_congr rfl fun k _ => ?_))
    have e' : (Shape.Reduces.lift (s := S16384x4x128) (a := 2) (t := S16384x4) (by decide) (ix2 r h) k) = ix3 r h k := by
      funext a; fin_cases a <;> rfl
    exact congrArg (fun i => x i * x i) e'
  exact congrArg (fun y => Ideal.rsqrt (Ideal.div y _ + _)) e

theorem weights_apply (a7 : S1x128.Idx → EReal) (r : Fin 16384) (h : Fin 4) (l : Fin 128) :
    weights a7 (ix3 r h l) = at2 a7 0 l.val := by
  unfold weights
  rw [broadcastInDim_apply _ _ _ _ (ix3 0 0 l) (fun a => by fin_cases a <;> rfl),
    broadcastInDim_apply _ _ _ _ (ix1 l) (fun a => by fin_cases a <;> rfl), shapeCast_1a_a_apply]
  exact at2_of a7 _ rfl rfl

/-- The reference's result at a token and a channel: that channel's head's normalised, gated output. -/
theorem result_apply (s : State Ideal) (hs : Inv a0 a1 a2 a3 a4 a5 128 s) (a6 : S16384x512.Idx → EReal) (a7 : S1x128.Idx → EReal) (i : S16384x512.Idx) :
    R_main_v37 s a6 a7 i = outs (at2 a0) (at2 a1) (at2 a2) (at2 a3) (at2 a4) (at2 a6) (at3 a5) (fun l => at2 a7 0 l.val)
      ((i 1).val / 128) (fun _ _ => 0) ((i 0).val / 128) ⟨(i 0).val % 128, Nat.mod_lt _ (by decide)⟩ ⟨(i 1).val % 128, Nat.mod_lt _ (by decide)⟩ := by
  obtain ⟨r, l, rfl⟩ : ∃ (r : Fin 16384) (l : Fin 512), i = ix2 r l := ⟨i 0, i 1, eq_ix2 i⟩
  have hr := r.isLt; have hl := l.isLt
  have hg : ∀ k : Fin 128, gathered s (ix3 r ⟨l.val / 128, by omega⟩ k)
      = rawOf a0 a1 a2 a3 a4 a5 (l.val / 128) (r.val / 128) ⟨r.val % 128, Nat.mod_lt _ (by decide)⟩ k := fun k =>
    (tokens_apply s.main_v17_8 _ _ r _ k).trans (hs.o _ _ _ _ (by show r.val / 128 < 128; omega))
  have hz : shapeCast S16384x4x128 a6 shapeCasts_S16384x512_S16384x4x128 (ix3 r ⟨l.val / 128, by omega⟩ ⟨l.val % 128, Nat.mod_lt _ (by decide)⟩)
      = sub (at2 a6) (r.val / 128) (l.val / 128) ⟨r.val % 128, Nat.mod_lt _ (by decide)⟩ ⟨l.val % 128, Nat.mod_lt _ (by decide)⟩ := by
    refine (heads_apply a6 _ r _ _).trans ?_
    show at2 a6 r.val (128 * (l.val / 128) + l.val % 128) = at2 a6 (128 * (r.val / 128) + r.val % 128) (128 * (l.val / 128) + l.val % 128)
    rw [Nat.div_add_mod r.val 128]
  unfold R_main_v37
  rw [shapeCast_apply _ _ (ix2 r l) (ix3 r ⟨l.val / 128, by omega⟩ ⟨l.val % 128, Nat.mod_lt _ (by decide)⟩)
      (by rw [Shape.rowMajor_val_two, Shape.rowMajor_val_three]
          show (r.val * 4 + l.val / 128) * 128 + l.val % 128 = r.val * 512 + l.val
          omega)]
  have e1 := norms_apply (gathered s) r ⟨l.val / 128, by omega⟩ ⟨l.val % 128, Nat.mod_lt _ (by decide)⟩
  have e2 := weights_apply a7 r ⟨l.val / 128, by omega⟩ ⟨l.val % 128, Nat.mod_lt _ (by decide)⟩
  simp only [hg] at e1
  have one : Ideal.ofBits .f32 0x3F800000#32 = 1 := Ideal.ofBits_one_f32
  have e3 : ∀ z : EReal, z * Ideal.div (Ideal.ofBits .f32 0x3F800000#32) (Ideal.ofBits .f32 0x3F800000#32 + Ideal.exp (-z)) = z * Ideal.logistic z := fun z => by
    rw [one]; rfl
  refine (congrArg₂ (fun x y => x * y) (congrArg₂ (fun x y => x * y) (congrArg₂ (fun x y => x * y) (hg _) e1) e2) ((e3 _).trans (congrArg (fun z => z * Ideal.logistic z) hz))).trans ?_
  rfl

end Cert.ReferenceIdeal.Val

end
-- ==== Proof.Scan.lean ====
/-
  The recurrence's claims: its reference runs without fault, and kernel and reference leave the same result.
-/
module

public import proofs.«01_k».proof.Proof.ScanRef
public import proofs.«01_k».proof.Proof.Gen.KernelIdeal.Value
public import proofs.«01_k».proof.Defs
public import Idealize.ShloMosaic.Lib.Quiescent

@[expose] public section

set_option maxRecDepth 65536

noncomputable section

open Idealize.ShloMosaic Idealize.ShloMosaic.TcCoe Idealize.SL.Sem

namespace Cert.Scan

open Cert.ReferenceIdeal.Val

/-- The reference terminates without fault, keeps its arguments and leaves every semaphore at zero. -/
theorem frame_reference : Cert.quiescent_ReferenceIdeal := fun m ρ _ =>
  (θ_run _ _ _).mono (fun r h => ⟨fun c => (h c).2, sem_eq_zero_of_no_sems (by decide) r.2⟩) (Cert.ReferenceIdeal.Value.run m ρ)

variable (m : (ℓ : Loc Cert.ReferenceIdeal.nD Cert.ReferenceIdeal.τ Cert.ReferenceIdeal.sig) → Buf (Elt Ideal) ℓ) (c : Dev Cert.ReferenceIdeal.nD)

/-- The reference's loop states, of the memory its run starts from. -/
abbrev seq : ℕ → Cert.ReferenceIdeal.Step.State Ideal :=
  it (m ((c.tc : Thread _ _).loc Cert.ReferenceIdeal.main_arg0)) (m ((c.tc : Thread _ _).loc Cert.ReferenceIdeal.main_arg1))
    (m ((c.tc : Thread _ _).loc Cert.ReferenceIdeal.main_arg2)) (m ((c.tc : Thread _ _).loc Cert.ReferenceIdeal.main_arg3))
    (m ((c.tc : Thread _ _).loc Cert.ReferenceIdeal.main_arg4)) (m ((c.tc : Thread _ _).loc Cert.ReferenceIdeal.main_arg5))

/-- Over the extended reals the kernel and the reference leave the same outputs. -/
theorem algebraic : Cert.algebraic_KernelIdeal_ReferenceIdeal := by
  intro m ρ m' ρ' _ hagree
  refine ⟨fun c => Cert.KernelIdeal.Val.result m c,
    (θ_run _ _ _).mono (fun _ h c => ⟨(h c).1.trans (Cert.KernelIdeal.Val.G8_eq m c), (h c).2⟩) (Cert.KernelIdeal.Value.run (F := Ideal) m ρ), ?_⟩
  refine (θ_run _ _ _).mono (fun _ h c => ⟨(h c).1.trans ?_, (h c).2⟩) (Cert.ReferenceIdeal.Value.run (F := Ideal) m' ρ')
  refine (Cert.ReferenceIdeal.Trip.out_eq m' c (seq m' c) rfl (fun _ => rfl) 128).trans ?_
  funext i
  refine (result_apply _ (inv_it 128 (le_refl 128)) _ _ i).trans ?_
  obtain ⟨h0, h1, h2, h3, h4, h5, h6, h7⟩ := hagree c
  rw [h0, h1, h2, h3, h4, h5, h6, h7]
  rfl

end Cert.Scan

end

end
-- ==== Proof.OutPay.lean ====
/-
  The output projection's arithmetic, row by row on extended reals, and what one grid point of its kernel stores.
-/
module

public import proofs.«01_k».proof.Proof.Scan
public import proofs.«01_k».proof.Proof.Gen.Kernel3Ideal.Value

@[expose] public section

set_option maxRecDepth 65536

noncomputable section

open Idealize.ShloMosaic Idealize.ShloMosaic.ValueIdx Idealize.ShloMosaic.StackMember

namespace Cert.Core

/-- A row of the residual stream after the projection: the old row plus the gate times the two halves' products. -/
def resRow (x a b : ℕ → EReal) (W : ℕ → ℕ → EReal) (g : ℕ → EReal) : ℕ → EReal := fun c =>
  x c + g c * ((∑ k : Fin 512, a k.val * W k.val c) + ∑ k : Fin 512, b k.val * W (512 + k.val) c)

/-- A row normalised by its root mean square over the 1024 channels, weighted, scaled by one plus `s` and shifted by `t`. -/
def modRow (x w s t : ℕ → EReal) : ℕ → EReal := fun c =>
  x c * Ideal.rsqrt (Ideal.div (∑ k : Fin 1024, x k.val * x k.val) (Ideal.ofBits .f32 0x44800000#32) + Ideal.ofBits .f32 0x358637BD#32) * w c
    * (Ideal.ofBits .f32 0x3F800000#32 + s c) + t c

/-- A row times a matrix of 1024 rows. -/
def mulRow (h : ℕ → EReal) (Q : ℕ → ℕ → EReal) : ℕ → EReal := fun c => ∑ j : Fin 1024, h j.val * Q j.val c

/-- A query row against one sub-key table: part `j` of the row (128 channels) against key `l`. -/
def partScore (q : ℕ → EReal) (j : ℕ) (K : ℕ → ℕ → EReal) (l : ℕ) : EReal := ∑ k : Fin 128, q (128 * j + k.val) * K l k.val

/-- A row of scores: column `c` is key `c % 128` of table `c / 256`, of the first tables at even parts and the second at odd. -/
def scoreRow (q : ℕ → EReal) (K1 K2 : ℕ → ℕ → ℕ → EReal) : ℕ → EReal := fun c =>
  partScore q (c / 128) (if c / 128 % 2 = 0 then K1 (c / 256) else K2 (c / 256)) (c % 128)

end Cert.Core

namespace Cert.Kernel3Ideal.Val

open Cert.Kernel3Ideal Cert.Kernel3Ideal.Gen Cert.Core

/-- The product with a transposed right operand, element by element. -/
theorem matmul_nt_apply (A : FVec Ideal S512x128 .bf16) (B : FVec Ideal S128x128 .bf16) (a : Fin 512) (b : Fin 128) :
    matmul dot_S512x128_S128x128_S512x128_1_1_0_0_n_n none A B (constant S512x128 .f32 0x00000000#32) (ix2 a b)
      = ∑ k : Fin 128, A (ix2 a k) * B (ix2 b k) := by
  refine (Ideal.matmul_constant_zero_apply _ none A B (ix2 a b)).trans ?_
  rw [← Equiv.sum_comp (contrEquiv1 dot_S512x128_S128x128_S512x128_1_1_0_0_n_n 128 rfl rfl).symm]
  refine Finset.sum_congr rfl fun k _ => ?_
  have c2 := contrEquiv1_symm_val dot_S512x128_S128x128_S512x128_1_1_0_0_n_n 128 rfl rfl k
  congr 1
  · refine congrArg A (funext fun ax => Fin.ext ?_)
    match ax with
    | ⟨0, _⟩ => rfl
    | ⟨1, _⟩ => exact c2
  · refine congrArg B (funext fun ax => Fin.ext ?_)
    match ax with
    | ⟨0, _⟩ => rfl
    | ⟨1, _⟩ => exact c2

/-- The sums of a 512 × 1024 block's rows. -/
theorem row_sum (x : FVec Ideal S512x1024 .f32) (h : S512x1024.Reduces [1] S512) (hφ) (hacc) (a : Fin 512) :
    multiReduction .add [1] S512 x 0x00000000#32 h hφ hacc (ix1 a) = ∑ j : Fin 1024, x (ix2 a j) := by
  refine (Ideal.multiReduction_add_single x _ h hφ hacc (ix1 a)).trans (Finset.sum_congr rfl fun j _ => congrArg x (funext fun d => ?_))
  match d with
  | ⟨0, _⟩ => rfl
  | ⟨1, _⟩ => rfl

theorem pay4_apply (v0 : Vec Ideal S512x512 .f32) (v2 : Vec Ideal S512x1024 .bf16) (v5 : Vec Ideal S512x512 .f32)
    (v7 : Vec Ideal S512x1024 .bf16) (v11 : Vec Ideal S512x1024 .f32) (v13 : Vec Ideal S1x1024 .f32) (a : Fin 512) (l : Fin 1024) :
    k0_pay4 v0 v2 v5 v7 v11 v13 (ix2 a l) = v11 (ix2 a l) + v13 (ix2 0 l)
      * ((∑ k : Fin 512, v0 (ix2 a k) * v2 (ix2 k l)) + ∑ k : Fin 512, v5 (ix2 a k) * v7 (ix2 k l)) := by
  unfold k0_pay4
  rw [shapeCast_self, shapeCast_self, shapeCast_self]
  show v11 (ix2 a l) + broadcastTo S512x1024 v13 _ (ix2 a l) * (matmul (F := Ideal) (DotDims.plain 512 512 1024) none v0 v2 _ (ix2 a l)
    + matmul (F := Ideal) (DotDims.plain 512 512 1024) none v5 v7 _ (ix2 a l)) = _
  rw [broadcastTo_1b_ab_apply]
  refine congrArg (fun s => v11 (ix2 a l) + v13 (ix2 0 l) * s) (congrArg₂ (· + ·) ?_ ?_)
  · exact matmul_plain_apply (φ₁ := .bf16) (φ₂ := .bf16) none v0 v2 a l
  · exact matmul_plain_apply (φ₁ := .bf16) (φ₂ := .bf16) none v5 v7 a l

theorem pay7_apply (v0 : Vec Ideal S512x512 .f32) (v2 : Vec Ideal S512x1024 .bf16) (v5 : Vec Ideal S512x512 .f32)
    (v7 : Vec Ideal S512x1024 .bf16) (v11 : Vec Ideal S512x1024 .f32) (v13 v18 v31 v36 : Vec Ideal S1x1024 .f32) (a : Fin 512) (l : Fin 1024)
    (p : ℕ → EReal) (hp : ∀ l : Fin 1024, k0_pay4 v0 v2 v5 v7 v11 v13 (ix2 a l) = p l.val) :
    k0_pay7 (k0_pay5 v0 v2 v5 v7 v11 v13 v18) (k0_pay6 v31) v36 (ix2 a l)
      = modRow p (at2 v18 0) (at2 v31 0) (at2 v36 0) l.val := by
  unfold k0_pay7 k0_pay6 k0_pay5
  generalize k0_pay4 v0 v2 v5 v7 v11 v13 = P at hp ⊢
  dsimp only
  show P (ix2 a l) * broadcastTo S512x1024 _ _ (ix2 a l) * broadcastTo S512x1024 v18 _ (ix2 a l) * broadcastTo S512x1024 _ _ (ix2 a l)
    + broadcastTo S512x1024 v36 _ (ix2 a l) = _
  rw [broadcastTo_1b_ab_apply, broadcastTo_1b_ab_apply, broadcastTo_1b_ab_apply,
    broadcastTo_apply _ broadcasts_S512x1_S512x1024 (ix2 a l) (ix2 a 0) (by intro d; match d with | ⟨0, _⟩ => rfl | ⟨1, _⟩ => rfl)]
  show P (ix2 a l) * Ideal.rsqrt (Ideal.div (shapeCast S512x1 _ _ (ix2 a 0)) _ + _) * v18 (ix2 0 l) * (_ + v31 (ix2 0 l)) + v36 (ix2 0 l) = _
  rw [shapeCast_a_a1_apply, hp l, at2_of v18 (ix2 0 l) rfl rfl, at2_of v31 (ix2 0 l) rfl rfl, at2_of v36 (ix2 0 l) rfl rfl]
  have hs : (∑ j : Fin 1024, mulf P P (ix2 a j)) = ∑ k : Fin 1024, p k.val * p k.val :=
    Finset.sum_congr rfl fun j _ => congrArg₂ (· * ·) (hp j) (hp j)
  exact congrArg (fun s => p l.val * Ideal.rsqrt (Ideal.div s (Ideal.ofBits .f32 0x44800000#32) + Ideal.ofBits .f32 0x358637BD#32)
    * at2 v18 0 l.val * (Ideal.ofBits .f32 0x3F800000#32 + at2 v31 0 l.val) + at2 v36 0 l.val) ((row_sum (mulf P P) _ _ _ a).trans hs)

theorem pay8_apply (v30 : FVec Ideal S512x1024 .f32) (v33 : FVec Ideal S1x1024 .f32) (v36 : Vec Ideal S1x1024 .f32)
    (v41 : Vec Ideal S1024x2048 .bf16) (a : Fin 512) (l : Fin 2048) :
    k0_pay8 v30 v33 v36 v41 (ix2 a l) = ∑ j : Fin 1024, k0_pay7 v30 v33 v36 (ix2 a j) * v41 (ix2 j l) := by
  unfold k0_pay8
  rw [shapeCast_self]
  exact matmul_plain_apply (φ₁ := .bf16) (φ₂ := .bf16) none (k0_pay7 v30 v33 v36) v41 a l

/-! ## The blocks a point stores -/

variable (x0 : Vec Ideal S512x1024 .f32) (x1 x2 : Vec Ideal S512x512 .f32) (x3 : Vec Ideal S1024x1024 .bf16)
  (x4 x5 x6 x7 : Vec Ideal S1x1024 .f32) (x8 : Vec Ideal S1024x2048 .bf16) (x9 x10 : Vec Ideal S8x128x128 .bf16)

/-- Row `a` of the point's residual block. -/
def resB (a : ℕ) : ℕ → EReal := resRow (at2 x0 a) (at2 x1 a) (at2 x2 a) (at2 x3) (at2 x4 0)

/-- Row `a` of the point's normalised block. -/
def modB (a : ℕ) : ℕ → EReal := modRow (resB x0 x1 x2 x3 x4 a) (at2 x5 0) (at2 x7 0) (at2 x6 0)

/-- Row `a` of the point's queries. -/
def qB (a : ℕ) : ℕ → EReal := mulRow (modB x0 x1 x2 x3 x4 x5 x6 x7 a) (at2 x8)

theorem pay4_ld (a : Fin 512) (l : Fin 1024) :
    k0_pay4 (View.ld (Val := Elt Ideal) x1 r0_0) (View.ld (Val := Elt Ideal) x3 r0_1) (View.ld (Val := Elt Ideal) x2 r0_0)
      (View.ld (Val := Elt Ideal) x3 r0_2) (View.ld (Val := Elt Ideal) x0 r0_3) (View.ld (Val := Elt Ideal) x4 r0_4) (ix2 a l)
      = resB x0 x1 x2 x3 x4 a.val l.val := by
  rw [pay4_apply]
  unfold resB resRow
  refine congrArg₂ (· + ·) (at2_of x0 _ ?_ ?_) (congrArg₂ (· * ·) (at2_of x4 _ ?_ ?_) (congrArg₂ (· + ·)
    (Finset.sum_congr rfl fun k _ => congrArg₂ (· * ·) (at2_of x1 _ ?_ ?_) (at2_of x3 _ ?_ ?_))
    (Finset.sum_congr rfl fun k _ => congrArg₂ (· * ·) (at2_of x2 _ ?_ ?_) (at2_of x3 _ ?_ ?_))))
  · show 0 + 1 * a.val = _; omega
  · show 0 + 1 * l.val = _; omega
  · rfl
  · show 0 + 1 * l.val = _; omega
  · show 0 + 1 * a.val = _; omega
  · show 0 + 1 * k.val = _; omega
  · show 0 + 1 * k.val = _; omega
  · show 0 + 1 * l.val = _; omega
  · show 0 + 1 * a.val = _; omega
  · show 0 + 1 * k.val = _; omega
  · show 512 + 1 * k.val = _; omega
  · show 0 + 1 * l.val = _; omega

/-- Where a whole-block load or store reads: the block itself. -/
theorem ld_row (x : Vec Ideal S1x1024 .f32) : View.ld (Val := Elt Ideal) x r0_4 = x :=
  View.ld_unit_zero (by funext a; fin_cases a <;> rfl) _ x

theorem pay7_ld (a : Fin 512) (l : Fin 1024) :
    k0_pay7 (k0_pay25 x0 x1 x2 x3 x4 x5 x6 x7 x8 x9 x10) (k0_pay26 x0 x1 x2 x3 x4 x5 x6 x7 x8 x9 x10) (View.ld (Val := Elt Ideal) x6 r0_4) (ix2 a l)
      = modB x0 x1 x2 x3 x4 x5 x6 x7 a.val l.val := by
  unfold k0_pay25 k0_pay26
  rw [pay7_apply _ _ _ _ _ _ _ _ _ a l (resB x0 x1 x2 x3 x4 a.val) (fun l => pay4_ld x0 x1 x2 x3 x4 a l)]
  simp only [ld_row]
  rfl

theorem pay8_ld (a : Fin 512) (l : Fin 2048) :
    k0_pay8 (k0_pay25 x0 x1 x2 x3 x4 x5 x6 x7 x8 x9 x10) (k0_pay26 x0 x1 x2 x3 x4 x5 x6 x7 x8 x9 x10) (View.ld (Val := Elt Ideal) x6 r0_4)
      (View.ld (Val := Elt Ideal) x8 r0_5) (ix2 a l) = qB x0 x1 x2 x3 x4 x5 x6 x7 x8 a.val l.val := by
  rw [pay8_apply]
  unfold qB mulRow
  refine Finset.sum_congr rfl fun j _ => congrArg₂ (· * ·) (pay7_ld x0 x1 x2 x3 x4 x5 x6 x7 x8 x9 x10 a j) (at2_of x8 _ ?_ ?_)
  · show 0 + 1 * j.val = _; omega
  · show 0 + 1 * l.val = _; omega

/-- The residual block a point stores. -/
theorem out11_apply : out0_11 x0 x1 x2 x3 x4 x5 x6 x7 x8 x9 x10 = fun y : S512x1024.Idx => resB x0 x1 x2 x3 x4 (y 0).val (y 1).val := by
  funext y
  unfold out0_11
  refine View.canon_apply_of_pieces (Val := Elt Ideal) (fun y : S512x1024.Idx => resB x0 x1 x2 x3 x4 (y 0).val (y 1).val) _ ?_ y (cover0_11 _ y)
  refine List.forall_mem_cons.2 ⟨fun x => ?_, fun x hx => absurd hx List.not_mem_nil⟩
  obtain ⟨a, l, rfl⟩ : ∃ (a : Fin 512) (l : Fin 1024), x = ix2 a l := ⟨x 0, x 1, eq_ix2 x⟩
  refine (pay4_ld x0 x1 x2 x3 x4 a l).trans ?_
  exact congrArg₂ (resB x0 x1 x2 x3 x4) (by show _ = 0 + 1 * a.val; omega) (by show _ = 0 + 1 * l.val; omega)

/-- The normalised block a point stores. -/
theorem out12_apply : out0_12 x0 x1 x2 x3 x4 x5 x6 x7 x8 x9 x10
    = fun y : S512x1024.Idx => modB x0 x1 x2 x3 x4 x5 x6 x7 (y 0).val (y 1).val := by
  funext y
  unfold out0_12
  refine View.canon_apply_of_pieces (Val := Elt Ideal) (fun y : S512x1024.Idx => modB x0 x1 x2 x3 x4 x5 x6 x7 (y 0).val (y 1).val) _ ?_ y (cover0_12 _ y)
  refine List.forall_mem_cons.2 ⟨fun x => ?_, fun x hx => absurd hx List.not_mem_nil⟩
  obtain ⟨a, l, rfl⟩ : ∃ (a : Fin 512) (l : Fin 1024), x = ix2 a l := ⟨x 0, x 1, eq_ix2 x⟩
  refine (pay7_ld x0 x1 x2 x3 x4 x5 x6 x7 x8 x9 x10 a l).trans ?_
  exact congrArg₂ (modB x0 x1 x2 x3 x4 x5 x6 x7) (by show _ = 0 + 1 * a.val; omega) (by show _ = 0 + 1 * l.val; omega)

/-- A stored tile of scores, part `j` of the queries `q` against table `p` of `K`, agrees with the score rows. -/
theorem score_piece (Q : ℕ → ℕ → EReal) (q : FVec Ideal S512x2048 .bf16) (hq : ∀ (a : Fin 512) (l : Fin 2048), q (ix2 a l) = Q a.val l.val)
    (K1 K2 K : Vec Ideal S8x128x128 .bf16) (j p : ℕ) (hj : j < 16) (hp : p = j / 2) (hK : K = if j % 2 = 0 then K1 else K2)
    (off : Fin 2 → ℕ) (ho : off = ![0, 128 * j]) (hs) (offK : Fin 3 → ℕ) (hoK : offK = ![p, 0, 0]) (inbK) (hc) (inb)
    (x : (Rect.unit (s := S512x2048) off S512x128.size inb).shape.Idx) :
    matmul (φ₂ := .bf16) dot_S512x128_S128x128_S512x128_1_1_0_0_n_n none (extractStridedSlice S512x128 off q hs)
        (shapeCast (α := EReal) S128x128 (View.ld (Val := Elt Ideal) (e' := .bf16) K (Rect.unit (s := S8x128x128) offK S1x128x128.size inbK)) hc)
        (constant S512x128 .f32 0x00000000#32) x
      = (fun y : S512x2048.Idx => scoreRow (Q (y 0).val) (at3 K1) (at3 K2) (y 1).val)
          ((Rect.unit (s := S512x2048) off S512x128.size inb).emb x) := by
  subst ho hoK
  obtain ⟨a, l, rfl⟩ : ∃ (a : Fin 512) (l : Fin 128), x = ix2 a l := ⟨x 0, x 1, eq_ix2 x⟩
  refine (matmul_nt_apply _ _ a l).trans ?_
  have e0 : (((Rect.unit (s := S512x2048) ![0, 128 * j] S512x128.size inb).emb (ix2 a l)) 0).val = a.val := by
    show 0 + 1 * a.val = _; omega
  have e1 : (((Rect.unit (s := S512x2048) ![0, 128 * j] S512x128.size inb).emb (ix2 a l)) 1).val = 128 * j + l.val := by
    show 128 * j + 1 * l.val = _; omega
  show _ = scoreRow (Q (((Rect.unit (s := S512x2048) ![0, 128 * j] S512x128.size inb).emb (ix2 a l)) 0).val) _ _
    (((Rect.unit (s := S512x2048) ![0, 128 * j] S512x128.size inb).emb (ix2 a l)) 1).val
  rw [e0, e1]
  have d1 : (128 * j + l.val) / 128 = j := by omega
  have d2 : (128 * j + l.val) / 256 = p := by omega
  have d3 : (128 * j + l.val) % 128 = l.val := by omega
  unfold scoreRow partScore
  rw [d1, d2, d3]
  refine Finset.sum_congr rfl fun k _ => congrArg₂ (· * ·) ?_ ?_
  · refine (extractStridedSlice_apply _ q hs (ix2 a k) (ix2 a ⟨128 * j + k.val, by omega⟩) ?_).trans (hq _ _)
    intro d
    match d with
    | ⟨0, _⟩ => show a.val = 0 + a.val; omega
    | ⟨1, _⟩ => rfl
  · rw [shapeCast_1ab_ab_apply]
    refine (at3_of K _ (p := p) (r := l.val) (c := k.val) ?_ ?_ ?_).trans ?_
    · show p + 1 * 0 = _; omega
    · show 0 + 1 * l.val = _; omega
    · show 0 + 1 * k.val = _; omega
    · subst hK; split <;> rfl

/-- The score block a point stores. -/
theorem out13_apply : out0_13 x0 x1 x2 x3 x4 x5 x6 x7 x8 x9 x10
    = fun y : S512x2048.Idx => scoreRow (qB x0 x1 x2 x3 x4 x5 x6 x7 x8 (y 0).val) (at3 x9) (at3 x10) (y 1).val := by
  funext y
  unfold out0_13
  refine View.canon_apply_of_pieces (Val := Elt Ideal)
    (fun y : S512x2048.Idx => scoreRow (qB x0 x1 x2 x3 x4 x5 x6 x7 x8 (y 0).val) (at3 x9) (at3 x10) (y 1).val) _ ?_ y (cover0_13 _ _ _ _ _ _ _ _ _ _ _ _ _ _ _ _ y)
  have hq := pay8_ld x0 x1 x2 x3 x4 x5 x6 x7 x8 x9 x10
  have H := fun K j p => score_piece (qB x0 x1 x2 x3 x4 x5 x6 x7 x8) _ hq x9 x10 K j p
  refine List.forall_mem_cons.2 ⟨fun x => H x10 15 7 (by decide) rfl rfl ![0, 1920] rfl slices_S512x2048_o0_1920_S512x128 ![7, 0, 0] rfl
    inb_S8x128x128_S1x128x128_7_0_0 shapeCasts_S1x128x128_S128x128 inb_S512x2048_S512x128_0_1920 x, ?_⟩
  refine List.forall_mem_cons.2 ⟨fun x => H x9 14 7 (by decide) rfl rfl ![0, 1792] rfl slices_S512x2048_o0_1792_S512x128 ![7, 0, 0] rfl
    inb_S8x128x128_S1x128x128_7_0_0 shapeCasts_S1x128x128_S128x128 inb_S512x2048_S512x128_0_1792 x, ?_⟩
  refine List.forall_mem_cons.2 ⟨fun x => H x10 13 6 (by decide) rfl rfl ![0, 1664] rfl slices_S512x2048_o0_1664_S512x128 ![6, 0, 0] rfl
    inb_S8x128x128_S1x128x128_6_0_0 shapeCasts_S1x128x128_S128x128 inb_S512x2048_S512x128_0_1664 x, ?_⟩
  refine List.forall_mem_cons.2 ⟨fun x => H x9 12 6 (by decide) rfl rfl ![0, 1536] rfl slices_S512x2048_o0_1536_S512x128 ![6, 0, 0] rfl
    inb_S8x128x128_S1x128x128_6_0_0 shapeCasts_S1x128x128_S128x128 inb_S512x2048_S512x128_0_1536 x, ?_⟩
  refine List.forall_mem_cons.2 ⟨fun x => H x10 11 5 (by decide) rfl rfl ![0, 1408] rfl slices_S512x2048_o0_1408_S512x128 ![5, 0, 0] rfl
    inb_S8x128x128_S1x128x128_5_0_0 shapeCasts_S1x128x128_S128x128 inb_S512x2048_S512x128_0_1408 x, ?_⟩
  refine List.forall_mem_cons.2 ⟨fun x => H x9 10 5 (by decide) rfl rfl ![0, 1280] rfl slices_S512x2048_o0_1280_S512x128 ![5, 0, 0] rfl
    inb_S8x128x128_S1x128x128_5_0_0 shapeCasts_S1x128x128_S128x128 inb_S512x2048_S512x128_0_1280 x, ?_⟩
  refine List.forall_mem_cons.2 ⟨fun x => H x10 9 4 (by decide) rfl rfl ![0, 1152] rfl slices_S512x2048_o0_1152_S512x128 ![4, 0, 0] rfl
    inb_S8x128x128_S1x128x128_4_0_0 shapeCasts_S1x128x128_S128x128 inb_S512x2048_S512x128_0_1152 x, ?_⟩
  refine List.forall_mem_cons.2 ⟨fun x => H x9 8 4 (by decide) rfl rfl ![0, 1024] rfl slices_S512x2048_o0_1024_S512x128 ![4, 0, 0] rfl
    inb_S8x128x128_S1x128x128_4_0_0 shapeCasts_S1x128x128_S128x128 inb_S512x2048_S512x128_0_1024 x, ?_⟩
  refine List.forall_mem_cons.2 ⟨fun x => H x10 7 3 (by decide) rfl rfl ![0, 896] rfl slices_S512x2048_o0_896_S512x128 ![3, 0, 0] rfl
    inb_S8x128x128_S1x128x128_3_0_0 shapeCasts_S1x128x128_S128x128 inb_S512x2048_S512x128_0_896 x, ?_⟩
  refine List.forall_mem_cons.2 ⟨fun x => H x9 6 3 (by decide) rfl rfl ![0, 768] rfl slices_S512x2048_o0_768_S512x128 ![3, 0, 0] rfl
    inb_S8x128x128_S1x128x128_3_0_0 shapeCasts_S1x128x128_S128x128 inb_S512x2048_S512x128_0_768 x, ?_⟩
  refine List.forall_mem_cons.2 ⟨fun x => H x10 5 2 (by decide) rfl rfl ![0, 640] rfl slices_S512x2048_o0_640_S512x128 ![2, 0, 0] rfl
    inb_S8x128x128_S1x128x128_2_0_0 shapeCasts_S1x128x128_S128x128 inb_S512x2048_S512x128_0_640 x, ?_⟩
  refine List.forall_mem_cons.2 ⟨fun x => H x9 4 2 (by decide) rfl rfl ![0, 512] rfl slices_S512x2048_o0_512_S512x128 ![2, 0, 0] rfl
    inb_S8x128x128_S1x128x128_2_0_0 shapeCasts_S1x128x128_S128x128 inb_S512x2048_S512x128_0_512 x, ?_⟩
  refine List.forall_mem_cons.2 ⟨fun x => H x10 3 1 (by decide) rfl rfl ![0, 384] rfl slices_S512x2048_o0_384_S512x128 ![1, 0, 0] rfl
    inb_S8x128x128_S1x128x128_1_0_0 shapeCasts_S1x128x128_S128x128 inb_S512x2048_S512x128_0_384 x, ?_⟩
  refine List.forall_mem_cons.2 ⟨fun x => H x9 2 1 (by decide) rfl rfl ![0, 256] rfl slices_S512x2048_o0_256_S512x128 ![1, 0, 0] rfl
    inb_S8x128x128_S1x128x128_1_0_0 shapeCasts_S1x128x128_S128x128 inb_S512x2048_S512x128_0_256 x, ?_⟩
  refine List.forall_mem_cons.2 ⟨fun x => H x10 1 0 (by decide) rfl rfl ![0, 128] rfl slices_S512x2048_o0_128_S512x128 ![0, 0, 0] rfl
    inb_S8x128x128_S1x128x128_0_0_0 shapeCasts_S1x128x128_S128x128 inb_S512x2048_S512x128_0_128 x, ?_⟩
  refine List.forall_mem_cons.2 ⟨fun x => H x9 0 0 (by decide) rfl rfl ![0, 0] rfl slices_S512x2048_o0_0_S512x128 ![0, 0, 0] rfl
    inb_S8x128x128_S1x128x128_0_0_0 shapeCasts_S1x128x128_S128x128 inb_S512x2048_S512x128_0_0 x, ?_⟩
  exact fun x hx => absurd hx List.not_mem_nil

end Cert.Kernel3Ideal.Val

end
-- ==== Proof.OutKernel.lean ====
/-
  The three arrays the output projection's kernel leaves, row by row, of its arguments.
-/
module

public import proofs.«01_k».proof.Proof.OutPay
public import Idealize.ShloMosaic.Lib.Pipeline.ValueKit

@[expose] public section

set_option maxRecDepth 65536

noncomputable section

open Idealize.ShloMosaic hiding ix1 ix2 ix3 ix4 eq_ix1 eq_ix2 eq_ix3 eq_ix4
open Idealize.ShloMosaic.TcCoe Idealize.ShloMosaic.ValueIdx Idealize.ShloMosaic.Tactic

namespace Cert.Core

/-- A rank-4 array read at natural-number coordinates. -/
def at4 {n0 n1 n2 n3 : ℕ} [NeZero n0] [NeZero n1] [NeZero n2] [NeZero n3] {α : Type} (x : (⟨4, ![n0, n1, n2, n3]⟩ : Shape).Idx → α)
    (b p r c : ℕ) : α :=
  x (ix4 (Fin.ofNat n0 b) (Fin.ofNat n1 p) (Fin.ofNat n2 r) (Fin.ofNat n3 c))

/-- Inside a rank-4 array, the element at an index is the reading at its coordinates. -/
theorem at4_of {n0 n1 n2 n3 : ℕ} [NeZero n0] [NeZero n1] [NeZero n2] [NeZero n3] {α : Type} (x : (⟨4, ![n0, n1, n2, n3]⟩ : Shape).Idx → α)
    (i : (⟨4, ![n0, n1, n2, n3]⟩ : Shape).Idx) {b p r c : ℕ} (hb : (i 0).val = b) (hp : (i 1).val = p) (hr : (i 2).val = r)
    (hc : (i 3).val = c) : x i = at4 x b p r c := by
  unfold at4
  congr 1
  funext a
  apply Fin.ext
  match a with
  | ⟨0, _⟩ => show (i 0).val = b % n0; rw [hb]; exact (Nat.mod_eq_of_lt (hb ▸ (i 0).isLt)).symm
  | ⟨1, _⟩ => show (i 1).val = p % n1; rw [hp]; exact (Nat.mod_eq_of_lt (hp ▸ (i 1).isLt)).symm
  | ⟨2, _⟩ => show (i 2).val = r % n2; rw [hr]; exact (Nat.mod_eq_of_lt (hr ▸ (i 2).isLt)).symm
  | ⟨3, _⟩ => show (i 3).val = c % n3; rw [hc]; exact (Nat.mod_eq_of_lt (hc ▸ (i 3).isLt)).symm

/-- A matrix whose rows are rows of another, read along a row. -/
theorem row_at2 {n0 n1 N0 : ℕ} [NeZero n0] [NeZero n1] [NeZero N0] {α : Type} (x : (⟨2, ![n0, n1]⟩ : Shape).Idx → α)
    (y : (⟨2, ![N0, n1]⟩ : Shape).Idx → α) (o a : ℕ) (ha : a < n0) (h : ∀ (u : Fin n0) (l : Fin n1), x (ix2 u l) = at2 y (o + u.val) l.val) :
    at2 x a = at2 y (o + a) := by
  funext c
  refine (h _ _).trans ?_
  have e1 : (Fin.ofNat n0 a).val = a := Nat.mod_eq_of_lt ha
  have e2 : Fin.ofNat n1 (Fin.ofNat n1 c).val = Fin.ofNat n1 c := Fin.ext (Nat.mod_mod c n1)
  unfold at2
  rw [e1, e2]

/-- The same for the rows of a rank-3 array's first matrix. -/
theorem row_at3 {n0 n1 N N0 : ℕ} [NeZero n0] [NeZero n1] [NeZero N] [NeZero N0] {α : Type} (x : (⟨2, ![n0, n1]⟩ : Shape).Idx → α)
    (y : (⟨3, ![N, N0, n1]⟩ : Shape).Idx → α) (o a : ℕ) (ha : a < n0) (h : ∀ (u : Fin n0) (l : Fin n1), x (ix2 u l) = at3 y 0 (o + u.val) l.val) :
    at2 x a = at3 y 0 (o + a) := by
  funext c
  refine (h _ _).trans ?_
  have e1 : (Fin.ofNat n0 a).val = a := Nat.mod_eq_of_lt ha
  have e2 : Fin.ofNat n1 (Fin.ofNat n1 c).val = Fin.ofNat n1 c := Fin.ext (Nat.mod_mod c n1)
  unfold at3
  rw [e1, e2]

/-- A matrix that is a rank-3 array's first, read whole. -/
theorem whole_at3 {n0 n1 N : ℕ} [NeZero n0] [NeZero n1] [NeZero N] {α : Type} (x : (⟨2, ![n0, n1]⟩ : Shape).Idx → α)
    (y : (⟨3, ![N, n0, n1]⟩ : Shape).Idx → α) (h : ∀ (u : Fin n0) (l : Fin n1), x (ix2 u l) = at3 y 0 u.val l.val) : at2 x = at3 y 0 := by
  funext r c
  refine (h _ _).trans ?_
  unfold at3
  exact congrArg₂ (fun a b => y (ix3 (Fin.ofNat N 0) a b)) (Fin.ext (Nat.mod_mod r n0)) (Fin.ext (Nat.mod_mod c n1))

/-- A rank-3 array's only matrix, reshaped to a matrix, read at an index. -/
theorem cast_at3 {n0 n1 : ℕ} [NeZero n0] [NeZero n1] {α : Type} (x : (⟨3, ![1, n0, n1]⟩ : Shape).Idx → α) (h) (i : (⟨2, ![n0, n1]⟩ : Shape).Idx)
    {r c : ℕ} (hr : (i 0).val = r) (hc : (i 1).val = c) : shapeCast ⟨2, ![n0, n1]⟩ x h i = at3 x 0 r c := by
  obtain ⟨u, l, rfl⟩ : ∃ (u : Fin n0) (l : Fin n1), i = ix2 u l := ⟨i 0, i 1, eq_ix2 i⟩
  rw [shapeCast_1ab_ab_apply]
  exact at3_of x _ rfl hr hc

/-- A rank-3 array that is a rank-4 array's first, read whole. -/
theorem whole_at4 {n0 n1 n2 : ℕ} [NeZero n0] [NeZero n1] [NeZero n2] {α : Type} (x : (⟨3, ![n0, n1, n2]⟩ : Shape).Idx → α)
    (y : (⟨4, ![1, n0, n1, n2]⟩ : Shape).Idx → α) (h : ∀ (p : Fin n0) (u : Fin n1) (l : Fin n2), x (ix3 p u l) = y (ix4 0 p u l)) :
    at3 x = at4 y 0 := by
  funext p r c
  exact h _ _ _

/-! ## The projection's results, row by row -/

section
variable (a0 : (⟨3, ![1, 16384, 1024]⟩ : Shape).Idx → EReal) (a1 a2 : (⟨2, ![16384, 512]⟩ : Shape).Idx → EReal)
  (a3 : (⟨3, ![1, 1024, 1024]⟩ : Shape).Idx → EReal) (a4 a5 a6 a7 : (⟨2, ![1, 1024]⟩ : Shape).Idx → EReal)
  (a8 : (⟨3, ![1, 1024, 2048]⟩ : Shape).Idx → EReal) (a9 a10 : (⟨4, ![1, 8, 128, 128]⟩ : Shape).Idx → EReal)

/-- Row `r` of the residual stream the projection leaves. -/
def outRes (r : ℕ) : ℕ → EReal := resRow (at3 a0 0 r) (at2 a1 r) (at2 a2 r) (at3 a3 0) (at2 a4 0)

/-- Row `r` of the normalised stream. -/
def outMod (r : ℕ) : ℕ → EReal := modRow (outRes a0 a1 a2 a3 a4 r) (at2 a5 0) (at2 a7 0) (at2 a6 0)

/-- Row `r` of the queries. -/
def outQ (r : ℕ) : ℕ → EReal := mulRow (outMod a0 a1 a2 a3 a4 a5 a6 a7 r) (at3 a8 0)

/-- Row `r` of the scores. -/
def outScore (r : ℕ) : ℕ → EReal := scoreRow (outQ a0 a1 a2 a3 a4 a5 a6 a7 a8 r) (at4 a9 0) (at4 a10 0)
end

end Cert.Core

namespace Cert.Kernel3Ideal.Val

open Cert.Kernel3Ideal Cert.Kernel3Ideal.Gen Cert.Kernel3Ideal.Value Cert.Core

variable (m : (ℓ : Loc nD τ sig) → Buf (Elt Ideal) ℓ) (c : Dev nD)

/-! ## What the host operations leave before the kernel -/

theorem V_main_v0 : V m c main_v0 = shapeCast S16384x1024 (m ((c : Thread nD τ).loc main_arg0)) shapeCasts_S1x16384x1024_S16384x1024 := by
  show StableHlo.after hostOps0 _ (Proc.devRef .tc main_v0) = _
  after_results
  rfl

theorem V_main_v2 : V m c main_v2 = shapeCast S1024x1024 (m ((c : Thread nD τ).loc main_arg3)) shapeCasts_S1x1024x1024_S1024x1024 := by
  show StableHlo.after hostOps0 _ (Proc.devRef .tc main_v2) = _
  after_results
  rfl

theorem V_main_v4 : V m c main_v4 = shapeCast S1024x2048 (m ((c : Thread nD τ).loc main_arg8)) shapeCasts_S1x1024x2048_S1024x2048 := by
  show StableHlo.after hostOps0 _ (Proc.devRef .tc main_v4) = _
  after_results
  rfl

theorem V_main_v6 : V m c main_v6 = shapeCast S8x128x128 (m ((c : Thread nD τ).loc main_arg9)) shapeCasts_S1x8x128x128_S8x128x128 := by
  show StableHlo.after hostOps0 _ (Proc.devRef .tc main_v6) = _
  after_results
  rfl

theorem V_main_v8 : V m c main_v8 = shapeCast S8x128x128 (m ((c : Thread nD τ).loc main_arg10)) shapeCasts_S1x8x128x128_S8x128x128 := by
  show StableHlo.after hostOps0 _ (Proc.devRef .tc main_v8) = _
  after_results
  rfl

/-! ## The windows' blocks as parts of the arguments -/

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = 0 := by decide +kernel
theorem idx7 : ∀ t : Fin cfg0.N, win0_7.index t 0 = 0 ∧ win0_7.index t 1 = 0 := by decide +kernel
theorem idx8 : ∀ t : Fin cfg0.N, win0_8.index t 0 = 0 ∧ win0_8.index t 1 = 0 := by decide +kernel
theorem idx9 : ∀ t : Fin cfg0.N, win0_9.index t 0 = 0 ∧ win0_9.index t 1 = 0 ∧ win0_9.index t 2 = 0 := by decide +kernel
theorem idx10 : ∀ t : Fin cfg0.N, win0_10.index t 0 = 0 ∧ win0_10.index t 1 = 0 ∧ win0_10.index t 2 = 0 := by decide +kernel
theorem idx11 : ∀ t : Fin cfg0.N, win0_11.index t 0 = t.val ∧ win0_11.index t 1 = 0 := by decide +kernel
theorem idx12 : ∀ t : Fin cfg0.N, win0_12.index t 0 = t.val ∧ win0_12.index t 1 = 0 := by decide +kernel
theorem idx13 : ∀ t : Fin cfg0.N, win0_13.index t 0 = t.val ∧ win0_13.index t 1 = 0 := by decide +kernel

variable (t : Fin cfg0.N)

/-- Rows of the stream's block. -/
theorem blk0 (a : ℕ) (ha : a < 512) : at2 (iblk m c 0 t : S512x1024.Idx → EReal) a
    = at3 (m ((c : Thread nD τ).loc main_arg0) : S1x16384x1024.Idx → EReal) 0 (512 * t.val + a) := by
  refine row_at3 _ _ _ a ha fun u l => ?_
  unfold iblk
  rw [View.read_apply]
  show V m c main_v0 (((cfg0.win 0).blk t).view.emb (ix2 u l)) = _
  rw [V_main_v0]
  refine cast_at3 _ _ _ ?_ ?_
  · show win0_0.index t 0 * 512 + 1 * u.val = _; rw [(idx0 t).1]; omega
  · show win0_0.index t 1 * 1024 + 1 * l.val = _; rw [(idx0 t).2]; omega

theorem blk1 (a : ℕ) (ha : a < 512) : at2 (iblk m c 1 t : S512x512.Idx → EReal) a
    = at2 (m ((c : Thread nD τ).loc main_arg1) : S16384x512.Idx → EReal) (512 * t.val + a) := by
  refine row_at2 _ _ _ a ha fun u l => ?_
  unfold iblk
  rw [View.read_apply]
  show V m c main_arg1 _ = _
  rw [V_main_arg1]
  refine at2_of _ _ ?_ ?_
  · show win0_1.index t 0 * 512 + 1 * u.val = _; rw [(idx1 t).1]; omega
  · show win0_1.index t 1 * 512 + 1 * l.val = _; rw [(idx1 t).2]; omega

theorem blk2 (a : ℕ) (ha : a < 512) : at2 (iblk m c 2 t : S512x512.Idx → EReal) a
    = at2 (m ((c : Thread nD τ).loc main_arg2) : S16384x512.Idx → EReal) (512 * t.val + a) := by
  refine row_at2 _ _ _ a ha fun u l => ?_
  unfold iblk
  rw [View.read_apply]
  show V m c main_arg2 _ = _
  rw [V_main_arg2]
  refine at2_of _ _ ?_ ?_
  · show win0_2.index t 0 * 512 + 1 * u.val = _; rw [(idx2 t).1]; omega
  · show win0_2.index t 1 * 512 + 1 * l.val = _; rw [(idx2 t).2]; omega

theorem blk3 : at2 (iblk m c 3 t : S1024x1024.Idx → EReal) = at3 (m ((c : Thread nD τ).loc main_arg3) : S1x1024x1024.Idx → EReal) 0 := by
  refine whole_at3 _ _ fun u l => ?_
  unfold iblk
  rw [View.read_apply]
  show V m c main_v2 (((cfg0.win 3).blk t).view.emb (ix2 u l)) = _
  rw [V_main_v2]
  refine cast_at3 _ _ _ ?_ ?_
  · show win0_3.index t 0 * 1024 + 1 * u.val = _; rw [(idx3 t).1]; omega
  · show win0_3.index t 1 * 1024 + 1 * l.val = _; rw [(idx3 t).2]; omega

theorem blk8 : at2 (iblk m c 8 t : S1024x2048.Idx → EReal) = at3 (m ((c : Thread nD τ).loc main_arg8) : S1x1024x2048.Idx → EReal) 0 := by
  refine whole_at3 _ _ fun u l => ?_
  unfold iblk
  rw [View.read_apply]
  show V m c main_v4 (((cfg0.win 8).blk t).view.emb (ix2 u l)) = _
  rw [V_main_v4]
  refine cast_at3 _ _ _ ?_ ?_
  · show win0_8.index t 0 * 1024 + 1 * u.val = _; rw [(idx8 t).1]; omega
  · show win0_8.index t 1 * 2048 + 1 * l.val = _; rw [(idx8 t).2]; omega

theorem blk9 : at3 (iblk m c 9 t : S8x128x128.Idx → EReal) = at4 (m ((c : Thread nD τ).loc main_arg9) : S1x8x128x128.Idx → EReal) 0 := by
  refine whole_at4 _ _ fun p u l => ?_
  unfold iblk
  rw [View.read_apply]
  show V m c main_v6 (((cfg0.win 9).blk t).view.emb (ix3 p u l)) = _
  have e : ((cfg0.win 9).blk t).view.emb (ix3 p u l) = ix3 p u l := by
    funext d
    match d with
    | ⟨0, _⟩ => exact Fin.ext (by show win0_9.index t 0 * 8 + 1 * p.val = p.val; rw [(idx9 t).1]; omega)
    | ⟨1, _⟩ => exact Fin.ext (by show win0_9.index t 1 * 128 + 1 * u.val = u.val; rw [(idx9 t).2.1]; omega)
    | ⟨2, _⟩ => exact Fin.ext (by show win0_9.index t 2 * 128 + 1 * l.val = l.val; rw [(idx9 t).2.2]; omega)
  rw [V_main_v6, e, shapeCast_1abc_abc_apply]

theorem blk10 : at3 (iblk m c 10 t : S8x128x128.Idx → EReal) = at4 (m ((c : Thread nD τ).loc main_arg10) : S1x8x128x128.Idx → EReal) 0 := by
  refine whole_at4 _ _ fun p u l => ?_
  unfold iblk
  rw [View.read_apply]
  show V m c main_v8 (((cfg0.win 10).blk t).view.emb (ix3 p u l)) = _
  have e : ((cfg0.win 10).blk t).view.emb (ix3 p u l) = ix3 p u l := by
    funext d
    match d with
    | ⟨0, _⟩ => exact Fin.ext (by show win0_10.index t 0 * 8 + 1 * p.val = p.val; rw [(idx10 t).1]; omega)
    | ⟨1, _⟩ => exact Fin.ext (by show win0_10.index t 1 * 128 + 1 * u.val = u.val; rw [(idx10 t).2.1]; omega)
    | ⟨2, _⟩ => exact Fin.ext (by show win0_10.index t 2 * 128 + 1 * l.val = l.val; rw [(idx10 t).2.2]; omega)
  rw [V_main_v8, e, shapeCast_1abc_abc_apply]

theorem blk4 : at2 (iblk m c 4 t : S1x1024.Idx → EReal) 0 = at2 (m ((c : Thread nD τ).loc main_arg4) : S1x1024.Idx → EReal) 0 := by
  refine row_at2 _ _ 0 0 Nat.one_pos fun u l => ?_
  unfold iblk
  rw [View.read_apply]
  show V m c main_arg4 _ = _
  rw [V_main_arg4]
  refine at2_of _ _ ?_ ?_
  · show win0_4.index t 0 * 1 + 1 * u.val = _; rw [(idx4 t).1]; omega
  · show win0_4.index t 1 * 1024 + 1 * l.val = _; rw [(idx4 t).2]; omega

theorem blk5 : at2 (iblk m c 5 t : S1x1024.Idx → EReal) 0 = at2 (m ((c : Thread nD τ).loc main_arg5) : S1x1024.Idx → EReal) 0 := by
  refine row_at2 _ _ 0 0 Nat.one_pos fun u l => ?_
  unfold iblk
  rw [View.read_apply]
  show V m c main_arg5 _ = _
  rw [V_main_arg5]
  refine at2_of _ _ ?_ ?_
  · show win0_5.index t 0 * 1 + 1 * u.val = _; rw [(idx5 t).1]; omega
  · show win0_5.index t 1 * 1024 + 1 * l.val = _; rw [(idx5 t).2]; omega

theorem blk6 : at2 (iblk m c 6 t : S1x1024.Idx → EReal) 0 = at2 (m ((c : Thread nD τ).loc main_arg6) : S1x1024.Idx → EReal) 0 := by
  refine row_at2 _ _ 0 0 Nat.one_pos fun u l => ?_
  unfold iblk
  rw [View.read_apply]
  show V m c main_arg6 _ = _
  rw [V_main_arg6]
  refine at2_of _ _ ?_ ?_
  · show win0_6.index t 0 * 1 + 1 * u.val = _; rw [(idx6 t).1]; omega
  · show win0_6.index t 1 * 1024 + 1 * l.val = _; rw [(idx6 t).2]; omega

theorem blk7 : at2 (iblk m c 7 t : S1x1024.Idx → EReal) 0 = at2 (m ((c : Thread nD τ).loc main_arg7) : S1x1024.Idx → EReal) 0 := by
  refine row_at2 _ _ 0 0 Nat.one_pos fun u l => ?_
  unfold iblk
  rw [View.read_apply]
  show V m c main_arg7 _ = _
  rw [V_main_arg7]
  refine at2_of _ _ ?_ ?_
  · show win0_7.index t 0 * 1 + 1 * u.val = _; rw [(idx7 t).1]; omega
  · show win0_7.index t 1 * 1024 + 1 * l.val = _; rw [(idx7 t).2]; omega

/-! ## The arrays the kernel leaves -/

/-- Row `r` of the residual stream, of the memory's arguments. -/
def resOf (r : ℕ) : ℕ → EReal := outRes (m ((c : Thread nD τ).loc main_arg0)) (m ((c : Thread nD τ).loc main_arg1)) (m ((c : Thread nD τ).loc main_arg2))
  (m ((c : Thread nD τ).loc main_arg3)) (m ((c : Thread nD τ).loc main_arg4)) r

/-- Row `r` of the normalised stream. -/
def modOf (r : ℕ) : ℕ → EReal := outMod (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) r

/-- Row `r` of the scores. -/
def scoreOf (r : ℕ) : ℕ → EReal := outScore (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9)) (m ((c : Thread nD τ).loc main_arg10)) r

theorem resB_eq (a : ℕ) (ha : a < 512) :
    resB (iblk m c 0 t) (iblk m c 1 t) (iblk m c 2 t) (iblk m c 3 t) (iblk m c 4 t) a = resOf m c (512 * t.val + a) := by
  unfold resB
  rw [blk0 m c t a ha, blk1 m c t a ha, blk2 m c t a ha, blk3 m c t, blk4 m c t]
  rfl

theorem modB_eq (a : ℕ) (ha : a < 512) :
    modB (iblk m c 0 t) (iblk m c 1 t) (iblk m c 2 t) (iblk m c 3 t) (iblk m c 4 t) (iblk m c 5 t) (iblk m c 6 t) (iblk m c 7 t) a
      = modOf m c (512 * t.val + a) := by
  unfold modB
  rw [resB_eq m c t a ha, blk5 m c t, blk6 m c t, blk7 m c t]
  rfl

theorem scoreB_eq (a : ℕ) (ha : a < 512) :
    scoreRow (qB (iblk m c 0 t) (iblk m c 1 t) (iblk m c 2 t) (iblk m c 3 t) (iblk m c 4 t) (iblk m c 5 t) (iblk m c 6 t) (iblk m c 7 t) (iblk m c 8 t) a)
      (at3 (iblk m c 9 t : S8x128x128.Idx → EReal)) (at3 (iblk m c 10 t : S8x128x128.Idx → EReal)) = scoreOf m c (512 * t.val + a) := by
  unfold qB
  rw [modB_eq m c t a ha, blk8 m c t, blk9 m c t, blk10 m c t]
  rfl

/-- The residual stream the kernel leaves. -/
def result11 : S16384x1024.Idx → EReal := fun i => resOf m c (i 0).val (i 1).val

/-- The normalised stream the kernel leaves. -/
def result12 : S16384x1024.Idx → EReal := fun i => modOf m c (i 0).val (i 1).val

/-- The scores the kernel leaves. -/
def result13 : S16384x2048.Idx → EReal := fun i => scoreOf m c (i 0).val (i 1).val

theorem final11 : (dats m 0 c).arrAt 11 cfg0.N = result11 m c := by
  refine (dats m 0 c).arrAt_eq_of_covers 11 _ (by decide +kernel) fun t hf y => ?_
  blk_simp
  rw [after0_11, out11_apply]
  refine (congrFun (resB_eq m c t (y 0).val (y 0).isLt) (y 1).val).trans ?_
  refine congrArg₂ (resOf m c) ?_ ?_
  · show _ = win0_11.index t 0 * 512 + 1 * (y 0).val; rw [(idx11 t).1]; omega
  · show _ = win0_11.index t 1 * 1024 + 1 * (y 1).val; rw [(idx11 t).2]; omega

theorem final12 : (dats m 0 c).arrAt 12 cfg0.N = result12 m c := by
  refine (dats m 0 c).arrAt_eq_of_covers 12 _ (by decide +kernel) fun t hf y => ?_
  blk_simp
  rw [after0_12, out12_apply]
  refine (congrFun (modB_eq m c t (y 0).val (y 0).isLt) (y 1).val).trans ?_
  refine congrArg₂ (modOf m c) ?_ ?_
  · show _ = win0_12.index t 0 * 512 + 1 * (y 0).val; rw [(idx12 t).1]; omega
  · show _ = win0_12.index t 1 * 1024 + 1 * (y 1).val; rw [(idx12 t).2]; omega

theorem final13 : (dats m 0 c).arrAt 13 cfg0.N = result13 m c := by
  refine (dats m 0 c).arrAt_eq_of_covers 13 _ (by decide +kernel) fun t hf y => ?_
  blk_simp
  rw [after0_13, out13_apply]
  refine (congrFun (scoreB_eq m c t (y 0).val (y 0).isLt) (y 1).val).trans ?_
  refine congrArg₂ (scoreOf m c) ?_ ?_
  · show _ = win0_13.index t 0 * 512 + 1 * (y 0).val; rw [(idx13 t).1]; omega
  · show _ = win0_13.index t 1 * 2048 + 1 * (y 1).val; rw [(idx13 t).2]; omega

end Cert.Kernel3Ideal.Val

end
-- ==== Proof.OutRef.lean ====
/-
  The three arrays the output projection's reference leaves, row by row, of its arguments.
-/
module

public import proofs.«01_k».proof.Proof.OutKernel
public import proofs.«01_k».proof.Proof.Gen.Reference3Ideal.Read
public import proofs.«01_k».proof.Proof.Gen.Reference3Ideal.Run

@[expose] public section

set_option maxRecDepth 65536

noncomputable section

open Idealize.ShloMosaic hiding ix1 ix2 ix3 ix4 eq_ix1 eq_ix2 eq_ix3 eq_ix4
open Idealize.ShloMosaic.TcCoe Idealize.ShloMosaic.ValueIdx

namespace Cert.Reference3Ideal.Val

open Cert.Reference3Ideal Cert.Reference3Ideal.Gen Cert.Reference3Ideal.Read Cert.Core

variable (x0 : S1x16384x1024.Idx → EReal) (x1 x2 : S16384x512.Idx → EReal) (x3 : S1x1024x1024.Idx → EReal) (x4 x5 x6 x7 : S1x1024.Idx → EReal)
  (x8 : S1x1024x2048.Idx → EReal) (x9 x10 : S1x8x128x128.Idx → EReal)

/-- The two halves side by side, read in the first. -/
theorem joined_left (i : S16384x1024.Idx) (h : (i 1).val < 512) : val_main_v0 (F := Ideal) x1 x2 i = at2 x1 (i 0).val (i 1).val := by
  unfold val_main_v0
  refine (concatenate_pair_apply_left (t := S16384x1024) (s₁ := S16384x512) (s₂ := S16384x512) 1 x1 x2
    concatenates_S16384x512_S16384x512_S16384x1024_d1 i rfl (ix2 (i 0) ⟨(i 1).val, h⟩) ?_).trans (at2_of x1 _ rfl rfl)
  intro b
  match b with
  | ⟨0, _⟩ => rfl
  | ⟨1, _⟩ => rfl

/-- The two halves side by side, read in the second. -/
theorem joined_right (i : S16384x1024.Idx) (k : ℕ) (hk : k < 512) (h : (i 1).val = 512 + k) :
    val_main_v0 (F := Ideal) x1 x2 i = at2 x2 (i 0).val k := by
  unfold val_main_v0
  refine (concatenate_pair_apply_right (t := S16384x1024) (s₁ := S16384x512) (s₂ := S16384x512) 1 x1 x2
    concatenates_S16384x512_S16384x512_S16384x1024_d1 i rfl rfl (ix2 (i 0) ⟨k, hk⟩) ?_ ?_).trans (at2_of x2 _ rfl rfl)
  · intro b hb
    match b with
    | ⟨0, _⟩ => rfl
    | ⟨1, _⟩ => exact absurd rfl hb
  · show k + 512 = (i 1).val; omega

/-- The projection's product, its 1024 inner channels split into the two halves. -/
theorem product_apply (i : S1x16384x1024.Idx) : val_main_v4 (F := Ideal) x1 x2 x3 i
    = (∑ k : Fin 512, at2 x1 (i 1).val k.val * at3 x3 0 k.val (i 2).val) + ∑ k : Fin 512, at2 x2 (i 1).val k.val * at3 x3 0 (512 + k.val) (i 2).val := by
  rw [val_main_v4_apply]
  refine (Fin.sum_univ_add (a := 512) (b := 512) _).trans (congrArg₂ (· + ·) (Finset.sum_congr rfl fun k _ => ?_) (Finset.sum_congr rfl fun k _ => ?_))
  · refine congrArg₂ (· * ·) ?_ ?_
    · rw [val_main_v1_apply]
      exact joined_left x1 x2 _ k.isLt
    · unfold val_main_v3
      exact cast_at3 x3 _ _ rfl rfl
  · refine congrArg₂ (· * ·) ?_ ?_
    · rw [val_main_v1_apply]
      exact joined_right x1 x2 _ k.val k.isLt rfl
    · unfold val_main_v3
      exact cast_at3 x3 _ _ rfl rfl

/-- The residual stream. -/
theorem res_apply (i : S1x16384x1024.Idx) : val_main_v7 (F := Ideal) x0 x1 x2 x3 x4 i = outRes x0 x1 x2 x3 x4 (i 1).val (i 2).val := by
  have h0 : (i 0).val < 1 := (i 0).isLt
  rw [val_main_v7_apply, val_main_v6_apply, val_main_v5_apply, val_main_v2_apply, product_apply]
  unfold outRes resRow
  exact congrArg₂ (· + ·) (at3_of x0 i (by omega) rfl rfl) (congrArg (· * _) (at2_of x4 _ rfl rfl))

/-- The residual stream, without its unit axis. -/
theorem out_apply (i : S16384x1024.Idx) : val_main_v44 (F := Ideal) x0 x1 x2 x3 x4 i = outRes x0 x1 x2 x3 x4 (i 0).val (i 1).val := by
  have h0 : (i 0).val < 16384 := (i 0).isLt
  have h1 : (i 1).val < 1024 := (i 1).isLt
  rw [val_main_v44_apply, res_apply]
  exact congrArg₂ (outRes x0 x1 x2 x3 x4) (by show ((i 0).val * 1024 + (i 1).val) / 1024 % 16384 = _; omega)
    (by show ((i 0).val * 1024 + (i 1).val) % 1024 = _; omega)

/-- The normalised stream. -/
theorem mod_apply (i : S1x16384x1024.Idx) : val_main_v29 (F := Ideal) x0 x1 x2 x3 x4 x5 x6 x7 i = outMod x0 x1 x2 x3 x4 x5 x6 x7 (i 1).val (i 2).val := by
  have h2 : (i 2).val < 1024 := (i 2).isLt
  rw [val_main_v29_apply, val_main_v28_apply, val_main_v27_apply, val_main_v26_apply, val_main_v25_apply, val_main_v24_apply, val_main_v23_apply,
    val_main_v22_apply, val_main_v21_apply, val_main_v20_apply, val_main_v19_apply, val_main_v8_apply, val_main_v18_apply, val_main_v17_apply,
    val_main_v16_apply, val_main_v15_apply, val_main_v14_apply, val_main_v13_apply, val_main_v12_apply, val_main_v11_apply, val_main_v10_apply, res_apply]
  have hs : val_main_cst (F := Ideal) (Shape.Idx.first h_S_) + ∑ k : Fin 1024, val_main_v9 (F := Ideal) x0 x1 x2 x3 x4 (idx_main_v10 (idx_main_v11 (idx_main_v17 i)) k)
      = ∑ k : Fin 1024, outRes x0 x1 x2 x3 x4 (i 1).val k.val * outRes x0 x1 x2 x3 x4 (i 1).val k.val := by
    refine (congrArg (· + _) Ideal.ofBits_zero_f32).trans ((zero_add _).trans (Finset.sum_congr rfl fun k _ => ?_))
    rw [val_main_v9_apply, res_apply]
    rfl
  rw [hs]
  unfold outMod modRow
  refine congrArg₂ (· + ·) (congrArg₂ (· * ·) (congrArg₂ (· * ·) (congrArg₂ (· * ·) rfl rfl) ?_) (congrArg₂ (· + ·) rfl ?_)) ?_
  · exact at2_of x5 _ rfl (Nat.mod_eq_of_lt h2)
  · exact at2_of x7 _ rfl rfl
  · exact at2_of x6 _ rfl rfl

/-- The normalised stream, without its unit axis. -/
theorem mod2_apply (i : S16384x1024.Idx) : val_main_v30 (F := Ideal) x0 x1 x2 x3 x4 x5 x6 x7 i = outMod x0 x1 x2 x3 x4 x5 x6 x7 (i 0).val (i 1).val := by
  have h0 : (i 0).val < 16384 := (i 0).isLt
  have h1 : (i 1).val < 1024 := (i 1).isLt
  rw [val_main_v30_apply, mod_apply]
  exact congrArg₂ (outMod x0 x1 x2 x3 x4 x5 x6 x7) (by show ((i 0).val * 1024 + (i 1).val) / 1024 % 16384 = _; omega)
    (by show ((i 0).val * 1024 + (i 1).val) % 1024 = _; omega)

/-- The queries. -/
theorem q_apply (i : S16384x2048.Idx) : val_main_v32 (F := Ideal) x0 x1 x2 x3 x4 x5 x6 x7 x8 i = outQ x0 x1 x2 x3 x4 x5 x6 x7 x8 (i 0).val (i 1).val := by
  rw [val_main_v32_apply]
  unfold outQ mulRow
  refine Finset.sum_congr rfl fun k _ => congrArg₂ (· * ·) ?_ ?_
  · exact mod2_apply x0 x1 x2 x3 x4 x5 x6 x7 _
  · unfold val_main_v31
    exact cast_at3 x8 _ _ rfl rfl

/-- The scores against the first tables. -/
theorem score1_apply (i : S16384x8x1x128.Idx) : val_main_v46 (F := Ideal) x0 x1 x2 x3 x4 x5 x6 x7 x8 x9 i
    = partScore (outQ x0 x1 x2 x3 x4 x5 x6 x7 x8 (i 0).val) (2 * (i 1).val) (at4 x9 0 (i 1).val) (i 3).val := by
  have h0 : (i 0).val < 16384 := (i 0).isLt
  have h1 : (i 1).val < 8 := (i 1).isLt
  have h3 : (i 3).val < 128 := (i 3).isLt
  rw [val_main_v46_apply, val_main_v38_apply, val_main_v37_apply]
  unfold partScore
  refine Finset.sum_congr rfl fun k _ => (mul_comm _ _).trans (congrArg₂ (· * ·) ?_ ?_)
  · have hk := k.isLt
    rw [val_main_v35_apply, val_main_v34_apply, val_main_v33_apply, q_apply]
    have e1 : (((i 0).val * 8 + (i 1).val) * 128 + k.val) / 1024 = (i 0).val := by omega
    have e2 : (((i 0).val * 8 + (i 1).val) * 128 + k.val) / 128 % 8 = (i 1).val := by omega
    have e3 : (((i 0).val * 8 + (i 1).val) * 128 + k.val) % 128 = k.val := by omega
    refine congrArg₂ (outQ x0 x1 x2 x3 x4 x5 x6 x7 x8) ?_ ?_
    · show (((((((i 0).val * 8 + (i 1).val) * 128 + k.val) / 1024) * 8 + (((i 0).val * 8 + (i 1).val) * 128 + k.val) / 128 % 8) * 2 + 0) * 128
        + (((i 0).val * 8 + (i 1).val) * 128 + k.val) % 128) / 2048 = _
      rw [e1, e2, e3]; omega
    · show (((((((i 0).val * 8 + (i 1).val) * 128 + k.val) / 1024) * 8 + (((i 0).val * 8 + (i 1).val) * 128 + k.val) / 128 % 8) * 2 + 0) * 128
        + (((i 0).val * 8 + (i 1).val) * 128 + k.val) % 128) % 2048 = _
      rw [e1, e2, e3]; omega
  · rw [val_main_v36_apply]
    have hk := k.isLt
    refine at4_of x9 _ rfl ?_ ?_ ?_
    · show (((i 1).val * 128 + (i 3).val) * 128 + k.val) / 16384 % 8 = _; omega
    · show (((i 1).val * 128 + (i 3).val) * 128 + k.val) / 128 % 128 = _; omega
    · show (((i 1).val * 128 + (i 3).val) * 128 + k.val) % 128 = _; omega

/-- The scores against the second tables. -/
theorem score2_apply (i : S16384x8x1x128.Idx) : val_main_v47 (F := Ideal) x0 x1 x2 x3 x4 x5 x6 x7 x8 x10 i
    = partScore (outQ x0 x1 x2 x3 x4 x5 x6 x7 x8 (i 0).val) (2 * (i 1).val + 1) (at4 x10 0 (i 1).val) (i 3).val := by
  have h0 : (i 0).val < 16384 := (i 0).isLt
  have h1 : (i 1).val < 8 := (i 1).isLt
  have h3 : (i 3).val < 128 := (i 3).isLt
  rw [val_main_v47_apply, val_main_v43_apply, val_main_v42_apply]
  unfold partScore
  refine Finset.sum_congr rfl fun k _ => (mul_comm _ _).trans (congrArg₂ (· * ·) ?_ ?_)
  · have hk := k.isLt
    rw [val_main_v40_apply, val_main_v39_apply, val_main_v33_apply, q_apply]
    have e1 : (((i 0).val * 8 + (i 1).val) * 128 + k.val) / 1024 = (i 0).val := by omega
    have e2 : (((i 0).val * 8 + (i 1).val) * 128 + k.val) / 128 % 8 = (i 1).val := by omega
    have e3 : (((i 0).val * 8 + (i 1).val) * 128 + k.val) % 128 = k.val := by omega
    refine congrArg₂ (outQ x0 x1 x2 x3 x4 x5 x6 x7 x8) ?_ ?_
    · show (((((((i 0).val * 8 + (i 1).val) * 128 + k.val) / 1024) * 8 + (((i 0).val * 8 + (i 1).val) * 128 + k.val) / 128 % 8) * 2 + (1 + 0)) * 128
        + (((i 0).val * 8 + (i 1).val) * 128 + k.val) % 128) / 2048 = _
      rw [e1, e2, e3]; omega
    · show (((((((i 0).val * 8 + (i 1).val) * 128 + k.val) / 1024) * 8 + (((i 0).val * 8 + (i 1).val) * 128 + k.val) / 128 % 8) * 2 + (1 + 0)) * 128
        + (((i 0).val * 8 + (i 1).val) * 128 + k.val) % 128) % 2048 = _
      rw [e1, e2, e3]; omega
  · rw [val_main_v41_apply]
    have hk := k.isLt
    refine at4_of x10 _ rfl ?_ ?_ ?_
    · show (((i 1).val * 128 + (i 3).val) * 128 + k.val) / 16384 % 8 = _; omega
    · show (((i 1).val * 128 + (i 3).val) * 128 + k.val) / 128 % 128 = _; omega
    · show (((i 1).val * 128 + (i 3).val) * 128 + k.val) % 128 = _; omega

/-- The scores, the two tables' interleaved head by head. -/
theorem score_apply (i : S16384x2048.Idx) : val_main_v49 (F := Ideal) x0 x1 x2 x3 x4 x5 x6 x7 x8 x9 x10 i
    = outScore x0 x1 x2 x3 x4 x5 x6 x7 x8 x9 x10 (i 0).val (i 1).val := by
  obtain ⟨r, l, rfl⟩ : ∃ (r : Fin 16384) (l : Fin 2048), i = ix2 r l := ⟨i 0, i 1, eq_ix2 i⟩
  have h0 := r.isLt
  have h1 := l.isLt
  rw [val_main_v49_apply]
  have e0 : (r.val * 2048 + l.val) / 2048 = r.val := by omega
  have e1 : (r.val * 2048 + l.val) / 256 % 8 = l.val / 256 := by omega
  have e2 : (r.val * 2048 + l.val) / 128 % 2 = l.val / 128 % 2 := by omega
  have e3 : (r.val * 2048 + l.val) % 128 = l.val % 128 := by omega
  have ei : idx_main_v49 (ix2 r l) = ix4 r ⟨l.val / 256, by omega⟩ ⟨l.val / 128 % 2, by omega⟩ ⟨l.val % 128, by omega⟩ := by
    funext d
    match d with
    | ⟨0, _⟩ => exact Fin.ext e0
    | ⟨1, _⟩ => exact Fin.ext e1
    | ⟨2, _⟩ => exact Fin.ext e2
    | ⟨3, _⟩ => exact Fin.ext e3
  rw [ei]
  unfold val_main_v48
  show _ = scoreRow _ _ _ l.val
  unfold scoreRow
  by_cases hp : l.val / 128 % 2 = 0
  · rw [if_pos hp]
    refine (concatenate_pair_apply_left (t := S16384x8x2x128) (s₁ := S16384x8x1x128) (s₂ := S16384x8x1x128) 2 _ _
      concatenates_S16384x8x1x128_S16384x8x1x128_S16384x8x2x128_d2 _ rfl (ix4 r ⟨l.val / 256, by omega⟩ 0 ⟨l.val % 128, by omega⟩) ?_).trans ?_
    · intro b
      match b with
      | ⟨0, _⟩ => rfl
      | ⟨1, _⟩ => rfl
      | ⟨2, _⟩ => exact hp.symm
      | ⟨3, _⟩ => rfl
    · refine (score1_apply x0 x1 x2 x3 x4 x5 x6 x7 x8 x9 _).trans ?_
      show partScore _ (2 * (l.val / 256)) _ _ = _
      rw [show 2 * (l.val / 256) = l.val / 128 by omega]
  · rw [if_neg hp]
    refine (concatenate_pair_apply_right (t := S16384x8x2x128) (s₁ := S16384x8x1x128) (s₂ := S16384x8x1x128) 2 _ _
      concatenates_S16384x8x1x128_S16384x8x1x128_S16384x8x2x128_d2 _ rfl rfl (ix4 r ⟨l.val / 256, by omega⟩ 0 ⟨l.val % 128, by omega⟩) ?_ ?_).trans ?_
    · intro b hb
      match b with
      | ⟨0, _⟩ => rfl
      | ⟨1, _⟩ => rfl
      | ⟨2, _⟩ => exact absurd rfl hb
      | ⟨3, _⟩ => rfl
    · show 0 + 1 = l.val / 128 % 2; omega
    · refine (score2_apply x0 x1 x2 x3 x4 x5 x6 x7 x8 x10 _).trans ?_
      show partScore _ (2 * (l.val / 256) + 1) _ _ = _
      rw [show 2 * (l.val / 256) + 1 = l.val / 128 by omega]

end Cert.Reference3Ideal.Val

end
-- ==== Proof.Outproj.lean ====
/-
  The output projection's claim: kernel and reference leave the same three results.
-/
module

public import proofs.«01_k».proof.Proof.OutRef
public import proofs.«01_k».proof.Defs

@[expose] public section

set_option maxRecDepth 65536

noncomputable section

open Idealize.ShloMosaic Idealize.ShloMosaic.TcCoe Idealize.SL.Sem

namespace Cert.Outproj

open Cert.Reference3Ideal.Read Cert.Reference3Ideal.Val

/-- Over the extended reals the kernel and the reference leave the same residual stream, the same normalised stream and the same scores. -/
theorem algebraic : Cert.algebraic_Kernel3Ideal_Reference3Ideal := by
  intro m ρ m' ρ' _ hagree
  refine ⟨fun c => Cert.Kernel3Ideal.Val.result11 m c, fun c => Cert.Kernel3Ideal.Val.result12 m c, fun c => Cert.Kernel3Ideal.Val.result13 m c,
    (θ_run _ _ _).mono (fun _ h c => ⟨(h c).1.trans (Cert.Kernel3Ideal.Val.final11 m c), (h c).2.1.trans (Cert.Kernel3Ideal.Val.final12 m c),
      (h c).2.2.1.trans (Cert.Kernel3Ideal.Val.final13 m c), (h c).2.2.2⟩) (Cert.Kernel3Ideal.Value.run_blocks m ρ), ?_⟩
  refine (θ_run _ _ _).mono (fun _ h c => ⟨((h c).1.trans (val_main_v44_eq (F := Ideal) _ _ _ _ _)).trans ?_,
    ((h c).2.1.trans (val_main_v45_eq (F := Ideal) _ _ _ _ _ _ _ _)).trans ?_, ((h c).2.2.1.trans (val_main_v49_eq (F := Ideal) m' c)).trans ?_, (h c).2.2.2⟩)
    (Cert.Reference3Ideal.Value.run (F := Ideal) m' ρ')
  · obtain ⟨h0, h1, h2, h3, h4, h5, h6, h7, h8, h9, h10⟩ := hagree c
    rw [h0, h1, h2, h3, h4]
    funext i
    exact out_apply _ _ _ _ _ i
  · obtain ⟨h0, h1, h2, h3, h4, h5, h6, h7, h8, h9, h10⟩ := hagree c
    rw [h0, h1, h2, h3, h4, h5, h6, h7]
    funext i
    exact mod2_apply _ _ _ _ _ _ _ _ i
  · obtain ⟨h0, h1, h2, h3, h4, h5, h6, h7, h8, h9, h10⟩ := hagree c
    rw [h0, h1, h2, h3, h4, h5, h6, h7, h8, h9, h10]
    funext i
    exact score_apply _ _ _ _ _ _ _ _ _ _ _ i

end Cert.Outproj

end

end
-- ==== Proof.InCore.lean ====
/-
  The input projection's arithmetic on extended reals: the gelu's two forms agree on real numbers, and the projection of
  real arguments is real.
-/
module

public import proofs.«01_k».proof.Proof.Outproj

@[expose] public section

noncomputable section

open Idealize.ShloMosaic Idealize.ShloMosaic.ValueIdx

namespace Cert.Core

/-! ## Real numbers among the extended reals -/

/-- The extended real is a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A sum of real numbers is real. -/
theorem IsReal.sum {ι : Type} (s : Finset ι) (f : ι → EReal) (h : ∀ i, IsReal (f i)) : IsReal (∑ i ∈ s, f i) := by
  classical
  induction s using Finset.induction_on with
  | empty => exact ⟨0, rfl⟩
  | insert a s ha ih => rw [Finset.sum_insert ha]; exact (h a).add ih

/-- A sum of squares of real numbers is real and not negative. -/
theorem sum_sq_real {ι : Type} (s : Finset ι) (f : ι → EReal) (h : ∀ i, IsReal (f i)) : ∃ r : ℝ, 0 ≤ r ∧ ∑ i ∈ s, f i * f i = (r : EReal) := by
  classical
  induction s using Finset.induction_on with
  | empty => exact ⟨0, le_refl 0, rfl⟩
  | insert a s ha ih =>
    obtain ⟨r, hr, e⟩ := ih
    obtain ⟨b, hb⟩ := h a
    refine ⟨b * b + r, add_nonneg (mul_self_nonneg b) hr, ?_⟩
    rw [Finset.sum_insert ha, e, hb, ← EReal.coe_mul, ← EReal.coe_add]

/-- Below infinity in absolute value is real. -/
theorem isReal_of_abs_lt {x : EReal} (h : max x (-x) < ⊤) : IsReal x := by
  have h1 : x ≠ ⊤ := fun e => by subst e; simp at h
  have h2 : x ≠ ⊥ := fun e => by subst e; simp at h
  exact ⟨x.toReal, (EReal.coe_toReal h1 h2).symm⟩

/-! ## The constants -/

theorem ofBits_half : Ideal.ofBits .f32 0x3F000000#32 = ((1 / 2 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_gelu1 : Ideal.ofBits .f32 0x3F4C422A#32 = ((13386282 / 16777216 : ℝ) : EReal) := by
  simp [Ideal.ofBits, Ideal.ieee, -EReal.coe_mul]; norm_num

theorem ofBits_gelu3 : Ideal.ofBits .f32 0x3D372713#32 = ((12003091 / 268435456 : ℝ) : EReal) := by
  simp [Ideal.ofBits, Ideal.ieee, -EReal.coe_mul]; norm_num

theorem ofBits_eps : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-! ## The gelu -/

/-- The gelu as the reference writes it. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

/-- The gelu as the kernel writes it. -/
def geluK (x : EReal) : EReal :=
  Ideal.ofBits .f32 0x3F000000#32 * x + Ideal.ofBits .f32 0x3F000000#32 * x
    * Ideal.tanh (x * (Ideal.ofBits .f32 0x3F4C422A#32 + ((80338380498831 / 2251799813685248 : ℝ) : EReal) * (x * x)))

/-- On a real number the two agree. -/
theorem geluK_eq {x : EReal} (hx : IsReal x) : geluK x = gelu x := by
  obtain ⟨r, rfl⟩ := hx
  unfold geluK gelu
  rw [ofBits_half, ofBits_gelu1, ofBits_gelu3, Ideal.ofBits_one_f32, ← EReal.coe_one]
  simp only [← EReal.coe_mul, ← EReal.coe_add, Ideal.tanh_coe]
  have e : r * (13386282 / 16777216 + 80338380498831 / 2251799813685248 * (r * r))
      = 13386282 / 16777216 * (r + 12003091 / 268435456 * (r * r * r)) := by ring
  rw [e]
  exact congrArg _ (by ring)

/-! ## The projection's rows -/

/-- The reciprocal root mean square of real numbers is real. -/
theorem rms_real (x : ℕ → EReal) (hx : ∀ c, IsReal (x c)) : IsReal (Ideal.rsqrt (Ideal.div (∑ k : Fin 1024, x k.val * x k.val)
    (Ideal.ofBits .f32 0x44800000#32) + Ideal.ofBits .f32 0x358637BD#32)) := by
  obtain ⟨r, hr, e⟩ := sum_sq_real Finset.univ (fun k : Fin 1024 => x k.val) (fun k => hx k.val)
  obtain ⟨ε, hε, ee⟩ := ofBits_eps
  rw [e, ee, ofBits_1024]
  have h1024 : ((1024 : ℝ) : EReal) ≠ 0 := by
    rw [← EReal.coe_zero]; exact fun h => absurd (EReal.coe_eq_coe_iff.1 h) (by norm_num)
  unfold Ideal.div
  rw [if_neg h1024, ← EReal.coe_inv, ← EReal.coe_mul, ← EReal.coe_add, Ideal.rsqrt_coe]
  have hp : 0 < r * (1024 : ℝ)⁻¹ + ε := add_pos_of_nonneg_of_pos (mul_nonneg hr (by norm_num)) hε
  rw [if_neg (not_lt.2 hp.le), if_neg hp.ne']
  exact ⟨_, rfl⟩

/-- The modulated norm of real numbers is real. -/
theorem modRow_real (x w s t : ℕ → EReal) (hx : ∀ c, IsReal (x c)) (hw : ∀ c, IsReal (w c)) (hs : ∀ c, IsReal (s c)) (ht : ∀ c, IsReal (t c))
    (c : ℕ) : IsReal (modRow x w s t c) := by
  unfold modRow
  refine (((((hx c).mul (rms_real x hx)).mul (hw c)).mul (IsReal.add ?_ (hs c)))).add (ht c)
  rw [Ideal.ofBits_one_f32]
  exact ⟨1, rfl⟩

/-- A real row times a real matrix is real. -/
theorem mulRow_real (h : ℕ → EReal) (Q : ℕ → ℕ → EReal) (hh : ∀ c, IsReal (h c)) (hQ : ∀ k c, IsReal (Q k c)) (c : ℕ) : IsReal (mulRow h Q c) :=
  IsReal.sum _ _ fun j => (hh j.val).mul (hQ j.val c)

/-- A row of 512 channels normalised by its root mean square and weighted. -/
def normRow (v g : ℕ → EReal) : ℕ → EReal := fun c =>
  v c * Ideal.rsqrt (Ideal.div (∑ k : Fin 512, v k.val * v k.val) (Ideal.ofBits .f32 0x44000000#32) + Ideal.ofBits .f32 0x358637BD#32) * g c

/-- The second half of a row of gelus, normalised. -/
def gateRow (G : EReal → EReal) (p g : ℕ → EReal) : ℕ → EReal := normRow (fun c => G (p (512 + c))) g

/-- A causal mix at row `r` and column `c`: over the chunk of 128 rows that holds `r`, the rows of `V` up to `r` by the weights of the column's head
    (64 columns a head), plus the bias at the row's place in its chunk, times `U`. -/
def mixAt (U V : ℕ → ℕ → EReal) (W : ℕ → ℕ → ℕ → EReal) (B : ℕ → ℕ → EReal) (r c : ℕ) : EReal :=
  U r c * ((∑ k : Fin 128, (if k.val ≤ r % 128 then W (c / 64) (r % 128) k.val else 0) * V (128 * (r / 128) + k.val) c) + B (r % 128) c)

/-- The spatial-gating mixer: the mix of the projections `P`'s normalised gates, times their first half's gelus. -/
def mixRow (G : EReal → EReal) (P : ℕ → ℕ → EReal) (g : ℕ → EReal) (W : ℕ → ℕ → ℕ → EReal) (B : ℕ → ℕ → EReal) : ℕ → ℕ → EReal :=
  mixAt (fun r c => G (P r c)) (fun r => gateRow G (P r) g) W B

end Cert.Core

end
-- ==== Proof.InPay.lean ====
/-
  What one grid point of the input projection's kernel stores.
-/
module

public import proofs.«01_k».proof.Proof.InCore
public import proofs.«01_k».proof.Proof.Gen.Kernel2Ideal.Value

@[expose] public section

set_option maxRecDepth 65536

noncomputable section

open Idealize.ShloMosaic hiding ix1 ix2 ix3 ix4 eq_ix1 eq_ix2 eq_ix3 eq_ix4
open Idealize.ShloMosaic.ValueIdx Idealize.ShloMosaic.StackMember

namespace Cert.Kernel2Ideal.Val

open Cert.Kernel2Ideal Cert.Kernel2Ideal.Gen Cert.Core

/-- The sums of a 512 × 512 block's rows. -/
theorem row_sum512 (x : FVec Ideal S512x512 .f32) (h : S512x512.Reduces [1] S512) (hφ) (hacc) (a : Fin 512) :
    multiReduction .add [1] S512 x 0x00000000#32 h hφ hacc (ix1 a) = ∑ j : Fin 512, x (ix2 a j) := by
  refine (Ideal.multiReduction_add_single x _ h hφ hacc (ix1 a)).trans (Finset.sum_congr rfl fun j _ => congrArg x (funext fun d => ?_))
  match d with
  | ⟨0, _⟩ => rfl
  | ⟨1, _⟩ => rfl

/-- The modulated norm the kernel computes. -/
theorem pay6_apply (v0 : Vec Ideal S512x1024 .f32) (v2 v15 v20 : Vec Ideal S1x1024 .f32) (a : Fin 512) (l : Fin 1024)
    (p : ℕ → EReal) (hp : ∀ l : Fin 1024, v0 (ix2 a l) = p l.val) :
    k0_pay6 v0 v2 v15 v20 (ix2 a l) = modRow p (at2 v2 0) (at2 v15 0) (at2 v20 0) l.val := by
  unfold k0_pay6
  rw [shapeCast_self]
  dsimp only
  show v0 (ix2 a l) * broadcastTo S512x1024 _ _ (ix2 a l) * broadcastTo S512x1024 v2 _ (ix2 a l) * broadcastTo S512x1024 _ _ (ix2 a l)
    + broadcastTo S512x1024 v20 _ (ix2 a l) = _
  rw [broadcastTo_1b_ab_apply, broadcastTo_1b_ab_apply, broadcastTo_1b_ab_apply,
    broadcastTo_apply _ broadcasts_S512x1_S512x1024 (ix2 a l) (ix2 a 0) (by intro d; match d with | ⟨0, _⟩ => rfl | ⟨1, _⟩ => rfl)]
  show v0 (ix2 a l) * Ideal.rsqrt (Ideal.div (shapeCast S512x1 _ _ (ix2 a 0)) _ + _) * v2 (ix2 0 l) * (_ + v15 (ix2 0 l)) + v20 (ix2 0 l) = _
  rw [shapeCast_a_a1_apply, hp l, at2_of v2 (ix2 0 l) rfl rfl, at2_of v15 (ix2 0 l) rfl rfl, at2_of v20 (ix2 0 l) rfl rfl]
  have hs : (∑ j : Fin 1024, mulf (F := Ideal) (φ := .f32) v0 v0 (ix2 a j)) = ∑ k : Fin 1024, p k.val * p k.val :=
    Finset.sum_congr rfl fun j _ => congrArg₂ (· * ·) (hp j) (hp j)
  exact congrArg (fun s => p l.val * Ideal.rsqrt (Ideal.div s (Ideal.ofBits .f32 0x44800000#32) + Ideal.ofBits .f32 0x358637BD#32)
    * at2 v2 0 l.val * (Ideal.ofBits .f32 0x3F800000#32 + at2 v15 0 l.val) + at2 v20 0 l.val)
    ((Cert.Kernel3Ideal.Val.row_sum (mulf v0 v0) _ _ _ a).trans hs)

/-- The gelus the kernel computes of the first 1024 projected channels. -/
theorem pay7_apply (v0 : Vec Ideal S512x1024 .f32) (v2 v15 v20 : Vec Ideal S1x1024 .f32) (v24 : Vec Ideal S1024x1024 .bf16) (a : Fin 512) (l : Fin 1024) :
    k0_pay7 v0 v2 v15 v20 v24 (ix2 a l) = geluK (∑ j : Fin 1024, k0_pay6 v0 v2 v15 v20 (ix2 a j) * v24 (ix2 j l)) := by
  unfold k0_pay7
  generalize k0_pay6 v0 v2 v15 v20 = P
  have hk : Named.named (F := Ideal) (φ := .f32) κ "gelu_c2" 0x3D122279#32 = ((80338380498831 / 2251799813685248 : ℝ) : EReal) :=
    IdealRules.named_const.ideal_named_scalar κ "gelu_c2" (φ := .f32) 0x3D122279#32 _ rfl
  rw [shapeCast_self, hk]
  have hm := matmul_plain_apply (φ₁ := .bf16) (φ₂ := .bf16) none P v24 a l
  exact congrArg geluK hm

/-- The gate's norm. -/
theorem pay10_apply (v39 : FVec Ideal S512x512 .f32) (v40 : Vec Ideal S1x512 .f32) (a l : Fin 512)
    (p : ℕ → EReal) (hp : ∀ l : Fin 512, v39 (ix2 a l) = p l.val) :
    k0_pay10 v39 v40 (ix2 a l) = normRow p (at2 v40 0) l.val := by
  unfold k0_pay10
  dsimp only
  show v39 (ix2 a l) * broadcastTo S512x512 _ _ (ix2 a l) * broadcastTo S512x512 v40 _ (ix2 a l) = _
  rw [broadcastTo_1b_ab_apply,
    broadcastTo_apply _ broadcasts_S512x1_S512x512 (ix2 a l) (ix2 a 0) (by intro d; match d with | ⟨0, _⟩ => rfl | ⟨1, _⟩ => rfl)]
  show v39 (ix2 a l) * Ideal.rsqrt (Ideal.div (shapeCast S512x1 _ _ (ix2 a 0)) _ + _) * v40 (ix2 0 l) = _
  rw [shapeCast_a_a1_apply, hp l, at2_of v40 (ix2 0 l) rfl rfl]
  have hs : (∑ j : Fin 512, mulf v39 v39 (ix2 a j)) = ∑ k : Fin 512, p k.val * p k.val :=
    Finset.sum_congr rfl fun j _ => congrArg₂ (· * ·) (hp j) (hp j)
  exact congrArg (fun s => p l.val * Ideal.rsqrt (Ideal.div s (Ideal.ofBits .f32 0x44000000#32) + Ideal.ofBits .f32 0x358637BD#32)
    * at2 v40 0 l.val) ((row_sum512 (mulf v39 v39) _ _ _ a).trans hs)

/-! ## The masks -/

/-- The causal mask is on at and below the diagonal. -/
theorem causal_apply (i k : Fin 128) : k0_pay11 (ix2 i k) = BitVec.ofBool (decide (k.val ≤ i.val)) := by
  show IntOp.cmpi .sle (BitVec.ofNat 32 (0 * 128 + k.val)) (BitVec.ofNat 32 (0 * 128 + i.val)) = _
  rw [Nat.zero_mul, Nat.zero_add, Nat.zero_add]
  exact WordCmp.cmpi_sle_ofNat (w := 32) (a := k.val) (b := i.val) (by have := k.isLt; omega) (by have := i.isLt; omega)

/-- The head mask is on over the first 64 columns. -/
theorem half_apply (i l : Fin 128) : k0_pay12 (ix2 i l) = BitVec.ofBool (decide (l.val < 64)) := by
  show IntOp.cmpi .slt (BitVec.ofNat 32 (0 * 128 + l.val)) (BitVec.ofNat 32 64) = _
  rw [Nat.zero_mul, Nat.zero_add]
  exact WordCmp.cmpi_slt_ofNat (w := 32) (a := l.val) (b := 64) (by have := l.isLt; omega) (by omega)

/-- A masked head's weights. -/
theorem weight_apply (x6 : Vec Ideal S8x128x128 .f32) (j : ℕ) (off : Fin 3 → ℕ) (ho : off = ![j, 0, 0]) (inb) (i k : Fin 128) :
    k0_pay13 (F := Ideal) (View.ld (Val := Elt Ideal) (e' := .f32) x6 (Rect.unit (s := S8x128x128) off S1x128x128.size inb)) (ix2 i k)
      = if k.val ≤ i.val then at3 x6 j i.val k.val else 0 := by
  subst ho
  unfold k0_pay13
  show Scalar.select (k0_pay11 (ix2 i k)) (shapeCast (α := EReal) S128x128 _ _ (ix2 i k)) (Ideal.ofBits .f32 0x00000000#32) = _
  rw [causal_apply, shapeCast_1ab_ab_apply, Ideal.ofBits_zero_f32]
  by_cases h : k.val ≤ i.val
  · rw [if_pos h, decide_eq_true h]
    refine (at3_of x6 _ (p := j) (r := i.val) (c := k.val) ?_ ?_ ?_)
    · show j + 1 * 0 = _; omega
    · show 0 + 1 * i.val = _; omega
    · show 0 + 1 * k.val = _; omega
  · rw [if_neg h, decide_eq_false h]
    rfl

/-- A block of the biases. -/
theorem bias_apply (x7 : Vec Ideal S128x512 .f32) (j : ℕ) (off : Fin 2 → ℕ) (ho : off = ![0, 128 * j]) (inb) (i l : Fin 128) :
    k0_pay15 (F := Ideal) (View.ld (Val := Elt Ideal) (e' := .f32) x7 (Rect.unit (s := S128x512) off S128x128.size inb)) (ix2 i l)
      = at2 x7 i.val (128 * j + l.val) := by
  subst ho
  unfold k0_pay15
  rw [shapeCast_self]
  refine at2_of x7 _ ?_ ?_
  · show 0 + 1 * i.val = _; omega
  · show 128 * j + 1 * l.val = _; omega

/-- A stored tile of the mixer, chunk `ch` and heads `2 pr` and `2 pr + 1`, agrees with the mix of the rows. -/
theorem mix_piece (U V : ℕ → ℕ → EReal) (u : FVec Ideal S512x512 .f32) (v : FVec Ideal S512x512 .bf16)
    (hu : ∀ a l : Fin 512, u (ix2 a l) = U a.val l.val) (hv : ∀ a l : Fin 512, v (ix2 a l) = V a.val l.val)
    (W : ℕ → ℕ → ℕ → EReal) (B : ℕ → ℕ → EReal) (ch pr : ℕ) (hch : ch < 4) (hpr : pr < 4)
    (K0 K1 : FVec Ideal S128x128 .bf16) (Bv : FVec Ideal S128x128 .f32)
    (h0 : ∀ i k : Fin 128, K0 (ix2 i k) = if k.val ≤ i.val then W (2 * pr) i.val k.val else 0)
    (h1 : ∀ i k : Fin 128, K1 (ix2 i k) = if k.val ≤ i.val then W (2 * pr + 1) i.val k.val else 0)
    (hB : ∀ i l : Fin 128, Bv (ix2 i l) = B i.val (128 * pr + l.val))
    (off : Fin 2 → ℕ) (ho : off = ![128 * ch, 128 * pr]) (hs hs') (inb)
    (x : (Rect.unit (s := S512x512) off S128x128.size inb).shape.Idx) :
    mulf (extractStridedSlice S128x128 off u hs) (addf (select k0_pay12
        (matmul (φ₂ := .bf16) dot_S128x128_S128x128_S128x128_1_0_0_1_n_n none K0 (extractStridedSlice S128x128 off v hs') (constant S128x128 .f32 0x00000000#32))
        (matmul (φ₂ := .bf16) dot_S128x128_S128x128_S128x128_1_0_0_1_n_n none K1 (extractStridedSlice S128x128 off v hs') (constant S128x128 .f32 0x00000000#32))) Bv) x
      = (fun y : S512x512.Idx => mixAt U V W B (y 0).val (y 1).val) ((Rect.unit (s := S512x512) off S128x128.size inb).emb x) := by
  subst ho
  obtain ⟨i, l, rfl⟩ : ∃ (i : Fin 128) (l : Fin 128), x = ix2 i l := ⟨x 0, x 1, eq_ix2 x⟩
  have e0 : (((Rect.unit (s := S512x512) ![128 * ch, 128 * pr] S128x128.size inb).emb (ix2 i l)) 0).val = 128 * ch + i.val := by
    show 128 * ch + 1 * i.val = _; omega
  have e1 : (((Rect.unit (s := S512x512) ![128 * ch, 128 * pr] S128x128.size inb).emb (ix2 i l)) 1).val = 128 * pr + l.val := by
    show 128 * pr + 1 * l.val = _; omega
  show _ = mixAt U V W B (((Rect.unit (s := S512x512) ![128 * ch, 128 * pr] S128x128.size inb).emb (ix2 i l)) 0).val
    (((Rect.unit (s := S512x512) ![128 * ch, 128 * pr] S128x128.size inb).emb (ix2 i l)) 1).val
  rw [e0, e1]
  have hi := i.isLt
  have hl := l.isLt
  have d1 : (128 * ch + i.val) % 128 = i.val := by omega
  have d2 : (128 * ch + i.val) / 128 = ch := by omega
  unfold mixAt
  rw [d1, d2]
  have su : extractStridedSlice S128x128 ![128 * ch, 128 * pr] u hs (ix2 i l) = U (128 * ch + i.val) (128 * pr + l.val) := by
    refine (extractStridedSlice_apply _ u hs (ix2 i l) (ix2 ⟨128 * ch + i.val, by omega⟩ ⟨128 * pr + l.val, by omega⟩) ?_).trans (hu _ _)
    intro d
    match d with
    | ⟨0, _⟩ => rfl
    | ⟨1, _⟩ => rfl
  have sv : ∀ k : Fin 128, extractStridedSlice S128x128 ![128 * ch, 128 * pr] v hs' (ix2 k l) = V (128 * ch + k.val) (128 * pr + l.val) := by
    intro k
    refine (extractStridedSlice_apply _ v hs' (ix2 k l) (ix2 ⟨128 * ch + k.val, by omega⟩ ⟨128 * pr + l.val, by omega⟩) ?_).trans (hv _ _)
    intro d
    match d with
    | ⟨0, _⟩ => rfl
    | ⟨1, _⟩ => rfl
  have sm : ∀ K : FVec Ideal S128x128 .bf16,
      matmul (φ₂ := .bf16) dot_S128x128_S128x128_S128x128_1_0_0_1_n_n none K (extractStridedSlice S128x128 ![128 * ch, 128 * pr] v hs')
        (constant S128x128 .f32 0x00000000#32) (ix2 i l) = ∑ k : Fin 128, K (ix2 i k) * V (128 * ch + k.val) (128 * pr + l.val) := by
    intro K
    refine (matmul_plain_apply (φ₁ := .bf16) (φ₂ := .bf16) none K _ i l).trans (Finset.sum_congr rfl fun k _ => congrArg (K (ix2 i k) * ·) (sv k))
  refine congrArg₂ (· * ·) su (congrArg₂ (· + ·) ?_ (hB i l))
  show Scalar.select (k0_pay12 (ix2 i l)) (matmul _ none K0 _ _ (ix2 i l)) (matmul _ none K1 _ _ (ix2 i l)) = _
  rw [half_apply, sm K0, sm K1]
  by_cases h : l.val < 64
  · rw [decide_eq_true h, show (128 * pr + l.val) / 64 = 2 * pr by omega]
    exact (select_one _ _).trans (Finset.sum_congr rfl fun k _ => congrArg (· * V (128 * ch + k.val) (128 * pr + l.val)) (h0 i k))
  · rw [decide_eq_false h, show (128 * pr + l.val) / 64 = 2 * pr + 1 by omega]
    exact (select_zero _ _).trans (Finset.sum_congr rfl fun k _ => congrArg (· * V (128 * ch + k.val) (128 * pr + l.val)) (h1 i k))

/-! ## The blocks a point stores -/

variable (x0 : Vec Ideal S512x1024 .f32) (x1 x2 x3 : Vec Ideal S1x1024 .f32) (x4 : Vec Ideal S1024x3200 .bf16)
  (x5 : Vec Ideal S1x512 .f32) (x6 : Vec Ideal S8x128x128 .f32) (x7 : Vec Ideal S128x512 .f32)

/-- Row `a` of the point's normalised block. -/
def modB (a : ℕ) : ℕ → EReal := modRow (at2 x0 a) (at2 x1 0) (at2 x3 0) (at2 x2 0)

/-- Row `a` of the point's projections. -/
def projB (a : ℕ) : ℕ → EReal := mulRow (modB x0 x1 x2 x3 a) (at2 x4)

theorem ld_row (x : Vec Ideal S1x1024 .f32) : View.ld (Val := Elt Ideal) x r0_1 = x :=
  View.ld_unit_zero (by funext a; fin_cases a <;> rfl) _ x

theorem ld_row512 (x : Vec Ideal S1x512 .f32) : View.ld (Val := Elt Ideal) x r0_3 = x :=
  View.ld_unit_zero (by funext a; fin_cases a <;> rfl) _ x

theorem ld_block (x : Vec Ideal S512x1024 .f32) : View.ld (Val := Elt Ideal) x r0_0 = x :=
  View.ld_unit_zero (by funext a; fin_cases a <;> rfl) _ x

theorem pay6_ld (a : Fin 512) (l : Fin 1024) :
    k0_pay6 (View.ld (Val := Elt Ideal) x0 r0_0) (View.ld (Val := Elt Ideal) x1 r0_1) (View.ld (Val := Elt Ideal) x3 r0_1)
      (View.ld (Val := Elt Ideal) x2 r0_1) (ix2 a l) = modB x0 x1 x2 x3 a.val l.val := by
  rw [ld_row, ld_row, ld_row, ld_block]
  exact pay6_apply x0 x1 x3 x2 a l (at2 x0 a.val) fun l => at2_of x0 (ix2 a l) rfl rfl

theorem pay7_ld (a : Fin 512) (l : Fin 1024) :
    k0_pay7 (View.ld (Val := Elt Ideal) x0 r0_0) (View.ld (Val := Elt Ideal) x1 r0_1) (View.ld (Val := Elt Ideal) x3 r0_1)
      (View.ld (Val := Elt Ideal) x2 r0_1) (View.ld (Val := Elt Ideal) x4 r0_2) (ix2 a l) = geluK (projB x0 x1 x2 x3 x4 a.val l.val) := by
  rw [pay7_apply]
  refine congrArg geluK (Finset.sum_congr rfl fun j _ => congrArg₂ (· * ·) (pay6_ld x0 x1 x2 x3 a j) (at2_of x4 _ ?_ ?_))
  · show 0 + 1 * j.val = _; omega
  · show 0 + 1 * l.val = _; omega

theorem u_ld (a l : Fin 512) : k0_pay44 x0 x1 x2 x3 x4 x5 x6 x7 (ix2 a l) = geluK (projB x0 x1 x2 x3 x4 a.val l.val) := by
  unfold k0_pay44 k0_pay8
  refine (extractStridedSlice_apply _ _ slices_S512x1024_o0_0_S512x512 (ix2 a l) (ix2 a ⟨l.val, by omega⟩) ?_).trans (pay7_ld x0 x1 x2 x3 x4 a _)
  intro d
  match d with
  | ⟨0, _⟩ => show a.val = 0 + a.val; omega
  | ⟨1, _⟩ => show l.val = 0 + l.val; omega

theorem v_ld (a l : Fin 512) : k0_pay45 x0 x1 x2 x3 x4 x5 x6 x7 (ix2 a l) = geluK (projB x0 x1 x2 x3 x4 a.val (512 + l.val)) := by
  unfold k0_pay45 k0_pay9
  refine (extractStridedSlice_apply _ _ slices_S512x1024_o0_512_S512x512 (ix2 a l) (ix2 a ⟨512 + l.val, by omega⟩) ?_).trans (pay7_ld x0 x1 x2 x3 x4 a _)
  intro d
  match d with
  | ⟨0, _⟩ => show a.val = 0 + a.val; omega
  | ⟨1, _⟩ => rfl

theorem vn_ld (a l : Fin 512) :
    k0_pay46 x0 x1 x2 x3 x4 x5 x6 x7 (ix2 a l) = gateRow geluK (projB x0 x1 x2 x3 x4 a.val) (at2 x5 0) l.val := by
  unfold k0_pay46
  rw [ld_row512]
  exact pay10_apply _ x5 a l _ fun l => v_ld x0 x1 x2 x3 x4 x5 x6 x7 a l

/-- A block of projections a point stores, from its column `o` on. -/
theorem proj_piece {n : ℕ} (o : ℕ) (w : Vec Ideal (⟨2, ![1024, n]⟩ : Shape) .bf16) (hw : ∀ (j : Fin 1024) (l : Fin n), w (ix2 j l) = at2 x4 j.val (o + l.val))
    (hc) (a : Fin 512) (l : Fin n) :
    matmul (F := Ideal) (φ₂ := .bf16) (DotDims.plain 512 1024 n) none
        (k0_pay6 (View.ld (Val := Elt Ideal) x0 r0_0) (View.ld (Val := Elt Ideal) x1 r0_1) (View.ld (Val := Elt Ideal) x3 r0_1) (View.ld (Val := Elt Ideal) x2 r0_1))
        (shapeCast (α := EReal) (⟨2, ![1024, n]⟩ : Shape) w hc)
        (constant (⟨2, ![512, n]⟩ : Shape) .f32 0x00000000#32) (ix2 a l) = projB x0 x1 x2 x3 x4 a.val (o + l.val) := by
  rw [shapeCast_self]
  exact (matmul_plain_apply (φ₁ := .bf16) (φ₂ := .bf16) none _ w a l).trans (Finset.sum_congr rfl fun j _ =>
    congrArg₂ (· * ·) (pay6_ld x0 x1 x2 x3 a j) (hw j l))

/-- The mixer's block a point stores. -/
theorem out8_apply : out0_8 x0 x1 x2 x3 x4 x5 x6 x7
    = fun y : S512x512.Idx => mixRow geluK (projB x0 x1 x2 x3 x4) (at2 x5 0) (at3 x6) (at2 x7) (y 0).val (y 1).val := by
  funext y
  unfold out0_8
  refine View.canon_apply_of_pieces (Val := Elt Ideal)
    (fun y : S512x512.Idx => mixRow geluK (projB x0 x1 x2 x3 x4) (at2 x5 0) (at3 x6) (at2 x7) (y 0).val (y 1).val) _ ?_ y
    (cover0_8 _ _ _ _ _ _ _ _ _ _ _ _ _ _ _ _ y)
  have H := mix_piece (fun r c => geluK (projB x0 x1 x2 x3 x4 r c)) (fun r => gateRow geluK (projB x0 x1 x2 x3 x4 r) (at2 x5 0))
    (k0_pay44 x0 x1 x2 x3 x4 x5 x6 x7) (k0_pay46 x0 x1 x2 x3 x4 x5 x6 x7) (u_ld x0 x1 x2 x3 x4 x5 x6 x7) (vn_ld x0 x1 x2 x3 x4 x5 x6 x7) (at3 x6) (at2 x7)
  have h0a := weight_apply x6 0 ![0, 0, 0] rfl inb_S8x128x128_S1x128x128_0_0_0
  have h0b := weight_apply x6 1 ![1, 0, 0] rfl inb_S8x128x128_S1x128x128_1_0_0
  have h1a := weight_apply x6 2 ![2, 0, 0] rfl inb_S8x128x128_S1x128x128_2_0_0
  have h1b := weight_apply x6 3 ![3, 0, 0] rfl inb_S8x128x128_S1x128x128_3_0_0
  have h2a := weight_apply x6 4 ![4, 0, 0] rfl inb_S8x128x128_S1x128x128_4_0_0
  have h2b := weight_apply x6 5 ![5, 0, 0] rfl inb_S8x128x128_S1x128x128_5_0_0
  have h3a := weight_apply x6 6 ![6, 0, 0] rfl inb_S8x128x128_S1x128x128_6_0_0
  have h3b := weight_apply x6 7 ![7, 0, 0] rfl inb_S8x128x128_S1x128x128_7_0_0
  have h0c := bias_apply x7 0 ![0, 0] rfl inb_S128x512_S128x128_0_0
  have h1c := bias_apply x7 1 ![0, 128] rfl inb_S128x512_S128x128_0_128
  have h2c := bias_apply x7 2 ![0, 256] rfl inb_S128x512_S128x128_0_256
  have h3c := bias_apply x7 3 ![0, 384] rfl inb_S128x512_S128x128_0_384
  refine List.forall_mem_cons.2 ⟨fun x => H 3 3 (by decide) (by decide) _ _ _ h3a h3b h3c ![384, 384] rfl slices_S512x512_o384_384_S128x128
    slices_S512x512_o384_384_S128x128 inb_S512x512_S128x128_384_384 x, ?_⟩
  refine List.forall_mem_cons.2 ⟨fun x => H 2 3 (by decide) (by decide) _ _ _ h3a h3b h3c ![256, 384] rfl slices_S512x512_o256_384_S128x128
    slices_S512x512_o256_384_S128x128 inb_S512x512_S128x128_256_384 x, ?_⟩
  refine List.forall_mem_cons.2 ⟨fun x => H 1 3 (by decide) (by decide) _ _ _ h3a h3b h3c ![128, 384] rfl slices_S512x512_o128_384_S128x128
    slices_S512x512_o128_384_S128x128 inb_S512x512_S128x128_128_384 x, ?_⟩
  refine List.forall_mem_cons.2 ⟨fun x => H 0 3 (by decide) (by decide) _ _ _ h3a h3b h3c ![0, 384] rfl slices_S512x512_o0_384_S128x128
    slices_S512x512_o0_384_S128x128 inb_S512x512_S128x128_0_384 x, ?_⟩
  refine List.forall_mem_cons.2 ⟨fun x => H 3 2 (by decide) (by decide) _ _ _ h2a h2b h2c ![384, 256] rfl slices_S512x512_o384_256_S128x128
    slices_S512x512_o384_256_S128x128 inb_S512x512_S128x128_384_256 x, ?_⟩
  refine List.forall_mem_cons.2 ⟨fun x => H 2 2 (by decide) (by decide) _ _ _ h2a h2b h2c ![256, 256] rfl slices_S512x512_o256_256_S128x128
    slices_S512x512_o256_256_S128x128 inb_S512x512_S128x128_256_256 x, ?_⟩
  refine List.forall_mem_cons.2 ⟨fun x => H 1 2 (by decide) (by decide) _ _ _ h2a h2b h2c ![128, 256] rfl slices_S512x512_o128_256_S128x128
    slices_S512x512_o128_256_S128x128 inb_S512x512_S128x128_128_256 x, ?_⟩
  refine List.forall_mem_cons.2 ⟨fun x => H 0 2 (by decide) (by decide) _ _ _ h2a h2b h2c ![0, 256] rfl slices_S512x512_o0_256_S128x128
    slices_S512x512_o0_256_S128x128 inb_S512x512_S128x128_0_256 x, ?_⟩
  refine List.forall_mem_cons.2 ⟨fun x => H 3 1 (by decide) (by decide) _ _ _ h1a h1b h1c ![384, 128] rfl slices_S512x512_o384_128_S128x128
    slices_S512x512_o384_128_S128x128 inb_S512x512_S128x128_384_128 x, ?_⟩
  refine List.forall_mem_cons.2 ⟨fun x => H 2 1 (by decide) (by decide) _ _ _ h1a h1b h1c ![256, 128] rfl slices_S512x512_o256_128_S128x128
    slices_S512x512_o256_128_S128x128 inb_S512x512_S128x128_256_128 x, ?_⟩
  refine List.forall_mem_cons.2 ⟨fun x => H 1 1 (by decide) (by decide) _ _ _ h1a h1b h1c ![128, 128] rfl slices_S512x512_o128_128_S128x128
    slices_S512x512_o128_128_S128x128 inb_S512x512_S128x128_128_128 x, ?_⟩
  refine List.forall_mem_cons.2 ⟨fun x => H 0 1 (by decide) (by decide) _ _ _ h1a h1b h1c ![0, 128] rfl slices_S512x512_o0_128_S128x128
    slices_S512x512_o0_128_S128x128 inb_S512x512_S128x128_0_128 x, ?_⟩
  refine List.forall_mem_cons.2 ⟨fun x => H 3 0 (by decide) (by decide) _ _ _ h0a h0b h0c ![384, 0] rfl slices_S512x512_o384_0_S128x128
    slices_S512x512_o384_0_S128x128 inb_S512x512_S128x128_384_0 x, ?_⟩
  refine List.forall_mem_cons.2 ⟨fun x => H 2 0 (by decide) (by decide) _ _ _ h0a h0b h0c ![256, 0] rfl slices_S512x512_o256_0_S128x128
    slices_S512x512_o256_0_S128x128 inb_S512x512_S128x128_256_0 x, ?_⟩
  refine List.forall_mem_cons.2 ⟨fun x => H 1 0 (by decide) (by decide) _ _ _ h0a h0b h0c ![128, 0] rfl slices_S512x512_o128_0_S128x128
    slices_S512x512_o128_0_S128x128 inb_S512x512_S128x128_128_0 x, ?_⟩
  refine List.forall_mem_cons.2 ⟨fun x => H 0 0 (by decide) (by decide) _ _ _ h0a h0b h0c ![0, 0] rfl slices_S512x512_o0_0_S128x128
    slices_S512x512_o0_0_S128x128 inb_S512x512_S128x128_0_0 x, ?_⟩
  exact fun x hx => absurd hx List.not_mem_nil

/-- The queries', keys' and values' block a point stores. -/
theorem out9_apply : out0_9 x0 x1 x2 x3 x4 x5 x6 x7 = fun y : S512x1536.Idx => projB x0 x1 x2 x3 x4 (y 0).val (1024 + (y 1).val) := by
  funext y
  unfold out0_9
  refine View.canon_apply_of_pieces (Val := Elt Ideal) (fun y : S512x1536.Idx => projB x0 x1 x2 x3 x4 (y 0).val (1024 + (y 1).val)) _ ?_ y (cover0_9 _ y)
  refine List.forall_mem_cons.2 ⟨fun x => ?_, fun x hx => absurd hx List.not_mem_nil⟩
  obtain ⟨a, l, rfl⟩ : ∃ (a : Fin 512) (l : Fin 1536), x = ix2 a l := ⟨x 0, x 1, eq_ix2 x⟩
  refine (proj_piece x0 x1 x2 x3 x4 1024 (View.ld (Val := Elt Ideal) x4 r0_32) (fun j l => at2_of x4 _ (by show 0 + 1 * j.val = _; omega)
    (by show 1024 + 1 * l.val = _; omega)) shapeCasts_S1024x1536_S1024x1536 a l).trans ?_
  exact congrArg₂ (fun r c => projB x0 x1 x2 x3 x4 r (1024 + c)) (by show _ = 0 + 1 * a.val; omega) (by show _ = 0 + 1 * l.val; omega)

/-- The output gate's block a point stores. -/
theorem out10_apply : out0_10 x0 x1 x2 x3 x4 x5 x6 x7 = fun y : S512x512.Idx => projB x0 x1 x2 x3 x4 (y 0).val (2560 + (y 1).val) := by
  funext y
  unfold out0_10
  refine View.canon_apply_of_pieces (Val := Elt Ideal) (fun y : S512x512.Idx => projB x0 x1 x2 x3 x4 (y 0).val (2560 + (y 1).val)) _ ?_ y (cover0_10 _ y)
  refine List.forall_mem_cons.2 ⟨fun x => ?_, fun x hx => absurd hx List.not_mem_nil⟩
  obtain ⟨a, l, rfl⟩ : ∃ (a : Fin 512) (l : Fin 512), x = ix2 a l := ⟨x 0, x 1, eq_ix2 x⟩
  refine (proj_piece x0 x1 x2 x3 x4 2560 (View.ld (Val := Elt Ideal) x4 r0_34) (fun j l => at2_of x4 _ (by show 0 + 1 * j.val = _; omega)
    (by show 2560 + 1 * l.val = _; omega)) shapeCasts_S1024x512_S1024x512 a l).trans ?_
  exact congrArg₂ (fun r c => projB x0 x1 x2 x3 x4 r (2560 + c)) (by show _ = 0 + 1 * a.val; omega) (by show _ = 0 + 1 * l.val; omega)

/-- The decays' and step sizes' block a point stores. -/
theorem out11_apply : out0_11 x0 x1 x2 x3 x4 x5 x6 x7 = fun y : S512x128.Idx => projB x0 x1 x2 x3 x4 (y 0).val (3072 + (y 1).val) := by
  funext y
  unfold out0_11
  refine View.canon_apply_of_pieces (Val := Elt Ideal) (fun y : S512x128.Idx => projB x0 x1 x2 x3 x4 (y 0).val (3072 + (y 1).val)) _ ?_ y (cover0_11 _ y)
  refine List.forall_mem_cons.2 ⟨fun x => ?_, fun x hx => absurd hx List.not_mem_nil⟩
  obtain ⟨a, l, rfl⟩ : ∃ (a : Fin 512) (l : Fin 128), x = ix2 a l := ⟨x 0, x 1, eq_ix2 x⟩
  refine (proj_piece x0 x1 x2 x3 x4 3072 (View.ld (Val := Elt Ideal) x4 r0_36) (fun j l => at2_of x4 _ (by show 0 + 1 * j.val = _; omega)
    (by show 3072 + 1 * l.val = _; omega)) shapeCasts_S1024x128_S1024x128 a l).trans ?_
  exact congrArg₂ (fun r c => projB x0 x1 x2 x3 x4 r (3072 + c)) (by show _ = 0 + 1 * a.val; omega) (by show _ = 0 + 1 * l.val; omega)

end Cert.Kernel2Ideal.Val

end
-- ==== Proof.InKernel.lean ====
/-
  The four arrays the input projection's kernel leaves, row by row, of its arguments.
-/
module

public import proofs.«01_k».proof.Proof.InPay
public import Idealize.ShloMosaic.Lib.Pipeline.ValueKit
public import Idealize.ShloMosaic.Lib.KernelVsHost

@[expose] public section

set_option maxRecDepth 65536

noncomputable section

open Idealize.ShloMosaic hiding ix1 ix2 ix3 ix4 eq_ix1 eq_ix2 eq_ix3 eq_ix4
open Idealize.ShloMosaic.TcCoe Idealize.ShloMosaic.ValueIdx Idealize.ShloMosaic.Tactic

namespace Cert.Core

/-- The mixer's rows depend on the projections of their own chunk only, so 512 rows of it are the mixer of 512 rows. -/
theorem mixRow_shift (G : EReal → EReal) (P Q : ℕ → ℕ → EReal) (g : ℕ → EReal) (W : ℕ → ℕ → ℕ → EReal) (B : ℕ → ℕ → EReal) (t r c : ℕ) (hr : r < 512)
    (h : ∀ a < 512, P a = Q (512 * t + a)) : mixRow G P g W B r c = mixRow G Q g W B (512 * t + r) c := by
  have e1 : (512 * t + r) % 128 = r % 128 := by omega
  have e2 : ∀ k : Fin 128, 128 * ((512 * t + r) / 128) + k.val = 512 * t + (128 * (r / 128) + k.val) := fun k => by omega
  unfold mixRow mixAt
  rw [e1]
  refine congrArg₂ (· * ·) (by show G (P r c) = G (Q (512 * t + r) c); rw [h r hr]) (congrArg (· + B (r % 128) c) (Finset.sum_congr rfl fun k _ => ?_))
  have hk := k.isLt
  rw [e2 k]
  refine congrArg ((if k.val ≤ r % 128 then W (c / 64) (r % 128) k.val else 0) * ·) ?_
  show gateRow G (P (128 * (r / 128) + k.val)) g c = gateRow G (Q (512 * t + (128 * (r / 128) + k.val))) g c
  rw [h (128 * (r / 128) + k.val) (by omega)]

/-! ## The projection's results, row by row -/

/-- The projection's weights with zeros in the columns past 3080, of 3200. -/
def padW (w : (⟨3, ![1, 1024, 3080]⟩ : Shape).Idx → EReal) (k c : ℕ) : EReal := if c % 3200 < 3080 then at3 w 0 k (c % 3200) else 0

/-- The mixer's bias at place `i` of a chunk and column `c`: its head's. -/
def biasW (b : (⟨3, ![1, 8, 128]⟩ : Shape).Idx → EReal) (i c : ℕ) : EReal := at3 b 0 (c % 512 / 64) i

section
variable (a0 : (⟨3, ![1, 16384, 1024]⟩ : Shape).Idx → EReal) (a1 a2 a3 : (⟨2, ![1, 1024]⟩ : Shape).Idx → EReal)
  (a4 : (⟨3, ![1, 1024, 3080]⟩ : Shape).Idx → EReal) (a5 : (⟨2, ![1, 512]⟩ : Shape).Idx → EReal)
  (a6 : (⟨4, ![1, 8, 128, 128]⟩ : Shape).Idx → EReal) (a7 : (⟨3, ![1, 8, 128]⟩ : Shape).Idx → EReal)

/-- Row `r` of the normalised stream. -/
def inMod (r : ℕ) : ℕ → EReal := modRow (at3 a0 0 r) (at2 a3 0) (at2 a2 0) (at2 a1 0)

/-- Row `r` of the projections. -/
def inProj (r : ℕ) : ℕ → EReal := mulRow (inMod a0 a1 a2 a3 r) (padW a4)

/-- Row `r` of the mixer, with `G` for the gelu. -/
def inMix (G : EReal → EReal) : ℕ → ℕ → EReal := mixRow G (inProj a0 a1 a2 a3 a4) (at2 a5 0) (at4 a6 0) (biasW a7)
end

end Cert.Core

namespace Cert.Kernel2Ideal.Val

open Cert.Kernel2Ideal Cert.Kernel2Ideal.Gen Cert.Kernel2Ideal.Value Cert.Core

variable (m : (ℓ : Loc nD τ sig) → Buf (Elt Ideal) ℓ) (c : Dev nD)

/-! ## What the host operations leave before the kernel -/

theorem V_main_v0 : V m c main_v0 = shapeCast S16384x1024 (m ((c : Thread nD τ).loc main_arg0)) shapeCasts_S1x16384x1024_S16384x1024 := by
  show StableHlo.after (List.flatten [hostOps0, hostOps0_1, hostOps0_2]) _ (Proc.devRef .tc main_v0) = _
  simp only [hostOps0, hostOps0_1, hostOps0_2, List.flatten_cons, List.flatten_nil, List.append_nil, List.cons_append, List.nil_append]
  after_results
  rfl

theorem V_main_v3 : (V m c main_v3 : S1024x3200.Idx → EReal) = pad (α := EReal) S1024x3200 ![0, 0] ![0, 120] ![0, 0]
    (shapeCast S1024x3080 (m ((c : Thread nD τ).loc main_arg4)) shapeCasts_S1x1024x3080_S1024x3080)
    (sitofp (F := Ideal) .f32 (constantI S_ 32 0#32)) pads_S1024x3080_S1024x3200_000_01200 h_S_ := by
  show StableHlo.after (List.flatten [hostOps0, hostOps0_1, hostOps0_2]) _ (Proc.devRef .tc main_v3) = _
  simp only [hostOps0, hostOps0_1, hostOps0_2, List.flatten_cons, List.flatten_nil, List.append_nil, List.cons_append, List.nil_append]
  after_results
  rfl

theorem V_main_v7 : V m c main_v7 = shapeCast S128x512 (broadcastInDim S128x8x64 ![0, 1] bcast_S128x8_S128x8x64_0_1
    (transpose S128x8 [1, 0] (shapeCast S8x128 (m ((c : Thread nD τ).loc main_arg7)) shapeCasts_S1x8x128_S8x128) transposes_S8x128_S128x8_1_0))
    shapeCasts_S128x8x64_S128x512 := by
  show StableHlo.after (List.flatten [hostOps0, hostOps0_1, hostOps0_2]) _ (Proc.devRef .tc main_v7) = _
  simp only [hostOps0, hostOps0_1, hostOps0_2, List.flatten_cons, List.flatten_nil, List.append_nil, List.cons_append, List.nil_append]
  after_results
  rfl

theorem V_main_v8 : V m c main_v8 = shapeCast S8x128x128 (m ((c : Thread nD τ).loc main_arg6)) shapeCasts_S1x8x128x128_S8x128x128 := by
  show StableHlo.after (List.flatten [hostOps0, hostOps0_1, hostOps0_2]) _ (Proc.devRef .tc main_v8) = _
  simp only [hostOps0, hostOps0_1, hostOps0_2, List.flatten_cons, List.flatten_nil, List.append_nil, List.cons_append, List.nil_append]
  after_results
  rfl

/-- The padded weights at an index. -/
theorem pad_at (w : S1x1024x3080.Idx → EReal) (k : Fin 1024) (l : Fin 3200) :
    pad (α := EReal) S1024x3200 ![0, 0] ![0, 120] ![0, 0] (shapeCast S1024x3080 w shapeCasts_S1x1024x3080_S1024x3080)
      (sitofp (F := Ideal) .f32 (constantI S_ 32 0#32)) pads_S1024x3080_S1024x3200_000_01200 h_S_ (ix2 k l) = padW w k.val l.val := by
  have hl : l.val % 3200 = l.val := Nat.mod_eq_of_lt l.isLt
  unfold padW
  rw [hl]
  by_cases h : l.val < 3080
  · rw [if_pos h]
    refine (pad_apply_of_inside _ _ _ _ _ _ _ (ix2 k l) (ix2 k (⟨l.val, h⟩ : Fin 3080)) ?_).trans (cast_at3 w _ _ rfl rfl)
    intro a
    match a with
    | ⟨0, _⟩ => show k.val = 0 + k.val * (0 + 1); omega
    | ⟨1, _⟩ => show l.val = 0 + l.val * (0 + 1); omega
  · rw [if_neg h]
    refine (pad_apply_of_not_inside _ _ _ _ _ _ _ (ix2 k l) (1 : Fin 2) ?_).trans ?_
    · intro hh
      have h3 : (l.val - 0) / (0 + 1) < 3080 := hh.2.2
      omega
    · show (((0#32 : BitVec 32).toInt : ℝ) : EReal) = 0
      simp

/-- The laid-out biases at an index. -/
theorem bias_at (b : S1x8x128.Idx → EReal) (i : Fin 128) (l : Fin 512) :
    shapeCast S128x512 (broadcastInDim S128x8x64 ![0, 1] bcast_S128x8_S128x8x64_0_1
      (transpose S128x8 [1, 0] (shapeCast S8x128 b shapeCasts_S1x8x128_S8x128) transposes_S8x128_S128x8_1_0))
      shapeCasts_S128x8x64_S128x512 (ix2 i l) = biasW b i.val l.val := by
  have hl := l.isLt
  rw [shapeCast_apply _ _ (ix2 i l) (ix3 i ⟨l.val / 64, by omega⟩ ⟨l.val % 64, by omega⟩) (by
      rw [Shape.rowMajor_val_three, Shape.rowMajor_val_two]
      show (i.val * 8 + l.val / 64) * 64 + l.val % 64 = i.val * 512 + l.val
      omega),
    broadcastInDim_apply _ _ _ _ (ix2 i ⟨l.val / 64, by omega⟩) (by intro d; match d with | ⟨0, _⟩ => rfl | ⟨1, _⟩ => rfl),
    transpose_apply _ _ _ _ (ix2 ⟨l.val / 64, by omega⟩ i) (by intro d; match d with | ⟨0, _⟩ => rfl | ⟨1, _⟩ => rfl)]
  exact cast_at3 b _ _ (by show l.val / 64 = l.val % 512 / 64; omega) rfl

/-! ## The windows' blocks as parts of the arguments -/

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = 0 ∧ win0_6.index t 2 = 0 := by decide +kernel
theorem idx7 : ∀ t : Fin cfg0.N, win0_7.index t 0 = 0 ∧ win0_7.index t 1 = 0 := by decide +kernel
theorem idx8 : ∀ t : Fin cfg0.N, win0_8.index t 0 = t.val ∧ win0_8.index t 1 = 0 := by decide +kernel
theorem idx9 : ∀ t : Fin cfg0.N, win0_9.index t 0 = t.val ∧ win0_9.index t 1 = 0 := by decide +kernel
theorem idx10 : ∀ t : Fin cfg0.N, win0_10.index t 0 = t.val ∧ win0_10.index t 1 = 0 := by decide +kernel
theorem idx11 : ∀ t : Fin cfg0.N, win0_11.index t 0 = t.val ∧ win0_11.index t 1 = 0 := by decide +kernel

variable (t : Fin cfg0.N)

/-- Rows of the stream's block. -/
theorem blk0 (a : ℕ) (ha : a < 512) : at2 (iblk m c 0 t : S512x1024.Idx → EReal) a
    = at3 (m ((c : Thread nD τ).loc main_arg0) : S1x16384x1024.Idx → EReal) 0 (512 * t.val + a) := by
  refine row_at3 _ _ _ a ha fun u l => ?_
  unfold iblk
  rw [View.read_apply]
  show V m c main_v0 (((cfg0.win 0).blk t).view.emb (ix2 u l)) = _
  rw [V_main_v0]
  refine cast_at3 _ _ _ ?_ ?_
  · show win0_0.index t 0 * 512 + 1 * u.val = _; rw [(idx0 t).1]; omega
  · show win0_0.index t 1 * 1024 + 1 * l.val = _; rw [(idx0 t).2]; omega

theorem blk1 : at2 (iblk m c 1 t : S1x1024.Idx → EReal) 0 = at2 (m ((c : Thread nD τ).loc main_arg3) : S1x1024.Idx → EReal) 0 := by
  refine row_at2 _ _ 0 0 Nat.one_pos fun u l => ?_
  unfold iblk
  rw [View.read_apply]
  show V m c main_arg3 _ = _
  rw [V_main_arg3]
  refine at2_of _ _ ?_ ?_
  · show win0_1.index t 0 * 1 + 1 * u.val = _; rw [(idx1 t).1]; omega
  · show win0_1.index t 1 * 1024 + 1 * l.val = _; rw [(idx1 t).2]; omega

theorem blk2 : at2 (iblk m c 2 t : S1x1024.Idx → EReal) 0 = at2 (m ((c : Thread nD τ).loc main_arg1) : S1x1024.Idx → EReal) 0 := by
  refine row_at2 _ _ 0 0 Nat.one_pos fun u l => ?_
  unfold iblk
  rw [View.read_apply]
  show V m c main_arg1 _ = _
  rw [V_main_arg1]
  refine at2_of _ _ ?_ ?_
  · show win0_2.index t 0 * 1 + 1 * u.val = _; rw [(idx2 t).1]; omega
  · show win0_2.index t 1 * 1024 + 1 * l.val = _; rw [(idx2 t).2]; omega

theorem blk3 : at2 (iblk m c 3 t : S1x1024.Idx → EReal) 0 = at2 (m ((c : Thread nD τ).loc main_arg2) : S1x1024.Idx → EReal) 0 := by
  refine row_at2 _ _ 0 0 Nat.one_pos fun u l => ?_
  unfold iblk
  rw [View.read_apply]
  show V m c main_arg2 _ = _
  rw [V_main_arg2]
  refine at2_of _ _ ?_ ?_
  · show win0_3.index t 0 * 1 + 1 * u.val = _; rw [(idx3 t).1]; omega
  · show win0_3.index t 1 * 1024 + 1 * l.val = _; rw [(idx3 t).2]; omega

theorem blk4 : at2 (iblk m c 4 t : S1024x3200.Idx → EReal) = padW (m ((c : Thread nD τ).loc main_arg4) : S1x1024x3080.Idx → EReal) := by
  have H : ∀ (u : Fin 1024) (l : Fin 3200), (iblk m c 4 t : S1024x3200.Idx → EReal) (ix2 u l)
      = padW (m ((c : Thread nD τ).loc main_arg4) : S1x1024x3080.Idx → EReal) u.val l.val := by
    intro u l
    unfold iblk
    rw [View.read_apply]
    show (V m c main_v3 : S1024x3200.Idx → EReal) (((cfg0.win 4).blk t).view.emb (ix2 u l)) = _
    have e : ((cfg0.win 4).blk t).view.emb (ix2 u l) = ix2 u l := by
      funext d
      match d with
      | ⟨0, _⟩ => exact Fin.ext (by show win0_4.index t 0 * 1024 + 1 * u.val = u.val; rw [(idx4 t).1]; omega)
      | ⟨1, _⟩ => exact Fin.ext (by show win0_4.index t 1 * 3200 + 1 * l.val = l.val; rw [(idx4 t).2]; omega)
    rw [V_main_v3, e]
    exact pad_at _ u l
  funext r k
  refine (H _ _).trans ?_
  have e1 : (Fin.ofNat 3200 k).val % 3200 = k % 3200 := Nat.mod_mod k 3200
  have e2 : Fin.ofNat 1024 (Fin.ofNat 1024 r).val = Fin.ofNat 1024 r := Fin.ext (Nat.mod_mod r 1024)
  unfold padW at3
  rw [e1, e2]

theorem blk5 : at2 (iblk m c 5 t : S1x512.Idx → EReal) 0 = at2 (m ((c : Thread nD τ).loc main_arg5) : S1x512.Idx → EReal) 0 := by
  refine row_at2 _ _ 0 0 Nat.one_pos fun u l => ?_
  unfold iblk
  rw [View.read_apply]
  show V m c main_arg5 _ = _
  rw [V_main_arg5]
  refine at2_of _ _ ?_ ?_
  · show win0_5.index t 0 * 1 + 1 * u.val = _; rw [(idx5 t).1]; omega
  · show win0_5.index t 1 * 512 + 1 * l.val = _; rw [(idx5 t).2]; omega

theorem blk6 : at3 (iblk m c 6 t : S8x128x128.Idx → EReal) = at4 (m ((c : Thread nD τ).loc main_arg6) : S1x8x128x128.Idx → EReal) 0 := by
  refine whole_at4 _ _ fun p u l => ?_
  unfold iblk
  rw [View.read_apply]
  show V m c main_v8 (((cfg0.win 6).blk t).view.emb (ix3 p u l)) = _
  have e : ((cfg0.win 6).blk t).view.emb (ix3 p u l) = ix3 p u l := by
    funext d
    match d with
    | ⟨0, _⟩ => exact Fin.ext (by show win0_6.index t 0 * 8 + 1 * p.val = p.val; rw [(idx6 t).1]; omega)
    | ⟨1, _⟩ => exact Fin.ext (by show win0_6.index t 1 * 128 + 1 * u.val = u.val; rw [(idx6 t).2.1]; omega)
    | ⟨2, _⟩ => exact Fin.ext (by show win0_6.index t 2 * 128 + 1 * l.val = l.val; rw [(idx6 t).2.2]; omega)
  rw [V_main_v8, e, shapeCast_1abc_abc_apply]

theorem blk7 : at2 (iblk m c 7 t : S128x512.Idx → EReal) = biasW (m ((c : Thread nD τ).loc main_arg7) : S1x8x128.Idx → EReal) := by
  have H : ∀ (u : Fin 128) (l : Fin 512), (iblk m c 7 t : S128x512.Idx → EReal) (ix2 u l)
      = biasW (m ((c : Thread nD τ).loc main_arg7) : S1x8x128.Idx → EReal) u.val l.val := by
    intro u l
    unfold iblk
    rw [View.read_apply]
    show V m c main_v7 (((cfg0.win 7).blk t).view.emb (ix2 u l)) = _
    have e : ((cfg0.win 7).blk t).view.emb (ix2 u l) = ix2 u l := by
      funext d
      match d with
      | ⟨0, _⟩ => exact Fin.ext (by show win0_7.index t 0 * 128 + 1 * u.val = u.val; rw [(idx7 t).1]; omega)
      | ⟨1, _⟩ => exact Fin.ext (by show win0_7.index t 1 * 512 + 1 * l.val = l.val; rw [(idx7 t).2]; omega)
    rw [V_main_v7, e]
    exact bias_at _ u l
  funext r k
  refine (H _ _).trans ?_
  have e1 : (Fin.ofNat 512 k).val % 512 = k % 512 := Nat.mod_mod k 512
  have e2 : Fin.ofNat 128 (Fin.ofNat 128 r).val = Fin.ofNat 128 r := Fin.ext (Nat.mod_mod r 128)
  unfold biasW at3
  rw [e1, e2]

/-! ## The arrays the kernel leaves -/

/-- Row `r` of the projections, of the memory's arguments. -/
def projOf (r : ℕ) : ℕ → EReal := inProj (m ((c : Thread nD τ).loc main_arg0)) (m ((c : Thread nD τ).loc main_arg1)) (m ((c : Thread nD τ).loc main_arg2))
  (m ((c : Thread nD τ).loc main_arg3)) (m ((c : Thread nD τ).loc main_arg4)) r

/-- Row `r` of the mixer. -/
def mixOf (r : ℕ) : ℕ → EReal := inMix (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) geluK r

theorem projB_eq (a : ℕ) (ha : a < 512) :
    projB (iblk m c 0 t) (iblk m c 1 t) (iblk m c 2 t) (iblk m c 3 t) (iblk m c 4 t) a = projOf m c (512 * t.val + a) := by
  unfold projB modB
  rw [blk0 m c t a ha, blk1 m c t, blk2 m c t, blk3 m c t, blk4 m c t]
  rfl

theorem mixB_eq (a : ℕ) (ha : a < 512) (l : ℕ) :
    mixRow geluK (projB (iblk m c 0 t) (iblk m c 1 t) (iblk m c 2 t) (iblk m c 3 t) (iblk m c 4 t)) (at2 (iblk m c 5 t : S1x512.Idx → EReal) 0)
      (at3 (iblk m c 6 t : S8x128x128.Idx → EReal)) (at2 (iblk m c 7 t : S128x512.Idx → EReal)) a l = mixOf m c (512 * t.val + a) l := by
  rw [blk5 m c t, blk6 m c t, blk7 m c t]
  exact mixRow_shift _ _ (projOf m c) _ _ _ t.val a l ha fun a ha => projB_eq m c t a ha

/-- The mixer's array the kernel leaves. -/
def result8 : S16384x512.Idx → EReal := fun i => mixOf m c (i 0).val (i 1).val

/-- The queries, keys and values the kernel leaves. -/
def result9 : S16384x1536.Idx → EReal := fun i => projOf m c (i 0).val (1024 + (i 1).val)

/-- The output gates the kernel leaves. -/
def result10 : S16384x512.Idx → EReal := fun i => projOf m c (i 0).val (2560 + (i 1).val)

/-- The decays and step sizes the kernel leaves, with zeros past them. -/
def result11 : S16384x128.Idx → EReal := fun i => projOf m c (i 0).val (3072 + (i 1).val)

theorem final8 : (dats m 0 c).arrAt 8 cfg0.N = result8 m c := by
  refine (dats m 0 c).arrAt_eq_of_covers 8 _ (by decide +kernel) fun t hf y => ?_
  blk_simp
  rw [after0_8, out8_apply]
  refine (mixB_eq m c t (y 0).val (y 0).isLt (y 1).val).trans ?_
  refine congrArg₂ (mixOf m c) ?_ ?_
  · show _ = win0_8.index t 0 * 512 + 1 * (y 0).val; rw [(idx8 t).1]; omega
  · show _ = win0_8.index t 1 * 512 + 1 * (y 1).val; rw [(idx8 t).2]; omega

theorem final9 : (dats m 0 c).arrAt 9 cfg0.N = result9 m c := by
  refine (dats m 0 c).arrAt_eq_of_covers 9 _ (by decide +kernel) fun t hf y => ?_
  blk_simp
  rw [after0_9, out9_apply]
  refine (congrFun (projB_eq m c t (y 0).val (y 0).isLt) (1024 + (y 1).val)).trans ?_
  refine congrArg₂ (fun r k => projOf m c r (1024 + k)) ?_ ?_
  · show _ = win0_9.index t 0 * 512 + 1 * (y 0).val; rw [(idx9 t).1]; omega
  · show _ = win0_9.index t 1 * 1536 + 1 * (y 1).val; rw [(idx9 t).2]; omega

theorem final10 : (dats m 0 c).arrAt 10 cfg0.N = result10 m c := by
  refine (dats m 0 c).arrAt_eq_of_covers 10 _ (by decide +kernel) fun t hf y => ?_
  blk_simp
  rw [after0_10, out10_apply]
  refine (congrFun (projB_eq m c t (y 0).val (y 0).isLt) (2560 + (y 1).val)).trans ?_
  refine congrArg₂ (fun r k => projOf m c r (2560 + k)) ?_ ?_
  · show _ = win0_10.index t 0 * 512 + 1 * (y 0).val; rw [(idx10 t).1]; omega
  · show _ = win0_10.index t 1 * 512 + 1 * (y 1).val; rw [(idx10 t).2]; omega

theorem final11 : (dats m 0 c).arrAt 11 cfg0.N = result11 m c := by
  refine (dats m 0 c).arrAt_eq_of_covers 11 _ (by decide +kernel) fun t hf y => ?_
  blk_simp
  rw [after0_11, out11_apply]
  refine (congrFun (projB_eq m c t (y 0).val (y 0).isLt) (3072 + (y 1).val)).trans ?_
  refine congrArg₂ (fun r k => projOf m c r (3072 + k)) ?_ ?_
  · show _ = win0_11.index t 0 * 512 + 1 * (y 0).val; rw [(idx11 t).1]; omega
  · show _ = win0_11.index t 1 * 128 + 1 * (y 1).val; rw [(idx11 t).2]; omega

end Cert.Kernel2Ideal.Val

end
-- ==== Proof.InRef.lean ====
/-
  The four arrays the input projection's reference leaves, row by row, of its arguments.
-/
module

public import proofs.«01_k».proof.Proof.InKernel
public import proofs.«01_k».proof.Proof.Gen.Reference2Ideal.Read
public import proofs.«01_k».proof.Proof.Gen.Reference2Ideal.Run

@[expose] public section

set_option maxRecDepth 65536

noncomputable section

open Idealize.ShloMosaic hiding ix1 ix2 ix3 ix4 ix5 eq_ix1 eq_ix2 eq_ix3 eq_ix4 eq_ix5
open Idealize.ShloMosaic.TcCoe Idealize.ShloMosaic.ValueIdx

namespace Cert.Reference2Ideal.Val

open Cert.Reference2Ideal Cert.Reference2Ideal.Gen Cert.Reference2Ideal.Read Cert.Core

variable (x0 : S1x16384x1024.Idx → EReal) (x1 x2 x3 : S1x1024.Idx → EReal) (x4 : S1x1024x3080.Idx → EReal) (x5 : S1x512.Idx → EReal)
  (x6 : S1x8x128x128.Idx → EReal) (x7 : S1x8x128.Idx → EReal)

/-- The normalised stream. -/
theorem mod_apply (i : S1x16384x1024.Idx) : val_main_v21 (F := Ideal) x0 x1 x2 x3 i = inMod x0 x1 x2 x3 (i 1).val (i 2).val := by
  have h0 : (i 0).val < 1 := (i 0).isLt
  have h2 : (i 2).val < 1024 := (i 2).isLt
  rw [val_main_v21_apply, val_main_v20_apply, val_main_v19_apply, val_main_v18_apply, val_main_v17_apply, val_main_v16_apply, val_main_v15_apply,
    val_main_v14_apply, val_main_v13_apply, val_main_v12_apply, val_main_v11_apply, val_main_v0_apply, val_main_v10_apply, val_main_v9_apply,
    val_main_v8_apply, val_main_v7_apply, val_main_v6_apply, val_main_v5_apply, val_main_v4_apply, val_main_v3_apply, val_main_v2_apply]
  have hs : val_main_cst (F := Ideal) (Shape.Idx.first h_S_) + ∑ k : Fin 1024, val_main_v1 (F := Ideal) x0 (idx_main_v2 (idx_main_v3 (idx_main_v9 i)) k)
      = ∑ k : Fin 1024, at3 x0 0 (i 1).val k.val * at3 x0 0 (i 1).val k.val := by
    refine (congrArg (· + _) Ideal.ofBits_zero_f32).trans ((zero_add _).trans (Finset.sum_congr rfl fun k _ => ?_))
    rw [val_main_v1_apply]
    have e := at3_of x0 (idx_main_v2 (idx_main_v3 (idx_main_v9 i)) k) (p := 0) (r := (i 1).val) (c := k.val) rfl rfl rfl
    exact congrArg₂ (· * ·) e e
  rw [hs]
  unfold inMod modRow
  refine congrArg₂ (· + ·) (congrArg₂ (· * ·) (congrArg₂ (· * ·) (congrArg₂ (· * ·) ?_ rfl) ?_) (congrArg₂ (· + ·) rfl ?_)) ?_
  · exact at3_of x0 i (by omega) rfl rfl
  · exact at2_of x3 _ rfl (Nat.mod_eq_of_lt h2)
  · exact at2_of x2 _ rfl rfl
  · exact at2_of x1 _ rfl rfl

/-- The projections. -/
theorem proj_apply (i : S1x16384x3080.Idx) : val_main_v23 (F := Ideal) x0 x1 x2 x3 x4 i = inProj x0 x1 x2 x3 x4 (i 1).val (i 2).val := by
  have h2 : (i 2).val < 3080 := (i 2).isLt
  have e : (i 2).val % 3200 = (i 2).val := Nat.mod_eq_of_lt (by omega)
  rw [val_main_v23_apply]
  unfold inProj mulRow
  refine Finset.sum_congr rfl fun k _ => congrArg₂ (· * ·) (mod_apply x0 x1 x2 x3 _) ?_
  unfold padW val_main_v22
  rw [e, if_pos h2]
  exact cast_at3 x4 _ _ rfl rfl

/-- The gelus of the first 1024 projected channels. -/
theorem gelu_apply (i : S1x16384x1024.Idx) : val_main_v37 (F := Ideal) x0 x1 x2 x3 x4 i = gelu (inProj x0 x1 x2 x3 x4 (i 1).val (i 2).val) := by
  rw [val_main_v37_apply, val_main_v36_apply, val_main_v35_apply, val_main_v34_apply, val_main_v33_apply, val_main_v32_apply, val_main_v31_apply,
    val_main_v30_apply, val_main_v29_apply, val_main_v28_apply, val_main_v27_apply, val_main_v26_apply, val_main_v25_apply, val_main_v24_apply, proj_apply]
  rfl

/-- The gates' norm. -/
theorem gate_apply (i : S1x16384x512.Idx) : val_main_v53 (F := Ideal) x0 x1 x2 x3 x4 x5 i
    = gateRow gelu (inProj x0 x1 x2 x3 x4 (i 1).val) (at2 x5 0) (i 2).val := by
  have h2 : (i 2).val < 512 := (i 2).isLt
  rw [val_main_v53_apply, val_main_v52_apply, val_main_v51_apply, val_main_v40_apply, val_main_v50_apply, val_main_v49_apply, val_main_v48_apply,
    val_main_v47_apply, val_main_v46_apply, val_main_v45_apply, val_main_v44_apply, val_main_v43_apply, val_main_v42_apply, val_main_v39_apply, gelu_apply]
  have hs : val_main_cst_7 (F := Ideal) (Shape.Idx.first h_S_)
      + ∑ k : Fin 512, val_main_v41 (F := Ideal) x0 x1 x2 x3 x4 (idx_main_v42 (idx_main_v43 (idx_main_v49 i)) k)
      = ∑ k : Fin 512, gelu (inProj x0 x1 x2 x3 x4 (i 1).val (512 + k.val)) * gelu (inProj x0 x1 x2 x3 x4 (i 1).val (512 + k.val)) := by
    refine (congrArg (· + _) Ideal.ofBits_zero_f32).trans ((zero_add _).trans (Finset.sum_congr rfl fun k _ => ?_))
    rw [val_main_v41_apply, val_main_v39_apply, gelu_apply]
    rfl
  rw [hs]
  unfold gateRow normRow
  refine congrArg₂ (· * ·) rfl ?_
  exact at2_of x5 _ rfl (Nat.mod_eq_of_lt h2)

/-- The causal mask is on at and below the diagonal. -/
theorem tril_apply (i : S128x128.Idx) : val_main_v56 (F := Ideal) i = BitVec.ofBool (decide ((i 1).val ≤ (i 0).val)) := by
  have h0 : (i 0).val < 128 := (i 0).isLt
  have h1 : (i 1).val < 128 := (i 1).isLt
  rw [val_main_v56_apply, val_main_v55_apply, val_main_c_apply, val_main_call0_v5_apply, val_main_call0_c_0_apply, val_main_call0_v4_apply,
    val_main_call0_v3_apply, val_main_call0_v2_apply, val_main_call0_v1_apply, val_main_call0_c_apply, val_main_call0_v0_apply]
  have e : IntOp.addi (BitVec.ofNat 32 (i 0).val) 0#32 = BitVec.ofNat 32 (i 0).val := BitVec.add_zero _
  rw [e, WordCmp.cmpi_sge_ofNat (w := 32) (a := (i 0).val) (b := (i 1).val) (by omega) (by omega)]
  by_cases h : (i 1).val ≤ (i 0).val
  · rw [decide_eq_true h]; rfl
  · rw [decide_eq_false h]; rfl

/-- A masked head's weights. -/
theorem weights_apply (i : S8x128x128.Idx) : val_main_v58 (F := Ideal) x6 i
    = if (i 2).val ≤ (i 1).val then at4 x6 0 (i 0).val (i 1).val (i 2).val else 0 := by
  have h0 : (i 0).val < 8 := (i 0).isLt
  have h1 : (i 1).val < 128 := (i 1).isLt
  have h2 : (i 2).val < 128 := (i 2).isLt
  rw [val_main_v58_apply, val_main_call1_v1_apply, tril_apply, val_main_v57_apply, val_main_call1_v2_apply, val_main_call1_v0_apply, val_main_cst_10_apply]
  show Scalar.select (BitVec.ofBool (decide ((i 2).val ≤ (i 1).val))) _ (Ideal.ofBits .f32 0x00000000#32) = _
  rw [Ideal.ofBits_zero_f32]
  by_cases h : (i 2).val ≤ (i 1).val
  · rw [decide_eq_true h, if_pos h]
    refine at4_of x6 _ rfl ?_ ?_ ?_
    · show (((i 0).val * 128 + (i 1).val) * 128 + (i 2).val) / 16384 % 8 = _; omega
    · show (((i 0).val * 128 + (i 1).val) * 128 + (i 2).val) / 128 % 128 = _; omega
    · show (((i 0).val * 128 + (i 1).val) * 128 + (i 2).val) % 128 = _; omega
  · rw [decide_eq_false h, if_neg h]
    rfl

/-- The chunks' mixed gates with their biases: chunk, place, head and channel of the head. -/
theorem mixed_apply (i : S1x128x128x8x64.Idx) : val_main_v66 (F := Ideal) x0 x1 x2 x3 x4 x5 x6 x7 i
    = (∑ k : Fin 128, (if k.val ≤ (i 2).val then at4 x6 0 (i 3).val (i 2).val k.val else 0)
        * gateRow gelu (inProj x0 x1 x2 x3 x4 (128 * (i 1).val + k.val)) (at2 x5 0) (64 * (i 3).val + (i 4).val))
      + at3 x7 0 (i 3).val (i 2).val := by
  have h0 : (i 0).val < 1 := (i 0).isLt
  have h1 : (i 1).val < 128 := (i 1).isLt
  have h2 : (i 2).val < 128 := (i 2).isLt
  have h3 : (i 3).val < 8 := (i 3).isLt
  have h4 : (i 4).val < 64 := (i 4).isLt
  rw [val_main_v66_apply, val_main_v60_apply, val_main_v59_apply, val_main_v65_apply, val_main_v64_apply, val_main_v63_apply, val_main_v62_apply,
    val_main_v61_apply]
  refine congrArg₂ (· + ·) (Finset.sum_congr rfl fun k _ => (mul_comm _ _).trans (congrArg₂ (· * ·) ?_ ?_)) ?_
  · exact weights_apply x6 _
  · have hk := k.isLt
    rw [val_main_v54_apply, gate_apply]
    refine congrArg₂ (fun r c => gateRow gelu (inProj x0 x1 x2 x3 x4 r) (at2 x5 0) c) ?_ ?_
    · show (((((i 0).val * 128 + (i 1).val) * 128 + k.val) * 8 + (i 3).val) * 64 + (i 4).val) / 512 % 16384 = _; omega
    · show (((((i 0).val * 128 + (i 1).val) * 128 + k.val) * 8 + (i 3).val) * 64 + (i 4).val) % 512 = _; omega
  · refine at3_of x7 _ rfl ?_ ?_
    · show ((i 3).val * 128 + (i 2).val) / 128 % 8 = _; omega
    · show ((i 3).val * 128 + (i 2).val) % 128 = _; omega

/-- The mixer's array. -/
theorem mix_apply (i : S16384x512.Idx) : val_main_v69 (F := Ideal) x0 x1 x2 x3 x4 x5 x6 x7 i
    = inMix x0 x1 x2 x3 x4 x5 x6 x7 gelu (i 0).val (i 1).val := by
  obtain ⟨r, l, rfl⟩ : ∃ (r : Fin 16384) (l : Fin 512), i = ix2 r l := ⟨i 0, i 1, eq_ix2 i⟩
  have h0 := r.isLt
  have h1 := l.isLt
  have ei : idx_main_v69 (ix2 r l) = ix3 0 r l := by
    funext d
    match d with
    | ⟨0, _⟩ => rfl
    | ⟨1, _⟩ => exact Fin.ext (by show (r.val * 512 + l.val) / 512 % 16384 = r.val; omega)
    | ⟨2, _⟩ => exact Fin.ext (by show (r.val * 512 + l.val) % 512 = l.val; omega)
  have ej : idx_main_v67 (ix3 0 r l) = ix5 0 ⟨r.val / 128, by omega⟩ ⟨r.val % 128, by omega⟩ ⟨l.val / 64, by omega⟩ ⟨l.val % 64, by omega⟩ := by
    funext d
    match d with
    | ⟨0, _⟩ => rfl
    | ⟨1, _⟩ => exact Fin.ext (by show ((0 * 16384 + r.val) * 512 + l.val) / 65536 % 128 = r.val / 128; omega)
    | ⟨2, _⟩ => exact Fin.ext (by show ((0 * 16384 + r.val) * 512 + l.val) / 512 % 128 = r.val % 128; omega)
    | ⟨3, _⟩ => exact Fin.ext (by show ((0 * 16384 + r.val) * 512 + l.val) / 64 % 8 = l.val / 64; omega)
    | ⟨4, _⟩ => exact Fin.ext (by show ((0 * 16384 + r.val) * 512 + l.val) % 64 = l.val % 64; omega)
  rw [val_main_v69_apply, ei, val_main_v68_apply, val_main_v38_apply, gelu_apply, val_main_v67_apply, ej, mixed_apply]
  show gelu (inProj x0 x1 x2 x3 x4 r.val l.val) * ((∑ k : Fin 128, (if k.val ≤ r.val % 128 then at4 x6 0 (l.val / 64) (r.val % 128) k.val else 0)
      * gateRow gelu (inProj x0 x1 x2 x3 x4 (128 * (r.val / 128) + k.val)) (at2 x5 0) (64 * (l.val / 64) + l.val % 64))
    + at3 x7 0 (l.val / 64) (r.val % 128)) = gelu (inProj x0 x1 x2 x3 x4 r.val l.val) * ((∑ k : Fin 128,
      (if k.val ≤ r.val % 128 then at4 x6 0 (l.val / 64) (r.val % 128) k.val else 0)
      * gateRow gelu (inProj x0 x1 x2 x3 x4 (128 * (r.val / 128) + k.val)) (at2 x5 0) l.val)
    + at3 x7 0 (l.val % 512 / 64) (r.val % 128))
  rw [show 64 * (l.val / 64) + l.val % 64 = l.val by omega, show l.val % 512 / 64 = l.val / 64 by omega]

/-- The queries, keys and values. -/
theorem qkv_apply (i : S16384x1536.Idx) : val_main_v71 (F := Ideal) x0 x1 x2 x3 x4 i = inProj x0 x1 x2 x3 x4 (i 0).val (1024 + (i 1).val) := by
  have h0 : (i 0).val < 16384 := (i 0).isLt
  have h1 : (i 1).val < 1536 := (i 1).isLt
  rw [val_main_v71_apply, val_main_v70_apply, proj_apply]
  exact congrArg₂ (inProj x0 x1 x2 x3 x4) (by show ((i 0).val * 1536 + (i 1).val) / 1536 % 16384 = _; omega)
    (by show 1024 + ((i 0).val * 1536 + (i 1).val) % 1536 = _; omega)

/-- The output gates. -/
theorem z_apply (i : S16384x512.Idx) : val_main_v73 (F := Ideal) x0 x1 x2 x3 x4 i = inProj x0 x1 x2 x3 x4 (i 0).val (2560 + (i 1).val) := by
  have h0 : (i 0).val < 16384 := (i 0).isLt
  have h1 : (i 1).val < 512 := (i 1).isLt
  rw [val_main_v73_apply, val_main_v72_apply, proj_apply]
  exact congrArg₂ (inProj x0 x1 x2 x3 x4) (by show ((i 0).val * 512 + (i 1).val) / 512 % 16384 = _; omega)
    (by show 2560 + ((i 0).val * 512 + (i 1).val) % 512 = _; omega)

/-- The decays and step sizes, with zeros past them. -/
theorem ab_apply (i : S16384x128.Idx) : val_main_v76 (F := Ideal) x0 x1 x2 x3 x4 i = inProj x0 x1 x2 x3 x4 (i 0).val (3072 + (i 1).val) := by
  obtain ⟨r, l, rfl⟩ : ∃ (r : Fin 16384) (l : Fin 128), i = ix2 r l := ⟨i 0, i 1, eq_ix2 i⟩
  have h0 := r.isLt
  have h1 := l.isLt
  show _ = inProj x0 x1 x2 x3 x4 r.val (3072 + l.val)
  unfold val_main_v76
  by_cases h : l.val < 8
  · refine (pad_apply_of_inside _ _ _ _ _ _ _ (ix2 r l) (ix2 r (⟨l.val, h⟩ : Fin 8)) ?_).trans ?_
    · intro a
      match a with
      | ⟨0, _⟩ => show r.val = 0 + r.val * (0 + 1); omega
      | ⟨1, _⟩ => show l.val = 0 + l.val * (0 + 1); omega
    · rw [val_main_v75_apply, val_main_v74_apply, proj_apply]
      exact congrArg₂ (inProj x0 x1 x2 x3 x4) (by show (r.val * 8 + l.val) / 8 % 16384 = _; omega)
        (by show 3072 + (r.val * 8 + l.val) % 8 = _; omega)
  · refine (pad_apply_of_not_inside _ _ _ _ _ _ _ (ix2 r l) (1 : Fin 2) ?_).trans ?_
    · intro hh
      have h3 : (l.val - 0) / (0 + 1) < 8 := hh.2.2
      omega
    · have hz : val_main_call2_v0 (F := Ideal) (Shape.Idx.first h_S_) = (0 : EReal) := by
        show (((0#32 : BitVec 32).toInt : ℝ) : EReal) = 0
        simp
      refine Eq.trans hz ?_
      unfold inProj mulRow padW
      refine (Finset.sum_eq_zero fun k _ => ?_).symm
      rw [if_neg (by omega)]
      exact mul_zero _

end Cert.Reference2Ideal.Val

end
-- ==== Proof.Inproj.lean ====
/-
  The input projection's claim: on finite arguments kernel and reference leave the same four results.
-/
module

public import proofs.«01_k».proof.Proof.InRef
public import proofs.«01_k».proof.Defs
public import Idealize.ShloMosaic.Lib.ReduceAll
public import Idealize.ShloMosaic.Lib.Affine
public import Idealize.ShloMosaic.Lib.Decide

@[expose] public section

set_option maxRecDepth 65536

noncomputable section

open Idealize.ShloMosaic hiding ix1 ix2 ix3 ix4 eq_ix1 eq_ix2 eq_ix3 eq_ix4
open Idealize.ShloMosaic.TcCoe Idealize.ShloMosaic.ValueIdx Idealize.SL.Sem

namespace Cert.Inproj

open Cert.Core

/-! ## What the precondition says -/

/-- The shape relations the precondition's operations take. -/
instance preFacts : Cert.Pre_finite2.Facts where
  bcast_S_S1x16384x1024 := by decide
  reducesTo_S1x16384x1024_S_d0_1_2 := by decide
  h_S_ := by decide
  bcast_S_S1x1024 := by decide
  reducesTo_S1x1024_S_d0_1 := by decide
  bcast_S_S1x1024x3080 := by decide
  reducesTo_S1x1024x3080_S_d0_1_2 := by decide

/-- An array whose magnitudes all compare below infinity is real everywhere. -/
theorem real_of_reduce {s : Shape} {dims : List (Fin s.rank)} (a : s.Idx → EReal) (hb : Cert.Pre_finite2.S_.BroadcastsInDim s (![] : Fin 0 → Fin s.rank))
    (hr : s.ReducesTo dims Cert.Pre_finite2.S_) (hu : 0 < Cert.Pre_finite2.S_.numel) (j : Cert.Pre_finite2.S_.Idx)
    (e : Host.reduce IntOp.andi (cmpf (F := Ideal) (φ := .f32) .olt (Host.absf (F := Ideal) (φ := .f32) a)
      (broadcastInDim s ![] hb (constant (F := Ideal) Cert.Pre_finite2.S_ .f32 0x7F800000#32))) (constantI Cert.Pre_finite2.S_ 1 1#1) hr hu j = 1#1)
    (i : s.Idx) : IsReal (a i) := by
  have h := Host.reduce_andi_all _ _ _ _ j e i
  refine isReal_of_abs_lt ?_
  have h2 : Ideal.cmp .olt (max (a i) (-(a i))) (Ideal.ofBits .f32 0x7F800000#32) = 1#1 := h
  have ht : Ideal.ofBits .f32 0x7F800000#32 = (⊤ : EReal) := by simp [Ideal.ofBits, Ideal.ieee]
  rw [ht] at h2
  by_contra hn
  have h3 : Ideal.cmp .olt (max (a i) (-(a i))) ⊤ = BitVec.ofBool (decide (max (a i) (-(a i)) < ⊤)) := rfl
  rw [h3, decide_eq_false hn] at h2
  exact absurd h2 (by decide)

section
variable (a0 : (⟨3, ![1, 16384, 1024]⟩ : Shape).Idx → EReal) (a1 a2 a3 : (⟨2, ![1, 1024]⟩ : Shape).Idx → EReal)
  (a4 : (⟨3, ![1, 1024, 3080]⟩ : Shape).Idx → EReal) (a5 : (⟨2, ![1, 512]⟩ : Shape).Idx → EReal)
  (a6 : (⟨4, ![1, 8, 128, 128]⟩ : Shape).Idx → EReal) (a7 : (⟨3, ![1, 8, 128]⟩ : Shape).Idx → EReal)

/-- The precondition makes the stream, the shift, the scale, the norm's weights and the projection's weights real. -/
theorem real_of_pre (h : Cert.Pre_finite2.fn (F := Ideal) a0 a1 a2 a3 a4 a5 a6 a7 = fun _ => 1#1) :
    (∀ i, IsReal (a0 i)) ∧ (∀ i, IsReal (a1 i)) ∧ (∀ i, IsReal (a2 i)) ∧ (∀ i, IsReal (a3 i)) ∧ ∀ i, IsReal (a4 i) := by
  have e := congrFun h (fun a => a.elim0)
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_reduce a0 _ _ _ _ e0, real_of_reduce a1 _ _ _ _ e1, real_of_reduce a2 _ _ _ _ e2, real_of_reduce a3 _ _ _ _ e3, real_of_reduce a4 _ _ _ _ e4⟩

/-- Then every projection is real. -/
theorem proj_real (h0 : ∀ i, IsReal (a0 i)) (h1 : ∀ i, IsReal (a1 i)) (h2 : ∀ i, IsReal (a2 i)) (h3 : ∀ i, IsReal (a3 i)) (h4 : ∀ i, IsReal (a4 i))
    (r c : ℕ) : IsReal (inProj a0 a1 a2 a3 a4 r c) := by
  refine mulRow_real _ _ (fun c => modRow_real _ _ _ _ (fun c => h0 _) (fun c => h3 _) (fun c => h2 _) (fun c => h1 _) c) (fun k c => ?_) c
  unfold padW
  split
  · exact h4 _
  · exact ⟨0, rfl⟩

/-- So the mixer is the same with either way of writing the gelu. -/
theorem mix_eq (h : ∀ r c, IsReal (inProj a0 a1 a2 a3 a4 r c)) : inMix a0 a1 a2 a3 a4 a5 a6 a7 geluK = inMix a0 a1 a2 a3 a4 a5 a6 a7 gelu := by
  have e : ∀ r c, geluK (inProj a0 a1 a2 a3 a4 r c) = gelu (inProj a0 a1 a2 a3 a4 r c) := fun r c => geluK_eq (h r c)
  unfold inMix mixRow gateRow
  simp only [e]
end

open Cert.Reference2Ideal.Read Cert.Reference2Ideal.Val

/-- Over the extended reals, on finite arguments, the kernel and the reference leave the same mixer, the same queries, keys and values, the same
    output gates and the same decays and step sizes. -/
theorem algebraic : Cert.algebraic_Kernel2Ideal_Reference2Ideal_pre_finite2 := by
  intro m ρ m' ρ' hpre hagree
  refine ⟨fun c => Cert.Kernel2Ideal.Val.result8 m c, fun c => Cert.Kernel2Ideal.Val.result9 m c, fun c => Cert.Kernel2Ideal.Val.result10 m c,
    fun c => Cert.Kernel2Ideal.Val.result11 m c,
    (θ_run _ _ _).mono (fun _ h c => ⟨(h c).1.trans (Cert.Kernel2Ideal.Val.final8 m c), (h c).2.1.trans (Cert.Kernel2Ideal.Val.final9 m c),
      (h c).2.2.1.trans (Cert.Kernel2Ideal.Val.final10 m c), (h c).2.2.2.1.trans (Cert.Kernel2Ideal.Val.final11 m c), (h c).2.2.2.2⟩)
      (Cert.Kernel2Ideal.Value.run_blocks m ρ), ?_⟩
  refine (θ_run _ _ _).mono (fun _ h c => ⟨((h c).1.trans (val_main_v69_eq (F := Ideal) m' c)).trans ?_,
    ((h c).2.1.trans (val_main_v71_eq (F := Ideal) _ _ _ _ _)).trans ?_, ((h c).2.2.1.trans (val_main_v73_eq (F := Ideal) _ _ _ _ _)).trans ?_,
    ((h c).2.2.2.1.trans (val_main_v76_eq (F := Ideal) _ _ _ _ _)).trans ?_, (h c).2.2.2.2⟩)
    (Cert.Reference2Ideal.Value.run (F := Ideal) m' ρ')
  · obtain ⟨h0, h1, h2, h3, h4, h5, h6, h7⟩ := hagree c
    rw [h0, h1, h2, h3, h4, h5, h6, h7]
    funext i
    refine (mix_apply _ _ _ _ _ _ _ _ i).trans ?_
    obtain ⟨r0, r1, r2, r3, r4⟩ := real_of_pre _ _ _ _ _ _ _ _ (hpre c)
    exact (congrFun (congrFun (mix_eq _ _ _ _ _ _ _ _ (proj_real _ _ _ _ _ r0 r1 r2 r3 r4)) (i 0).val) (i 1).val).symm
  · obtain ⟨h0, h1, h2, h3, h4, h5, h6, h7⟩ := hagree c
    rw [h0, h1, h2, h3, h4]
    funext i
    exact qkv_apply _ _ _ _ _ i
  · obtain ⟨h0, h1, h2, h3, h4, h5, h6, h7⟩ := hagree c
    rw [h0, h1, h2, h3, h4]
    funext i
    exact z_apply _ _ _ _ _ i
  · obtain ⟨h0, h1, h2, h3, h4, h5, h6, h7⟩ := hagree c
    rw [h0, h1, h2, h3, h4]
    funext i
    exact ab_apply _ _ _ _ _ i

end Cert.Inproj

end
-- ==== Proof.Ada.lean ====
/-
  The modulation vector: what its kernel and its reference leave, and the claim that the two are equal.
-/
module

public import proofs.«01_k».proof.Proof.Inproj
public import proofs.«01_k».proof.Proof.Gen.Kernel4Ideal.Value
public import proofs.«01_k».proof.Proof.Gen.Reference4Ideal.Read
public import proofs.«01_k».proof.Proof.Gen.Reference4Ideal.Run

@[expose] public section

set_option maxRecDepth 65536

noncomputable section

open Idealize.ShloMosaic hiding ix1 ix2 ix3 ix4 ix5 eq_ix1 eq_ix2 eq_ix3 eq_ix4 eq_ix5
open Idealize.ShloMosaic.TcCoe Idealize.ShloMosaic.ValueIdx Idealize.ShloMosaic.Tactic Idealize.SL.Sem

namespace Cert.Core

/-- The modulation vector: the conditioning row gated by its own logistic, times the matrix, plus the bias. -/
def adaRow (c : ℕ → EReal) (W : ℕ → ℕ → EReal) (b : ℕ → EReal) : ℕ → EReal := fun l =>
  (∑ k : Fin 1024, c k.val * Ideal.logistic (c k.val) * W k.val l) + b l

end Cert.Core

namespace Cert.Kernel4Ideal.Val

open Cert.Kernel4Ideal Cert.Kernel4Ideal.Gen Cert.Kernel4Ideal.Value Cert.Core

/-- The block a point stores. -/
theorem out_apply (x0 : Vec Ideal S8x1024 .f32) (x1 : Vec Ideal S1024x1024 .f32) (x2 : Vec Ideal S1x1024 .f32) :
    out0_3 x0 x1 x2 = fun y : S8x1024.Idx => adaRow (at2 x0 (y 0).val) (at2 x1) (at2 x2 0) (y 1).val := by
  funext y
  unfold out0_3
  refine View.canon_apply_of_pieces (Val := Elt Ideal) (fun y : S8x1024.Idx => adaRow (at2 x0 (y 0).val) (at2 x1) (at2 x2 0) (y 1).val) _ ?_ y (cover0_3 _ y)
  refine List.forall_mem_cons.2 ⟨fun x => ?_, fun x hx => absurd hx List.not_mem_nil⟩
  obtain ⟨a, l, rfl⟩ : ∃ (a : Fin 8) (l : Fin 1024), x = ix2 a l := ⟨x 0, x 1, eq_ix2 x⟩
  have e0 : ((r0_0.emb (ix2 a l)) 0).val = a.val := by show 0 + 1 * a.val = _; omega
  have e1 : ((r0_0.emb (ix2 a l)) 1).val = l.val := by show 0 + 1 * l.val = _; omega
  show k0_pay1 (F := Ideal) (View.ld (Val := Elt Ideal) x0 r0_0) (View.ld (Val := Elt Ideal) x1 r0_1) (View.ld (Val := Elt Ideal) x2 r0_2) (ix2 a l)
    = adaRow (at2 x0 ((r0_0.emb (ix2 a l)) 0).val) (at2 x1) (at2 x2 0) ((r0_0.emb (ix2 a l)) 1).val
  rw [e0, e1]
  unfold k0_pay1 adaRow
  rw [shapeCast_self, shapeCast_self, shapeCast_self]
  show matmul (F := Ideal) (DotDims.plain 8 1024 1024) _ (mulf (View.ld (Val := Elt Ideal) x0 r0_0) (logistic (View.ld (Val := Elt Ideal) x0 r0_0))) (View.ld (Val := Elt Ideal) x1 r0_1) _ (ix2 a l)
    + broadcastTo S8x1024 (View.ld (Val := Elt Ideal) x2 r0_2) _ (ix2 a l) = _
  rw [broadcastTo_1b_ab_apply]
  refine congrArg₂ (· + ·) ?_ (at2_of x2 _ ?_ ?_)
  · refine (matmul_plain_apply (φ₁ := .f32) (φ₂ := .f32) _ _ _ a l).trans (Finset.sum_congr rfl fun k _ => ?_)
    have h : View.ld (Val := Elt Ideal) x0 r0_0 (ix2 a k) = at2 x0 a.val k.val := at2_of x0 _ (by show 0 + 1 * a.val = _; omega) (by show 0 + 1 * k.val = _; omega)
    refine congrArg₂ (· * ·) (congrArg₂ (· * ·) h (congrArg Ideal.logistic h)) (at2_of x1 _ ?_ ?_)
    · show 0 + 1 * k.val = _; omega
    · show 0 + 1 * l.val = _; omega
  · rfl
  · show 0 + 1 * l.val = _; omega

variable (m : (ℓ : Loc nD τ sig) → Buf (Elt Ideal) ℓ) (c : Dev nD)

/-! ## What the host operations leave before the kernel -/

theorem V_main_v0 : V m c main_v0 = broadcastInDim S8x1024 ![0, 1] bcast_S1x1024_S8x1024_0_1 (m ((c : Thread nD τ).loc main_arg0)) := by
  show StableHlo.after hostOps0 _ (Proc.devRef .tc main_v0) = _
  after_results

theorem V_main_v1 : V m c main_v1 = shapeCast S1024x6144 (m ((c : Thread nD τ).loc main_arg1)) shapeCasts_S1x1024x6144_S1024x6144 := by
  show StableHlo.after hostOps0 _ (Proc.devRef .tc main_v1) = _
  after_results
  rfl

theorem V_main_v3 : V m c main_v3 = shapeCast S1x6144 (shapeCast S6144 (m ((c : Thread nD τ).loc main_arg2)) shapeCasts_S1x6144_S6144) shapeCasts_S6144_S1x6144 := by
  show StableHlo.after hostOps0 _ (Proc.devRef .tc main_v3) = _
  after_results
  rfl

/-! ## The windows' blocks as parts of the arguments -/

theorem idx0 : ∀ t : Fin cfg0.N, win0_0.index t 0 = 0 ∧ win0_0.index t 1 = 0 := by decide +kernel
theorem idx1 : ∀ t : Fin cfg0.N, win0_1.index t 0 = 0 ∧ win0_1.index t 1 = t.val := by decide +kernel
theorem idx2 : ∀ t : Fin cfg0.N, win0_2.index t 0 = 0 ∧ win0_2.index t 1 = t.val := by decide +kernel
theorem idx3 : ∀ t : Fin cfg0.N, win0_3.index t 0 = 0 ∧ win0_3.index t 1 = t.val := by decide +kernel

variable (t : Fin cfg0.N)

theorem blk0 (a : ℕ) (k : Fin 1024) : at2 (iblk m c 0 t : S8x1024.Idx → EReal) a k.val
    = at2 (m ((c : Thread nD τ).loc main_arg0) : S1x1024.Idx → EReal) 0 k.val := by
  refine Eq.trans (b := (iblk m c 0 t : S8x1024.Idx → EReal) (ix2 (Fin.ofNat 8 a) (Fin.ofNat 1024 k.val))) rfl ?_
  unfold iblk
  rw [View.read_apply]
  show V m c main_v0 (((cfg0.win 0).blk t).view.emb (ix2 (Fin.ofNat 8 a) (Fin.ofNat 1024 k.val))) = _
  rw [V_main_v0]
  refine (broadcastInDim_apply _ bcast_S1x1024_S8x1024_0_1 _ _ (ix2 0 k) ?_).trans (at2_of _ _ rfl rfl)
  intro d
  match d with
  | ⟨0, _⟩ => rfl
  | ⟨1, _⟩ =>
    show k.val = if (1024 : ℕ) = 1 then 0 else win0_0.index t 1 * 1024 + 1 * (k.val % 1024)
    rw [if_neg (by decide), (idx0 t).2, Nat.mod_eq_of_lt k.isLt]; omega

theorem blk1 (k l : Fin 1024) : at2 (iblk m c 1 t : S1024x1024.Idx → EReal) k.val l.val
    = at3 (m ((c : Thread nD τ).loc main_arg1) : S1x1024x6144.Idx → EReal) 0 k.val (1024 * t.val + l.val) := by
  refine (at2_of _ (ix2 k l) rfl rfl).symm.trans ?_
  unfold iblk
  rw [View.read_apply]
  show V m c main_v1 (((cfg0.win 1).blk t).view.emb (ix2 k l)) = _
  rw [V_main_v1]
  refine cast_at3 _ _ _ ?_ ?_
  · show win0_1.index t 0 * 1024 + 1 * k.val = _; rw [(idx1 t).1]; omega
  · show win0_1.index t 1 * 1024 + 1 * l.val = _; rw [(idx1 t).2]; omega

theorem blk2 (l : Fin 1024) : at2 (iblk m c 2 t : S1x1024.Idx → EReal) 0 l.val
    = at2 (m ((c : Thread nD τ).loc main_arg2) : S1x6144.Idx → EReal) 0 (1024 * t.val + l.val) := by
  refine (at2_of _ (ix2 0 l) rfl rfl).symm.trans ?_
  unfold iblk
  rw [View.read_apply]
  show V m c main_v3 (((cfg0.win 2).blk t).view.emb (ix2 0 l)) = _
  rw [V_main_v3, shapeCast_shapeCast]
  refine at2_of _ _ ?_ ?_
  · show win0_2.index t 0 * 1 + 1 * 0 = _; rw [(idx2 t).1]
  · show win0_2.index t 1 * 1024 + 1 * l.val = _; rw [(idx2 t).2]; omega

/-! ## The array the kernel leaves -/

/-- The modulation vector of the memory's arguments. -/
def adaOf : ℕ → EReal := adaRow (at2 (m ((c : Thread nD τ).loc main_arg0) : S1x1024.Idx → EReal) 0)
  (at3 (m ((c : Thread nD τ).loc main_arg1) : S1x1024x6144.Idx → EReal) 0) (at2 (m ((c : Thread nD τ).loc main_arg2) : S1x6144.Idx → EReal) 0)

/-- The eight equal rows the kernel leaves. -/
def result : S8x6144.Idx → EReal := fun i => adaOf m c (i 1).val

theorem final : (dats m 0 c).arrAt 3 cfg0.N = result m c := by
  refine (dats m 0 c).arrAt_eq_of_covers 3 _ (by decide +kernel) fun t hf y => ?_
  blk_simp
  rw [after0_3, out_apply]
  obtain ⟨a, l, rfl⟩ : ∃ (a : Fin 8) (l : Fin 1024), y = ix2 a l := ⟨y 0, y 1, eq_ix2 y⟩
  refine Eq.trans (b := adaOf m c (1024 * t.val + l.val)) ?_ (congrArg (adaOf m c) ?_)
  · unfold adaOf adaRow
    exact congrArg₂ (· + ·) (Finset.sum_congr rfl fun k _ => congrArg₂ (· * ·)
      (congrArg (fun z => z * Ideal.logistic z) (blk0 m c t a.val k)) (blk1 m c t k l)) (blk2 m c t l)
  · show _ = win0_3.index t 1 * 1024 + 1 * l.val; rw [(idx3 t).2]; omega

end Cert.Kernel4Ideal.Val

namespace Cert.Reference4Ideal.Val

open Cert.Reference4Ideal Cert.Reference4Ideal.Gen Cert.Reference4Ideal.Read Cert.Core

/-- The eight equal rows the reference leaves. -/
theorem ref_apply (x0 : S1x1024.Idx → EReal) (x1 : S1x1024x6144.Idx → EReal) (x2 : S1x6144.Idx → EReal) (i : S8x6144.Idx) :
    val_main_v6 (F := Ideal) x0 x1 x2 i = adaRow (at2 x0 0) (at3 x1 0) (at2 x2 0) (i 1).val := by
  rw [val_main_v6_apply, val_main_v5_apply, val_main_v2_apply, val_main_v4_apply, val_main_v3_apply]
  have h1 : (i 1).val < 6144 := (i 1).isLt
  have one : Ideal.ofBits .f32 0x3F800000#32 = 1 := Ideal.ofBits_one_f32
  have e : ∀ z : EReal, z * Ideal.div (Ideal.ofBits .f32 0x3F800000#32) (Ideal.ofBits .f32 0x3F800000#32 + Ideal.exp (-z)) = z * Ideal.logistic z := fun z => by
    rw [one]; rfl
  unfold adaRow
  refine congrArg₂ (· + ·) (Finset.sum_congr rfl fun k _ => congrArg₂ (· * ·) ?_ ?_) (at2_of x2 _ rfl ?_)
  · refine Eq.trans ?_ ((e _).trans (congrArg (fun z => z * Ideal.logistic z) (at2_of x0 (ix2 0 k) rfl rfl)))
    rw [val_main_v0_apply, val_main_call0_v5_apply, val_main_call0_v4_apply, val_main_call0_v3_apply, val_main_call0_v2_apply, val_main_call0_v1_apply,
      val_main_call0_v0_apply]
    have ei : lidx_main_v2 (idx_main_v6 i) k = ix2 0 k := by
      funext d
      match d with
      | ⟨0, _⟩ => rfl
      | ⟨1, _⟩ => rfl
    rw [ei]
    rfl
  · unfold val_main_v1
    exact cast_at3 x1 _ _ rfl rfl
  · exact Nat.mod_eq_of_lt h1

end Cert.Reference4Ideal.Val

namespace Cert.Ada

open Cert.Reference4Ideal.Read

/-- Over the extended reals the kernel and the reference leave the same modulation vector. -/
theorem algebraic : Cert.algebraic_Kernel4Ideal_Reference4Ideal := by
  intro m ρ m' ρ' _ hagree
  refine ⟨fun c => Cert.Kernel4Ideal.Val.result m c,
    (θ_run _ _ _).mono (fun _ h c => ⟨(h c).1.trans (Cert.Kernel4Ideal.Val.final m c), (h c).2⟩) (Cert.Kernel4Ideal.Value.run_blocks m ρ), ?_⟩
  refine (θ_run _ _ _).mono (fun _ h c => ⟨((h c).1.trans (val_main_v6_eq (F := Ideal) _ _ _)).trans ?_, (h c).2⟩)
    (Cert.Reference4Ideal.Value.run (F := Ideal) m' ρ')
  obtain ⟨h0, h1, h2⟩ := hagree c
  rw [h0, h1, h2]
  funext i
  exact Cert.Reference4Ideal.Val.ref_apply _ _ _ i

end Cert.Ada

end

end
-- ==== Proof.PrepCore.lean ====
/-
  The preparing call's arithmetic on extended reals: the short convolution, the normalised queries and keys, the decay
  and its running sums along a chunk, and the arrays the scan reads.
-/
module

public import proofs.«01_k».proof.Proof.Ada

@[expose] public section

noncomputable section

open Idealize.ShloMosaic Idealize.ShloMosaic.ValueIdx

namespace Cert.Core

/-- A number times its logistic. -/
def silu (z : EReal) : EReal := z * Ideal.logistic z

/-- Row `r` of an array `s` rows back, zero before the first row. -/
def back (X : ℕ → ℕ → EReal) (s r c : ℕ) : EReal := if s ≤ r then X (r - s) c else 0

/-- The convolution over four rows. -/
def conv (X W : ℕ → ℕ → EReal) (r c : ℕ) : EReal :=
  X r c * W 3 c + back X 1 r c * W 2 c + back X 2 r c * W 1 c + back X 3 r c * W 0 c

/-- The convolution through its gate. -/
def actOf (X W : ℕ → ℕ → EReal) (r c : ℕ) : EReal := silu (conv X W r c)

/-- A row normalised by the root of its sum of squares. -/
def nrmRow (p : ℕ → EReal) (l : ℕ) : EReal :=
  p l * Ideal.rsqrt ((∑ k : Fin 128, p k.val * p k.val) + Ideal.ofBits .f32 0x358637BD#32)

/-- The softplus. -/
def softplus (z : EReal) : EReal := max z 0 + Ideal.log1p (Ideal.exp (-(max z (-z))))

/-- The log decay of a token and head. -/
def decayOf (A : ℕ → ℕ → EReal) (al dt : ℕ → EReal) (r h : ℕ) : EReal := -Ideal.exp (al h) * softplus (A r h + dt h)

/-- The running sum of the log decays along chunk `n`. -/
def gcOf (g : ℕ → ℕ → EReal) (n h i : ℕ) : EReal := ∑ k : Fin 128, if k.val ≤ i then g (128 * n + k.val) h else 0

/-- Query `i` of chunk `n` and head `h`. -/
def qOf (a : ℕ → ℕ → EReal) (n h i l : ℕ) : EReal :=
  nrmRow (fun l => a (128 * n + i) (128 * h + l)) l * Ideal.ofBits .f32 0x3DB504F3#32

/-- Key `i` of chunk `n` and head `h`. -/
def kOf (a : ℕ → ℕ → EReal) (n h i l : ℕ) : EReal := nrmRow (fun l => a (128 * n + i) (512 + 128 * h + l)) l

/-- The decay from place `j` to place `i` of a chunk, none from a later place. -/
def decOf (g : ℕ → ℕ → EReal) (n h i j : ℕ) : EReal := Ideal.exp (if j ≤ i then gcOf g n h i - gcOf g n h j else Ideal.ofBits .f32 0xFF800000#32)

/-- The decayed queries. -/
def qdOf (a g : ℕ → ℕ → EReal) (n h i l : ℕ) : EReal := qOf a n h i l * Ideal.exp (gcOf g n h i)

/-- The decayed attention inside a chunk. -/
def atOf (a g : ℕ → ℕ → EReal) (n h i j : ℕ) : EReal := (∑ l : Fin 128, qOf a n h i l.val * kOf a n h j l.val) * decOf g n h i j

/-- The keys decayed to the chunk's end, channel by token. -/
def kdOf (a g : ℕ → ℕ → EReal) (n h i j : ℕ) : EReal := kOf a n h j i * Ideal.exp (gcOf g n h 127 - gcOf g n h j)

/-- The decay over a whole chunk: of the four heads, and zero in the rows that fill up to eight. -/
def egOf (g : ℕ → ℕ → EReal) (n h : ℕ) : EReal := if h < 4 then Ideal.exp (gcOf g n h 127) else 0

/-! ## A part of the rows -/

section Shift
variable {a a' g g' : ℕ → ℕ → EReal} {n n' : ℕ} (h : ℕ)

theorem gcOf_shift (hg : ∀ i < 128, g' (128 * n' + i) h = g (128 * n + i) h) (i : ℕ) : gcOf g' n' h i = gcOf g n h i := by
  unfold gcOf
  exact Finset.sum_congr rfl fun k _ => by rw [hg k.val k.isLt]

theorem qOf_shift (ha : ∀ i < 128, ∀ c, a' (128 * n' + i) c = a (128 * n + i) c) (i l : ℕ) (hi : i < 128) : qOf a' n' h i l = qOf a n h i l := by
  unfold qOf
  rw [funext fun l => ha i hi (128 * h + l)]

theorem kOf_shift (ha : ∀ i < 128, ∀ c, a' (128 * n' + i) c = a (128 * n + i) c) (i l : ℕ) (hi : i < 128) : kOf a' n' h i l = kOf a n h i l := by
  unfold kOf
  rw [funext fun l => ha i hi (512 + 128 * h + l)]

theorem qdOf_shift (ha : ∀ i < 128, ∀ c, a' (128 * n' + i) c = a (128 * n + i) c) (hg : ∀ i < 128, g' (128 * n' + i) h = g (128 * n + i) h)
    (i l : ℕ) (hi : i < 128) : qdOf a' g' n' h i l = qdOf a g n h i l := by
  unfold qdOf
  rw [qOf_shift h ha i l hi, gcOf_shift h hg]

theorem atOf_shift (ha : ∀ i < 128, ∀ c, a' (128 * n' + i) c = a (128 * n + i) c) (hg : ∀ i < 128, g' (128 * n' + i) h = g (128 * n + i) h)
    (i j : ℕ) (hi : i < 128) (hj : j < 128) : atOf a' g' n' h i j = atOf a g n h i j := by
  unfold atOf decOf
  rw [gcOf_shift h hg, gcOf_shift h hg]
  exact congrArg (· * _) (Finset.sum_congr rfl fun l _ => by rw [qOf_shift h ha i l.val hi, kOf_shift h ha j l.val hj])

theorem kdOf_shift (ha : ∀ i < 128, ∀ c, a' (128 * n' + i) c = a (128 * n + i) c) (hg : ∀ i < 128, g' (128 * n' + i) h = g (128 * n + i) h)
    (i j : ℕ) (hj : j < 128) : kdOf a' g' n' h i j = kdOf a g n h i j := by
  unfold kdOf
  rw [kOf_shift h ha j i hj, gcOf_shift h hg, gcOf_shift h hg]

theorem egOf_shift (hg : ∀ i < 128, g' (128 * n' + i) h = g (128 * n + i) h) : egOf g' n' h = egOf g n h := by
  unfold egOf
  rw [gcOf_shift h hg]

end Shift

/-! ## The log decay is never positive -/

theorem exp_nonneg (z : EReal) : 0 ≤ Ideal.exp z := by
  induction z with
  | bot => exact le_refl (0 : EReal)
  | top => exact le_top (a := (0 : EReal))
  | coe r => simp only [Ideal.exp_coe]; exact EReal.coe_nonneg.2 (Real.exp_pos r).le

theorem log1p_nonneg {z : EReal} (hz : 0 ≤ z) : 0 ≤ Ideal.log1p z := by
  induction z with
  | bot => simp at hz
  | top =>
    show 0 ≤ Ideal.log (((1 : ℝ) : EReal) + ⊤)
    rw [EReal.coe_add_top]
    exact le_top (a := (0 : EReal))
  | coe r =>
    have hr : 0 ≤ r := EReal.coe_nonneg.1 hz
    unfold Ideal.log1p
    rw [← EReal.coe_one, ← EReal.coe_add, Ideal.log_coe, if_neg (by linarith)]
    exact EReal.coe_nonneg.2 (Real.log_nonneg (by linarith))

theorem softplus_nonneg (z : EReal) : 0 ≤ softplus z := add_nonneg (le_max_right _ _) (log1p_nonneg (exp_nonneg _))

/-- The log decay is never positive infinity. -/
theorem decayOf_ne_top (A : ℕ → ℕ → EReal) (al dt : ℕ → EReal) (r h : ℕ) : decayOf A al dt r h ≠ ⊤ := by
  have h0 : decayOf A al dt r h ≤ 0 := by
    unfold decayOf
    rw [EReal.neg_mul, EReal.neg_le, neg_zero]
    exact mul_nonneg (exp_nonneg _) (softplus_nonneg _)
  exact fun e => by rw [e] at h0; simp at h0

/-- Split in three remainders, a number below positive infinity adds up again. -/
theorem three_parts {z : EReal} (hz : z ≠ ⊤) : z + (z - z) + (z - z - (z - z)) = z := by
  induction z with
  | bot => rfl
  | top => exact absurd rfl hz
  | coe r => rw [← EReal.coe_sub, ← EReal.coe_sub, ← EReal.coe_add, ← EReal.coe_add]; congr 1; ring

end Cert.Core

end
-- ==== Proof.PrepPay.lean ====
/-
  What one grid point of the preparing call's kernel stores.
-/
module

public import proofs.«01_k».proof.Proof.PrepCore
public import proofs.«01_k».proof.Proof.Gen.Kernel5Ideal.Value

@[expose] public section

set_option maxRecDepth 65536

noncomputable section

open Idealize.ShloMosaic hiding ix1 ix2 ix3 ix4 eq_ix1 eq_ix2 eq_ix3 eq_ix4
open Idealize.ShloMosaic.ValueIdx Idealize.ShloMosaic.StackMember

namespace Cert.Kernel5Ideal.Val

open Cert.Kernel5Ideal Cert.Kernel5Ideal.Gen Cert.Core

/-! ## The parts of a chunk and head -/

section Parts
variable {F : FTy → Type} [FloatOps F]

/-- Rows normalised by the root of their sums of squares. -/
def nrmV (x : FVec F S128x128 .f32) : FVec F S128x128 .f32 :=
  mulf x (broadcastTo S128x128 (rsqrt (addf (shapeCast S128x1 (multiReduction .add [1] S128 (mulf x x) 0x00000000#32
    reduces_S128x128_S128 (.inl rfl) rfl) shapeCasts_S128_S128x1) (broadcast S128x1 (Scalar.ofBits .f32 0x358637BD#32)))) broadcasts_S128x1_S128x128)

/-- The scaled queries. -/
def qV (x : FVec F S128x128 .f32) : FVec F S128x128 .f32 := mulf (nrmV x) (broadcast S128x128 (Scalar.ofBits .f32 0x3DB504F3#32))

/-- The running sums of a chunk's log decays, in three parts. -/
def gcV (g : FVec F S128x128 .f32) : FVec F S128x128 .f32 :=
  addf (addf
    (matmul dot_S128x128_S128x128_S128x128_1_0_0_1_n_n none (k0_pay13 (F := F)) (truncf .bf16 g bitsLt_bf16_f32) (constant S128x128 .f32 0x00000000#32))
    (matmul dot_S128x128_S128x128_S128x128_1_0_0_1_n_n none (k0_pay13 (F := F))
      (truncf .bf16 (subf g (extf .f32 (truncf .bf16 g bitsLt_bf16_f32) bitsLt_bf16_f32)) bitsLt_bf16_f32) (constant S128x128 .f32 0x00000000#32)))
    (matmul dot_S128x128_S128x128_S128x128_1_0_0_1_n_n none (k0_pay13 (F := F))
      (truncf .bf16 (subf (subf g (extf .f32 (truncf .bf16 g bitsLt_bf16_f32) bitsLt_bf16_f32))
        (extf .f32 (truncf .bf16 (subf g (extf .f32 (truncf .bf16 g bitsLt_bf16_f32) bitsLt_bf16_f32)) bitsLt_bf16_f32) bitsLt_bf16_f32)) bitsLt_bf16_f32)
      (constant S128x128 .f32 0x00000000#32))

/-- A head's running sums, repeated along the columns. -/
def colV (c : FVec F S128x1 .f32) : FVec F S128x128 .f32 :=
  broadcastTo S128x128 (shapeCast S128x1 c shapeCasts_S128x1_S128x1) broadcasts_S128x1_S128x128

/-- A head's running sums, repeated along the rows. -/
def rowV (r : FVec F S1x128 .f32) : FVec F S128x128 .f32 :=
  broadcastTo S128x128 (shapeCast S1x128 r shapeCasts_S1x128_S1x128) broadcasts_S1x128_S128x128

/-- The decays between the places of a chunk. -/
def decV (c r : FVec F S128x128 .f32) : FVec F S128x128 .f32 :=
  exp (select k0_pay11 (subf c r) (broadcast S128x128 (Scalar.ofBits .f32 0xFF800000#32)))

/-- The decayed queries. -/
def qdV (x c : FVec F S128x128 .f32) : FVec F S128x128 .bf16 := truncf .bf16 (mulf (qV x) (exp c)) bitsLt_bf16_f32

/-- The decayed attention. -/
def atV (x y d : FVec F S128x128 .f32) : FVec F S128x128 .bf16 :=
  truncf .bf16 (mulf (matmul dot_S128x128_S128x128_S128x128_1_1_0_0_n_n none (truncf .bf16 (qV x) bitsLt_bf16_f32)
    (truncf .bf16 (nrmV y) bitsLt_bf16_f32) (constant S128x128 .f32 0x00000000#32)) d) bitsLt_bf16_f32

/-- The chunk's whole running sum, repeated along the rows. -/
def lastV (c : FVec F S128x128 .f32) : FVec F S1x128 .f32 := extractStridedSlice S1x128 ![127, 0] c slices_S128x128_o127_0_S1x128

/-- The keys decayed to the chunk's end, transposed. -/
def kdV (y c : FVec F S128x128 .f32) : FVec F S128x128 .bf16 :=
  truncf .bf16 (transpose S128x128 [1, 0] (mulf (nrmV y) (exp (subf (broadcastTo S128x128 (lastV c) broadcasts_S1x128_S128x128) c)))
    transposes_S128x128_p1_0_S128x128) bitsLt_bf16_f32

/-- The whole chunk's decay. -/
def egV (c : FVec F S128x128 .f32) : FVec F S1x1x128 .f32 := shapeCast S1x1x128 (exp (lastV c)) shapeCasts_S1x128_S1x1x128

end Parts

/-! ## Their entries -/

theorem row_sum (x : FVec Ideal S128x128 .f32) (h : S128x128.Reduces [1] S128) (hφ) (hacc) (a : Fin 128) :
    multiReduction .add [1] S128 x 0x00000000#32 h hφ hacc (ix1 a) = ∑ j : Fin 128, x (ix2 a j) := by
  refine (Ideal.multiReduction_add_single x _ h hφ hacc (ix1 a)).trans (Finset.sum_congr rfl fun j _ => congrArg x (funext fun d => ?_))
  match d with
  | ⟨0, _⟩ => rfl
  | ⟨1, _⟩ => rfl

/-- A product of one block's rows with another's rows. -/
theorem matmul_nt_apply (A B : FVec Ideal S128x128 .bf16) (a b : Fin 128) :
    matmul dot_S128x128_S128x128_S128x128_1_1_0_0_n_n none A B (constant S128x128 .f32 0x00000000#32) (ix2 a b)
      = ∑ k : Fin 128, A (ix2 a k) * B (ix2 b k) := by
  refine (Ideal.matmul_constant_zero_apply _ none A B (ix2 a b)).trans ?_
  rw [← Equiv.sum_comp (contrEquiv1 dot_S128x128_S128x128_S128x128_1_1_0_0_n_n 128 rfl rfl).symm]
  refine Finset.sum_congr rfl fun k _ => ?_
  have c2 := contrEquiv1_symm_val dot_S128x128_S128x128_S128x128_1_1_0_0_n_n 128 rfl rfl k
  congr 1
  all_goals
    congr 1; funext d; apply Fin.ext
    match d with
    | ⟨0, _⟩ => rfl
    | ⟨1, _⟩ => exact c2

theorem bcol_apply (c : FVec Ideal S128x1 .f32) (i l : Fin 128) :
    broadcastTo S128x128 c broadcasts_S128x1_S128x128 (ix2 i l) = c (ix2 i 0) :=
  broadcastTo_apply _ broadcasts_S128x1_S128x128 (ix2 i l) (ix2 i 0) (by intro d; match d with | ⟨0, _⟩ => rfl | ⟨1, _⟩ => rfl)

theorem nrmV_apply (x : FVec Ideal S128x128 .f32) (i l : Fin 128) (p : ℕ → EReal) (hp : ∀ l : Fin 128, x (ix2 i l) = p l.val) :
    nrmV x (ix2 i l) = nrmRow p l.val := by
  unfold nrmV
  show x (ix2 i l) * broadcastTo S128x128 _ _ (ix2 i l) = _
  rw [bcol_apply]
  show x (ix2 i l) * Ideal.rsqrt (shapeCast S128x1 _ _ (ix2 i 0) + _) = _
  rw [shapeCast_a_a1_apply, hp l]
  have hs : (∑ j : Fin 128, mulf x x (ix2 i j)) = ∑ k : Fin 128, p k.val * p k.val :=
    Finset.sum_congr rfl fun j _ => congrArg₂ (· * ·) (hp j) (hp j)
  exact congrArg (fun s => p l.val * Ideal.rsqrt (s + Ideal.ofBits .f32 0x358637BD#32)) ((row_sum (mulf x x) _ _ _ i).trans hs)

/-- The mask is on at and below the diagonal. -/
theorem incl_apply (i k : Fin 128) : k0_pay11 (ix2 i k) = BitVec.ofBool (decide (k.val ≤ i.val)) := by
  show IntOp.cmpi .sle (BitVec.ofNat 32 (0 * 128 + k.val)) (BitVec.ofNat 32 (0 * 128 + i.val)) = _
  rw [Nat.zero_mul, Nat.zero_add, Nat.zero_add]
  exact WordCmp.cmpi_sle_ofNat (w := 32) (a := k.val) (b := i.val) (by have := k.isLt; omega) (by have := i.isLt; omega)

/-- A one at and below the diagonal. -/
theorem tri_apply (i k : Fin 128) : k0_pay13 (F := Ideal) (ix2 i k) = if k.val ≤ i.val then 1 else 0 := by
  show Scalar.select (k0_pay11 (ix2 i k)) (Ideal.ofBits .f32 0x3F800000#32) (Ideal.ofBits .f32 0x00000000#32) = _
  rw [incl_apply, Ideal.ofBits_zero_f32, Ideal.ofBits_one_f32]
  by_cases h : k.val ≤ i.val
  · rw [if_pos h, decide_eq_true h]; exact select_one _ _
  · rw [if_neg h, decide_eq_false h]; exact select_zero _ _

theorem gcV_apply (g : FVec Ideal S128x128 .f32) (i h : Fin 128) (p : ℕ → EReal) (hp : ∀ k : Fin 128, g (ix2 k h) = p k.val)
    (ht : ∀ k : Fin 128, p k.val ≠ ⊤) : gcV g (ix2 i h) = ∑ k : Fin 128, if k.val ≤ i.val then p k.val else 0 := by
  have m1 := matmul_plain_apply (φ₁ := .bf16) (φ₂ := .bf16) none (k0_pay13 (F := Ideal)) g i h
  have m2 := matmul_plain_apply (φ₁ := .bf16) (φ₂ := .bf16) none (k0_pay13 (F := Ideal)) (subf (φ := .f32) g g) i h
  have m3 := matmul_plain_apply (φ₁ := .bf16) (φ₂ := .bf16) none (k0_pay13 (F := Ideal)) (subf (φ := .f32) (subf g g) (subf g g)) i h
  refine (congrArg₂ (· + ·) (congrArg₂ (· + ·) m1 m2) m3).trans ?_
  show (∑ k : Fin 128, k0_pay13 (F := Ideal) (ix2 i k) * g (ix2 k h)) + (∑ k : Fin 128, k0_pay13 (F := Ideal) (ix2 i k) * (g (ix2 k h) - g (ix2 k h)))
    + (∑ k : Fin 128, k0_pay13 (F := Ideal) (ix2 i k) * (g (ix2 k h) - g (ix2 k h) - (g (ix2 k h) - g (ix2 k h)))) = _
  rw [← Finset.sum_add_distrib, ← Finset.sum_add_distrib]
  refine Finset.sum_congr rfl fun k _ => ?_
  rw [tri_apply, hp k]
  by_cases hk : k.val ≤ i.val
  · rw [if_pos hk, if_pos hk, one_mul, one_mul, one_mul]; exact three_parts (ht k)
  · rw [if_neg hk, if_neg hk, zero_mul, zero_mul, zero_mul, add_zero, add_zero]

/-! ## The tiles of a chunk and head -/

section Tiles
variable {a g : ℕ → ℕ → EReal} (A : FVec Ideal S256x1536 .f32) (G : FVec Ideal S256x128 .f32)

variable (hA : ∀ (r : Fin 256) (c : Fin 1536), A (ix2 r c) = a r.val c.val)
  (hG : ∀ (r : Fin 256) (c : Fin 128), G (ix2 r c) = g r.val c.val) (ht : ∀ r h, g r h ≠ ⊤)

include hA in
theorem slice_a (n o : ℕ) (hn : n < 2) (ho : o + 128 ≤ 1536) (hs) (i l : Fin 128) :
    extractStridedSlice S128x128 ![128 * n, o] A hs (ix2 i l) = a (128 * n + i.val) (o + l.val) := by
  refine (extractStridedSlice_apply _ A hs (ix2 i l) (ix2 ⟨128 * n + i.val, by have := i.isLt; omega⟩ ⟨o + l.val, by have := l.isLt; omega⟩) ?_).trans (hA _ _)
  intro d
  match d with
  | ⟨0, _⟩ => rfl
  | ⟨1, _⟩ => rfl

include hA in
theorem q_apply (n h : ℕ) (hn : n < 2) (hh : h < 4) (hs) (i l : Fin 128) :
    qV (extractStridedSlice S128x128 ![128 * n, 128 * h] A hs) (ix2 i l) = qOf a n h i.val l.val :=
  congrArg (· * Ideal.ofBits .f32 0x3DB504F3#32)
    (nrmV_apply _ i l (fun l => a (128 * n + i.val) (128 * h + l)) fun l => slice_a A hA n (128 * h) hn (by omega) hs i l)

include hA in
theorem k_apply (n h : ℕ) (hn : n < 2) (hh : h < 4) (hs) (i l : Fin 128) :
    nrmV (extractStridedSlice S128x128 ![128 * n, 512 + 128 * h] A hs) (ix2 i l) = kOf a n h i.val l.val :=
  nrmV_apply _ i l (fun l => a (128 * n + i.val) (512 + 128 * h + l)) fun l => slice_a A hA n (512 + 128 * h) hn (by omega) hs i l

include hG ht in
theorem gc_apply (n : ℕ) (hn : n < 2) (hs) (i h : Fin 128) :
    gcV (extractStridedSlice S128x128 ![128 * n, 0] G hs) (ix2 i h) = gcOf g n h.val i.val := by
  refine gcV_apply _ i h (fun k => g (128 * n + k) h.val) (fun k => ?_) fun k => ht _ _
  refine (extractStridedSlice_apply _ G hs (ix2 k h) (ix2 ⟨128 * n + k.val, by have := k.isLt; omega⟩ h) ?_).trans (hG _ _)
  intro d
  match d with
  | ⟨0, _⟩ => rfl
  | ⟨1, _⟩ => show h.val = 0 + h.val; omega

theorem col_apply (C : FVec Ideal S128x128 .f32) (h : ℕ) (hh : h < 128) (hs) (i l : Fin 128) :
    colV (extractStridedSlice S128x1 ![0, h] C hs) (ix2 i l) = C (ix2 i ⟨h, hh⟩) := by
  unfold colV
  rw [bcol_apply, shapeCast_self]
  refine extractStridedSlice_apply _ C hs (ix2 i 0) (ix2 i ⟨h, hh⟩) ?_
  intro d
  match d with
  | ⟨0, _⟩ => show i.val = 0 + i.val; omega
  | ⟨1, _⟩ => rfl

theorem row_apply (C : FVec Ideal S128x128 .f32) (h : ℕ) (hh : h < 128) (hs) (ht') (i l : Fin 128) :
    rowV (extractStridedSlice S1x128 ![h, 0] (transpose S128x128 [1, 0] C ht') hs) (ix2 i l) = C (ix2 l ⟨h, hh⟩) := by
  unfold rowV
  rw [broadcastTo_1b_ab_apply, shapeCast_self]
  refine (extractStridedSlice_apply _ _ hs (ix2 0 l) (ix2 ⟨h, hh⟩ l) ?_).trans (transpose_ix2_apply C ht' _ _)
  intro d
  match d with
  | ⟨0, _⟩ => rfl
  | ⟨1, _⟩ => show l.val = 0 + l.val; omega

theorem last_apply (C : FVec Ideal S128x128 .f32) (l : Fin 128) : lastV C (ix2 0 l) = C (ix2 ⟨127, by decide⟩ l) := by
  unfold lastV
  refine extractStridedSlice_apply _ C _ (ix2 0 l) (ix2 ⟨127, by decide⟩ l) ?_
  intro d
  match d with
  | ⟨0, _⟩ => rfl
  | ⟨1, _⟩ => show l.val = 0 + l.val; omega

/-- The block of the two chunks' and four heads' tiles. -/
def tiles (T : ℕ → ℕ → ℕ → ℕ → EReal) : S256x512.Idx → EReal := fun y =>
  T ((y 0).val / 128) ((y 1).val / 128) ((y 0).val % 128) ((y 1).val % 128)

/-- A stored tile agrees with the block that has it at chunk `n` and head `h`. -/
theorem tile_piece (T : ℕ → ℕ → ℕ → ℕ → EReal) (n h : ℕ) (off : Fin 2 → ℕ) (ho : off = ![128 * n, 128 * h]) (inb)
    (v : FVec Ideal S128x128 .bf16) (hv : ∀ i l : Fin 128, v (ix2 i l) = T n h i.val l.val)
    (x : (Rect.unit (s := S256x512) off S128x128.size inb).shape.Idx) :
    v x = tiles T ((Rect.unit (s := S256x512) off S128x128.size inb).emb x) := by
  subst ho
  obtain ⟨k, l, rfl⟩ : ∃ (k l : Fin 128), x = ix2 k l := ⟨x 0, x 1, eq_ix2 x⟩
  have e0 : (((Rect.unit (s := S256x512) ![128 * n, 128 * h] S128x128.size inb).emb (ix2 k l)) 0).val = 128 * n + k.val := by
    show 128 * n + 1 * k.val = _; omega
  have e1 : (((Rect.unit (s := S256x512) ![128 * n, 128 * h] S128x128.size inb).emb (ix2 k l)) 1).val = 128 * h + l.val := by
    show 128 * h + 1 * l.val = _; omega
  unfold tiles
  simp only [e0, e1]
  have hk := k.isLt
  have hl := l.isLt
  rw [show (128 * n + k.val) / 128 = n by omega, show (128 * h + l.val) / 128 = h by omega,
    show (128 * n + k.val) % 128 = k.val by omega, show (128 * h + l.val) % 128 = l.val by omega]
  exact hv k l

include hA hG ht

theorem qd_piece (n h : ℕ) (hn : n < 2) (hh : h < 4) (off : Fin 2 → ℕ) (ho : off = ![128 * n, 128 * h]) (inb) (hs hs' hs'')
    (x : (Rect.unit (s := S256x512) off S128x128.size inb).shape.Idx) :
    qdV (extractStridedSlice S128x128 ![128 * n, 128 * h] A hs)
        (colV (extractStridedSlice S128x1 ![0, h] (gcV (extractStridedSlice S128x128 ![128 * n, 0] G hs')) hs'')) x
      = tiles (qdOf a g) ((Rect.unit (s := S256x512) off S128x128.size inb).emb x) := by
  refine tile_piece _ n h off ho inb _ (fun i l => ?_) x
  refine congrArg₂ (fun p q => p * Ideal.exp q) (q_apply A hA n h hn hh hs i l) ?_
  rw [col_apply _ h (by omega), gc_apply G hG ht n hn]

theorem at_piece (n h : ℕ) (hn : n < 2) (hh : h < 4) (off : Fin 2 → ℕ) (ho : off = ![128 * n, 128 * h]) (inb) (hs hs' hs'' hc hr ht')
    (x : (Rect.unit (s := S256x512) off S128x128.size inb).shape.Idx) :
    atV (extractStridedSlice S128x128 ![128 * n, 128 * h] A hs) (extractStridedSlice S128x128 ![128 * n, 512 + 128 * h] A hs')
        (decV (colV (extractStridedSlice S128x1 ![0, h] (gcV (extractStridedSlice S128x128 ![128 * n, 0] G hs'')) hc))
          (rowV (extractStridedSlice S1x128 ![h, 0] (transpose S128x128 [1, 0] (gcV (extractStridedSlice S128x128 ![128 * n, 0] G hs'')) ht') hr))) x
      = tiles (atOf a g) ((Rect.unit (s := S256x512) off S128x128.size inb).emb x) := by
  refine tile_piece _ n h off ho inb _ (fun i l => ?_) x
  refine congrArg₂ (· * ·) ((matmul_nt_apply _ _ i l).trans (Finset.sum_congr rfl fun k _ =>
    congrArg₂ (· * ·) (q_apply A hA n h hn hh hs i k) (k_apply A hA n h hn hh hs' l k))) ?_
  show Ideal.exp (Scalar.select (k0_pay11 (ix2 i l)) (colV (F := Ideal) _ (ix2 i l) - rowV (F := Ideal) _ (ix2 i l)) (Ideal.ofBits .f32 0xFF800000#32)) = _
  rw [incl_apply, col_apply _ h (by omega), row_apply _ h (by omega), gc_apply G hG ht n hn, gc_apply G hG ht n hn]
  unfold decOf
  by_cases hk : l.val ≤ i.val
  · rw [if_pos hk, decide_eq_true hk]; exact congrArg Ideal.exp (select_one _ _)
  · rw [if_neg hk, decide_eq_false hk]; exact congrArg Ideal.exp (select_zero _ _)

theorem kd_piece (n h : ℕ) (hn : n < 2) (hh : h < 4) (off : Fin 2 → ℕ) (ho : off = ![128 * n, 128 * h]) (inb) (hs hs' hs'')
    (x : (Rect.unit (s := S256x512) off S128x128.size inb).shape.Idx) :
    kdV (extractStridedSlice S128x128 ![128 * n, 512 + 128 * h] A hs)
        (colV (extractStridedSlice S128x1 ![0, h] (gcV (extractStridedSlice S128x128 ![128 * n, 0] G hs')) hs'')) x
      = tiles (kdOf a g) ((Rect.unit (s := S256x512) off S128x128.size inb).emb x) := by
  refine tile_piece _ n h off ho inb _ (fun i l => ?_) x
  refine (transpose_ix2_apply (mulf (nrmV (extractStridedSlice S128x128 ![128 * n, 512 + 128 * h] A hs)) _) transposes_S128x128_p1_0_S128x128 i l).trans ?_
  refine congrArg₂ (fun p q => p * Ideal.exp q) (k_apply A hA n h hn hh hs l i) ?_
  show broadcastTo S128x128 (lastV (F := Ideal) _) _ (ix2 l i) - colV (F := Ideal) _ (ix2 l i) = _
  rw [broadcastTo_1b_ab_apply, last_apply, col_apply _ h (by omega), col_apply _ h (by omega), gc_apply G hG ht n hn, gc_apply G hG ht n hn]

theorem eg_piece (n h : ℕ) (hn : n < 2) (hh : h < 4) (off : Fin 3 → ℕ) (ho : off = ![n, h, 0]) (inb) (hs' hs'')
    (x : (Rect.unit (s := S2x8x128) off S1x1x128.size inb).shape.Idx) :
    egV (colV (extractStridedSlice S128x1 ![0, h] (gcV (extractStridedSlice S128x128 ![128 * n, 0] G hs')) hs'')) x
      = (fun y : S2x8x128.Idx => egOf g (y 0).val (y 1).val) ((Rect.unit (s := S2x8x128) off S1x1x128.size inb).emb x) := by
  subst ho
  obtain ⟨u, v, l, rfl⟩ : ∃ (u v : Fin 1) (l : Fin 128), x = ix3 u v l := ⟨x 0, x 1, x 2, eq_ix3 x⟩
  have e0 : (((Rect.unit (s := S2x8x128) ![n, h, 0] S1x1x128.size inb).emb (ix3 u v l)) 0).val = n := by
    show n + 1 * u.val = _; omega
  have e1 : (((Rect.unit (s := S2x8x128) ![n, h, 0] S1x1x128.size inb).emb (ix3 u v l)) 1).val = h := by
    show h + 1 * v.val = _; omega
  simp only [e0, e1]
  unfold egV
  rw [shapeCast_ab_1ab_apply]
  obtain rfl : v = 0 := Subsingleton.elim _ _
  show Ideal.exp (lastV (F := Ideal) _ (ix2 0 l)) = _
  rw [last_apply, col_apply _ h (by omega), gc_apply G hG ht n hn]
  unfold egOf
  rw [if_pos hh]

end Tiles

end Cert.Kernel5Ideal.Val

end
-- ==== Proof.PrepConv.lean ====
/-
  The convolution and the log decays of one grid point of the preparing call's kernel.
-/
module

public import proofs.«01_k».proof.Proof.PrepPay

@[expose] public section

set_option maxRecDepth 65536

noncomputable section

open Idealize.ShloMosaic hiding ix1 ix2 ix3 ix4 eq_ix1 eq_ix2 eq_ix3 eq_ix4
open Idealize.ShloMosaic.ValueIdx Idealize.ShloMosaic.StackMember

namespace Cert.Kernel5Ideal.Val

open Cert.Kernel5Ideal Cert.Kernel5Ideal.Gen Cert.Core

section Conv
variable {X : ℕ → ℕ → EReal} {t : ℕ} (v0 : FVec Ideal S256x1536 .f32) (H : FVec Ideal S8x1536 .f32)

variable (h0 : ∀ (r : Fin 256) (c : Fin 1536), v0 (ix2 r c) = X (256 * t + r.val) c.val)
  (hH : ∀ (j : Fin 8) (c : Fin 1536), H (ix2 j c) = if 0 < t then X (256 * t + j.val - 8) c.val else 0)

/-- The block's rows and the eight rows before them, `s` rows back. -/
def backV (s : BitVec 32) (H : FVec Ideal S8x1536 .f32) (v0 : FVec Ideal S256x1536 .f32) : FVec Ideal S256x1536 .f32 :=
  concatenate S256x1536 0 [⟨S8x1536, select (cmpi .slt (iota .tc S8x1536 32 [0] iota_S8x1536_d0_w32) (broadcast S8x1536 s))
      (dynamicRotate 0 s none H rotates_S8x1536_d0)
      (extractStridedSlice S8x1536 ![0, 0] (dynamicRotate 0 s none v0 rotates_S256x1536_d0) slices_S256x1536_o0_0_S8x1536)⟩,
    ⟨S248x1536, extractStridedSlice S248x1536 ![8, 0] (dynamicRotate 0 s none v0 rotates_S256x1536_d0) slices_S256x1536_o8_0_S248x1536⟩]
    concatenates_S8x1536_S248x1536_S256x1536_d0

include h0 in
theorem rot_apply (s : ℕ) (hs : s < 8) (r : Fin 256) (c : Fin 1536) (hr : s ≤ r.val) :
    dynamicRotate 0 (BitVec.ofNat 32 s) none v0 rotates_S256x1536_d0 (ix2 r c) = back X s (256 * t + r.val) c.val := by
  have hr' := r.isLt
  refine (dynamicRotate_apply 0 (BitVec.ofNat 32 s) v0 rotates_S256x1536_d0 (ix2 r c) (ix2 ⟨r.val - s, by omega⟩ c) ?_).trans ?_
  · intro b
    have hw : (BitVec.ofNat 32 s).toNat = s := by rw [BitVec.toNat_ofNat]; exact Nat.mod_eq_of_lt (by omega)
    match b with
    | ⟨0, _⟩ =>
      refine Eq.trans ?_ (if_pos rfl).symm
      rw [hw]
      show r.val - s = (r.val + 256 - s % 256) % 256
      omega
    | ⟨1, _⟩ => rfl
  · rw [h0]
    unfold back
    rw [if_pos (by omega)]
    exact congrArg (fun n => X n c.val) (by show 256 * t + (r.val - s) = 256 * t + r.val - s; omega)

include hH in
theorem rotH_apply (s : ℕ) (hs : s < 8) (r : Fin 8) (c : Fin 1536) (hr : r.val < s) :
    dynamicRotate 0 (BitVec.ofNat 32 s) none H rotates_S8x1536_d0 (ix2 r c) = back X s (256 * t + r.val) c.val := by
  have hr' := r.isLt
  refine (dynamicRotate_apply 0 (BitVec.ofNat 32 s) H rotates_S8x1536_d0 (ix2 r c) (ix2 ⟨r.val + 8 - s, by omega⟩ c) ?_).trans ?_
  · intro b
    have hw : (BitVec.ofNat 32 s).toNat = s := by rw [BitVec.toNat_ofNat]; exact Nat.mod_eq_of_lt (by omega)
    match b with
    | ⟨0, _⟩ =>
      refine Eq.trans ?_ (if_pos rfl).symm
      rw [hw]
      show r.val + 8 - s = (r.val + 8 - s % 8) % 8
      omega
    | ⟨1, _⟩ => rfl
  · rw [hH]
    unfold back
    by_cases h : 0 < t
    · rw [if_pos h, if_pos (by omega)]
      exact congrArg (fun n => X n c.val) (by show 256 * t + (r.val + 8 - s) - 8 = 256 * t + r.val - s; omega)
    · rw [if_neg h, if_neg (by omega)]

include h0 hH in
theorem backV_apply (s : ℕ) (hs : s < 8) (r : Fin 256) (c : Fin 1536) :
    backV (BitVec.ofNat 32 s) H v0 (ix2 r c) = back X s (256 * t + r.val) c.val := by
  unfold backV
  have hr' := r.isLt
  by_cases h8 : r.val < 8
  · refine (concatenate_pair_apply_left (α := EReal) 0 _ _ concatenates_S8x1536_S248x1536_S256x1536_d0 (ix2 r c) rfl (ix2 ⟨r.val, h8⟩ c) ?_).trans ?_
    · intro b
      match b with
      | ⟨0, _⟩ => rfl
      | ⟨1, _⟩ => rfl
    · show Scalar.select (IntOp.cmpi .slt (BitVec.ofNat 32 (0 * 8 + r.val)) (BitVec.ofNat 32 s)) (dynamicRotate (α := EReal) 0 _ none H _ (ix2 ⟨r.val, h8⟩ c))
        (extractStridedSlice (s := S256x1536) (α := EReal) S8x1536 ![0, 0] _ _ (ix2 ⟨r.val, h8⟩ c)) = _
      rw [Nat.zero_mul, Nat.zero_add, WordCmp.cmpi_slt_ofNat (w := 32) (a := r.val) (b := s) (by omega) (by omega)]
      by_cases hr : r.val < s
      · rw [decide_eq_true hr]
        exact (select_one _ _).trans (rotH_apply H hH s hs ⟨r.val, h8⟩ c hr)
      · rw [decide_eq_false hr]
        refine (select_zero _ _).trans ((extractStridedSlice_apply _ _ _ (ix2 ⟨r.val, h8⟩ c) (ix2 r c) ?_).trans (rot_apply v0 h0 s hs r c (by omega)))
        intro d
        match d with
        | ⟨0, _⟩ => show r.val = 0 + r.val; omega
        | ⟨1, _⟩ => show c.val = 0 + c.val; omega
  · refine (concatenate_pair_apply_right (α := EReal) 0 _ _ concatenates_S8x1536_S248x1536_S256x1536_d0 (ix2 r c) rfl rfl (ix2 ⟨r.val - 8, by omega⟩ c) ?_ ?_).trans ?_
    · intro b hb
      match b with
      | ⟨0, _⟩ => exact absurd rfl hb
      | ⟨1, _⟩ => rfl
    · show r.val - 8 + 8 = r.val; omega
    · refine (extractStridedSlice_apply _ _ _ (ix2 ⟨r.val - 8, by omega⟩ c) (ix2 r c) ?_).trans (rot_apply v0 h0 s hs r c (by omega))
      intro d
      match d with
      | ⟨0, _⟩ => show r.val = 8 + (r.val - 8); omega
      | ⟨1, _⟩ => show c.val = 0 + c.val; omega

end Conv

/-- The rows before the block: none before the first. -/
theorem halo_apply {X : ℕ → ℕ → EReal} (i : grid0.Coords) (v2 : Vec Ideal S8x1536 .f32)
    (h2 : 0 < (i 0).val → ∀ (j : Fin 8) (c : Fin 1536), v2 (ix2 j c) = X (256 * (i 0).val + j.val - 8) c.val) (j : Fin 8) (c : Fin 1536) :
    k0_pay2 i v2 (ix2 j c) = if 0 < (i 0).val then X (256 * (i 0).val + j.val - 8) c.val else 0 := by
  have hi : (i 0).val < 64 := (i 0).isLt
  have hc : Scalar.cmpi .sgt (BitVec.ofNat 32 (i 0).val) 0#32 = BitVec.ofBool (decide (0 < (i 0).val)) :=
    WordCmp.cmpi_sgt_ofNat (w := 32) (a := (i 0).val) (b := 0) (by omega) (by omega)
  unfold k0_pay2
  dsimp only
  rw [hc]
  by_cases h : 0 < (i 0).val
  · rw [if_pos h, decide_eq_true h]
    exact (congrFun (select_one v2 _) (ix2 j c)).trans (h2 h j c)
  · rw [if_neg h, decide_eq_false h]
    exact (congrFun (select_zero v2 _) (ix2 j c)).trans Ideal.ofBits_zero_f32

/-- The gated convolution. -/
theorem act_apply {X W : ℕ → ℕ → EReal} (i : grid0.Coords) (v0 : Vec Ideal S256x1536 .f32) (v2 v5 : Vec Ideal S8x1536 .f32)
    (h0 : ∀ (r : Fin 256) (c : Fin 1536), v0 (ix2 r c) = X (256 * (i 0).val + r.val) c.val)
    (h2 : 0 < (i 0).val → ∀ (j : Fin 8) (c : Fin 1536), v2 (ix2 j c) = X (256 * (i 0).val + j.val - 8) c.val)
    (h5 : ∀ (j : Fin 8) (c : Fin 1536), j.val < 4 → v5 (ix2 j c) = W j.val c.val) (r : Fin 256) (c : Fin 1536) :
    k0_pay8 (k0_pay3 v5) (k0_pay4 i v0 v2 v5) (k0_pay6 i v0 v2) (k0_pay7 v0) (ix2 r c) = actOf X W (256 * (i 0).val + r.val) c.val := by
  have hw : ∀ (o : Fin 8) (_ : o.val < 4) (off : Fin 2 → ℕ) (_ : off = ![o.val, 0]) (hs),
      broadcastTo (α := EReal) S256x1536 (extractStridedSlice S1x1536 off (k0_pay3 v5) hs) broadcasts_S1x1536_S256x1536 (ix2 r c) = W o.val c.val := by
    intro o ho off e hs
    subst e
    rw [broadcastTo_1b_ab_apply]
    refine (extractStridedSlice_apply _ _ hs (ix2 0 c) (ix2 o c) ?_).trans ?_
    · intro d
      match d with
      | ⟨0, _⟩ => rfl
      | ⟨1, _⟩ => show c.val = 0 + c.val; omega
    · unfold k0_pay3
      rw [shapeCast_self]
      exact h5 o c ho
  have hh := halo_apply (X := X) i v2 h2
  have hb := fun (s : ℕ) (hs : s < 8) => backV_apply v0 (k0_pay2 i v2) h0 hh s hs r c
  have e : v0 (ix2 r c) * broadcastTo (α := EReal) S256x1536 (extractStridedSlice S1x1536 ![3, 0] (k0_pay3 v5) slices_S8x1536_o3_0_S1x1536) broadcasts_S1x1536_S256x1536 (ix2 r c)
      + backV (BitVec.ofNat 32 1) (k0_pay2 i v2) v0 (ix2 r c) * broadcastTo (α := EReal) S256x1536 (extractStridedSlice S1x1536 ![2, 0] (k0_pay3 v5) slices_S8x1536_o2_0_S1x1536) broadcasts_S1x1536_S256x1536 (ix2 r c)
      + backV (BitVec.ofNat 32 2) (k0_pay2 i v2) v0 (ix2 r c) * broadcastTo (α := EReal) S256x1536 (extractStridedSlice S1x1536 ![1, 0] (k0_pay3 v5) slices_S8x1536_o1_0_S1x1536) broadcasts_S1x1536_S256x1536 (ix2 r c)
      + backV (BitVec.ofNat 32 3) (k0_pay2 i v2) v0 (ix2 r c) * broadcastTo (α := EReal) S256x1536 (extractStridedSlice S1x1536 ![0, 0] (k0_pay3 v5) slices_S8x1536_o0_0_S1x1536) broadcasts_S1x1536_S256x1536 (ix2 r c)
      = conv X W (256 * (i 0).val + r.val) c.val := by
    rw [hw 3 (by decide) ![3, 0] rfl, hw 2 (by decide) ![2, 0] rfl, hw 1 (by decide) ![1, 0] rfl, hw 0 (by decide) ![0, 0] rfl, hb 1 (by omega), hb 2 (by omega), hb 3 (by omega), h0]
    rfl
  unfold actOf
  rw [← e]
  rfl

/-- The log decays. -/
theorem g_apply {A : ℕ → ℕ → EReal} {al dt : ℕ → EReal} {t : ℕ} (v49 : Vec Ideal S256x128 .f32) (v50 v62 : Vec Ideal S1x128 .f32)
    (h0 : ∀ (r : Fin 256) (h : Fin 128), v49 (ix2 r h) = A (256 * t + r.val) h.val) (h1 : ∀ h : Fin 128, v50 (ix2 0 h) = dt h.val)
    (h2 : ∀ h : Fin 128, v62 (ix2 0 h) = al h.val) (r : Fin 256) (h : Fin 128) :
    k0_pay9 v49 v50 v62 (ix2 r h) = decayOf A al dt (256 * t + r.val) h.val := by
  unfold k0_pay9
  rw [shapeCast_self, shapeCast_self]
  have e1 : addf (F := Ideal) (φ := .f32) v49 (broadcastTo S256x128 v50 broadcasts_S1x128_S256x128) (ix2 r h) = A (256 * t + r.val) h.val + dt h.val := by
    show v49 (ix2 r h) + broadcastTo S256x128 v50 _ (ix2 r h) = _
    rw [broadcastTo_1b_ab_apply, h0, h1]
  show broadcastTo S256x128 _ _ (ix2 r h) * (max (addf (F := Ideal) (φ := .f32) v49 _ (ix2 r h)) (Ideal.ofBits .f32 0x00000000#32)
    + Ideal.log1p (Ideal.exp (Ideal.ofBits .f32 0x00000000#32 - max (addf (F := Ideal) (φ := .f32) v49 _ (ix2 r h)) (-(addf (F := Ideal) (φ := .f32) v49 _ (ix2 r h)))))) = _
  rw [broadcastTo_1b_ab_apply, e1]
  show (Ideal.ofBits .f32 0x00000000#32 - Ideal.exp (v62 (ix2 0 h))) * _ = _
  rw [h2, Ideal.ofBits_zero_f32, zero_sub, zero_sub]
  rfl

end Cert.Kernel5Ideal.Val

end
-- ==== Proof.PrepOut.lean ====
/-
  The blocks one grid point of the preparing call's kernel leaves.
-/
module

public import proofs.«01_k».proof.Proof.PrepConv
public import Idealize.ShloMosaic.Lib.WritesUnit

@[expose] public section

set_option maxRecDepth 65536
set_option maxHeartbeats 1600000

noncomputable section

open Idealize.ShloMosaic hiding ix1 ix2 ix3 ix4 eq_ix1 eq_ix2 eq_ix3 eq_ix4
open Idealize.ShloMosaic.ValueIdx Idealize.ShloMosaic.StackMember

namespace Cert.Kernel5Ideal.Val

open Cert.Kernel5Ideal Cert.Kernel5Ideal.Gen Cert.Core

theorem ld_0 (x : Vec Ideal S256x1536 .f32) : View.ld (Val := Elt Ideal) (e' := .f32) x (Rect.unit ![0, 0] ![256, 1536] inb_S256x1536_S256x1536_0_0) = x :=
  View.ld_unit_zero (by funext a; fin_cases a <;> rfl) _ x

theorem ld_1 (x : Vec Ideal S8x1536 .f32) : View.ld (Val := Elt Ideal) (e' := .f32) x (Rect.unit ![0, 0] ![8, 1536] inb_S8x1536_S8x1536_0_0) = x :=
  View.ld_unit_zero (by funext a; fin_cases a <;> rfl) _ x

theorem ld_2 (x : Vec Ideal S256x128 .f32) : View.ld (Val := Elt Ideal) (e' := .f32) x (Rect.unit ![0, 0] ![256, 128] inb_S256x128_S256x128_0_0) = x :=
  View.ld_unit_zero (by funext a; fin_cases a <;> rfl) _ x

/-- The decayed queries a point leaves. -/
theorem out7 (c : Dev nD) (i : grid0.Coords) (arg1 : Memref sig .tc .vmem S256x1536 .f32) (harg1 : arg1.IsWhole) (arg2 : Memref sig .tc .vmem S8x1536 .f32) (harg2 : arg2.IsWhole) (arg3 : Memref sig .tc .vmem S256x128 .f32) (harg3 : arg3.IsWhole) (arg4 : Memref sig .tc .vmem S8x1536 .f32) (harg4 : arg4.IsWhole) (arg5 : Memref sig .tc .vmem S8x128 .f32) (harg5 : arg5.IsWhole) (arg6 : Memref sig .tc .vmem S256x512 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S2x8x128 .f32) (harg11 : arg11.IsWhole) (x0 : Vec Ideal S256x1536 .f32) (x1 : Vec Ideal S8x1536 .f32) (x2 : Vec Ideal S256x128 .f32) (x3 : Vec Ideal S8x1536 .f32) (x4 : Vec Ideal S8x128 .f32)
    {a g : ℕ → ℕ → EReal}
    (hA : ∀ (r : Fin 256) (l : Fin 1536), k0_pay8 (F := Ideal) (k0_pay3 x3) (k0_pay4 i x0 x1 x3) (k0_pay6 i x0 x1) (k0_pay7 x0) (ix2 r l) = a r.val l.val)
    (hG : ∀ (r : Fin 256) (l : Fin 128), k0_pay9 (F := Ideal) x2 (View.ld (Val := Elt Ideal) (e' := .f32) x4 (Rect.unit ![1, 0] ![1, 128] inb_S8x128_S1x128_1_0))
      (View.ld (Val := Elt Ideal) (e' := .f32) x4 (Rect.unit ![0, 0] ![1, 128] inb_S8x128_S1x128_0_0)) (ix2 r l) = g r.val l.val)
    (ht : ∀ r h, g r h ≠ ⊤) :
    out0_A_7 c i arg1 harg1 arg2 harg2 arg3 harg3 arg4 harg4 arg5 harg5 arg6 harg6 arg7 harg7 arg8 harg8 arg9 harg9 arg10 harg10 arg11 harg11 x0 x1 x2 x3 x4 = tiles (qdOf a g) := by
  funext y
  unfold out0_A_7
  refine View.read_writes_apply_of_pieces _ _ (tiles (qdOf a g)) _ ?_ y (cover0_A_7 c i arg1 harg1 arg2 harg2 arg3 harg3 arg4 harg4 arg5 harg5 arg6 harg6 arg7 harg7 arg8 harg8 arg9 harg9 arg10 harg10 arg11 harg11 x0 x1 x2 x3 x4 y)
  unfold kernelRun0_A
  dsimp only
  sl_unfold_words
  simp only [View.readAt_eq_ld, harg1.read_unread, harg2.read_unread, harg3.read_unread, harg4.read_unread, harg5.read_unread, ld_0, ld_1, ld_2, List.forall_mem_cons]
  generalize k0_pay8 (F := Ideal) (k0_pay3 x3) (k0_pay4 i x0 x1 x3) (k0_pay6 i x0 x1) (k0_pay7 x0) = A at hA ⊢
  generalize k0_pay9 (F := Ideal) x2 _ _ = G at hG ⊢
  refine ⟨?_, ?_, ?_, ?_, ?_, ?_, ?_, ?_, fun x hx => absurd hx List.not_mem_nil⟩
  · exact fun x => qd_piece A G hA hG ht 1 3 (by decide) (by decide) _ rfl _ _ _ _ x
  · exact fun x => qd_piece A G hA hG ht 1 2 (by decide) (by decide) _ rfl _ _ _ _ x
  · exact fun x => qd_piece A G hA hG ht 1 1 (by decide) (by decide) _ rfl _ _ _ _ x
  · exact fun x => qd_piece A G hA hG ht 1 0 (by decide) (by decide) _ rfl _ _ _ _ x
  · exact fun x => qd_piece A G hA hG ht 0 3 (by decide) (by decide) _ rfl _ _ _ _ x
  · exact fun x => qd_piece A G hA hG ht 0 2 (by decide) (by decide) _ rfl _ _ _ _ x
  · exact fun x => qd_piece A G hA hG ht 0 1 (by decide) (by decide) _ rfl _ _ _ _ x
  · exact fun x => qd_piece A G hA hG ht 0 0 (by decide) (by decide) _ rfl _ _ _ _ x

/-- The decayed attention a point leaves. -/
theorem out8 (c : Dev nD) (i : grid0.Coords) (arg1 : Memref sig .tc .vmem S256x1536 .f32) (harg1 : arg1.IsWhole) (arg2 : Memref sig .tc .vmem S8x1536 .f32) (harg2 : arg2.IsWhole) (arg3 : Memref sig .tc .vmem S256x128 .f32) (harg3 : arg3.IsWhole) (arg4 : Memref sig .tc .vmem S8x1536 .f32) (harg4 : arg4.IsWhole) (arg5 : Memref sig .tc .vmem S8x128 .f32) (harg5 : arg5.IsWhole) (arg6 : Memref sig .tc .vmem S256x512 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S2x8x128 .f32) (harg11 : arg11.IsWhole) (x0 : Vec Ideal S256x1536 .f32) (x1 : Vec Ideal S8x1536 .f32) (x2 : Vec Ideal S256x128 .f32) (x3 : Vec Ideal S8x1536 .f32) (x4 : Vec Ideal S8x128 .f32)
    {a g : ℕ → ℕ → EReal}
    (hA : ∀ (r : Fin 256) (l : Fin 1536), k0_pay8 (F := Ideal) (k0_pay3 x3) (k0_pay4 i x0 x1 x3) (k0_pay6 i x0 x1) (k0_pay7 x0) (ix2 r l) = a r.val l.val)
    (hG : ∀ (r : Fin 256) (l : Fin 128), k0_pay9 (F := Ideal) x2 (View.ld (Val := Elt Ideal) (e' := .f32) x4 (Rect.unit ![1, 0] ![1, 128] inb_S8x128_S1x128_1_0))
      (View.ld (Val := Elt Ideal) (e' := .f32) x4 (Rect.unit ![0, 0] ![1, 128] inb_S8x128_S1x128_0_0)) (ix2 r l) = g r.val l.val)
    (ht : ∀ r h, g r h ≠ ⊤) :
    out0_A_8 c i arg1 harg1 arg2 harg2 arg3 harg3 arg4 harg4 arg5 harg5 arg6 harg6 arg7 harg7 arg8 harg8 arg9 harg9 arg10 harg10 arg11 harg11 x0 x1 x2 x3 x4 = tiles (atOf a g) := by
  funext y
  unfold out0_A_8
  refine View.read_writes_apply_of_pieces _ _ (tiles (atOf a g)) _ ?_ y (cover0_A_8 c i arg1 harg1 arg2 harg2 arg3 harg3 arg4 harg4 arg5 harg5 arg6 harg6 arg7 harg7 arg8 harg8 arg9 harg9 arg10 harg10 arg11 harg11 x0 x1 x2 x3 x4 y)
  unfold kernelRun0_A
  dsimp only
  sl_unfold_words
  simp only [View.readAt_eq_ld, harg1.read_unread, harg2.read_unread, harg3.read_unread, harg4.read_unread, harg5.read_unread, ld_0, ld_1, ld_2, List.forall_mem_cons]
  generalize k0_pay8 (F := Ideal) (k0_pay3 x3) (k0_pay4 i x0 x1 x3) (k0_pay6 i x0 x1) (k0_pay7 x0) = A at hA ⊢
  generalize k0_pay9 (F := Ideal) x2 _ _ = G at hG ⊢
  refine ⟨?_, ?_, ?_, ?_, ?_, ?_, ?_, ?_, fun x hx => absurd hx List.not_mem_nil⟩
  · exact fun x => at_piece A G hA hG ht 1 3 (by decide) (by decide) _ rfl _ _ slices_S256x1536_o128_896_S128x128 _ _ _ _ x
  · exact fun x => at_piece A G hA hG ht 1 2 (by decide) (by decide) _ rfl _ _ slices_S256x1536_o128_768_S128x128 _ _ _ _ x
  · exact fun x => at_piece A G hA hG ht 1 1 (by decide) (by decide) _ rfl _ _ slices_S256x1536_o128_640_S128x128 _ _ _ _ x
  · exact fun x => at_piece A G hA hG ht 1 0 (by decide) (by decide) _ rfl _ _ slices_S256x1536_o128_512_S128x128 _ _ _ _ x
  · exact fun x => at_piece A G hA hG ht 0 3 (by decide) (by decide) _ rfl _ _ slices_S256x1536_o0_896_S128x128 _ _ _ _ x
  · exact fun x => at_piece A G hA hG ht 0 2 (by decide) (by decide) _ rfl _ _ slices_S256x1536_o0_768_S128x128 _ _ _ _ x
  · exact fun x => at_piece A G hA hG ht 0 1 (by decide) (by decide) _ rfl _ _ slices_S256x1536_o0_640_S128x128 _ _ _ _ x
  · exact fun x => at_piece A G hA hG ht 0 0 (by decide) (by decide) _ rfl _ _ slices_S256x1536_o0_512_S128x128 _ _ _ _ x

/-- The decayed keys a point leaves. -/
theorem out9 (c : Dev nD) (i : grid0.Coords) (arg1 : Memref sig .tc .vmem S256x1536 .f32) (harg1 : arg1.IsWhole) (arg2 : Memref sig .tc .vmem S8x1536 .f32) (harg2 : arg2.IsWhole) (arg3 : Memref sig .tc .vmem S256x128 .f32) (harg3 : arg3.IsWhole) (arg4 : Memref sig .tc .vmem S8x1536 .f32) (harg4 : arg4.IsWhole) (arg5 : Memref sig .tc .vmem S8x128 .f32) (harg5 : arg5.IsWhole) (arg6 : Memref sig .tc .vmem S256x512 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S2x8x128 .f32) (harg11 : arg11.IsWhole) (x0 : Vec Ideal S256x1536 .f32) (x1 : Vec Ideal S8x1536 .f32) (x2 : Vec Ideal S256x128 .f32) (x3 : Vec Ideal S8x1536 .f32) (x4 : Vec Ideal S8x128 .f32)
    {a g : ℕ → ℕ → EReal}
    (hA : ∀ (r : Fin 256) (l : Fin 1536), k0_pay8 (F := Ideal) (k0_pay3 x3) (k0_pay4 i x0 x1 x3) (k0_pay6 i x0 x1) (k0_pay7 x0) (ix2 r l) = a r.val l.val)
    (hG : ∀ (r : Fin 256) (l : Fin 128), k0_pay9 (F := Ideal) x2 (View.ld (Val := Elt Ideal) (e' := .f32) x4 (Rect.unit ![1, 0] ![1, 128] inb_S8x128_S1x128_1_0))
      (View.ld (Val := Elt Ideal) (e' := .f32) x4 (Rect.unit ![0, 0] ![1, 128] inb_S8x128_S1x128_0_0)) (ix2 r l) = g r.val l.val)
    (ht : ∀ r h, g r h ≠ ⊤) :
    out0_A_9 c i arg1 harg1 arg2 harg2 arg3 harg3 arg4 harg4 arg5 harg5 arg6 harg6 arg7 harg7 arg8 harg8 arg9 harg9 arg10 harg10 arg11 harg11 x0 x1 x2 x3 x4 = tiles (kdOf a g) := by
  funext y
  unfold out0_A_9
  refine View.read_writes_apply_of_pieces _ _ (tiles (kdOf a g)) _ ?_ y (cover0_A_9 c i arg1 harg1 arg2 harg2 arg3 harg3 arg4 harg4 arg5 harg5 arg6 harg6 arg7 harg7 arg8 harg8 arg9 harg9 arg10 harg10 arg11 harg11 x0 x1 x2 x3 x4 y)
  unfold kernelRun0_A
  dsimp only
  sl_unfold_words
  simp only [View.readAt_eq_ld, harg1.read_unread, harg2.read_unread, harg3.read_unread, harg4.read_unread, harg5.read_unread, ld_0, ld_1, ld_2, List.forall_mem_cons]
  generalize k0_pay8 (F := Ideal) (k0_pay3 x3) (k0_pay4 i x0 x1 x3) (k0_pay6 i x0 x1) (k0_pay7 x0) = A at hA ⊢
  generalize k0_pay9 (F := Ideal) x2 _ _ = G at hG ⊢
  refine ⟨?_, ?_, ?_, ?_, ?_, ?_, ?_, ?_, fun x hx => absurd hx List.not_mem_nil⟩
  · exact fun x => kd_piece A G hA hG ht 1 3 (by decide) (by decide) _ rfl _ slices_S256x1536_o128_896_S128x128 _ _ x
  · exact fun x => kd_piece A G hA hG ht 1 2 (by decide) (by decide) _ rfl _ slices_S256x1536_o128_768_S128x128 _ _ x
  · exact fun x => kd_piece A G hA hG ht 1 1 (by decide) (by decide) _ rfl _ slices_S256x1536_o128_640_S128x128 _ _ x
  · exact fun x => kd_piece A G hA hG ht 1 0 (by decide) (by decide) _ rfl _ slices_S256x1536_o128_512_S128x128 _ _ x
  · exact fun x => kd_piece A G hA hG ht 0 3 (by decide) (by decide) _ rfl _ slices_S256x1536_o0_896_S128x128 _ _ x
  · exact fun x => kd_piece A G hA hG ht 0 2 (by decide) (by decide) _ rfl _ slices_S256x1536_o0_768_S128x128 _ _ x
  · exact fun x => kd_piece A G hA hG ht 0 1 (by decide) (by decide) _ rfl _ slices_S256x1536_o0_640_S128x128 _ _ x
  · exact fun x => kd_piece A G hA hG ht 0 0 (by decide) (by decide) _ rfl _ slices_S256x1536_o0_512_S128x128 _ _ x

/-- A store in front of others: what it covers it holds, the rest is theirs. -/
theorem eg_step (v : View sig .tc .vmem S2x8x128 .f32) (f : v.ty.Contents (Elt Ideal)) (T : S2x8x128.Idx → EReal) (n h : ℕ) (off : Fin 3 → ℕ)
    (ho : off = ![n, h, 0]) (inb) (w : (Rect.unit (s := S2x8x128) off S1x1x128.size inb).shape.Idx → Elt Ideal .f32)
    (L : List (View.Piece (Elt Ideal) S2x8x128 .f32)) (y : S2x8x128.Idx)
    (hw : ∀ x, w x = T ((Rect.unit (s := S2x8x128) off S1x1x128.size inb).emb x))
    (hL : ¬((y 0).val = n ∧ (y 1).val = h) → v.read (Elt Ideal) (v.writes (Elt Ideal) f L) y = T y) :
    v.read (Elt Ideal) (v.writes (Elt Ideal) f ((⟨Rect.unit off S1x1x128.size inb, w⟩ : View.Piece (Elt Ideal) S2x8x128 .f32) :: L)) y = T y := by
  subst ho
  by_cases hy : (y 0).val = n ∧ (y 1).val = h
  · have e : (Rect.unit (s := S2x8x128) ![n, h, 0] S1x1x128.size inb).emb (ix3 0 0 (y 2)) = y := by
      funext d
      apply Fin.ext
      match d with
      | ⟨0, _⟩ => show n + 1 * 0 = (y 0).val; omega
      | ⟨1, _⟩ => show h + 1 * 0 = (y 1).val; omega
      | ⟨2, _⟩ => show 0 + 1 * (y 2).val = (y 2).val; omega
    refine (View.read_writes_cons_unit_of_mem v f inb w L y (ix3 0 0 (y 2)) rfl ?_).trans ((hw _).trans (congrArg T e))
    intro d
    match d with
    | ⟨0, _⟩ => show (y 0).val = n + 0; omega
    | ⟨1, _⟩ => show (y 1).val = h + 0; omega
    | ⟨2, _⟩ => show (y 2).val = 0 + (y 2).val; omega
  · refine Eq.trans ?_ (hL hy)
    by_cases h0 : (y 0).val = n
    · exact View.read_writes_cons_unit_of_not_mem v f inb w L y rfl 1 (by show (y 1).val < h ∨ h + 1 ≤ (y 1).val; omega)
    · exact View.read_writes_cons_unit_of_not_mem v f inb w L y rfl 0 (by show (y 0).val < n ∨ n + 1 ≤ (y 0).val; omega)

/-- The whole chunks' decays a point leaves. -/
theorem out10 (c : Dev nD) (i : grid0.Coords) (arg1 : Memref sig .tc .vmem S256x1536 .f32) (harg1 : arg1.IsWhole) (arg2 : Memref sig .tc .vmem S8x1536 .f32) (harg2 : arg2.IsWhole) (arg3 : Memref sig .tc .vmem S256x128 .f32) (harg3 : arg3.IsWhole) (arg4 : Memref sig .tc .vmem S8x1536 .f32) (harg4 : arg4.IsWhole) (arg5 : Memref sig .tc .vmem S8x128 .f32) (harg5 : arg5.IsWhole) (arg6 : Memref sig .tc .vmem S256x512 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S2x8x128 .f32) (harg11 : arg11.IsWhole) (x0 : Vec Ideal S256x1536 .f32) (x1 : Vec Ideal S8x1536 .f32) (x2 : Vec Ideal S256x128 .f32) (x3 : Vec Ideal S8x1536 .f32) (x4 : Vec Ideal S8x128 .f32)
    {a g : ℕ → ℕ → EReal}
    (hA : ∀ (r : Fin 256) (l : Fin 1536), k0_pay8 (F := Ideal) (k0_pay3 x3) (k0_pay4 i x0 x1 x3) (k0_pay6 i x0 x1) (k0_pay7 x0) (ix2 r l) = a r.val l.val)
    (hG : ∀ (r : Fin 256) (l : Fin 128), k0_pay9 (F := Ideal) x2 (View.ld (Val := Elt Ideal) (e' := .f32) x4 (Rect.unit ![1, 0] ![1, 128] inb_S8x128_S1x128_1_0))
      (View.ld (Val := Elt Ideal) (e' := .f32) x4 (Rect.unit ![0, 0] ![1, 128] inb_S8x128_S1x128_0_0)) (ix2 r l) = g r.val l.val)
    (ht : ∀ r h, g r h ≠ ⊤) :
    out0_A_10 c i arg1 harg1 arg2 harg2 arg3 harg3 arg4 harg4 arg5 harg5 arg6 harg6 arg7 harg7 arg8 harg8 arg9 harg9 arg10 harg10 arg11 harg11 x0 x1 x2 x3 x4 = fun y : S2x8x128.Idx => egOf g (y 0).val (y 1).val := by
  funext y
  unfold out0_A_10
  unfold kernelRun0_A
  dsimp only
  sl_unfold_words
  simp only [View.readAt_eq_ld, harg1.read_unread, harg2.read_unread, harg3.read_unread, harg4.read_unread, harg5.read_unread, ld_0, ld_1, ld_2]
  generalize k0_pay8 (F := Ideal) (k0_pay3 x3) (k0_pay4 i x0 x1 x3) (k0_pay6 i x0 x1) (k0_pay7 x0) = A at hA
  generalize k0_pay9 (F := Ideal) x2 _ _ = G at hG ⊢
  refine eg_step _ _ (fun y : S2x8x128.Idx => egOf g (y 0).val (y 1).val) 1 3 _ rfl _ _ _ y (fun x => eg_piece A G hA hG ht 1 3 (by decide) (by decide) _ rfl _ _ _ x) fun h13 => ?_
  refine eg_step _ _ (fun y : S2x8x128.Idx => egOf g (y 0).val (y 1).val) 1 2 _ rfl _ _ _ y (fun x => eg_piece A G hA hG ht 1 2 (by decide) (by decide) _ rfl _ _ _ x) fun h12 => ?_
  refine eg_step _ _ (fun y : S2x8x128.Idx => egOf g (y 0).val (y 1).val) 1 1 _ rfl _ _ _ y (fun x => eg_piece A G hA hG ht 1 1 (by decide) (by decide) _ rfl _ _ _ x) fun h11 => ?_
  refine eg_step _ _ (fun y : S2x8x128.Idx => egOf g (y 0).val (y 1).val) 1 0 _ rfl _ _ _ y (fun x => eg_piece A G hA hG ht 1 0 (by decide) (by decide) _ rfl _ _ _ x) fun h10 => ?_
  refine eg_step _ _ (fun y : S2x8x128.Idx => egOf g (y 0).val (y 1).val) 0 3 _ rfl _ _ _ y (fun x => eg_piece A G hA hG ht 0 3 (by decide) (by decide) _ rfl _ _ _ x) fun h03 => ?_
  refine eg_step _ _ (fun y : S2x8x128.Idx => egOf g (y 0).val (y 1).val) 0 2 _ rfl _ _ _ y (fun x => eg_piece A G hA hG ht 0 2 (by decide) (by decide) _ rfl _ _ _ x) fun h02 => ?_
  refine eg_step _ _ (fun y : S2x8x128.Idx => egOf g (y 0).val (y 1).val) 0 1 _ rfl _ _ _ y (fun x => eg_piece A G hA hG ht 0 1 (by decide) (by decide) _ rfl _ _ _ x) fun h01 => ?_
  refine eg_step _ _ (fun y : S2x8x128.Idx => egOf g (y 0).val (y 1).val) 0 0 _ rfl _ _ _ y (fun x => eg_piece A G hA hG ht 0 0 (by decide) (by decide) _ rfl _ _ _ x) fun h00 => ?_
  refine (View.read_writes_cons_unit_of_mem _ _ _ _ [] y y rfl (fun d => ?_)).trans ?_
  · match d with
    | ⟨0, _⟩ => show (y 0).val = 0 + (y 0).val; omega
    | ⟨1, _⟩ => show (y 1).val = 0 + (y 1).val; omega
    | ⟨2, _⟩ => show (y 2).val = 0 + (y 2).val; omega
  · have e0 : (y 0).val < 2 := (y 0).isLt
    unfold egOf
    rw [if_neg (by omega)]
    exact Ideal.ofBits_zero_f32

end Cert.Kernel5Ideal.Val

end
-- ==== Proof.PrepKernel.lean ====
/-
  The arrays the preparing call's kernel leaves, of its arguments.
-/
module

public import proofs.«01_k».proof.Proof.PrepOut
public import Idealize.ShloMosaic.Lib.Pipeline.ValueKit
public import Idealize.ShloMosaic.Lib.KernelVsHost
public import Idealize.ShloMosaic.Lib.Routing.OpsOne

@[expose] public section

set_option maxRecDepth 65536

noncomputable section

open Idealize.ShloMosaic hiding ix1 ix2 ix3 ix4 eq_ix1 eq_ix2 eq_ix3 eq_ix4
open Idealize.ShloMosaic.TcCoe Idealize.ShloMosaic.ValueIdx Idealize.ShloMosaic.Tactic

namespace Cert.Core

/-- Part of a row set in a table: update `k` lands at `(r, c)` exactly when the first index word is `r` and the second plus `k` is `c`. -/
theorem lands_row {R C U w : ℕ} (d : ScatterDims (Routing.shape2 R C) (Routing.shape1 2) (Routing.shape1 U)) (hiw : d.insertedWindowDims = [0])
    (hsd : d.scatterDimsToOperandDims = [0, 1]) (hivd : d.indexVectorDim = 0) (idx : IVec (Routing.shape1 2) w) (k : Fin U) (r : Fin R) (c : Fin C) :
    d.resultIdx? (ix1 k) idx = some (ix2 r c) ↔ (idx (ix1 (0 : Fin 2))).toInt = r.val ∧ (idx (ix1 (1 : Fin 2))).toInt + (k.val : Int) = c.val := by
  have hwin1 : d.window (ix1 k) 1 = k.val := by
    have hk : d.sKept = [1] := by
      show (Routing.shape2 R C).kept d.insertedWindowDims = _
      rw [hiw]
      rfl
    unfold ScatterDims.window
    rw [dif_pos (by rw [hk]; simp)]
    exact congrArg (fun t => ((ix1 k : (Routing.shape1 U).Idx) t).val) (Subsingleton.elim (α := Fin 1) _ 0)
  have hwin0 : d.window (ix1 k) 0 = 0 := by
    unfold ScatterDims.window
    rw [dif_neg fun h => (of_decide_eq_true (List.mem_filter.1 h).2) (by rw [hiw]; simp)]
  rw [Routing.resultIdx?_ix2, Routing.start_pair d hsd hivd, Routing.start_pair d hsd hivd, hwin0, hwin1]
  omega

/-- The row a part of which is set, in that part. -/
theorem scatter_row_hit {α : Type} {R C U w : ℕ} (d : ScatterDims (Routing.shape2 R C) (Routing.shape1 2) (Routing.shape1 U)) (hiw : d.insertedWindowDims = [0])
    (hsd : d.scatterDimsToOperandDims = [0, 1]) (hivd : d.indexVectorDim = 0) (x0 : (Routing.shape2 R C).Idx → α) (idx : IVec (Routing.shape1 2) w)
    (upd : (Routing.shape1 U).Idx → α) (r : Fin R) (c : Fin C) (k : Fin U) (h0 : (idx (ix1 (0 : Fin 2))).toInt = r.val)
    (h1 : (idx (ix1 (1 : Fin 2))).toInt = 0) (hk : k.val = c.val) : Host.scatter d (fun _ b => b) x0 idx upd (ix2 r c) = upd (ix1 k) := by
  refine Routing.scatter_set_hit d x0 idx upd _ _ (fun k' hk' => ?_) (ix1 k) ((lands_row d hiw hsd hivd idx k r c).2 ⟨h0, by omega⟩)
  have q := ((lands_row d hiw hsd hivd idx (k' 0) r c).1 ((congrArg (fun t => d.resultIdx? t idx) (eq_ix1 k').symm).trans hk')).2
  rw [eq_ix1 k']
  exact congrArg (fun e => upd (ix1 e)) (Fin.ext (by omega))

/-- Another row than the one a part of which is set. -/
theorem scatter_row_miss {α : Type} {R C U w : ℕ} (d : ScatterDims (Routing.shape2 R C) (Routing.shape1 2) (Routing.shape1 U)) (hiw : d.insertedWindowDims = [0])
    (hsd : d.scatterDimsToOperandDims = [0, 1]) (hivd : d.indexVectorDim = 0) (x0 : (Routing.shape2 R C).Idx → α) (idx : IVec (Routing.shape1 2) w)
    (upd : (Routing.shape1 U).Idx → α) (r : Fin R) (c : Fin C) (h0 : (idx (ix1 (0 : Fin 2))).toInt ≠ r.val) :
    Host.scatter d (fun _ b => b) x0 idx upd (ix2 r c) = x0 (ix2 r c) :=
  Routing.scatter_set_miss d x0 idx upd _ fun k' hk' =>
    h0 ((lands_row d hiw hsd hivd idx (k' 0) r c).1 ((congrArg (fun t => d.resultIdx? t idx) (eq_ix1 k').symm).trans hk')).1

section
variable (a0 : (⟨2, ![16384, 1536]⟩ : Shape).Idx → EReal) (a1 : (⟨2, ![16384, 128]⟩ : Shape).Idx → EReal)
  (a2 : (⟨3, ![1, 4, 1536]⟩ : Shape).Idx → EReal) (a3 a4 : (⟨2, ![1, 4]⟩ : Shape).Idx → EReal)

/-- The convolved and gated queries, keys and values. -/
def prepAct : ℕ → ℕ → EReal := actOf (at2 a0) (at3 a2 0)

/-- The log decays. -/
def prepG : ℕ → ℕ → EReal := decayOf (at2 a1) (at2 a3 0) (at2 a4 0)
end

/-- A matrix laid out from its chunk-by-head tiles. -/
def laid (T : ℕ → ℕ → ℕ → ℕ → EReal) (r c : ℕ) : EReal := T (r / 128) (c / 128) (r % 128) (c % 128)

end Cert.Core

namespace Cert.Kernel5Ideal.Val

open Cert.Kernel5Ideal Cert.Kernel5Ideal.Gen Cert.Kernel5Ideal.Value Cert.Core

variable (m : (ℓ : Loc nD τ sig) → Buf (Elt Ideal) ℓ) (c : Dev nD)

/-! ## What the host operations leave before the kernel -/

theorem V_main_v1 : (V m c main_v1 : S8x1536.Idx → EReal) = pad (α := EReal) S8x1536 ![0, 0] ![4, 0] ![0, 0]
    (shapeCast S4x1536 (m ((c : Thread nD τ).loc main_arg2)) shapeCasts_S1x4x1536_S4x1536)
    (sitofp (F := Ideal) .f32 (constantI S_ 32 0#32)) pads_S4x1536_S8x1536_040_000 h_S_ := by
  show StableHlo.after (List.flatten [hostOps0, hostOps0_1, hostOps0_2]) _ (Proc.devRef .tc main_v1) = _
  simp only [hostOps0, hostOps0_1, hostOps0_2, List.flatten_cons, List.flatten_nil, List.append_nil, List.cons_append, List.nil_append]
  after_results
  rfl

theorem V_main_v12 : (V m c main_v12 : S8x128.Idx → EReal) =
    Host.scatter scatter_S8x128_S2_S4_0_0_01_0 (fun _ b => b)
      (Host.scatter scatter_S8x128_S2_S4_0_0_01_0 (fun _ b => b) (broadcastInDim (α := EReal) S8x128 ![] bcast_S_S8x128 (constant (F := Ideal) S_ .f32 0x00000000#32))
        (concatenate S2 0 [⟨S1, broadcastInDim S1 ![] bcast_S_S1 (constantI S_ 32 0#32)⟩, ⟨S1, broadcastInDim S1 ![] bcast_S_S1 (constantI S_ 32 0#32)⟩] concatenates_S1_S1_S2_d0)
        (shapeCast (α := EReal) S4 (m ((c : Thread nD τ).loc main_arg3)) shapeCasts_S1x4_S4))
      (concatenate S2 0 [⟨S1, broadcastInDim S1 ![] bcast_S_S1 (constantI S_ 32 1#32)⟩, ⟨S1, broadcastInDim S1 ![] bcast_S_S1 (constantI S_ 32 0#32)⟩] concatenates_S1_S1_S2_d0)
      (shapeCast (α := EReal) S4 (m ((c : Thread nD τ).loc main_arg4)) shapeCasts_S1x4_S4) := by
  show StableHlo.after (List.flatten [hostOps0, hostOps0_1, hostOps0_2]) _ (Proc.devRef .tc main_v12) = _
  simp only [hostOps0, hostOps0_1, hostOps0_2, List.flatten_cons, List.flatten_nil, List.append_nil, List.cons_append, List.nil_append]
  after_results
  rfl

/-- The parameters' first row holds the first array in its four heads. -/
theorem prm0 (h : Fin 4) : (V m c main_v12 : S8x128.Idx → EReal) (ix2 0 ⟨h.val, by have := h.isLt; omega⟩)
    = at2 (m ((c : Thread nD τ).loc main_arg3) : S1x4.Idx → EReal) 0 h.val := by
  rw [V_main_v12]
  refine (scatter_row_miss scatter_S8x128_S2_S4_0_0_01_0 rfl rfl rfl _ _ _ (0 : Fin 8) _ (by decide +kernel)).trans ?_
  refine (scatter_row_hit scatter_S8x128_S2_S4_0_0_01_0 rfl rfl rfl _ _ _ (0 : Fin 8) _ h (by decide +kernel) (by decide +kernel) rfl).trans ?_
  exact (shapeCast_apply _ _ (ix1 h) (ix2 0 h) (by rw [Shape.rowMajor_val_two, Shape.rowMajor_val_one]; show 0 * 4 + h.val = h.val; omega)).trans
    (at2_of _ _ rfl rfl)

/-- The parameters' second row holds the second array in its four heads. -/
theorem prm1 (h : Fin 4) : (V m c main_v12 : S8x128.Idx → EReal) (ix2 1 ⟨h.val, by have := h.isLt; omega⟩)
    = at2 (m ((c : Thread nD τ).loc main_arg4) : S1x4.Idx → EReal) 0 h.val := by
  rw [V_main_v12]
  refine (scatter_row_hit scatter_S8x128_S2_S4_0_0_01_0 rfl rfl rfl _ _ _ (1 : Fin 8) _ h (by decide +kernel) (by decide +kernel) rfl).trans ?_
  exact (shapeCast_apply _ _ (ix1 h) (ix2 0 h) (by rw [Shape.rowMajor_val_two, Shape.rowMajor_val_one]; show 0 * 4 + h.val = h.val; omega)).trans
    (at2_of _ _ rfl rfl)

/-- The convolution's four rows. -/
theorem cw_at (j : Fin 8) (l : Fin 1536) (hj : j.val < 4) : (V m c main_v1 : S8x1536.Idx → EReal) (ix2 j l)
    = at3 (m ((c : Thread nD τ).loc main_arg2) : S1x4x1536.Idx → EReal) 0 j.val l.val := by
  rw [V_main_v1]
  refine (pad_apply_of_inside _ _ _ _ _ _ _ (ix2 j l) (ix2 (⟨j.val, hj⟩ : Fin 4) l) ?_).trans (cast_at3 _ _ _ rfl rfl)
  intro a
  match a with
  | ⟨0, _⟩ => show j.val = 0 + j.val * (0 + 1); omega
  | ⟨1, _⟩ => show l.val = 0 + l.val * (0 + 1); omega

/-! ## The windows' blocks as parts of the arguments -/

theorem co : ∀ t : Fin cfg0.N, (grid0.coords t 0).val = t.val := by decide +kernel
theorem idx0 : ∀ t : Fin cfg0.N, win0_0.index t 0 = t.val ∧ win0_0.index t 1 = 0 := by decide +kernel
theorem idx1 : ∀ t : Fin cfg0.N, win0_1.index t 0 = 32 * t.val - 1 ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx7 : ∀ t : Fin cfg0.N, win0_7.index t 0 = t.val ∧ win0_7.index t 1 = 0 := by decide +kernel
theorem idx8 : ∀ t : Fin cfg0.N, win0_8.index t 0 = t.val ∧ win0_8.index t 1 = 0 := by decide +kernel
theorem idx9 : ∀ t : Fin cfg0.N, win0_9.index t 0 = t.val ∧ win0_9.index t 1 = 0 := by decide +kernel
theorem idx10 : ∀ t : Fin cfg0.N, win0_10.index t 0 = t.val ∧ win0_10.index t 1 = 0 ∧ win0_10.index t 2 = 0 := by decide +kernel

variable (t : Fin cfg0.N)

/-- Rows of the queries, keys and values. -/
theorem blk0 (r : Fin 256) (l : Fin 1536) : (iblk m c 0 t : S256x1536.Idx → EReal) (ix2 r l)
    = at2 (m ((c : Thread nD τ).loc main_arg0) : S16384x1536.Idx → EReal) (256 * (grid0.coords t 0).val + r.val) l.val := by
  rw [co t]
  unfold iblk
  rw [View.read_apply]
  show V m c main_arg0 _ = _
  rw [V_main_arg0]
  refine at2_of _ _ ?_ ?_
  · show win0_0.index t 0 * 256 + 1 * r.val = _; rw [(idx0 t).1]; omega
  · show win0_0.index t 1 * 1536 + 1 * l.val = _; rw [(idx0 t).2]; omega

/-- The eight rows before the block. -/
theorem blk1 (ht : 0 < (grid0.coords t 0).val) (r : Fin 8) (l : Fin 1536) : (iblk m c 1 t : S8x1536.Idx → EReal) (ix2 r l)
    = at2 (m ((c : Thread nD τ).loc main_arg0) : S16384x1536.Idx → EReal) (256 * (grid0.coords t 0).val + r.val - 8) l.val := by
  rw [co t] at ht ⊢
  unfold iblk
  rw [View.read_apply]
  show V m c main_arg0 _ = _
  rw [V_main_arg0]
  refine at2_of _ _ ?_ ?_
  · show win0_1.index t 0 * 8 + 1 * r.val = _; rw [(idx1 t).1]; omega
  · show win0_1.index t 1 * 1536 + 1 * l.val = _; rw [(idx1 t).2]; omega

/-- Rows of the decays' array. -/
theorem blk2 (r : Fin 256) (l : Fin 128) : (iblk m c 2 t : S256x128.Idx → EReal) (ix2 r l)
    = at2 (m ((c : Thread nD τ).loc main_arg1) : S16384x128.Idx → EReal) (256 * t.val + r.val) l.val := by
  unfold iblk
  rw [View.read_apply]
  show V m c main_arg1 _ = _
  rw [V_main_arg1]
  refine at2_of _ _ ?_ ?_
  · show win0_2.index t 0 * 256 + 1 * r.val = _; rw [(idx2 t).1]; omega
  · show win0_2.index t 1 * 128 + 1 * l.val = _; rw [(idx2 t).2]; omega

/-- The convolution's block. -/
theorem blk3 (j : Fin 8) (l : Fin 1536) (hj : j.val < 4) : (iblk m c 3 t : S8x1536.Idx → EReal) (ix2 j l)
    = at3 (m ((c : Thread nD τ).loc main_arg2) : S1x4x1536.Idx → EReal) 0 j.val l.val := by
  unfold iblk
  rw [View.read_apply]
  show (V m c main_v1 : S8x1536.Idx → EReal) (((cfg0.win 3).blk t).view.emb (ix2 j l)) = _
  have e : ((cfg0.win 3).blk t).view.emb (ix2 j l) = ix2 j l := by
    funext d
    match d with
    | ⟨0, _⟩ => exact Fin.ext (by show win0_3.index t 0 * 8 + 1 * j.val = j.val; rw [(idx3 t).1]; omega)
    | ⟨1, _⟩ => exact Fin.ext (by show win0_3.index t 1 * 1536 + 1 * l.val = l.val; rw [(idx3 t).2]; omega)
  rw [e]
  exact cw_at m c j l hj

/-- The parameters' block. -/
theorem blk4 (j : Fin 8) (l : Fin 128) : (iblk m c 4 t : S8x128.Idx → EReal) (ix2 j l) = (V m c main_v12 : S8x128.Idx → EReal) (ix2 j l) := by
  unfold iblk
  rw [View.read_apply]
  show (V m c main_v12 : S8x128.Idx → EReal) (((cfg0.win 4).blk t).view.emb (ix2 j l)) = _
  refine congrArg _ (funext fun d => ?_)
  match d with
  | ⟨0, _⟩ => exact Fin.ext (by show win0_4.index t 0 * 8 + 1 * j.val = j.val; rw [(idx4 t).1]; omega)
  | ⟨1, _⟩ => exact Fin.ext (by show win0_4.index t 1 * 128 + 1 * l.val = l.val; rw [(idx4 t).2]; omega)

/-! ## The arrays the kernel leaves -/

/-- The activations of the memory's arguments. -/
def actM : ℕ → ℕ → EReal := prepAct (m ((c : Thread nD τ).loc main_arg0)) (m ((c : Thread nD τ).loc main_arg2))

/-- The log decays of the memory's arguments. -/
def gM : ℕ → ℕ → EReal := prepG (m ((c : Thread nD τ).loc main_arg1)) (m ((c : Thread nD τ).loc main_arg3)) (m ((c : Thread nD τ).loc main_arg4))

/-- The log decays of every column, the heads' and the ones past them. -/
def gP : ℕ → ℕ → EReal := decayOf (at2 (m ((c : Thread nD τ).loc main_arg1) : S16384x128.Idx → EReal)) (at2 (V m c main_v12 : S8x128.Idx → EReal) 0)
  (at2 (V m c main_v12 : S8x128.Idx → EReal) 1)

theorem gP_eq (r h : ℕ) (hh : h < 4) : gP m c r h = gM m c r h := by
  have e0 : at2 (V m c main_v12 : S8x128.Idx → EReal) 0 h = at2 (m ((c : Thread nD τ).loc main_arg3) : S1x4.Idx → EReal) 0 h :=
    (at2_of (V m c main_v12 : S8x128.Idx → EReal) (ix2 0 ⟨h, by omega⟩) rfl rfl).symm.trans (prm0 m c ⟨h, hh⟩)
  have e1 : at2 (V m c main_v12 : S8x128.Idx → EReal) 1 h = at2 (m ((c : Thread nD τ).loc main_arg4) : S1x4.Idx → EReal) 0 h :=
    (at2_of (V m c main_v12 : S8x128.Idx → EReal) (ix2 1 ⟨h, by omega⟩) rfl rfl).symm.trans (prm1 m c ⟨h, hh⟩)
  unfold gP gM prepG decayOf
  rw [e0, e1]

theorem actB (r : Fin 256) (l : Fin 1536) :
    k0_pay8 (F := Ideal) (k0_pay3 (iblk m c 3 t)) (k0_pay4 (grid0.coords t) (iblk m c 0 t) (iblk m c 1 t) (iblk m c 3 t))
      (k0_pay6 (grid0.coords t) (iblk m c 0 t) (iblk m c 1 t)) (k0_pay7 (iblk m c 0 t)) (ix2 r l) = (fun r l => actM m c (256 * t.val + r) l) r.val l.val := by
  refine (act_apply (grid0.coords t) (iblk m c 0 t) (iblk m c 1 t) (iblk m c 3 t) (blk0 m c t) (blk1 m c t) (blk3 m c t) r l).trans ?_
  rw [co t]
  rfl

theorem gB (r : Fin 256) (h : Fin 128) :
    k0_pay9 (F := Ideal) (iblk m c 2 t) (View.ld (Val := Elt Ideal) (e' := .f32) (iblk m c 4 t : Vec Ideal S8x128 .f32) (Rect.unit ![1, 0] ![1, 128] inb_S8x128_S1x128_1_0))
      (View.ld (Val := Elt Ideal) (e' := .f32) (iblk m c 4 t : Vec Ideal S8x128 .f32) (Rect.unit ![0, 0] ![1, 128] inb_S8x128_S1x128_0_0)) (ix2 r h)
      = (fun r h => gP m c (256 * t.val + r) h) r.val h.val := by
  refine g_apply (A := at2 (m ((c : Thread nD τ).loc main_arg1) : S16384x128.Idx → EReal)) (al := at2 (V m c main_v12 : S8x128.Idx → EReal) 0)
    (dt := at2 (V m c main_v12 : S8x128.Idx → EReal) 1) (iblk m c 2 t) _ _ (blk2 m c t) (fun h => ?_) (fun h => ?_) r h
  · refine Eq.trans ?_ ((blk4 m c t 1 h).trans (at2_of _ _ rfl rfl))
    refine congrArg (iblk m c 4 t : S8x128.Idx → EReal) (funext fun d => Fin.ext ?_)
    match d with
    | ⟨0, _⟩ => rfl
    | ⟨1, _⟩ => show 0 + 1 * h.val = h.val; omega
  · refine Eq.trans ?_ ((blk4 m c t 0 h).trans (at2_of _ _ rfl rfl))
    refine congrArg (iblk m c 4 t : S8x128.Idx → EReal) (funext fun d => Fin.ext ?_)
    match d with
    | ⟨0, _⟩ => rfl
    | ⟨1, _⟩ => show 0 + 1 * h.val = h.val; omega

theorem gP_ne_top (r h : ℕ) : (fun r h => gP m c (256 * t.val + r) h) r h ≠ ⊤ := decayOf_ne_top _ _ _ _ _

theorem act_sh (n : ℕ) (i : ℕ) (_ : i < 128) (l : ℕ) :
    (fun r l => actM m c (256 * t.val + r) l) (128 * n + i) l = actM m c (128 * (2 * t.val + n) + i) l :=
  congrArg (fun r => actM m c r l) (by omega)

theorem g_sh (h : ℕ) (hh : h < 4) (n : ℕ) (i : ℕ) (_ : i < 128) :
    (fun r h => gP m c (256 * t.val + r) h) (128 * n + i) h = gM m c (128 * (2 * t.val + n) + i) h :=
  (gP_eq m c _ h hh).trans (congrArg (fun r => gM m c r h) (by omega))

/-- The decayed queries the kernel leaves. -/
def result7 : S16384x512.Idx → EReal := fun i => laid (qdOf (actM m c) (gM m c)) (i 0).val (i 1).val

/-- The decayed attention the kernel leaves. -/
def result8 : S16384x512.Idx → EReal := fun i => laid (atOf (actM m c) (gM m c)) (i 0).val (i 1).val

/-- The decayed keys the kernel leaves. -/
def result9 : S16384x512.Idx → EReal := fun i => laid (kdOf (actM m c) (gM m c)) (i 0).val (i 1).val

/-- The whole chunks' decays the kernel leaves. -/
def result10 : S128x8x128.Idx → EReal := fun i => egOf (gM m c) (i 0).val (i 1).val

/-- A tiled block of a point is rows of the layout. -/
theorem tiles_laid (T' T : ℕ → ℕ → ℕ → ℕ → EReal) (hT : ∀ n h i l, n < 2 → h < 4 → i < 128 → l < 128 → T' n h i l = T (2 * t.val + n) h i l)
    (y : S256x512.Idx) (r l : ℕ) (hr : r = 256 * t.val + (y 0).val) (hl : l = (y 1).val) : tiles T' y = laid T r l := by
  have h0 : (y 0).val < 256 := (y 0).isLt
  have h1 : (y 1).val < 512 := (y 1).isLt
  subst hr hl
  unfold tiles laid
  rw [hT _ _ _ _ (by omega) (by omega) (by omega) (by omega), show (256 * t.val + (y 0).val) / 128 = 2 * t.val + (y 0).val / 128 by omega,
    show (256 * t.val + (y 0).val) % 128 = (y 0).val % 128 by omega]

theorem final7 : (dats m 0 c).arrAt 7 cfg0.N = result7 m c := by
  refine (dats m 0 c).arrAt_eq_of_covers 7 _ (by decide +kernel) fun t hf y => ?_
  blk_simp
  rw [after0_7]
  unfold outsAt0
  dsimp only
  rw [out7 (a := fun r l => actM m c (256 * t.val + r) l) (g := fun r h => gP m c (256 * t.val + r) h) (hA := actB m c t) (hG := gB m c t) (ht := gP_ne_top m c t)]
  refine tiles_laid t _ _ (fun n h i l hn hh hi hl => qdOf_shift h (act_sh m c t n) (g_sh m c t h hh n) i l hi) y _ _ ?_ ?_
  · show win0_7.index t 0 * 256 + 1 * (y 0).val = _; rw [(idx7 t).1]; omega
  · show win0_7.index t 1 * 512 + 1 * (y 1).val = _; rw [(idx7 t).2]; omega

theorem final8 : (dats m 0 c).arrAt 8 cfg0.N = result8 m c := by
  refine (dats m 0 c).arrAt_eq_of_covers 8 _ (by decide +kernel) fun t hf y => ?_
  blk_simp
  rw [after0_8]
  unfold outsAt0
  dsimp only
  rw [out8 (a := fun r l => actM m c (256 * t.val + r) l) (g := fun r h => gP m c (256 * t.val + r) h) (hA := actB m c t) (hG := gB m c t) (ht := gP_ne_top m c t)]
  refine tiles_laid t _ _ (fun n h i l hn hh hi hl => atOf_shift h (act_sh m c t n) (g_sh m c t h hh n) i l hi hl) y _ _ ?_ ?_
  · show win0_8.index t 0 * 256 + 1 * (y 0).val = _; rw [(idx8 t).1]; omega
  · show win0_8.index t 1 * 512 + 1 * (y 1).val = _; rw [(idx8 t).2]; omega

theorem final9 : (dats m 0 c).arrAt 9 cfg0.N = result9 m c := by
  refine (dats m 0 c).arrAt_eq_of_covers 9 _ (by decide +kernel) fun t hf y => ?_
  blk_simp
  rw [after0_9]
  unfold outsAt0
  dsimp only
  rw [out9 (a := fun r l => actM m c (256 * t.val + r) l) (g := fun r h => gP m c (256 * t.val + r) h) (hA := actB m c t) (hG := gB m c t) (ht := gP_ne_top m c t)]
  refine tiles_laid t _ _ (fun n h i l hn hh hi hl => kdOf_shift h (act_sh m c t n) (g_sh m c t h hh n) i l hl) y _ _ ?_ ?_
  · show win0_9.index t 0 * 256 + 1 * (y 0).val = _; rw [(idx9 t).1]; omega
  · show win0_9.index t 1 * 512 + 1 * (y 1).val = _; rw [(idx9 t).2]; omega

theorem final10 : (dats m 0 c).arrAt 10 cfg0.N = result10 m c := by
  refine (dats m 0 c).arrAt_eq_of_covers 10 _ (by decide +kernel) fun t hf y => ?_
  blk_simp
  rw [after0_10]
  unfold outsAt0
  dsimp only
  rw [out10 (a := fun r l => actM m c (256 * t.val + r) l) (g := fun r h => gP m c (256 * t.val + r) h) (hA := actB m c t) (hG := gB m c t) (ht := gP_ne_top m c t)]
  show egOf _ (y 0).val (y 1).val = egOf (gM m c) (win0_10.index t 0 * 2 + 1 * (y 0).val) (win0_10.index t 1 * 8 + 1 * (y 1).val)
  rw [(idx10 t).1, (idx10 t).2.1, show t.val * 2 + 1 * (y 0).val = 2 * t.val + (y 0).val by omega, show 0 * 8 + 1 * (y 1).val = (y 1).val by omega]
  by_cases hh : (y 1).val < 4
  · exact egOf_shift (y 1).val (g_sh m c t (y 1).val hh (y 0).val)
  · unfold egOf
    rw [if_neg hh, if_neg hh]

end Cert.Kernel5Ideal.Val

end
-- ==== Proof.PrepRef.lean ====
/-
  The arrays the preparing call's reference leaves, of its arguments.
-/
module

public import proofs.«01_k».proof.Proof.PrepKernel
public import proofs.«01_k».proof.Proof.Gen.Reference5Ideal.Read
public import proofs.«01_k».proof.Proof.Gen.Reference5Ideal.Run

@[expose] public section

set_option maxRecDepth 65536

noncomputable section

open Idealize.ShloMosaic hiding ix1 ix2 ix3 ix4 eq_ix1 eq_ix2 eq_ix3 eq_ix4
open Idealize.ShloMosaic.TcCoe Idealize.ShloMosaic.ValueIdx

namespace Cert.Reference5Ideal.Val

open Cert.Reference5Ideal Cert.Reference5Ideal.Gen Cert.Reference5Ideal.Read Cert.Core

variable (x0 : S16384x1536.Idx → EReal) (x1 : S16384x128.Idx → EReal) (x2 : S1x4x1536.Idx → EReal) (x3 x4 : S1x4.Idx → EReal)

/-! ## The convolution -/

/-- The extended rows: three of zeros, then the array's. -/
theorem ext_apply (j : S16387x1536.Idx) (s r : ℕ) (hs : s ≤ 3) (hr : r < 16384) (hj : (j 0).val = r + 3 - s) :
    val_main_v1 (F := Ideal) x0 j = back (at2 x0) s r (j 1).val := by
  unfold val_main_v1 back
  by_cases h : s ≤ r
  · rw [if_pos h]
    refine (concatenate_pair_apply_right (α := EReal) 0 _ _ concatenates_S3x1536_S16384x1536_S16387x1536_d0 j rfl rfl
      (ix2 ⟨r - s, by omega⟩ ⟨(j 1).val, (j 1).isLt⟩) ?_ ?_).trans (at2_of x0 _ rfl rfl)
    · intro b hb
      match b with
      | ⟨0, _⟩ => exact absurd rfl hb
      | ⟨1, _⟩ => rfl
    · show r - s + 3 = (j 0).val; omega
  · rw [if_neg h]
    refine (concatenate_pair_apply_left (α := EReal) 0 _ _ concatenates_S3x1536_S16384x1536_S16387x1536_d0 j rfl
      (ix2 ⟨(j 0).val, by omega⟩ ⟨(j 1).val, (j 1).isLt⟩) ?_).trans ?_
    · intro b
      match b with
      | ⟨0, _⟩ => rfl
      | ⟨1, _⟩ => rfl
    · rw [val_main_v0_apply, val_main_cst_apply]
      exact Ideal.ofBits_zero_f32

/-- The convolution. -/
theorem conv_apply (i : S16384x1536.Idx) : val_main_v28 (F := Ideal) x0 x2 i = conv (at2 x0) (at3 x2 0) (i 0).val (i 1).val := by
  have h0 : (i 0).val < 16384 := (i 0).isLt
  have h1 : (i 1).val < 1536 := (i 1).isLt
  rw [val_main_v28_apply, val_main_v21_apply, val_main_v14_apply, val_main_v7_apply, val_main_v13_apply, val_main_v20_apply, val_main_v27_apply,
    val_main_v2_apply, val_main_v8_apply, val_main_v15_apply, val_main_v22_apply, val_main_v6_apply, val_main_v5_apply, val_main_v4_apply, val_main_v3_apply,
    val_main_v12_apply, val_main_v11_apply, val_main_v10_apply, val_main_v9_apply, val_main_v19_apply, val_main_v18_apply, val_main_v17_apply,
    val_main_v16_apply, val_main_v26_apply, val_main_v25_apply, val_main_v24_apply, val_main_v23_apply,
    ext_apply x0 _ 0 (i 0).val (by omega) h0 (by show 3 + (i 0).val = _; omega), ext_apply x0 _ 1 (i 0).val (by omega) h0 (by show 2 + (i 0).val = _; omega),
    ext_apply x0 _ 2 (i 0).val (by omega) h0 (by show 1 + (i 0).val = _; omega), ext_apply x0 _ 3 (i 0).val (by omega) h0 (by show (i 0).val = _; omega)]
  unfold conv
  refine congrArg₂ (· + ·) (congrArg₂ (· + ·) (congrArg₂ (· + ·) (congrArg₂ (· * ·) ?_ ?_) (congrArg₂ (· * ·) rfl ?_)) (congrArg₂ (· * ·) rfl ?_))
    (congrArg₂ (· * ·) rfl ?_)
  · exact if_pos (Nat.zero_le _)
  · exact at3_of x2 _ rfl rfl (Nat.mod_eq_of_lt h1)
  · exact at3_of x2 _ rfl rfl (Nat.mod_eq_of_lt h1)
  · exact at3_of x2 _ rfl rfl (Nat.mod_eq_of_lt h1)
  · exact at3_of x2 _ rfl rfl (Nat.mod_eq_of_lt h1)

/-- The convolution through its gate. -/
theorem act_apply (i : S16384x1536.Idx) : val_main_v29 (F := Ideal) x0 x2 i = prepAct x0 x2 (i 0).val (i 1).val := by
  rw [val_main_v29_apply, val_main_call0_v5_apply, val_main_call0_v4_apply, val_main_call0_v3_apply, val_main_call0_v2_apply, val_main_call0_v1_apply,
    val_main_call0_v0_apply, val_main_call0_cst_apply, val_main_call0_cst_0_apply, conv_apply]
  have e : ∀ z : EReal, z * Ideal.div (Ideal.ofBits .f32 0x3F800000#32) (Ideal.ofBits .f32 0x3F800000#32 + Ideal.exp (-z)) = z * Ideal.logistic z := fun z => by
    rw [Ideal.ofBits_one_f32]; rfl
  exact e _

/-! ## The queries and the keys -/

theorem qn_apply (i : S16384x4x128.Idx) : val_main_v39 (F := Ideal) x0 x2 i
    = nrmRow (fun l => prepAct x0 x2 (i 0).val (128 * (i 1).val + l)) (i 2).val := by
  have h0 : (i 0).val < 16384 := (i 0).isLt
  have h1 : (i 1).val < 4 := (i 1).isLt
  have he : ∀ j : S16384x4x128.Idx, val_main_v31 (F := Ideal) x0 x2 j = prepAct x0 x2 (j 0).val (128 * (j 1).val + (j 2).val) := fun j => by
    have g0 : (j 0).val < 16384 := (j 0).isLt
    have g1 : (j 1).val < 4 := (j 1).isLt
    have g2 : (j 2).val < 128 := (j 2).isLt
    rw [val_main_v31_apply, val_main_v30_apply, act_apply]
    exact congrArg₂ (prepAct x0 x2) (by show (((j 0).val * 4 + (j 1).val) * 128 + (j 2).val) / 512 = _; omega)
      (by show (((j 0).val * 4 + (j 1).val) * 128 + (j 2).val) % 512 = _; omega)
  rw [val_main_v39_apply, val_main_v38_apply, val_main_v37_apply, val_main_v36_apply, val_main_v35_apply, val_main_v34_apply, val_main_v33_apply,
    val_main_cst_1_apply, he]
  have hs : val_main_cst_0 (F := Ideal) (Shape.Idx.first h_S_) + ∑ k : Fin 128, val_main_v32 (F := Ideal) x0 x2 (idx_main_v33 (idx_main_v34 (idx_main_v38 i)) k)
      = ∑ k : Fin 128, prepAct x0 x2 (i 0).val (128 * (i 1).val + k.val) * prepAct x0 x2 (i 0).val (128 * (i 1).val + k.val) := by
    refine (congrArg (· + _) Ideal.ofBits_zero_f32).trans ((zero_add _).trans (Finset.sum_congr rfl fun k _ => ?_))
    rw [val_main_v32_apply, he]
    rfl
  rw [hs]
  rfl

theorem kn_apply (i : S16384x4x128.Idx) : val_main_v53 (F := Ideal) x0 x2 i
    = nrmRow (fun l => prepAct x0 x2 (i 0).val (512 + 128 * (i 1).val + l)) (i 2).val := by
  have h0 : (i 0).val < 16384 := (i 0).isLt
  have h1 : (i 1).val < 4 := (i 1).isLt
  have he : ∀ j : S16384x4x128.Idx, val_main_v45 (F := Ideal) x0 x2 j = prepAct x0 x2 (j 0).val (512 + 128 * (j 1).val + (j 2).val) := fun j => by
    have g0 : (j 0).val < 16384 := (j 0).isLt
    have g1 : (j 1).val < 4 := (j 1).isLt
    have g2 : (j 2).val < 128 := (j 2).isLt
    rw [val_main_v45_apply, val_main_v44_apply, act_apply]
    exact congrArg₂ (prepAct x0 x2) (by show (((j 0).val * 4 + (j 1).val) * 128 + (j 2).val) / 512 = _; omega)
      (by show 512 + (((j 0).val * 4 + (j 1).val) * 128 + (j 2).val) % 512 = _; omega)
  rw [val_main_v53_apply, val_main_v52_apply, val_main_v51_apply, val_main_v50_apply, val_main_v49_apply, val_main_v48_apply, val_main_v47_apply,
    val_main_cst_4_apply, he]
  have hs : val_main_cst_3 (F := Ideal) (Shape.Idx.first h_S_) + ∑ k : Fin 128, val_main_v46 (F := Ideal) x0 x2 (idx_main_v47 (idx_main_v48 (idx_main_v52 i)) k)
      = ∑ k : Fin 128, prepAct x0 x2 (i 0).val (512 + 128 * (i 1).val + k.val) * prepAct x0 x2 (i 0).val (512 + 128 * (i 1).val + k.val) := by
    refine (congrArg (· + _) Ideal.ofBits_zero_f32).trans ((zero_add _).trans (Finset.sum_congr rfl fun k _ => ?_))
    rw [val_main_v46_apply, he]
    rfl
  rw [hs]
  rfl

/-- The queries: chunk, head, place and channel. -/
theorem q_apply (i : S128x4x128x128.Idx) : val_main_v43 (F := Ideal) x0 x2 i = qOf (prepAct x0 x2) (i 0).val (i 1).val (i 2).val (i 3).val := by
  have h1 : (i 1).val < 4 := (i 1).isLt
  have h2 : (i 2).val < 128 := (i 2).isLt
  have h3 : (i 3).val < 128 := (i 3).isLt
  rw [val_main_v43_apply, val_main_v42_apply, val_main_v41_apply, val_main_v40_apply, val_main_cst_2_apply, qn_apply]
  unfold qOf
  refine congrArg (fun z : EReal => z * Ideal.ofBits .f32 0x3DB504F3#32) ?_
  show nrmRow (fun l => prepAct x0 x2 (((((i 0).val * 128 + (i 2).val) * 4 + (i 1).val) * 128 + (i 3).val) / 512)
    (128 * (((((i 0).val * 128 + (i 2).val) * 4 + (i 1).val) * 128 + (i 3).val) / 128 % 4) + l))
    (((((i 0).val * 128 + (i 2).val) * 4 + (i 1).val) * 128 + (i 3).val) % 128) = _
  rw [show ((((i 0).val * 128 + (i 2).val) * 4 + (i 1).val) * 128 + (i 3).val) / 512 = 128 * (i 0).val + (i 2).val by omega,
    show ((((i 0).val * 128 + (i 2).val) * 4 + (i 1).val) * 128 + (i 3).val) / 128 % 4 = (i 1).val by omega,
    show ((((i 0).val * 128 + (i 2).val) * 4 + (i 1).val) * 128 + (i 3).val) % 128 = (i 3).val by omega]

/-- The keys: chunk, head, place and channel. -/
theorem k_apply (i : S128x4x128x128.Idx) : val_main_v55 (F := Ideal) x0 x2 i = kOf (prepAct x0 x2) (i 0).val (i 1).val (i 2).val (i 3).val := by
  have h1 : (i 1).val < 4 := (i 1).isLt
  have h2 : (i 2).val < 128 := (i 2).isLt
  have h3 : (i 3).val < 128 := (i 3).isLt
  rw [val_main_v55_apply, val_main_v54_apply, kn_apply]
  unfold kOf
  show nrmRow (fun l => prepAct x0 x2 (((((i 0).val * 128 + (i 2).val) * 4 + (i 1).val) * 128 + (i 3).val) / 512)
    (512 + 128 * (((((i 0).val * 128 + (i 2).val) * 4 + (i 1).val) * 128 + (i 3).val) / 128 % 4) + l))
    (((((i 0).val * 128 + (i 2).val) * 4 + (i 1).val) * 128 + (i 3).val) % 128) = _
  rw [show ((((i 0).val * 128 + (i 2).val) * 4 + (i 1).val) * 128 + (i 3).val) / 512 = 128 * (i 0).val + (i 2).val by omega,
    show ((((i 0).val * 128 + (i 2).val) * 4 + (i 1).val) * 128 + (i 3).val) / 128 % 4 = (i 1).val by omega,
    show ((((i 0).val * 128 + (i 2).val) * 4 + (i 1).val) * 128 + (i 3).val) % 128 = (i 3).val by omega]

/-! ## The decay -/

/-- The log decays, token by head. -/
theorem g_apply (i : S16384x4.Idx) : val_main_v67 (F := Ideal) x1 x3 x4 i = prepG x1 x3 x4 (i 0).val (i 1).val := by
  have h1 : (i 1).val < 4 := (i 1).isLt
  have hz : val_main_v63 (F := Ideal) x1 x4 i = at2 x1 (i 0).val (i 1).val + at2 x4 0 (i 1).val := by
    rw [val_main_v63_apply, val_main_v62_apply, val_main_v61_apply, val_main_v60_apply, val_main_v59_apply]
    exact congrArg₂ (· + ·) (at2_of x1 _ rfl rfl) (at2_of x4 _ rfl (Nat.mod_eq_of_lt h1))
  have hs : ∀ z : EReal, Scalar.select (Ideal.cmp .une (z - 0) (z - 0)) (z + 0) (max z 0 + Ideal.log1p (Ideal.exp (-(max (z - 0) (-(z - 0)))))) = softplus z := fun z => by
    have e : Ideal.cmp .une (z - 0) (z - 0) = 0#1 := by
      show BitVec.ofBool (decide (z - 0 ≠ z - 0)) = 0#1
      rw [decide_eq_false (fun h => h rfl)]
      rfl
    rw [e, sub_zero]
    rfl
  rw [val_main_v67_apply, val_main_v66_apply, val_main_v65_apply, val_main_v58_apply, val_main_v57_apply, val_main_v56_apply, val_main_v64_apply,
    val_main_call1_v11_apply, val_main_call1_v10_apply, val_main_call1_v9_apply, val_main_call1_v8_apply, val_main_call1_v7_apply, val_main_call1_v6_apply,
    val_main_call1_v5_apply, val_main_call1_v4_apply, val_main_call1_v3_apply, val_main_call1_v2_apply, val_main_call1_v1_apply, val_main_call1_v0_apply, hz]
  have h0 : val_main_call1_cst (F := Ideal) = fun _ => (0 : EReal) := funext fun _ => Ideal.ofBits_zero_f32
  rw [h0]
  unfold prepG decayOf
  refine congrArg₂ (fun a b : EReal => -Ideal.exp a * b) ?_ (hs _)
  exact at2_of x3 _ rfl (Nat.mod_eq_of_lt h1)

theorem gt_apply (i : S128x4x128.Idx) : val_main_v69 (F := Ideal) x1 x3 x4 i = prepG x1 x3 x4 (128 * (i 0).val + (i 2).val) (i 1).val := by
  have h1 : (i 1).val < 4 := (i 1).isLt
  rw [val_main_v69_apply, val_main_v68_apply, g_apply]
  exact congrArg₂ (prepG x1 x3 x4) (by show (((i 0).val * 128 + (i 2).val) * 4 + (i 1).val) / 4 = _; omega)
    (by show (((i 0).val * 128 + (i 2).val) * 4 + (i 1).val) % 4 = _; omega)

/-- The causal mask is on at and below the diagonal. -/
theorem mask_apply (i : S128x128.Idx) : val_main_v71 (F := Ideal) i = BitVec.ofBool (decide ((i 1).val ≤ (i 0).val)) := by
  have h0 : (i 0).val < 128 := (i 0).isLt
  have h1 : (i 1).val < 128 := (i 1).isLt
  rw [val_main_v71_apply, val_main_v70_apply, val_main_c_apply, val_main_call2_v5_apply, val_main_call2_c_0_apply, val_main_call2_v4_apply,
    val_main_call2_v3_apply, val_main_call2_v2_apply, val_main_call2_v1_apply, val_main_call2_c_apply, val_main_call2_v0_apply]
  have e : IntOp.addi (BitVec.ofNat 32 (i 0).val) 0#32 = BitVec.ofNat 32 (i 0).val := BitVec.add_zero _
  rw [e, WordCmp.cmpi_sge_ofNat (w := 32) (a := (i 0).val) (b := (i 1).val) (by omega) (by omega)]
  by_cases h : (i 1).val ≤ (i 0).val
  · rw [decide_eq_true h]; rfl
  · rw [decide_eq_false h]; rfl

theorem masked (p : Prop) [Decidable p] (a b : EReal) : Scalar.select (BitVec.ofBool (decide p)) a b = if p then a else b := by
  by_cases h : p
  · rw [decide_eq_true h, if_pos h]; rfl
  · rw [decide_eq_false h, if_neg h]; rfl

/-- The running sums of the log decays. -/
theorem gc_apply (i : S128x4x128.Idx) : val_main_v74 (F := Ideal) x1 x3 x4 i = gcOf (prepG x1 x3 x4) (i 0).val (i 1).val (i 2).val := by
  rw [val_main_v74_apply]
  unfold gcOf
  refine (congrArg (· + _) Ideal.ofBits_zero_f32).trans ((zero_add _).trans (Finset.sum_congr rfl fun k _ => ?_))
  rw [val_main_v73_apply, val_main_call3_v3_apply, val_main_call3_v2_apply, val_main_call3_v1_apply, val_main_call3_v0_apply, val_main_v72_apply,
    val_main_cst_5_apply, mask_apply, gt_apply, masked]
  exact congrArg (fun z : EReal => if k.val ≤ (i 2).val then prepG x1 x3 x4 (128 * (i 0).val + k.val) (i 1).val else z) Ideal.ofBits_zero_f32

/-- The decays between the places of a chunk. -/
theorem dec_apply (i : S128x4x128x128.Idx) : val_main_v81 (F := Ideal) x1 x3 x4 i
    = decOf (prepG x1 x3 x4) (i 0).val (i 1).val (i 2).val (i 3).val := by
  rw [val_main_v81_apply, val_main_v80_apply, val_main_call4_v2_apply, val_main_call4_v1_apply, val_main_call4_v0_apply, val_main_v79_apply,
    val_main_v78_apply, val_main_v77_apply, val_main_v76_apply, val_main_v75_apply, val_main_cst_7_apply, mask_apply, gc_apply, gc_apply, masked]
  rfl

/-- The whole chunk's sum. -/
theorem last_apply (i : S128x4.Idx) : val_main_v89 (F := Ideal) x1 x3 x4 i = gcOf (prepG x1 x3 x4) (i 0).val (i 1).val 127 := by
  have h1 : (i 1).val < 4 := (i 1).isLt
  rw [val_main_v89_apply, val_main_v88_apply, gc_apply]
  show gcOf _ (((i 0).val * 4 + (i 1).val) / 4) (((i 0).val * 4 + (i 1).val) / 1 % 4) (127 + 0) = _
  rw [show ((i 0).val * 4 + (i 1).val) / 4 = (i 0).val by omega, show ((i 0).val * 4 + (i 1).val) / 1 % 4 = (i 1).val by omega]

/-! ## The results -/

theorem at_apply (i : S128x4x128x128.Idx) : val_main_v83 (F := Ideal) x0 x1 x2 x3 x4 i
    = atOf (prepAct x0 x2) (prepG x1 x3 x4) (i 0).val (i 1).val (i 2).val (i 3).val := by
  rw [val_main_v83_apply, val_main_v82_apply, dec_apply]
  unfold atOf
  refine congrArg (fun z : EReal => z * decOf (prepG x1 x3 x4) (i 0).val (i 1).val (i 2).val (i 3).val) (Finset.sum_congr rfl fun k _ => ?_)
  rw [q_apply, k_apply]

theorem qd_apply (i : S128x4x128x128.Idx) : val_main_v87 (F := Ideal) x0 x1 x2 x3 x4 i
    = qdOf (prepAct x0 x2) (prepG x1 x3 x4) (i 0).val (i 1).val (i 2).val (i 3).val := by
  rw [val_main_v87_apply, val_main_v86_apply, val_main_v85_apply, val_main_v84_apply, gc_apply, q_apply]
  rfl

theorem kd_apply (i : S128x4x128x128.Idx) : val_main_v96 (F := Ideal) x0 x1 x2 x3 x4 i
    = kdOf (prepAct x0 x2) (prepG x1 x3 x4) (i 0).val (i 1).val (i 3).val (i 2).val := by
  rw [val_main_v96_apply, val_main_v95_apply, val_main_v94_apply, val_main_v93_apply, val_main_v92_apply, val_main_v91_apply, val_main_v90_apply,
    last_apply, gc_apply, k_apply]
  rfl

/-- Where row `r` and column `c` of the layout come from. -/
theorem laid_of (T : ℕ → ℕ → ℕ → ℕ → EReal) (r c : ℕ) (hr : r < 16384) (hc : c < 512) :
    T ((r * 512 + c) / 65536) ((r * 512 + c) / 128 % 4) ((r * 512 + c) / 512 % 128) ((r * 512 + c) % 128) = laid T r c := by
  unfold laid
  rw [show (r * 512 + c) / 65536 = r / 128 by omega, show (r * 512 + c) / 128 % 4 = c / 128 by omega, show (r * 512 + c) / 512 % 128 = r % 128 by omega,
    show (r * 512 + c) % 128 = c % 128 by omega]

/-- The decayed queries. -/
theorem res7_apply (i : S16384x512.Idx) : val_main_v99 (F := Ideal) x0 x1 x2 x3 x4 i
    = laid (qdOf (prepAct x0 x2) (prepG x1 x3 x4)) (i 0).val (i 1).val := by
  rw [val_main_v99_apply, val_main_v98_apply, val_main_v97_apply, qd_apply]
  exact laid_of (qdOf (prepAct x0 x2) (prepG x1 x3 x4)) (i 0).val (i 1).val (i 0).isLt (i 1).isLt

/-- The decayed attention. -/
theorem res8_apply (i : S16384x512.Idx) : val_main_v102 (F := Ideal) x0 x1 x2 x3 x4 i
    = laid (atOf (prepAct x0 x2) (prepG x1 x3 x4)) (i 0).val (i 1).val := by
  rw [val_main_v102_apply, val_main_v101_apply, val_main_v100_apply, at_apply]
  exact laid_of (atOf (prepAct x0 x2) (prepG x1 x3 x4)) (i 0).val (i 1).val (i 0).isLt (i 1).isLt

/-- The decayed keys. -/
theorem res9_apply (i : S16384x512.Idx) : val_main_v106 (F := Ideal) x0 x1 x2 x3 x4 i
    = laid (kdOf (prepAct x0 x2) (prepG x1 x3 x4)) (i 0).val (i 1).val := by
  rw [val_main_v106_apply, val_main_v105_apply, val_main_v104_apply, val_main_v103_apply, kd_apply]
  exact laid_of (kdOf (prepAct x0 x2) (prepG x1 x3 x4)) (i 0).val (i 1).val (i 0).isLt (i 1).isLt

/-- The whole chunks' decays. -/
theorem res10_apply (i : S128x8x128.Idx) : val_main_v111 (F := Ideal) x1 x3 x4 i = egOf (prepG x1 x3 x4) (i 0).val (i 1).val := by
  have h1 : (i 1).val < 8 := (i 1).isLt
  unfold val_main_v111 egOf
  by_cases h : (i 1).val < 4
  · rw [if_pos h]
    refine (concatenate_pair_apply_left (α := EReal) 1 _ _ concatenates_S128x4x128_S128x4x128_S128x8x128_d1 i rfl
      (ix3 ⟨(i 0).val, (i 0).isLt⟩ ⟨(i 1).val, h⟩ ⟨(i 2).val, (i 2).isLt⟩) ?_).trans ?_
    · intro b
      match b with
      | ⟨0, _⟩ => rfl
      | ⟨1, _⟩ => rfl
      | ⟨2, _⟩ => rfl
    · rw [val_main_v109_apply, val_main_v108_apply, val_main_v107_apply, last_apply]
      rfl
  · rw [if_neg h]
    refine (concatenate_pair_apply_right (α := EReal) 1 _ _ concatenates_S128x4x128_S128x4x128_S128x8x128_d1 i rfl rfl
      (ix3 ⟨(i 0).val, (i 0).isLt⟩ ⟨(i 1).val - 4, by omega⟩ ⟨(i 2).val, (i 2).isLt⟩) ?_ ?_).trans ?_
    · intro b hb
      match b with
      | ⟨0, _⟩ => rfl
      | ⟨1, _⟩ => exact absurd rfl hb
      | ⟨2, _⟩ => rfl
    · show (i 1).val - 4 + 4 = (i 1).val; omega
    · rw [val_main_v110_apply, val_main_cst_8_apply]
      exact Ideal.ofBits_zero_f32

end Cert.Reference5Ideal.Val

end
-- ==== Proof.Prep.lean ====
/-
  The preparing call's claim: kernel and reference leave the same arrays for the scan, but for the in-chunk solve's two.
-/
module

public import proofs.«01_k».proof.Proof.PrepRef
public import proofs.«01_k».proof.Defs

@[expose] public section

set_option maxRecDepth 65536

noncomputable section

open Idealize.ShloMosaic hiding ix1 ix2 ix3 ix4 eq_ix1 eq_ix2 eq_ix3 eq_ix4
open Idealize.ShloMosaic.TcCoe Idealize.ShloMosaic.ValueIdx Idealize.SL.Sem

namespace Cert.Prep

open Cert.Reference5Ideal.Read Cert.Reference5Ideal.Val Cert.Kernel5Ideal.Val

/-- Over the extended reals the kernel and the reference leave the same decayed queries, decayed attention, decayed keys and whole chunks' decays. -/
theorem algebraic : Cert.algebraic_Kernel5Ideal_Reference5Ideal := by
  intro m ρ m' ρ' _ hagree
  refine ⟨fun c => result7 m c, fun c => result8 m c, fun c => result9 m c, fun c => result10 m c,
    (θ_run _ _ _).mono (fun _ h c => ⟨(h c).2.2.1.trans (final7 m c), (h c).2.2.2.1.trans (final8 m c), (h c).2.2.2.2.1.trans (final9 m c),
      (h c).2.2.2.2.2.1.trans (final10 m c), (h c).2.2.2.2.2.2⟩) (Cert.Kernel5Ideal.Value.run_blocks m ρ), ?_⟩
  refine (θ_run _ _ _).mono (fun _ h c => ⟨((h c).1.trans (val_main_v99_eq (F := Ideal) m' c)).trans ?_,
    ((h c).2.1.trans (val_main_v102_eq (F := Ideal) m' c)).trans ?_, ((h c).2.2.1.trans (val_main_v106_eq (F := Ideal) m' c)).trans ?_,
    ((h c).2.2.2.1.trans (val_main_v111_eq (F := Ideal) _ _ _)).trans ?_, (h c).2.2.2.2⟩)
    (Cert.Reference5Ideal.Value.run (F := Ideal) m' ρ')
  · obtain ⟨h0, h1, h2, h3, h4⟩ := hagree c
    rw [h0, h1, h2, h3, h4]
    funext i
    exact res7_apply _ _ _ _ _ i
  · obtain ⟨h0, h1, h2, h3, h4⟩ := hagree c
    rw [h0, h1, h2, h3, h4]
    funext i
    exact res8_apply _ _ _ _ _ i
  · obtain ⟨h0, h1, h2, h3, h4⟩ := hagree c
    rw [h0, h1, h2, h3, h4]
    funext i
    exact res9_apply _ _ _ _ _ i
  · obtain ⟨h0, h1, h2, h3, h4⟩ := hagree c
    rw [h1, h3, h4]
    funext i
    exact res10_apply _ _ _ i

end Cert.Prep

end
-- ==== Proof.SolveCore.lean ====
/-
  The in-chunk solve: the inverse of a unit lower triangular matrix, by doubled blocks and by squared powers, over the
  real numbers; and which of the preparing call's quantities are real numbers.
-/
module

public import proofs.«01_k».proof.Proof.PrepCore
public import proofs.«01_k».proof.Proof.InCore
public import Mathlib.LinearAlgebra.Matrix.NonsingularInverse

@[expose] public section

noncomputable section

open Idealize.ShloMosaic Idealize.ShloMosaic.ValueIdx

namespace Cert.Core

/-! ## Real matrices -/

/-- A square matrix of real numbers over a chunk's places. -/
abbrev RM : Type := Matrix (Fin 128) (Fin 128) ℝ

/-- The matrix has nothing on or above the diagonal. -/
def Low (M : RM) : Prop := ∀ i j : Fin 128, i.val ≤ j.val → M i j = 0

theorem low_pow (M : RM) (h : Low M) (k : ℕ) : ∀ i j : Fin 128, i.val < j.val + k → (M ^ k) i j = 0 := by
  induction k with
  | zero =>
    intro i j hij
    rw [pow_zero]
    exact Matrix.one_apply_ne (fun e => by rw [e] at hij; omega)
  | succ k ih =>
    intro i j hij
    rw [pow_succ, Matrix.mul_apply]
    refine Finset.sum_eq_zero fun c _ => ?_
    by_cases hc : c.val ≤ j.val
    · rw [h c j hc, mul_zero]
    · rw [ih i c (by omega), zero_mul]

/-- A strictly lower triangular matrix of this size has no 128th power. -/
theorem low_nil (M : RM) (h : Low M) : M ^ 128 = 0 := by
  ext i j
  exact low_pow M h 128 i j (by have := i.isLt; omega)

/-! ### The solution by squared powers -/

theorem one_sub_sq (p : RM) : (1 + p) * (1 - p) = 1 - p * p := by noncomm_ring

theorem one_sub_sq' (p : RM) : (1 - p) * (1 + p) = 1 - p * p := by noncomm_ring

/-- A square of the running power. -/
def sqP (M : RM) : ℕ → RM
  | 0 => M
  | k + 1 => sqP M k * sqP M k

/-- The running solution. -/
def sqU (M R : RM) : ℕ → RM
  | 0 => R - M * R
  | k + 1 => sqU M R k + sqP M (k + 1) * sqU M R k

theorem sqP_pow (M : RM) (k : ℕ) : sqP M k = M ^ (2 ^ k) := by
  induction k with
  | zero => simp [sqP]
  | succ k ih => rw [sqP, ih, ← pow_add]; congr 1; omega

theorem sqU_eq (M R : RM) (k : ℕ) : ∃ Y : RM, sqU M R k = Y * R ∧ Y * (1 + M) = 1 - sqP M (k + 1) := by
  induction k with
  | zero =>
    refine ⟨1 - M, ?_, one_sub_sq' M⟩
    rw [sqU, sub_mul, one_mul]
  | succ k ih =>
    obtain ⟨Y, hY, e⟩ := ih
    refine ⟨(1 + sqP M (k + 1)) * Y, ?_, ?_⟩
    · rw [sqU, hY, add_mul, add_mul, one_mul, Matrix.mul_assoc]
    · rw [Matrix.mul_assoc, e, one_sub_sq]
      rfl

/-- The squared powers solve the system. -/
theorem sqU_solve (M R : RM) (h : Low M) : sqU M R 6 = (1 + M)⁻¹ * R := by
  obtain ⟨Y, hY, e⟩ := sqU_eq M R 6
  rw [sqP_pow, show (2 : ℕ) ^ (6 + 1) = 128 from rfl, low_nil M h, sub_zero] at e
  rw [hY, Matrix.inv_eq_left_inv e]

/-! ### The inverse by doubled blocks -/

/-- The two places lie in one block of twice `2^k`, the first in its second half, the second in its first. -/
def offDiag (k i j : ℕ) : Prop := i / 2 ^ (k + 1) = j / 2 ^ (k + 1) ∧ i / 2 ^ k % 2 = 1 ∧ j / 2 ^ k % 2 = 0

instance (k i j : ℕ) : Decidable (offDiag k i j) := by unfold offDiag; infer_instance

/-- The entries of a matrix that join two blocks into one. -/
def lbM (k : ℕ) (M : RM) : RM := fun i j => if offDiag k i.val j.val then M i j else 0

/-- The blocks along the diagonal. -/
def dgM (k : ℕ) (M : RM) : RM := fun i j => if i.val / 2 ^ k = j.val / 2 ^ k then M i j else 0

theorem half (k i : ℕ) : i / 2 ^ (k + 1) = i / 2 ^ k / 2 := by rw [pow_succ, Nat.div_div_eq_div_mul]

theorem offDiag_iff (k i j : ℕ) : offDiag k i j ↔ i / 2 ^ k / 2 = j / 2 ^ k / 2 ∧ i / 2 ^ k % 2 = 1 ∧ j / 2 ^ k % 2 = 0 := by
  unfold offDiag
  rw [half, half]

theorem dg_succ (k : ℕ) (M : RM) (h : Low M) : dgM (k + 1) M = dgM k M + lbM k M := by
  ext i j
  rw [Matrix.add_apply]
  unfold dgM lbM
  have o := offDiag_iff k i.val j.val
  have hs : i.val / 2 ^ (k + 1) = j.val / 2 ^ (k + 1) ↔ i.val / 2 ^ k / 2 = j.val / 2 ^ k / 2 := by rw [half, half]
  by_cases hij : i.val ≤ j.val
  · rw [h i j hij, ite_self, ite_self, ite_self, add_zero]
  · have hle : j.val / 2 ^ k ≤ i.val / 2 ^ k := Nat.div_le_div_right (by omega)
    by_cases h1 : i.val / 2 ^ k = j.val / 2 ^ k
    · rw [if_pos h1, if_pos (hs.2 (by rw [h1])), if_neg (fun q => by have := o.1 q; omega), add_zero]
    · rw [if_neg h1, zero_add]
      by_cases h2 : i.val / 2 ^ k / 2 = j.val / 2 ^ k / 2
      · rw [if_pos (hs.2 h2), if_pos (o.2 (by omega))]
      · rw [if_neg (fun q => h2 (hs.1 q)), if_neg (fun q => h2 (o.1 q).1)]

/-- One doubling of the blocks. -/
def stepM (k : ℕ) (M E : RM) : RM := E - (lbM k M + lbM k M * E) - E * (lbM k M + lbM k M * E)

/-- The inverse's blocks: of the diagonal's blocks, less one, and nothing off the diagonal's blocks. -/
def Inv (k : ℕ) (M E : RM) : Prop := (1 + dgM k M) * (1 + E) = 1 ∧ ∀ i j : Fin 128, i.val / 2 ^ k ≠ j.val / 2 ^ k → E i j = 0

theorem lb_mul_lb (k : ℕ) (M E : RM) (hE : ∀ i j : Fin 128, i.val / 2 ^ k ≠ j.val / 2 ^ k → E i j = 0) :
    lbM k M * (1 + E) * lbM k M = 0 := by
  ext i j
  rw [Matrix.mul_apply]
  refine Finset.sum_eq_zero fun d _ => ?_
  by_cases hd : offDiag k d.val j.val
  · rw [Matrix.mul_apply, Finset.sum_eq_zero, zero_mul]
    intro c _
    by_cases hc : offDiag k i.val c.val
    · have e : c.val / 2 ^ k ≠ d.val / 2 ^ k := fun e => by
        have := hc.2.2
        have := hd.2.1
        omega
      rw [Matrix.add_apply, hE c d e, Matrix.one_apply_ne (fun q => e (by rw [q])), add_zero, mul_zero]
    · rw [lbM, if_neg hc, zero_mul]
  · show _ * lbM k M d j = 0
    rw [lbM, if_neg hd, mul_zero]

theorem inv_step (k : ℕ) (M E : RM) (h : Low M) (hI : Inv k M E) : Inv (k + 1) M (stepM k M E) := by
  obtain ⟨h1, h2⟩ := hI
  have h3 := lb_mul_lb k M E h2
  constructor
  · rw [dg_succ k M h]
    unfold stepM
    generalize lbM k M = L at *
    generalize dgM k M = D at *
    have e : (1 + (D + L)) * (1 + (E - (L + L * E) - E * (L + L * E)))
        = (1 + D) * (1 + E) - (1 + D) * (1 + E) * (L * (1 + E)) + L * (1 + E) - L * (1 + E) * L * (1 + E) := by noncomm_ring
    rw [e, h1, h3, one_mul, zero_mul, sub_zero, sub_add_cancel]
  · intro i j hij
    rw [half, half] at hij
    have hne : i.val / 2 ^ k ≠ j.val / 2 ^ k := fun e => hij (by rw [e])
    have hx : ∀ c : Fin 128, c.val / 2 ^ k / 2 ≠ j.val / 2 ^ k / 2 → (lbM k M + lbM k M * E) c j = 0 := fun c hc => by
      have hlb : ∀ d : Fin 128, d.val / 2 ^ k / 2 ≠ c.val / 2 ^ k / 2 → lbM k M c d = 0 := fun d hd => by
        unfold lbM
        rw [if_neg]
        intro o
        have o1 := o.1
        rw [half, half] at o1
        exact hd o1.symm
      rw [Matrix.add_apply, hlb j (fun e => hc e.symm), zero_add, Matrix.mul_apply]
      refine Finset.sum_eq_zero fun d _ => ?_
      by_cases hd : d.val / 2 ^ k / 2 = c.val / 2 ^ k / 2
      · rw [h2 d j (fun e => hc (by rw [← hd, e])), mul_zero]
      · rw [hlb d hd, zero_mul]
    unfold stepM
    rw [Matrix.sub_apply, Matrix.sub_apply, h2 i j hne, hx i hij, Matrix.mul_apply, Finset.sum_eq_zero, sub_zero, sub_zero]
    intro c _
    by_cases hc : i.val / 2 ^ k = c.val / 2 ^ k
    · rw [hx c (fun e => hij (by rw [hc, e])), mul_zero]
    · rw [h2 i c hc, zero_mul]

theorem inv_zero (M : RM) (h : Low M) : Inv 0 M 0 := by
  have e : dgM 0 M = 0 := by
    ext i j
    unfold dgM
    by_cases hij : i.val = j.val
    · rw [h i j (by omega)]; simp
    · rw [if_neg (by simpa using hij)]; rfl
  refine ⟨?_, fun _ _ _ => rfl⟩
  rw [e, add_zero, one_mul]

/-- The doubled blocks, up to the whole chunk. -/
def dblM (M : RM) : RM := stepM 6 M (stepM 5 M (stepM 4 M (stepM 3 M (stepM 2 M (stepM 1 M (-(lbM 0 M)))))))

/-- They solve the system. -/
theorem dbl_solve (M R : RM) (h : Low M) : R + dblM M * R = (1 + M)⁻¹ * R := by
  have h1 : Inv 1 M (-(lbM 0 M)) := by
    have := inv_step 0 M 0 h (inv_zero M h)
    unfold stepM at this
    simpa using this
  obtain ⟨e, _⟩ := inv_step 6 M _ h (inv_step 5 M _ h (inv_step 4 M _ h (inv_step 3 M _ h (inv_step 2 M _ h (inv_step 1 M _ h h1)))))
  have hd : dgM (6 + 1) M = M := by
    ext i j
    unfold dgM
    have := i.isLt
    have := j.isLt
    rw [if_pos]
    show i.val / 128 = j.val / 128
    omega
  rw [hd] at e
  rw [Matrix.inv_eq_right_inv e, add_mul, one_mul]
  rfl

/-! ## The solution of a system of extended reals -/

/-- The real parts of a table's first 128 rows and columns. -/
def reM (T : ℕ → ℕ → EReal) : RM := fun i j => (T i.val j.val).toReal

/-- The solution `x` of `(1 + L) x = R`, all of them read as real. -/
def sol (L R : ℕ → ℕ → EReal) (i l : ℕ) : EReal := (((1 + reM L)⁻¹ * reM R) (Fin.ofNat 128 i) (Fin.ofNat 128 l) : ℝ)

theorem sol_fin (L R : ℕ → ℕ → EReal) (i l : Fin 128) : sol L R i.val l.val = (((1 + reM L)⁻¹ * reM R) i l : ℝ) := by
  have e : ∀ k : Fin 128, Fin.ofNat 128 k.val = k := fun k => Fin.ext (Nat.mod_eq_of_lt k.isLt)
  unfold sol
  rw [e, e]

theorem sol_congr {L L' R R' : ℕ → ℕ → EReal} (hL : ∀ i j, i < 128 → j < 128 → L' i j = L i j) (hR : ∀ i j, i < 128 → j < 128 → R' i j = R i j) :
    sol L' R' = sol L R := by
  have e1 : reM L' = reM L := by ext i j; exact congrArg EReal.toReal (hL _ _ i.isLt j.isLt)
  have e2 : reM R' = reM R := by ext i j; exact congrArg EReal.toReal (hR _ _ i.isLt j.isLt)
  unfold sol
  rw [e1, e2]

theorem coe_sum_mul (A B : RM) (i l : Fin 128) : ∑ k : Fin 128, ((A i k : ℝ) : EReal) * ((B k l : ℝ) : EReal) = (((A * B) i l : ℝ) : EReal) := by
  have e : ∀ s : Finset (Fin 128), ∑ k ∈ s, ((A i k : ℝ) : EReal) * ((B k l : ℝ) : EReal) = ((∑ k ∈ s, A i k * B k l : ℝ) : EReal) := fun s => by
    classical
    induction s using Finset.induction_on with
    | empty => rfl
    | insert a s ha ih => rw [Finset.sum_insert ha, Finset.sum_insert ha, ih, ← EReal.coe_mul, ← EReal.coe_add]
  rw [Matrix.mul_apply]
  exact e _

theorem IsReal.coe_toReal {x : EReal} (h : IsReal x) : x = ((x.toReal : ℝ) : EReal) := by
  obtain ⟨r, rfl⟩ := h
  rfl

/-! ## The preparing call's system -/

/-- The step size of a token and head. -/
def betaOf (A : ℕ → ℕ → EReal) (r h : ℕ) : EReal := Ideal.logistic (A r (4 + h))

/-- The system's matrix below the diagonal. -/
def lowOf (a g b : ℕ → ℕ → EReal) (n h i j : ℕ) : EReal :=
  if j < i then (∑ l : Fin 128, kOf a n h i l.val * b (128 * n + i) h * kOf a n h j l.val) * decOf g n h i j else 0

/-- The values' right side. -/
def ruOf (a b : ℕ → ℕ → EReal) (n h i l : ℕ) : EReal := a (128 * n + i) (1024 + 128 * h + l) * b (128 * n + i) h

/-- The keys' right side. -/
def rwOf (a g b : ℕ → ℕ → EReal) (n h i l : ℕ) : EReal := kOf a n h i l * b (128 * n + i) h * Ideal.exp (gcOf g n h i)

/-- The solved values. -/
def uOf (a g b : ℕ → ℕ → EReal) (n h : ℕ) : ℕ → ℕ → EReal := sol (lowOf a g b n h) (ruOf a b n h)

/-- The solved keys. -/
def wOf (a g b : ℕ → ℕ → EReal) (n h : ℕ) : ℕ → ℕ → EReal := sol (lowOf a g b n h) (rwOf a g b n h)

section Shift
variable {a a' g g' b b' : ℕ → ℕ → EReal} {n n' : ℕ} (h : ℕ) (ha : ∀ i < 128, ∀ c, a' (128 * n' + i) c = a (128 * n + i) c)
  (hg : ∀ i < 128, g' (128 * n' + i) h = g (128 * n + i) h) (hb : ∀ i < 128, b' (128 * n' + i) h = b (128 * n + i) h)

include ha hg hb

theorem lowOf_shift (i j : ℕ) (hi : i < 128) (hj : j < 128) : lowOf a' g' b' n' h i j = lowOf a g b n h i j := by
  unfold lowOf decOf
  rw [gcOf_shift h hg, gcOf_shift h hg, hb i hi]
  by_cases hij : j < i
  · rw [if_pos hij, if_pos hij]
    exact congrArg (· * _) (Finset.sum_congr rfl fun l _ => by rw [kOf_shift h ha i l.val hi, kOf_shift h ha j l.val hj])
  · rw [if_neg hij, if_neg hij]

theorem uOf_shift : uOf a' g' b' n' h = uOf a g b n h :=
  sol_congr (lowOf_shift h ha hg hb) fun i l hi _ => by
    unfold ruOf
    rw [ha i hi, hb i hi]

theorem wOf_shift : wOf a' g' b' n' h = wOf a g b n h :=
  sol_congr (lowOf_shift h ha hg hb) fun i l hi _ => by
    unfold rwOf
    rw [kOf_shift h ha i l hi, hb i hi, gcOf_shift h hg]

end Shift

/-! ## What is real -/

theorem IsReal.neg {x : EReal} (hx : IsReal x) : IsReal (-x) := by
  obtain ⟨r, rfl⟩ := hx
  exact ⟨-r, (EReal.coe_neg r).symm⟩

theorem IsReal.exp {x : EReal} (hx : IsReal x) : IsReal (Ideal.exp x) := by
  obtain ⟨r, rfl⟩ := hx
  exact ⟨_, Ideal.exp_coe r⟩

theorem IsReal.logistic {x : EReal} (hx : IsReal x) : IsReal (Ideal.logistic x) := by
  obtain ⟨r, rfl⟩ := hx
  exact ⟨_, Ideal.logistic_coe r⟩

theorem back_real (X : ℕ → ℕ → EReal) (hX : ∀ r c, IsReal (X r c)) (s r c : ℕ) : IsReal (back X s r c) := by
  unfold back
  split
  · exact hX _ _
  · exact ⟨0, rfl⟩

theorem actOf_real (X W : ℕ → ℕ → EReal) (hX : ∀ r c, IsReal (X r c)) (hW : ∀ r c, IsReal (W r c)) (r c : ℕ) : IsReal (actOf X W r c) := by
  have h : IsReal (conv X W r c) :=
    (((((hX r c).mul (hW 3 c)).add ((back_real X hX 1 r c).mul (hW 2 c))).add ((back_real X hX 2 r c).mul (hW 1 c)))).add ((back_real X hX 3 r c).mul (hW 0 c))
  exact h.mul h.logistic

theorem IsReal.max {x y : EReal} (hx : IsReal x) (hy : IsReal y) : IsReal (max x y) := by
  rcases le_total x y with h | h
  · rw [max_eq_right h]; exact hy
  · rw [max_eq_left h]; exact hx

theorem softplus_real {x : EReal} (hx : IsReal x) : IsReal (softplus x) := by
  obtain ⟨z, hz⟩ := (hx.max hx.neg).neg
  unfold softplus
  refine (hx.max ⟨0, rfl⟩).add ?_
  rw [hz, Ideal.exp_coe]
  unfold Ideal.log1p
  have hp := Real.exp_pos z
  rw [← EReal.coe_one, ← EReal.coe_add, Ideal.log_coe, if_neg (by linarith)]
  exact ⟨_, rfl⟩

theorem decayOf_real (A : ℕ → ℕ → EReal) (al dt : ℕ → EReal) (r h : ℕ) (hA : IsReal (A r h)) (ha : IsReal (al h)) (hd : IsReal (dt h)) :
    IsReal (decayOf A al dt r h) := ha.exp.neg.mul (softplus_real (hA.add hd))

theorem gcOf_real (g : ℕ → ℕ → EReal) (n h : ℕ) (hg : ∀ r, IsReal (g r h)) (i : ℕ) : IsReal (gcOf g n h i) := by
  unfold gcOf
  refine IsReal.sum _ _ fun k => ?_
  split
  · exact hg _
  · exact ⟨0, rfl⟩

theorem decOf_real (g : ℕ → ℕ → EReal) (n h : ℕ) (hg : ∀ r, IsReal (g r h)) (i j : ℕ) : IsReal (decOf g n h i j) := by
  unfold decOf
  split
  · exact ((sub_eq_add_neg (G := EReal) _ _) ▸ (gcOf_real g n h hg i).add (gcOf_real g n h hg j).neg : IsReal (gcOf g n h i - gcOf g n h j)).exp
  · have e : Ideal.ofBits .f32 0xFF800000#32 = (⊥ : EReal) := by simp [Ideal.ofBits, Ideal.ieee]
    rw [e, Ideal.exp_bot]
    exact ⟨0, rfl⟩

theorem nrmRow_real (p : ℕ → EReal) (hp : ∀ l, IsReal (p l)) (l : ℕ) : IsReal (nrmRow p l) := by
  unfold nrmRow
  refine (hp l).mul ?_
  obtain ⟨r, hr, e⟩ := sum_sq_real Finset.univ (fun k : Fin 128 => p k.val) (fun k => hp k.val)
  obtain ⟨ε, hε, ee⟩ := ofBits_eps
  rw [e, ee, ← EReal.coe_add, Ideal.rsqrt_coe]
  have hpos : 0 < r + ε := add_pos_of_nonneg_of_pos hr hε
  rw [if_neg (not_lt.2 hpos.le), if_neg hpos.ne']
  exact ⟨_, rfl⟩

section
variable {a g b : ℕ → ℕ → EReal} {n h : ℕ} (ha : ∀ r c, IsReal (a r c)) (hg : ∀ r, IsReal (g r h)) (hb : ∀ r, IsReal (b r h))

include ha in
theorem kOf_real (i l : ℕ) : IsReal (kOf a n h i l) := nrmRow_real _ (fun _ => ha _ _) l

include ha hg hb in
theorem lowOf_real (i j : ℕ) : IsReal (lowOf a g b n h i j) := by
  unfold lowOf
  split
  · refine IsReal.mul (IsReal.sum _ _ fun l => ?_) (decOf_real g n h hg i j)
    exact IsReal.mul (IsReal.mul (kOf_real ha i l.val) (hb (128 * n + i))) (kOf_real ha j l.val)
  · exact ⟨0, rfl⟩

include ha hb in
theorem ruOf_real (i l : ℕ) : IsReal (ruOf a b n h i l) := (ha _ _).mul (hb _)

include ha hg hb in
theorem rwOf_real (i l : ℕ) : IsReal (rwOf a g b n h i l) := ((kOf_real ha i l).mul (hb _)).mul (gcOf_real g n h hg i).exp
end

/-- The system's matrix is strictly lower triangular. -/
theorem lowOf_low (a g b : ℕ → ℕ → EReal) (n h : ℕ) : Low (reM (lowOf a g b n h)) := fun i j hij => by
  unfold reM lowOf
  rw [if_neg (by omega)]
  rfl

end Cert.Core

end
-- ==== Proof.SolvePay.lean ====
/-
  The in-chunk solve of one grid point of the preparing call's kernel.
-/
module

public import proofs.«01_k».proof.Proof.PrepConv
public import proofs.«01_k».proof.Proof.SolveCore
public import proofs.«01_k».proof.Proof.Gen.Kernel6Ideal.Value

@[expose] public section

set_option maxRecDepth 65536

noncomputable section

open Idealize.ShloMosaic hiding ix1 ix2 ix3 ix4 eq_ix1 eq_ix2 eq_ix3 eq_ix4
open Idealize.ShloMosaic.ValueIdx Idealize.ShloMosaic.StackMember

namespace Cert.Kernel6Ideal.Val

open Cert.Kernel6Ideal Cert.Kernel6Ideal.Gen Cert.Core
open Cert.Kernel5Ideal.Val (nrmV gcV colV rowV decV matmul_nt_apply bcol_apply k_apply gc_apply col_apply row_apply slice_a incl_apply tiles tile_piece)

/-! ## The masks -/

/-- The places that join two blocks of `2 ^ s` into one; `s1` is `s + 1`. -/
def maskV (s s1 : BitVec 32) : IVec S128x128 1 :=
  andi (andi (cmpi .eq (shrsi (iota .tc S128x128 32 [0] iota_S128x128_d0_w32) (broadcast S128x128 s1)) (shrsi (iota .tc S128x128 32 [1] iota_S128x128_d1_w32) (broadcast S128x128 s1)))
      (cmpi .eq (andi (shrsi (iota .tc S128x128 32 [0] iota_S128x128_d0_w32) (broadcast S128x128 s)) (broadcast S128x128 1#32)) (broadcast S128x128 1#32)))
    (cmpi .eq (andi (shrsi (iota .tc S128x128 32 [1] iota_S128x128_d1_w32) (broadcast S128x128 s)) (broadcast S128x128 1#32)) (broadcast S128x128 0#32))

theorem shr_word : ∀ (i : Fin 128) (s : Fin 8), IntOp.shrsi .vector (BitVec.ofNat 32 (0 * 128 + i.val)) (BitVec.ofNat 32 s.val) = BitVec.ofNat 32 (i.val / 2 ^ s.val) := by
  decide +kernel

theorem and_word : ∀ i : Fin 128, IntOp.andi (BitVec.ofNat 32 i.val) 1#32 = BitVec.ofNat 32 (i.val % 2) := by
  decide +kernel

theorem and_bit : ∀ p q : Bool, IntOp.andi (BitVec.ofBool p) (BitVec.ofBool q) = BitVec.ofBool (p && q) := by
  decide +kernel

theorem maskV_apply (k : ℕ) (hk : k < 7) (i j : Fin 128) :
    maskV (BitVec.ofNat 32 k) (BitVec.ofNat 32 (k + 1)) (ix2 i j) = BitVec.ofBool (decide (offDiag k i.val j.val)) := by
  have hi := i.isLt
  have hj := j.isLt
  have a1 : ∀ i : Fin 128, i.val / 2 ^ k < 128 := fun i => lt_of_le_of_lt (Nat.div_le_self _ _) i.isLt
  have a2 : ∀ i : Fin 128, i.val / 2 ^ (k + 1) < 128 := fun i => lt_of_le_of_lt (Nat.div_le_self _ _) i.isLt
  have s1 : ∀ i : Fin 128, IntOp.shrsi .vector (BitVec.ofNat 32 (0 * 128 + i.val)) (BitVec.ofNat 32 k) = BitVec.ofNat 32 (i.val / 2 ^ k) :=
    fun i => shr_word i ⟨k, by omega⟩
  have s2 : ∀ i : Fin 128, IntOp.shrsi .vector (BitVec.ofNat 32 (0 * 128 + i.val)) (BitVec.ofNat 32 (k + 1)) = BitVec.ofNat 32 (i.val / 2 ^ (k + 1)) :=
    fun i => shr_word i ⟨k + 1, by omega⟩
  have b1 : ∀ i : Fin 128, IntOp.andi (BitVec.ofNat 32 (i.val / 2 ^ k)) 1#32 = BitVec.ofNat 32 (i.val / 2 ^ k % 2) := fun i => and_word ⟨i.val / 2 ^ k, a1 i⟩
  show IntOp.andi (IntOp.andi (IntOp.cmpi .eq (IntOp.shrsi .vector (BitVec.ofNat 32 (0 * 128 + i.val)) (BitVec.ofNat 32 (k + 1)))
        (IntOp.shrsi .vector (BitVec.ofNat 32 (0 * 128 + j.val)) (BitVec.ofNat 32 (k + 1))))
      (IntOp.cmpi .eq (IntOp.andi (IntOp.shrsi .vector (BitVec.ofNat 32 (0 * 128 + i.val)) (BitVec.ofNat 32 k)) 1#32) (BitVec.ofNat 32 1)))
    (IntOp.cmpi .eq (IntOp.andi (IntOp.shrsi .vector (BitVec.ofNat 32 (0 * 128 + j.val)) (BitVec.ofNat 32 k)) 1#32) (BitVec.ofNat 32 0)) = _
  have i1 := a1 i
  have j1 := a1 j
  have i2 := a2 i
  have j2 := a2 j
  rw [s2 i, s2 j, s1 i, s1 j, b1 i, b1 j, WordCmp.cmpi_eq_ofNat (by omega) (by omega), WordCmp.cmpi_eq_ofNat (by omega) (by omega),
    WordCmp.cmpi_eq_ofNat (by omega) (by omega), and_bit, and_bit]
  refine congrArg BitVec.ofBool ?_
  rw [← Bool.decide_and, ← Bool.decide_and]
  exact decide_eq_decide.2 and_assoc

theorem strict_apply (i k : Fin 128) : k0_pay12 (ix2 i k) = BitVec.ofBool (decide (k.val < i.val)) := by
  show IntOp.cmpi .slt (BitVec.ofNat 32 (0 * 128 + k.val)) (BitVec.ofNat 32 (0 * 128 + i.val)) = _
  rw [Nat.zero_mul, Nat.zero_add, Nat.zero_add]
  exact WordCmp.cmpi_slt_ofNat (w := 32) (a := k.val) (b := i.val) (by have := k.isLt; omega) (by have := i.isLt; omega)

/-! ## The solve -/

section Parts
variable {F : FTy → Type} [FloatOps F]

/-- A matrix's entries that join two blocks into one. -/
def lbV (m : IVec S128x128 1) (lo : FVec F S128x128 .f32) : FVec F S128x128 .f32 := select m lo (broadcast S128x128 (Scalar.ofBits .f32 0x00000000#32))

/-- The product of two blocks. -/
def mmV (x y : FVec F S128x128 .f32) : FVec F S128x128 .f32 :=
  matmul dot_S128x128_S128x128_S128x128_1_0_0_1_n_n none (truncf .bf16 x bitsLt_bf16_f32) (truncf .bf16 y bitsLt_bf16_f32) (constant S128x128 .f32 0x00000000#32)

/-- One doubling of the inverted blocks. -/
def stepV (m : IVec S128x128 1) (lo e : FVec F S128x128 .f32) : FVec F S128x128 .f32 :=
  subf (subf e (addf (lbV m lo) (mmV (lbV m lo) e))) (mmV e (addf (lbV m lo) (mmV (lbV m lo) e)))

/-- The inverted blocks of size two. -/
def baseV (lo : FVec F S128x128 .f32) : FVec F S128x128 .f32 := subf (broadcast S128x128 (Scalar.ofBits .f32 0x00000000#32)) (lbV (maskV 0#32 1#32) lo)

/-- The inverse, less one. -/
def dblV (lo : FVec F S128x128 .f32) : FVec F S128x128 .f32 :=
  stepV (maskV 6#32 7#32) lo (stepV (maskV 5#32 6#32) lo (stepV (maskV 4#32 5#32) lo (stepV (maskV 3#32 4#32) lo (stepV (maskV 2#32 3#32) lo (stepV (maskV 1#32 2#32) lo (baseV lo))))))

/-- The solution. -/
def resV (lo r : FVec F S128x128 .f32) : FVec F S128x128 .f32 := addf r (mmV (dblV lo) r)

/-- The system's matrix below the diagonal. -/
def lowV (k b d : FVec F S128x128 .f32) : FVec F S128x128 .f32 :=
  select k0_pay12 (mulf (matmul dot_S128x128_S128x128_S128x128_1_1_0_0_n_n none (truncf .bf16 (mulf k b) bitsLt_bf16_f32)
    (truncf .bf16 k bitsLt_bf16_f32) (constant S128x128 .f32 0x00000000#32)) d) (broadcast S128x128 (Scalar.ofBits .f32 0x00000000#32))

/-- The solved keys. -/
def wV (lo k b c : FVec F S128x128 .f32) : FVec F S128x128 .bf16 := truncf .bf16 (resV lo (mulf (mulf k b) (exp c))) bitsLt_bf16_f32

end Parts

/-- A real matrix as a block. -/
def vec (M : RM) : FVec Ideal S128x128 .f32 := fun y => ((M (y 0) (y 1) : ℝ) : EReal)

theorem vec_ext (x : FVec Ideal S128x128 .f32) (M : RM) (h : ∀ i l : Fin 128, x (ix2 i l) = ((M i l : ℝ) : EReal)) : x = vec M := by
  funext y
  obtain ⟨i, l, rfl⟩ : ∃ (i l : Fin 128), y = ix2 i l := ⟨y 0, y 1, eq_ix2 y⟩
  exact h i l

theorem mmV_vec (A B : RM) : mmV (vec A) (vec B) = vec (A * B) :=
  vec_ext _ _ fun i l => (matmul_plain_apply (φ₁ := .bf16) (φ₂ := .bf16) none (vec A) (vec B) i l).trans (coe_sum_mul A B i l)

theorem addf_vec (A B : RM) : addf (vec A) (vec B) = vec (A + B) := vec_ext _ _ fun i l => (EReal.coe_add (A i l) (B i l)).symm

theorem subf_vec (A B : RM) : subf (vec A) (vec B) = vec (A - B) := vec_ext _ _ fun i l => (EReal.coe_sub (A i l) (B i l)).symm

theorem lbV_vec (k : ℕ) (hk : k < 7) (M : RM) : lbV (maskV (BitVec.ofNat 32 k) (BitVec.ofNat 32 (k + 1))) (vec M) = vec (lbM k M) :=
  vec_ext _ _ fun i l => by
    show Scalar.select (maskV (BitVec.ofNat 32 k) (BitVec.ofNat 32 (k + 1)) (ix2 i l)) ((M i l : ℝ) : EReal) (Ideal.ofBits .f32 0x00000000#32) = _
    rw [maskV_apply k hk, Ideal.ofBits_zero_f32]
    unfold lbM
    by_cases h : offDiag k i.val l.val
    · rw [if_pos h, decide_eq_true h]; exact select_one _ _
    · rw [if_neg h, decide_eq_false h]; exact select_zero _ _

theorem stepV_vec (k : ℕ) (hk : k < 7) (M E : RM) :
    stepV (maskV (BitVec.ofNat 32 k) (BitVec.ofNat 32 (k + 1))) (vec M) (vec E) = vec (stepM k M E) := by
  unfold stepV
  rw [lbV_vec k hk, mmV_vec, addf_vec, mmV_vec, subf_vec, subf_vec]
  rfl

theorem baseV_vec (M : RM) : baseV (vec M) = vec (-(lbM 0 M)) := by
  unfold baseV
  rw [show lbV (maskV 0#32 1#32) (vec M) = vec (lbM 0 M) from lbV_vec 0 (by decide) M]
  refine vec_ext _ _ fun i l => ?_
  show Ideal.ofBits .f32 0x00000000#32 - ((lbM 0 M i l : ℝ) : EReal) = ((-(lbM 0 M i l) : ℝ) : EReal)
  rw [Ideal.ofBits_zero_f32, ← EReal.coe_zero, ← EReal.coe_sub, zero_sub]

theorem dblV_vec (M : RM) : dblV (vec M) = vec (dblM M) := by
  unfold dblV dblM
  rw [baseV_vec]
  rw [show stepV (maskV 1#32 2#32) _ _ = _ from stepV_vec 1 (by decide) M _]
  rw [show stepV (maskV 2#32 3#32) _ _ = _ from stepV_vec 2 (by decide) M _]
  rw [show stepV (maskV 3#32 4#32) _ _ = _ from stepV_vec 3 (by decide) M _]
  rw [show stepV (maskV 4#32 5#32) _ _ = _ from stepV_vec 4 (by decide) M _]
  rw [show stepV (maskV 5#32 6#32) _ _ = _ from stepV_vec 5 (by decide) M _]
  exact stepV_vec 6 (by decide) M _

/-- The kernel's solve solves. -/
theorem resV_apply (lo r : FVec Ideal S128x128 .f32) (L R : ℕ → ℕ → EReal) (hl : ∀ i l : Fin 128, lo (ix2 i l) = L i.val l.val)
    (hr : ∀ i l : Fin 128, r (ix2 i l) = R i.val l.val) (hL : ∀ i j, IsReal (L i j)) (hR : ∀ i j, IsReal (R i j)) (low : Low (reM L)) (i l : Fin 128) :
    resV lo r (ix2 i l) = sol L R i.val l.val := by
  obtain rfl : lo = vec (reM L) := vec_ext _ _ fun i l => (hl i l).trans (hL _ _).coe_toReal
  obtain rfl : r = vec (reM R) := vec_ext _ _ fun i l => (hr i l).trans (hR _ _).coe_toReal
  unfold resV
  rw [dblV_vec, mmV_vec, addf_vec, dbl_solve _ _ low, sol_fin]
  rfl

/-! ## The tiles of a chunk and head -/

section Tiles
variable {a g b : ℕ → ℕ → EReal} (A : FVec Ideal S256x1536 .f32) (G B : FVec Ideal S256x128 .f32)

variable (hA : ∀ (r : Fin 256) (c : Fin 1536), A (ix2 r c) = a r.val c.val)
  (hG : ∀ (r : Fin 256) (c : Fin 128), G (ix2 r c) = g r.val c.val) (ht : ∀ r h, g r h ≠ ⊤)
  (hB : ∀ (r : Fin 256) (h : ℕ) (c : Fin 128), h < 4 → c.val = 4 + h → B (ix2 r c) = b r.val h)

include hB in
theorem beta_apply (n h : ℕ) (hn : n < 2) (hh : h < 4) (hs) (i l : Fin 128) :
    colV (extractStridedSlice S128x1 ![128 * n, 4 + h] B hs) (ix2 i l) = b (128 * n + i.val) h := by
  unfold colV
  rw [bcol_apply, shapeCast_self]
  refine (extractStridedSlice_apply _ B hs (ix2 i 0) (ix2 ⟨128 * n + i.val, by have := i.isLt; omega⟩ ⟨4 + h, by omega⟩) ?_).trans (hB _ h _ hh rfl)
  intro d
  match d with
  | ⟨0, _⟩ => rfl
  | ⟨1, _⟩ => rfl

include hA hG ht hB

theorem low_apply (n h : ℕ) (hn : n < 2) (hh : h < 4) (hs' hs'' hc hr ht' hb) (i l : Fin 128) :
    lowV (nrmV (extractStridedSlice S128x128 ![128 * n, 512 + 128 * h] A hs')) (colV (extractStridedSlice S128x1 ![128 * n, 4 + h] B hb))
        (decV (colV (extractStridedSlice S128x1 ![0, h] (gcV (extractStridedSlice S128x128 ![128 * n, 0] G hs'')) hc))
          (rowV (extractStridedSlice S1x128 ![h, 0] (transpose S128x128 [1, 0] (gcV (extractStridedSlice S128x128 ![128 * n, 0] G hs'')) ht') hr))) (ix2 i l)
      = lowOf a g b n h i.val l.val := by
  have e : (matmul dot_S128x128_S128x128_S128x128_1_1_0_0_n_n none
        (truncf .bf16 (mulf (nrmV (extractStridedSlice S128x128 ![128 * n, 512 + 128 * h] A hs')) (colV (extractStridedSlice S128x1 ![128 * n, 4 + h] B hb))) bitsLt_bf16_f32)
        (truncf .bf16 (nrmV (extractStridedSlice S128x128 ![128 * n, 512 + 128 * h] A hs')) bitsLt_bf16_f32) (constant S128x128 .f32 0x00000000#32)) (ix2 i l)
      = ∑ k : Fin 128, kOf a n h i.val k.val * b (128 * n + i.val) h * kOf a n h l.val k.val :=
    (matmul_nt_apply _ _ i l).trans (Finset.sum_congr rfl fun k _ =>
      congrArg₂ (· * ·) (congrArg₂ (· * ·) (k_apply A hA n h hn hh hs' i k) (beta_apply B hB n h hn hh hb i k)) (k_apply A hA n h hn hh hs' l k))
  have d : decV (colV (extractStridedSlice S128x1 ![0, h] (gcV (extractStridedSlice S128x128 ![128 * n, 0] G hs'')) hc))
        (rowV (extractStridedSlice S1x128 ![h, 0] (transpose S128x128 [1, 0] (gcV (extractStridedSlice S128x128 ![128 * n, 0] G hs'')) ht') hr)) (ix2 i l)
      = decOf g n h i.val l.val := by
    show Ideal.exp (Scalar.select (Cert.Kernel5Ideal.Gen.k0_pay11 (ix2 i l)) (colV (F := Ideal) _ (ix2 i l) - rowV (F := Ideal) _ (ix2 i l)) (Ideal.ofBits .f32 0xFF800000#32)) = _
    rw [incl_apply, col_apply _ h (by omega), row_apply _ h (by omega), gc_apply G hG ht n hn, gc_apply G hG ht n hn]
    unfold decOf
    by_cases hk : l.val ≤ i.val
    · rw [if_pos hk, decide_eq_true hk]; exact congrArg Ideal.exp (select_one _ _)
    · rw [if_neg hk, decide_eq_false hk]; exact congrArg Ideal.exp (select_zero _ _)
  refine (congrArg₂ (fun p q : EReal => Scalar.select (k0_pay12 (ix2 i l)) (p * q) (Ideal.ofBits .f32 0x00000000#32)) e d).trans ?_
  rw [strict_apply, Ideal.ofBits_zero_f32]
  unfold lowOf
  by_cases hk : l.val < i.val
  · rw [if_pos hk, decide_eq_true hk]; exact select_one _ _
  · rw [if_neg hk, decide_eq_false hk]; exact select_zero _ _

variable (ra : ∀ r c, IsReal (a r c)) (rg : ∀ r h, h < 4 → IsReal (g r h)) (rb : ∀ r h, h < 4 → IsReal (b r h))

include ra rg rb

theorem u_piece (n h : ℕ) (hn : n < 2) (hh : h < 4) (off : Fin 2 → ℕ) (ho : off = ![128 * n, 128 * h]) (inb) (hv hs' hs'' hc hr ht' hb)
    (x : (Rect.unit (s := S256x512) off S128x128.size inb).shape.Idx) :
    resV (lowV (nrmV (extractStridedSlice S128x128 ![128 * n, 512 + 128 * h] A hs')) (colV (extractStridedSlice S128x1 ![128 * n, 4 + h] B hb))
        (decV (colV (extractStridedSlice S128x1 ![0, h] (gcV (extractStridedSlice S128x128 ![128 * n, 0] G hs'')) hc))
          (rowV (extractStridedSlice S1x128 ![h, 0] (transpose S128x128 [1, 0] (gcV (extractStridedSlice S128x128 ![128 * n, 0] G hs'')) ht') hr))))
        (mulf (extractStridedSlice S128x128 ![128 * n, 1024 + 128 * h] A hv) (colV (extractStridedSlice S128x1 ![128 * n, 4 + h] B hb))) x
      = tiles (uOf a g b) ((Rect.unit (s := S256x512) off S128x128.size inb).emb x) := by
  refine tile_piece (uOf a g b) n h off ho inb _ (fun i l => ?_) x
  exact resV_apply _ _ _ _ (low_apply A G B hA hG ht hB n h hn hh hs' hs'' hc hr ht' hb)
    (fun i l => congrArg₂ (· * ·) (slice_a A hA n (1024 + 128 * h) hn (by omega) hv i l) (beta_apply B hB n h hn hh hb i l))
    (lowOf_real ra (fun r => rg r h hh) (fun r => rb r h hh)) (ruOf_real ra (fun r => rb r h hh)) (lowOf_low a g b n h) i l

theorem w_piece (n h : ℕ) (hn : n < 2) (hh : h < 4) (off : Fin 2 → ℕ) (ho : off = ![128 * n, 128 * h]) (inb) (hs' hs'' hc hr ht' hb)
    (x : (Rect.unit (s := S256x512) off S128x128.size inb).shape.Idx) :
    wV (lowV (nrmV (extractStridedSlice S128x128 ![128 * n, 512 + 128 * h] A hs')) (colV (extractStridedSlice S128x1 ![128 * n, 4 + h] B hb))
        (decV (colV (extractStridedSlice S128x1 ![0, h] (gcV (extractStridedSlice S128x128 ![128 * n, 0] G hs'')) hc))
          (rowV (extractStridedSlice S1x128 ![h, 0] (transpose S128x128 [1, 0] (gcV (extractStridedSlice S128x128 ![128 * n, 0] G hs'')) ht') hr))))
        (nrmV (extractStridedSlice S128x128 ![128 * n, 512 + 128 * h] A hs')) (colV (extractStridedSlice S128x1 ![128 * n, 4 + h] B hb))
        (colV (extractStridedSlice S128x1 ![0, h] (gcV (extractStridedSlice S128x128 ![128 * n, 0] G hs'')) hc)) x
      = tiles (wOf a g b) ((Rect.unit (s := S256x512) off S128x128.size inb).emb x) := by
  refine tile_piece (wOf a g b) n h off ho inb _ (fun i l => ?_) x
  refine resV_apply _ _ _ _ (low_apply A G B hA hG ht hB n h hn hh hs' hs'' hc hr ht' hb) (fun i l => ?_)
    (lowOf_real ra (fun r => rg r h hh) (fun r => rb r h hh)) (rwOf_real ra (fun r => rg r h hh) (fun r => rb r h hh)) (lowOf_low a g b n h) i l
  refine congrArg₂ (fun p q => p * Ideal.exp q) (congrArg₂ (· * ·) (k_apply A hA n h hn hh hs' i l) (beta_apply B hB n h hn hh hb i l)) ?_
  rw [col_apply _ h (by omega), gc_apply G hG ht n hn]

end Tiles

end Cert.Kernel6Ideal.Val

end
-- ==== Proof.SolveOut.lean ====
/-
  The solved blocks one grid point of the preparing call's kernel leaves.
-/
module

public import proofs.«01_k».proof.Proof.SolvePay
public import Idealize.ShloMosaic.Lib.WritesUnit

@[expose] public section

set_option maxRecDepth 65536
set_option maxHeartbeats 3200000

noncomputable section

open Idealize.ShloMosaic hiding ix1 ix2 ix3 ix4 eq_ix1 eq_ix2 eq_ix3 eq_ix4
open Idealize.ShloMosaic.ValueIdx Idealize.ShloMosaic.StackMember

namespace Cert.Kernel6Ideal.Val

open Cert.Kernel6Ideal Cert.Kernel6Ideal.Gen Cert.Core
open Cert.Kernel5Ideal.Val (tiles)

theorem ld_0 (x : Vec Ideal S256x1536 .f32) : View.ld (Val := Elt Ideal) (e' := .f32) x (Rect.unit ![0, 0] ![256, 1536] inb_S256x1536_S256x1536_0_0) = x :=
  View.ld_unit_zero (by funext a; fin_cases a <;> rfl) _ x

theorem ld_1 (x : Vec Ideal S8x1536 .f32) : View.ld (Val := Elt Ideal) (e' := .f32) x (Rect.unit ![0, 0] ![8, 1536] inb_S8x1536_S8x1536_0_0) = x :=
  View.ld_unit_zero (by funext a; fin_cases a <;> rfl) _ x

theorem ld_2 (x : Vec Ideal S256x128 .f32) : View.ld (Val := Elt Ideal) (e' := .f32) x (Rect.unit ![0, 0] ![256, 128] inb_S256x128_S256x128_0_0) = x :=
  View.ld_unit_zero (by funext a; fin_cases a <;> rfl) _ x

/-- The solved values a point leaves. -/
theorem out5 (c : Dev nD) (i : grid0.Coords) (arg1 : Memref sig .tc .vmem S256x1536 .f32) (harg1 : arg1.IsWhole) (arg2 : Memref sig .tc .vmem S8x1536 .f32) (harg2 : arg2.IsWhole) (arg3 : Memref sig .tc .vmem S256x128 .f32) (harg3 : arg3.IsWhole) (arg4 : Memref sig .tc .vmem S8x1536 .f32) (harg4 : arg4.IsWhole) (arg5 : Memref sig .tc .vmem S8x128 .f32) (harg5 : arg5.IsWhole) (arg6 : Memref sig .tc .vmem S256x512 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S2x8x128 .f32) (harg11 : arg11.IsWhole) (x0 : Vec Ideal S256x1536 .f32) (x1 : Vec Ideal S8x1536 .f32) (x2 : Vec Ideal S256x128 .f32) (x3 : Vec Ideal S8x1536 .f32) (x4 : Vec Ideal S8x128 .f32)
    {a g b : ℕ → ℕ → EReal}
    (hA : ∀ (r : Fin 256) (l : Fin 1536), k0_pay8 (F := Ideal) (k0_pay3 x3) (k0_pay4 i x0 x1 x3) (k0_pay6 i x0 x1) (k0_pay7 x0) (ix2 r l) = a r.val l.val)
    (hG : ∀ (r : Fin 256) (l : Fin 128), k0_pay9 (F := Ideal) x2 (View.ld (Val := Elt Ideal) (e' := .f32) x4 (Rect.unit ![1, 0] ![1, 128] inb_S8x128_S1x128_1_0))
      (View.ld (Val := Elt Ideal) (e' := .f32) x4 (Rect.unit ![0, 0] ![1, 128] inb_S8x128_S1x128_0_0)) (ix2 r l) = g r.val l.val)
    (ht : ∀ r h, g r h ≠ ⊤) (hB : ∀ (r : Fin 256) (h : ℕ) (l : Fin 128), h < 4 → l.val = 4 + h → k0_pay10 (F := Ideal) x2 (ix2 r l) = b r.val h)
    (ra : ∀ r c, IsReal (a r c)) (rg : ∀ r h, h < 4 → IsReal (g r h)) (rb : ∀ r h, h < 4 → IsReal (b r h)) :
    out0_A_5 c i arg1 harg1 arg2 harg2 arg3 harg3 arg4 harg4 arg5 harg5 arg6 harg6 arg7 harg7 arg8 harg8 arg9 harg9 arg10 harg10 arg11 harg11 x0 x1 x2 x3 x4 = tiles (uOf a g b) := by
  funext y
  unfold out0_A_5
  refine View.read_writes_apply_of_pieces _ _ (tiles (uOf a g b)) _ ?_ y (cover0_A_5 c i arg1 harg1 arg2 harg2 arg3 harg3 arg4 harg4 arg5 harg5 arg6 harg6 arg7 harg7 arg8 harg8 arg9 harg9 arg10 harg10 arg11 harg11 x0 x1 x2 x3 x4 y)
  unfold kernelRun0_A
  dsimp only
  sl_unfold_words
  simp only [View.readAt_eq_ld, harg1.read_unread, harg2.read_unread, harg3.read_unread, harg4.read_unread, harg5.read_unread, ld_0, ld_1, ld_2, List.forall_mem_cons]
  generalize k0_pay8 (F := Ideal) (k0_pay3 x3) (k0_pay4 i x0 x1 x3) (k0_pay6 i x0 x1) (k0_pay7 x0) = A at hA ⊢
  generalize k0_pay9 (F := Ideal) x2 _ _ = G at hG ⊢
  generalize k0_pay10 (F := Ideal) x2 = B at hB ⊢
  refine ⟨?_, ?_, ?_, ?_, ?_, ?_, ?_, ?_, fun x hx => absurd hx List.not_mem_nil⟩
  · exact fun x => u_piece A G B hA hG ht hB ra rg rb 1 3 (by decide) (by decide) _ rfl _ slices_S256x1536_o128_1408_S128x128 slices_S256x1536_o128_896_S128x128 slices_S256x128_o128_0_S128x128 slices_S128x128_o0_3_S128x1 slices_S128x128_o3_0_S1x128 transposes_S128x128_p1_0_S128x128 slices_S256x128_o128_7_S128x1 x
  · exact fun x => u_piece A G B hA hG ht hB ra rg rb 1 2 (by decide) (by decide) _ rfl _ slices_S256x1536_o128_1280_S128x128 slices_S256x1536_o128_768_S128x128 slices_S256x128_o128_0_S128x128 slices_S128x128_o0_2_S128x1 slices_S128x128_o2_0_S1x128 transposes_S128x128_p1_0_S128x128 slices_S256x128_o128_6_S128x1 x
  · exact fun x => u_piece A G B hA hG ht hB ra rg rb 1 1 (by decide) (by decide) _ rfl _ slices_S256x1536_o128_1152_S128x128 slices_S256x1536_o128_640_S128x128 slices_S256x128_o128_0_S128x128 slices_S128x128_o0_1_S128x1 slices_S128x128_o1_0_S1x128 transposes_S128x128_p1_0_S128x128 slices_S256x128_o128_5_S128x1 x
  · exact fun x => u_piece A G B hA hG ht hB ra rg rb 1 0 (by decide) (by decide) _ rfl _ slices_S256x1536_o128_1024_S128x128 slices_S256x1536_o128_512_S128x128 slices_S256x128_o128_0_S128x128 slices_S128x128_o0_0_S128x1 slices_S128x128_o0_0_S1x128 transposes_S128x128_p1_0_S128x128 slices_S256x128_o128_4_S128x1 x
  · exact fun x => u_piece A G B hA hG ht hB ra rg rb 0 3 (by decide) (by decide) _ rfl _ slices_S256x1536_o0_1408_S128x128 slices_S256x1536_o0_896_S128x128 slices_S256x128_o0_0_S128x128 slices_S128x128_o0_3_S128x1 slices_S128x128_o3_0_S1x128 transposes_S128x128_p1_0_S128x128 slices_S256x128_o0_7_S128x1 x
  · exact fun x => u_piece A G B hA hG ht hB ra rg rb 0 2 (by decide) (by decide) _ rfl _ slices_S256x1536_o0_1280_S128x128 slices_S256x1536_o0_768_S128x128 slices_S256x128_o0_0_S128x128 slices_S128x128_o0_2_S128x1 slices_S128x128_o2_0_S1x128 transposes_S128x128_p1_0_S128x128 slices_S256x128_o0_6_S128x1 x
  · exact fun x => u_piece A G B hA hG ht hB ra rg rb 0 1 (by decide) (by decide) _ rfl _ slices_S256x1536_o0_1152_S128x128 slices_S256x1536_o0_640_S128x128 slices_S256x128_o0_0_S128x128 slices_S128x128_o0_1_S128x1 slices_S128x128_o1_0_S1x128 transposes_S128x128_p1_0_S128x128 slices_S256x128_o0_5_S128x1 x
  · exact fun x => u_piece A G B hA hG ht hB ra rg rb 0 0 (by decide) (by decide) _ rfl _ slices_S256x1536_o0_1024_S128x128 slices_S256x1536_o0_512_S128x128 slices_S256x128_o0_0_S128x128 slices_S128x128_o0_0_S128x1 slices_S128x128_o0_0_S1x128 transposes_S128x128_p1_0_S128x128 slices_S256x128_o0_4_S128x1 x

/-- The solved keys a point leaves. -/
theorem out6 (c : Dev nD) (i : grid0.Coords) (arg1 : Memref sig .tc .vmem S256x1536 .f32) (harg1 : arg1.IsWhole) (arg2 : Memref sig .tc .vmem S8x1536 .f32) (harg2 : arg2.IsWhole) (arg3 : Memref sig .tc .vmem S256x128 .f32) (harg3 : arg3.IsWhole) (arg4 : Memref sig .tc .vmem S8x1536 .f32) (harg4 : arg4.IsWhole) (arg5 : Memref sig .tc .vmem S8x128 .f32) (harg5 : arg5.IsWhole) (arg6 : Memref sig .tc .vmem S256x512 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S2x8x128 .f32) (harg11 : arg11.IsWhole) (x0 : Vec Ideal S256x1536 .f32) (x1 : Vec Ideal S8x1536 .f32) (x2 : Vec Ideal S256x128 .f32) (x3 : Vec Ideal S8x1536 .f32) (x4 : Vec Ideal S8x128 .f32)
    {a g b : ℕ → ℕ → EReal}
    (hA : ∀ (r : Fin 256) (l : Fin 1536), k0_pay8 (F := Ideal) (k0_pay3 x3) (k0_pay4 i x0 x1 x3) (k0_pay6 i x0 x1) (k0_pay7 x0) (ix2 r l) = a r.val l.val)
    (hG : ∀ (r : Fin 256) (l : Fin 128), k0_pay9 (F := Ideal) x2 (View.ld (Val := Elt Ideal) (e' := .f32) x4 (Rect.unit ![1, 0] ![1, 128] inb_S8x128_S1x128_1_0))
      (View.ld (Val := Elt Ideal) (e' := .f32) x4 (Rect.unit ![0, 0] ![1, 128] inb_S8x128_S1x128_0_0)) (ix2 r l) = g r.val l.val)
    (ht : ∀ r h, g r h ≠ ⊤) (hB : ∀ (r : Fin 256) (h : ℕ) (l : Fin 128), h < 4 → l.val = 4 + h → k0_pay10 (F := Ideal) x2 (ix2 r l) = b r.val h)
    (ra : ∀ r c, IsReal (a r c)) (rg : ∀ r h, h < 4 → IsReal (g r h)) (rb : ∀ r h, h < 4 → IsReal (b r h)) :
    out0_A_6 c i arg1 harg1 arg2 harg2 arg3 harg3 arg4 harg4 arg5 harg5 arg6 harg6 arg7 harg7 arg8 harg8 arg9 harg9 arg10 harg10 arg11 harg11 x0 x1 x2 x3 x4 = tiles (wOf a g b) := by
  funext y
  unfold out0_A_6
  refine View.read_writes_apply_of_pieces _ _ (tiles (wOf a g b)) _ ?_ y (cover0_A_6 c i arg1 harg1 arg2 harg2 arg3 harg3 arg4 harg4 arg5 harg5 arg6 harg6 arg7 harg7 arg8 harg8 arg9 harg9 arg10 harg10 arg11 harg11 x0 x1 x2 x3 x4 y)
  unfold kernelRun0_A
  dsimp only
  sl_unfold_words
  simp only [View.readAt_eq_ld, harg1.read_unread, harg2.read_unread, harg3.read_unread, harg4.read_unread, harg5.read_unread, ld_0, ld_1, ld_2, List.forall_mem_cons]
  generalize k0_pay8 (F := Ideal) (k0_pay3 x3) (k0_pay4 i x0 x1 x3) (k0_pay6 i x0 x1) (k0_pay7 x0) = A at hA ⊢
  generalize k0_pay9 (F := Ideal) x2 _ _ = G at hG ⊢
  generalize k0_pay10 (F := Ideal) x2 = B at hB ⊢
  refine ⟨?_, ?_, ?_, ?_, ?_, ?_, ?_, ?_, fun x hx => absurd hx List.not_mem_nil⟩
  · exact fun x => w_piece A G B hA hG ht hB ra rg rb 1 3 (by decide) (by decide) _ rfl _ slices_S256x1536_o128_896_S128x128 slices_S256x128_o128_0_S128x128 slices_S128x128_o0_3_S128x1 slices_S128x128_o3_0_S1x128 transposes_S128x128_p1_0_S128x128 slices_S256x128_o128_7_S128x1 x
  · exact fun x => w_piece A G B hA hG ht hB ra rg rb 1 2 (by decide) (by decide) _ rfl _ slices_S256x1536_o128_768_S128x128 slices_S256x128_o128_0_S128x128 slices_S128x128_o0_2_S128x1 slices_S128x128_o2_0_S1x128 transposes_S128x128_p1_0_S128x128 slices_S256x128_o128_6_S128x1 x
  · exact fun x => w_piece A G B hA hG ht hB ra rg rb 1 1 (by decide) (by decide) _ rfl _ slices_S256x1536_o128_640_S128x128 slices_S256x128_o128_0_S128x128 slices_S128x128_o0_1_S128x1 slices_S128x128_o1_0_S1x128 transposes_S128x128_p1_0_S128x128 slices_S256x128_o128_5_S128x1 x
  · exact fun x => w_piece A G B hA hG ht hB ra rg rb 1 0 (by decide) (by decide) _ rfl _ slices_S256x1536_o128_512_S128x128 slices_S256x128_o128_0_S128x128 slices_S128x128_o0_0_S128x1 slices_S128x128_o0_0_S1x128 transposes_S128x128_p1_0_S128x128 slices_S256x128_o128_4_S128x1 x
  · exact fun x => w_piece A G B hA hG ht hB ra rg rb 0 3 (by decide) (by decide) _ rfl _ slices_S256x1536_o0_896_S128x128 slices_S256x128_o0_0_S128x128 slices_S128x128_o0_3_S128x1 slices_S128x128_o3_0_S1x128 transposes_S128x128_p1_0_S128x128 slices_S256x128_o0_7_S128x1 x
  · exact fun x => w_piece A G B hA hG ht hB ra rg rb 0 2 (by decide) (by decide) _ rfl _ slices_S256x1536_o0_768_S128x128 slices_S256x128_o0_0_S128x128 slices_S128x128_o0_2_S128x1 slices_S128x128_o2_0_S1x128 transposes_S128x128_p1_0_S128x128 slices_S256x128_o0_6_S128x1 x
  · exact fun x => w_piece A G B hA hG ht hB ra rg rb 0 1 (by decide) (by decide) _ rfl _ slices_S256x1536_o0_640_S128x128 slices_S256x128_o0_0_S128x128 slices_S128x128_o0_1_S128x1 slices_S128x128_o1_0_S1x128 transposes_S128x128_p1_0_S128x128 slices_S256x128_o0_5_S128x1 x
  · exact fun x => w_piece A G B hA hG ht hB ra rg rb 0 0 (by decide) (by decide) _ rfl _ slices_S256x1536_o0_512_S128x128 slices_S256x128_o0_0_S128x128 slices_S128x128_o0_0_S128x1 slices_S128x128_o0_0_S1x128 transposes_S128x128_p1_0_S128x128 slices_S256x128_o0_4_S128x1 x

end Cert.Kernel6Ideal.Val

end
-- ==== Proof.SolveKernel.lean ====
/-
  The solved arrays the preparing call's kernel leaves, of its arguments.
-/
module

public import proofs.«01_k».proof.Proof.SolveOut
public import proofs.«01_k».proof.Proof.PrepKernel

@[expose] public section

set_option maxRecDepth 65536

noncomputable section

open Idealize.ShloMosaic hiding ix1 ix2 ix3 ix4 eq_ix1 eq_ix2 eq_ix3 eq_ix4
open Idealize.ShloMosaic.TcCoe Idealize.ShloMosaic.ValueIdx Idealize.ShloMosaic.Tactic

namespace Cert.Core

/-- The step sizes. -/
def prepB (a1 : (⟨2, ![16384, 128]⟩ : Shape).Idx → EReal) : ℕ → ℕ → EReal := betaOf (at2 a1)

end Cert.Core

namespace Cert.Kernel6Ideal.Val

open Cert.Kernel6Ideal Cert.Kernel6Ideal.Gen Cert.Kernel6Ideal.Value Cert.Core
open Cert.Kernel5Ideal.Val (tiles act_apply g_apply)

variable (m : (ℓ : Loc nD τ sig) → Buf (Elt Ideal) ℓ) (c : Dev nD)

/-! variable (ra : ∀ r l, IsReal (actM m c r l)) (rg : ∀ r h, IsReal (gM m c r h)) (rb : ∀ r h, IsReal (bM m c r h))

include ra rg rb

theorem final5 : (dats m 0 c).arrAt 5 cfg0.N = result5 m c := by
  refine (dats m 0 c).arrAt_eq_of_covers 5 _ (by decide +kernel) fun t hf y => ?_
  blk_simp
  rw [after0_5]
  unfold outsAt0
  dsimp only
  rw [out5 (a := fun r l => actM m c (256 * t.val + r) l) (g := fun r h => gP m c (256 * t.val + r) h) (b := fun r h => bM m c (256 * t.val + r) h)
    (hA := actB m c t) (hG := gB m c t) (ht := gP_ne_top m c t) (hB := bB m c t) (ra := fun r l => ra _ l)
    (rg := fun r h hh => by show IsReal (gP m c (256 * t.val + r) h); rw [gP_eq m c _ h hh]; exact rg _ h) (rb := fun r h _ => rb _ h)]
  refine tiles_laid t _ _ (fun n h i l hn hh hi hl => congrFun (congrFun (uOf_shift h (act_sh m c t n) (g_sh m c t h hh n) (b_sh m c t h n)) i) l) y _ _ ?_ ?_
  · show win0_5.index t 0 * 256 + 1 * (y 0).val = _; rw [(idx5 t).1]; omega
  · show win0_5.index t 1 * 512 + 1 * (y 1).val = _; rw [(idx5 t).2]; omega

theorem final6 : (dats m 0 c).arrAt 6 cfg0.N = result6 m c := by
  refine (dats m 0 c).arrAt_eq_of_covers 6 _ (by decide +kernel) fun t hf y => ?_
  blk_simp
  rw [after0_6]
  unfold outsAt0
  dsimp only
  rw [out6 (a := fun r l => actM m c (256 * t.val + r) l) (g := fun r h => gP m c (256 * t.val + r) h) (b := fun r h => bM m c (256 * t.val + r) h)
    (hA := actB m c t) (hG := gB m c t) (ht := gP_ne_top m c t) (hB := bB m c t) (ra := fun r l => ra _ l)
    (rg := fun r h hh => by show IsReal (gP m c (256 * t.val + r) h); rw [gP_eq m c _ h hh]; exact rg _ h) (rb := fun r h _ => rb _ h)]
  refine tiles_laid t _ _ (fun n h i l hn hh hi hl => congrFun (congrFun (wOf_shift h (act_sh m c t n) (g_sh m c t h hh n) (b_sh m c t h n)) i) l) y _ _ ?_ ?_
  · show win0_6.index t 0 * 256 + 1 * (y 0).val = _; rw [(idx6 t).1]; omega
  · show win0_6.index t 1 * 512 + 1 * (y 1).val = _; rw [(idx6 t).2]; omega

end Cert.Kernel6Ideal.Val

end
 What the host operations leave before the kernel -/

theorem V_main_v1 : (V m c main_v1 : S8x1536.Idx → EReal) = pad (α := EReal) S8x1536 ![0, 0] ![4, 0] ![0, 0]
    (shapeCast S4x1536 (m ((c : Thread nD τ).loc main_arg2)) shapeCasts_S1x4x1536_S4x1536)
    (sitofp (F := Ideal) .f32 (constantI S_ 32 0#32)) pads_S4x1536_S8x1536_040_000 h_S_ := by
  show StableHlo.after (List.flatten [hostOps0, hostOps0_1, hostOps0_2]) _ (Proc.devRef .tc main_v1) = _
  simp only [hostOps0, hostOps0_1, hostOps0_2, List.flatten_cons, List.flatten_nil, List.append_nil, List.cons_append, List.nil_append]
  after_results
  rfl

theorem V_main_v12 : (V m c main_v12 : S8x128.Idx → EReal) =
    Host.scatter scatter_S8x128_S2_S4_0_0_01_0 (fun _ b => b)
      (Host.scatter scatter_S8x128_S2_S4_0_0_01_0 (fun _ b => b) (broadcastInDim (α := EReal) S8x128 ![] bcast_S_S8x128 (constant (F := Ideal) S_ .f32 0x00000000#32))
        (concatenate S2 0 [⟨S1, broadcastInDim S1 ![] bcast_S_S1 (constantI S_ 32 0#32)⟩, ⟨S1, broadcastInDim S1 ![] bcast_S_S1 (constantI S_ 32 0#32)⟩] concatenates_S1_S1_S2_d0)
        (shapeCast (α := EReal) S4 (m ((c : Thread nD τ).loc main_arg3)) shapeCasts_S1x4_S4))
      (concatenate S2 0 [⟨S1, broadcastInDim S1 ![] bcast_S_S1 (constantI S_ 32 1#32)⟩, ⟨S1, broadcastInDim S1 ![] bcast_S_S1 (constantI S_ 32 0#32)⟩] concatenates_S1_S1_S2_d0)
      (shapeCast (α := EReal) S4 (m ((c : Thread nD τ).loc main_arg4)) shapeCasts_S1x4_S4) := by
  show StableHlo.after (List.flatten [hostOps0, hostOps0_1, hostOps0_2]) _ (Proc.devRef .tc main_v12) = _
  simp only [hostOps0, hostOps0_1, hostOps0_2, List.flatten_cons, List.flatten_nil, List.append_nil, List.cons_append, List.nil_append]
  after_results
  rfl

/-- The parameters' first row holds the first array in its four heads. -/
theorem prm0 (h : Fin 4) : (V m c main_v12 : S8x128.Idx → EReal) (ix2 0 ⟨h.val, by have := h.isLt; omega⟩)
    = at2 (m ((c : Thread nD τ).loc main_arg3) : S1x4.Idx → EReal) 0 h.val := by
  rw [V_main_v12]
  refine (scatter_row_miss scatter_S8x128_S2_S4_0_0_01_0 rfl rfl rfl _ _ _ (0 : Fin 8) _ (by decide +kernel)).trans ?_
  refine (scatter_row_hit scatter_S8x128_S2_S4_0_0_01_0 rfl rfl rfl _ _ _ (0 : Fin 8) _ h (by decide +kernel) (by decide +kernel) rfl).trans ?_
  exact (shapeCast_apply _ _ (ix1 h) (ix2 0 h) (by rw [Shape.rowMajor_val_two, Shape.rowMajor_val_one]; show 0 * 4 + h.val = h.val; omega)).trans
    (at2_of _ _ rfl rfl)

/-- The parameters' second row holds the second array in its four heads. -/
theorem prm1 (h : Fin 4) : (V m c main_v12 : S8x128.Idx → EReal) (ix2 1 ⟨h.val, by have := h.isLt; omega⟩)
    = at2 (m ((c : Thread nD τ).loc main_arg4) : S1x4.Idx → EReal) 0 h.val := by
  rw [V_main_v12]
  refine (scatter_row_hit scatter_S8x128_S2_S4_0_0_01_0 rfl rfl rfl _ _ _ (1 : Fin 8) _ h (by decide +kernel) (by decide +kernel) rfl).trans ?_
  exact (shapeCast_apply _ _ (ix1 h) (ix2 0 h) (by rw [Shape.rowMajor_val_two, Shape.rowMajor_val_one]; show 0 * 4 + h.val = h.val; omega)).trans
    (at2_of _ _ rfl rfl)

/-- The convolution's four rows. -/
theorem cw_at (j : Fin 8) (l : Fin 1536) (hj : j.val < 4) : (V m c main_v1 : S8x1536.Idx → EReal) (ix2 j l)
    = at3 (m ((c : Thread nD τ).loc main_arg2) : S1x4x1536.Idx → EReal) 0 j.val l.val := by
  rw [V_main_v1]
  refine (pad_apply_of_inside _ _ _ _ _ _ _ (ix2 j l) (ix2 (⟨j.val, hj⟩ : Fin 4) l) ?_).trans (cast_at3 _ _ _ rfl rfl)
  intro a
  match a with
  | ⟨0, _⟩ => show j.val = 0 + j.val * (0 + 1); omega
  | ⟨1, _⟩ => show l.val = 0 + l.val * (0 + 1); omega

/-! variable (ra : ∀ r l, IsReal (actM m c r l)) (rg : ∀ r h, IsReal (gM m c r h)) (rb : ∀ r h, IsReal (bM m c r h))

include ra rg rb

theorem final5 : (dats m 0 c).arrAt 5 cfg0.N = result5 m c := by
  refine (dats m 0 c).arrAt_eq_of_covers 5 _ (by decide +kernel) fun t hf y => ?_
  blk_simp
  rw [after0_5]
  unfold outsAt0
  dsimp only
  rw [out5 (a := fun r l => actM m c (256 * t.val + r) l) (g := fun r h => gP m c (256 * t.val + r) h) (b := fun r h => bM m c (256 * t.val + r) h)
    (hA := actB m c t) (hG := gB m c t) (ht := gP_ne_top m c t) (hB := bB m c t) (ra := fun r l => ra _ l)
    (rg := fun r h hh => by show IsReal (gP m c (256 * t.val + r) h); rw [gP_eq m c _ h hh]; exact rg _ h) (rb := fun r h _ => rb _ h)]
  refine tiles_laid t _ _ (fun n h i l hn hh hi hl => congrFun (congrFun (uOf_shift h (act_sh m c t n) (g_sh m c t h hh n) (b_sh m c t h n)) i) l) y _ _ ?_ ?_
  · show win0_5.index t 0 * 256 + 1 * (y 0).val = _; rw [(idx5 t).1]; omega
  · show win0_5.index t 1 * 512 + 1 * (y 1).val = _; rw [(idx5 t).2]; omega

theorem final6 : (dats m 0 c).arrAt 6 cfg0.N = result6 m c := by
  refine (dats m 0 c).arrAt_eq_of_covers 6 _ (by decide +kernel) fun t hf y => ?_
  blk_simp
  rw [after0_6]
  unfold outsAt0
  dsimp only
  rw [out6 (a := fun r l => actM m c (256 * t.val + r) l) (g := fun r h => gP m c (256 * t.val + r) h) (b := fun r h => bM m c (256 * t.val + r) h)
    (hA := actB m c t) (hG := gB m c t) (ht := gP_ne_top m c t) (hB := bB m c t) (ra := fun r l => ra _ l)
    (rg := fun r h hh => by show IsReal (gP m c (256 * t.val + r) h); rw [gP_eq m c _ h hh]; exact rg _ h) (rb := fun r h _ => rb _ h)]
  refine tiles_laid t _ _ (fun n h i l hn hh hi hl => congrFun (congrFun (wOf_shift h (act_sh m c t n) (g_sh m c t h hh n) (b_sh m c t h n)) i) l) y _ _ ?_ ?_
  · show win0_6.index t 0 * 256 + 1 * (y 0).val = _; rw [(idx6 t).1]; omega
  · show win0_6.index t 1 * 512 + 1 * (y 1).val = _; rw [(idx6 t).2]; omega

end Cert.Kernel6Ideal.Val

end
 The windows' blocks as parts of the arguments -/

theorem co : ∀ t : Fin cfg0.N, (grid0.coords t 0).val = t.val := by decide +kernel
theorem idx0 : ∀ t : Fin cfg0.N, win0_0.index t 0 = t.val ∧ win0_0.index t 1 = 0 := by decide +kernel
theorem idx1 : ∀ t : Fin cfg0.N, win0_1.index t 0 = 32 * t.val - 1 ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = 0 ∧ win0_3.index t 1 = 0 := by decide +kernel
theorem idx5 : ∀ t : Fin cfg0.N, win0_5.index t 0 = t.val ∧ win0_5.index t 1 = 0 := by decide +kernel
theorem idx6 : ∀ t : Fin cfg0.N, win0_6.index t 0 = t.val ∧ win0_6.index t 1 = 0 := by decide +kernel
theorem idx4 : ∀ t : Fin cfg0.N, win0_4.index t 0 = 0 ∧ win0_4.index t 1 = 0 := by decide +kernel

variable (t : Fin cfg0.N)

/-- Rows of the queries, keys and values. -/
theorem blk0 (r : Fin 256) (l : Fin 1536) : (iblk m c 0 t : S256x1536.Idx → EReal) (ix2 r l)
    = at2 (m ((c : Thread nD τ).loc main_arg0) : S16384x1536.Idx → EReal) (256 * (grid0.coords t 0).val + r.val) l.val := by
  rw [co t]
  unfold iblk
  rw [View.read_apply]
  show V m c main_arg0 _ = _
  rw [V_main_arg0]
  refine at2_of _ _ ?_ ?_
  · show win0_0.index t 0 * 256 + 1 * r.val = _; rw [(idx0 t).1]; omega
  · show win0_0.index t 1 * 1536 + 1 * l.val = _; rw [(idx0 t).2]; omega

/-- The eight rows before the block. -/
theorem blk1 (ht : 0 < (grid0.coords t 0).val) (r : Fin 8) (l : Fin 1536) : (iblk m c 1 t : S8x1536.Idx → EReal) (ix2 r l)
    = at2 (m ((c : Thread nD τ).loc main_arg0) : S16384x1536.Idx → EReal) (256 * (grid0.coords t 0).val + r.val - 8) l.val := by
  rw [co t] at ht ⊢
  unfold iblk
  rw [View.read_apply]
  show V m c main_arg0 _ = _
  rw [V_main_arg0]
  refine at2_of _ _ ?_ ?_
  · show win0_1.index t 0 * 8 + 1 * r.val = _; rw [(idx1 t).1]; omega
  · show win0_1.index t 1 * 1536 + 1 * l.val = _; rw [(idx1 t).2]; omega

/-- Rows of the decays' array. -/
theorem blk2 (r : Fin 256) (l : Fin 128) : (iblk m c 2 t : S256x128.Idx → EReal) (ix2 r l)
    = at2 (m ((c : Thread nD τ).loc main_arg1) : S16384x128.Idx → EReal) (256 * t.val + r.val) l.val := by
  unfold iblk
  rw [View.read_apply]
  show V m c main_arg1 _ = _
  rw [V_main_arg1]
  refine at2_of _ _ ?_ ?_
  · show win0_2.index t 0 * 256 + 1 * r.val = _; rw [(idx2 t).1]; omega
  · show win0_2.index t 1 * 128 + 1 * l.val = _; rw [(idx2 t).2]; omega

/-- The convolution's block. -/
theorem blk3 (j : Fin 8) (l : Fin 1536) (hj : j.val < 4) : (iblk m c 3 t : S8x1536.Idx → EReal) (ix2 j l)
    = at3 (m ((c : Thread nD τ).loc main_arg2) : S1x4x1536.Idx → EReal) 0 j.val l.val := by
  unfold iblk
  rw [View.read_apply]
  show (V m c main_v1 : S8x1536.Idx → EReal) (((cfg0.win 3).blk t).view.emb (ix2 j l)) = _
  have e : ((cfg0.win 3).blk t).view.emb (ix2 j l) = ix2 j l := by
    funext d
    match d with
    | ⟨0, _⟩ => exact Fin.ext (by show win0_3.index t 0 * 8 + 1 * j.val = j.val; rw [(idx3 t).1]; omega)
    | ⟨1, _⟩ => exact Fin.ext (by show win0_3.index t 1 * 1536 + 1 * l.val = l.val; rw [(idx3 t).2]; omega)
  rw [e]
  exact cw_at m c j l hj

/-- The parameters' block. -/
theorem blk4 (j : Fin 8) (l : Fin 128) : (iblk m c 4 t : S8x128.Idx → EReal) (ix2 j l) = (V m c main_v12 : S8x128.Idx → EReal) (ix2 j l) := by
  unfold iblk
  rw [View.read_apply]
  show (V m c main_v12 : S8x128.Idx → EReal) (((cfg0.win 4).blk t).view.emb (ix2 j l)) = _
  refine congrArg _ (funext fun d => ?_)
  match d with
  | ⟨0, _⟩ => exact Fin.ext (by show win0_4.index t 0 * 8 + 1 * j.val = j.val; rw [(idx4 t).1]; omega)
  | ⟨1, _⟩ => exact Fin.ext (by show win0_4.index t 1 * 128 + 1 * l.val = l.val; rw [(idx4 t).2]; omega)

/-! variable (ra : ∀ r l, IsReal (actM m c r l)) (rg : ∀ r h, IsReal (gM m c r h)) (rb : ∀ r h, IsReal (bM m c r h))

include ra rg rb

theorem final5 : (dats m 0 c).arrAt 5 cfg0.N = result5 m c := by
  refine (dats m 0 c).arrAt_eq_of_covers 5 _ (by decide +kernel) fun t hf y => ?_
  blk_simp
  rw [after0_5]
  unfold outsAt0
  dsimp only
  rw [out5 (a := fun r l => actM m c (256 * t.val + r) l) (g := fun r h => gP m c (256 * t.val + r) h) (b := fun r h => bM m c (256 * t.val + r) h)
    (hA := actB m c t) (hG := gB m c t) (ht := gP_ne_top m c t) (hB := bB m c t) (ra := fun r l => ra _ l)
    (rg := fun r h hh => by show IsReal (gP m c (256 * t.val + r) h); rw [gP_eq m c _ h hh]; exact rg _ h) (rb := fun r h _ => rb _ h)]
  refine tiles_laid t _ _ (fun n h i l hn hh hi hl => congrFun (congrFun (uOf_shift h (act_sh m c t n) (g_sh m c t h hh n) (b_sh m c t h n)) i) l) y _ _ ?_ ?_
  · show win0_5.index t 0 * 256 + 1 * (y 0).val = _; rw [(idx5 t).1]; omega
  · show win0_5.index t 1 * 512 + 1 * (y 1).val = _; rw [(idx5 t).2]; omega

theorem final6 : (dats m 0 c).arrAt 6 cfg0.N = result6 m c := by
  refine (dats m 0 c).arrAt_eq_of_covers 6 _ (by decide +kernel) fun t hf y => ?_
  blk_simp
  rw [after0_6]
  unfold outsAt0
  dsimp only
  rw [out6 (a := fun r l => actM m c (256 * t.val + r) l) (g := fun r h => gP m c (256 * t.val + r) h) (b := fun r h => bM m c (256 * t.val + r) h)
    (hA := actB m c t) (hG := gB m c t) (ht := gP_ne_top m c t) (hB := bB m c t) (ra := fun r l => ra _ l)
    (rg := fun r h hh => by show IsReal (gP m c (256 * t.val + r) h); rw [gP_eq m c _ h hh]; exact rg _ h) (rb := fun r h _ => rb _ h)]
  refine tiles_laid t _ _ (fun n h i l hn hh hi hl => congrFun (congrFun (wOf_shift h (act_sh m c t n) (g_sh m c t h hh n) (b_sh m c t h n)) i) l) y _ _ ?_ ?_
  · show win0_6.index t 0 * 256 + 1 * (y 0).val = _; rw [(idx6 t).1]; omega
  · show win0_6.index t 1 * 512 + 1 * (y 1).val = _; rw [(idx6 t).2]; omega

end Cert.Kernel6Ideal.Val

end
 The arrays the kernel leaves -/

/-- The activations of the memory's arguments. -/
def actM : ℕ → ℕ → EReal := prepAct (m ((c : Thread nD τ).loc main_arg0)) (m ((c : Thread nD τ).loc main_arg2))

/-- The log decays of the memory's arguments. -/
def gM : ℕ → ℕ → EReal := prepG (m ((c : Thread nD τ).loc main_arg1)) (m ((c : Thread nD τ).loc main_arg3)) (m ((c : Thread nD τ).loc main_arg4))

/-- The log decays of every column, the heads' and the ones past them. -/
def gP : ℕ → ℕ → EReal := decayOf (at2 (m ((c : Thread nD τ).loc main_arg1) : S16384x128.Idx → EReal)) (at2 (V m c main_v12 : S8x128.Idx → EReal) 0)
  (at2 (V m c main_v12 : S8x128.Idx → EReal) 1)

theorem gP_eq (r h : ℕ) (hh : h < 4) : gP m c r h = gM m c r h := by
  have e0 : at2 (V m c main_v12 : S8x128.Idx → EReal) 0 h = at2 (m ((c : Thread nD τ).loc main_arg3) : S1x4.Idx → EReal) 0 h :=
    (at2_of (V m c main_v12 : S8x128.Idx → EReal) (ix2 0 ⟨h, by omega⟩) rfl rfl).symm.trans (prm0 m c ⟨h, hh⟩)
  have e1 : at2 (V m c main_v12 : S8x128.Idx → EReal) 1 h = at2 (m ((c : Thread nD τ).loc main_arg4) : S1x4.Idx → EReal) 0 h :=
    (at2_of (V m c main_v12 : S8x128.Idx → EReal) (ix2 1 ⟨h, by omega⟩) rfl rfl).symm.trans (prm1 m c ⟨h, hh⟩)
  unfold gP gM prepG decayOf
  rw [e0, e1]

theorem actB (r : Fin 256) (l : Fin 1536) :
    k0_pay8 (F := Ideal) (k0_pay3 (iblk m c 3 t)) (k0_pay4 (grid0.coords t) (iblk m c 0 t) (iblk m c 1 t) (iblk m c 3 t))
      (k0_pay6 (grid0.coords t) (iblk m c 0 t) (iblk m c 1 t)) (k0_pay7 (iblk m c 0 t)) (ix2 r l) = (fun r l => actM m c (256 * t.val + r) l) r.val l.val := by
  refine (act_apply (grid0.coords t) (iblk m c 0 t) (iblk m c 1 t) (iblk m c 3 t) (blk0 m c t) (blk1 m c t) (blk3 m c t) r l).trans ?_
  rw [co t]
  rfl

theorem gB (r : Fin 256) (h : Fin 128) :
    k0_pay9 (F := Ideal) (iblk m c 2 t) (View.ld (Val := Elt Ideal) (e' := .f32) (iblk m c 4 t : Vec Ideal S8x128 .f32) (Rect.unit ![1, 0] ![1, 128] inb_S8x128_S1x128_1_0))
      (View.ld (Val := Elt Ideal) (e' := .f32) (iblk m c 4 t : Vec Ideal S8x128 .f32) (Rect.unit ![0, 0] ![1, 128] inb_S8x128_S1x128_0_0)) (ix2 r h)
      = (fun r h => gP m c (256 * t.val + r) h) r.val h.val := by
  refine g_apply (A := at2 (m ((c : Thread nD τ).loc main_arg1) : S16384x128.Idx → EReal)) (al := at2 (V m c main_v12 : S8x128.Idx → EReal) 0)
    (dt := at2 (V m c main_v12 : S8x128.Idx → EReal) 1) (iblk m c 2 t) _ _ (blk2 m c t) (fun h => ?_) (fun h => ?_) r h
  · refine Eq.trans ?_ ((blk4 m c t 1 h).trans (at2_of _ _ rfl rfl))
    refine congrArg (iblk m c 4 t : S8x128.Idx → EReal) (funext fun d => Fin.ext ?_)
    match d with
    | ⟨0, _⟩ => rfl
    | ⟨1, _⟩ => show 0 + 1 * h.val = h.val; omega
  · refine Eq.trans ?_ ((blk4 m c t 0 h).trans (at2_of _ _ rfl rfl))
    refine congrArg (iblk m c 4 t : S8x128.Idx → EReal) (funext fun d => Fin.ext ?_)
    match d with
    | ⟨0, _⟩ => rfl
    | ⟨1, _⟩ => show 0 + 1 * h.val = h.val; omega

theorem gP_ne_top (r h : ℕ) : (fun r h => gP m c (256 * t.val + r) h) r h ≠ ⊤ := decayOf_ne_top _ _ _ _ _

theorem act_sh (n : ℕ) (i : ℕ) (_ : i < 128) (l : ℕ) :
    (fun r l => actM m c (256 * t.val + r) l) (128 * n + i) l = actM m c (128 * (2 * t.val + n) + i) l :=
  congrArg (fun r => actM m c r l) (by omega)

theorem g_sh (h : ℕ) (hh : h < 4) (n : ℕ) (i : ℕ) (_ : i < 128) :
    (fun r h => gP m c (256 * t.val + r) h) (128 * n + i) h = gM m c (128 * (2 * t.val + n) + i) h :=
  (gP_eq m c _ h hh).trans (congrArg (fun r => gM m c r h) (by omega))

/-- The step sizes of the memory's arguments. -/
def bM : ℕ → ℕ → EReal := prepB (m ((c : Thread nD τ).loc main_arg1))

theorem bB (r : Fin 256) (h : ℕ) (l : Fin 128) (_ : h < 4) (hl : l.val = 4 + h) :
    k0_pay10 (F := Ideal) (iblk m c 2 t) (ix2 r l) = (fun r h => bM m c (256 * t.val + r) h) r.val h := by
  show Ideal.logistic ((iblk m c 2 t : S256x128.Idx → EReal) (ix2 r l)) = _
  rw [blk2 m c t r l, hl]
  rfl

theorem b_sh (h : ℕ) (n : ℕ) (i : ℕ) (_ : i < 128) :
    (fun r h => bM m c (256 * t.val + r) h) (128 * n + i) h = bM m c (128 * (2 * t.val + n) + i) h :=
  congrArg (fun r => bM m c r h) (by omega)

/-- The solved values the kernel leaves. -/
def result5 : S16384x512.Idx → EReal := fun i => laid (uOf (actM m c) (gM m c) (bM m c)) (i 0).val (i 1).val

/-- The solved keys the kernel leaves. -/
def result6 : S16384x512.Idx → EReal := fun i => laid (wOf (actM m c) (gM m c) (bM m c)) (i 0).val (i 1).val

/-- A tiled block of a point is rows of the layout. -/
theorem tiles_laid (T' T : ℕ → ℕ → ℕ → ℕ → EReal) (hT : ∀ n h i l, n < 2 → h < 4 → i < 128 → l < 128 → T' n h i l = T (2 * t.val + n) h i l)
    (y : S256x512.Idx) (r l : ℕ) (hr : r = 256 * t.val + (y 0).val) (hl : l = (y 1).val) : tiles T' y = laid T r l := by
  have h0 : (y 0).val < 256 := (y 0).isLt
  have h1 : (y 1).val < 512 := (y 1).isLt
  subst hr hl
  unfold tiles laid
  rw [hT _ _ _ _ (by omega) (by omega) (by omega) (by omega), show (256 * t.val + (y 0).val) / 128 = 2 * t.val + (y 0).val / 128 by omega,
    show (256 * t.val + (y 0).val) % 128 = (y 0).val % 128 by omega]

variable (ra : ∀ r l, IsReal (actM m c r l)) (rg : ∀ r h, IsReal (gM m c r h)) (rb : ∀ r h, IsReal (bM m c r h))

include ra rg rb

theorem final5 : (dats m 0 c).arrAt 5 cfg0.N = result5 m c := by
  refine (dats m 0 c).arrAt_eq_of_covers 5 _ (by decide +kernel) fun t hf y => ?_
  blk_simp
  rw [after0_5]
  unfold outsAt0
  dsimp only
  rw [out5 (a := fun r l => actM m c (256 * t.val + r) l) (g := fun r h => gP m c (256 * t.val + r) h) (b := fun r h => bM m c (256 * t.val + r) h)
    (hA := actB m c t) (hG := gB m c t) (ht := gP_ne_top m c t) (hB := bB m c t) (ra := fun r l => ra _ l)
    (rg := fun r h hh => by show IsReal (gP m c (256 * t.val + r) h); rw [gP_eq m c _ h hh]; exact rg _ h) (rb := fun r h _ => rb _ h)]
  refine tiles_laid t _ _ (fun n h i l hn hh hi hl => congrFun (congrFun (uOf_shift h (act_sh m c t n) (g_sh m c t h hh n) (b_sh m c t h n)) i) l) y _ _ ?_ ?_
  · show win0_5.index t 0 * 256 + 1 * (y 0).val = _; rw [(idx5 t).1]; omega
  · show win0_5.index t 1 * 512 + 1 * (y 1).val = _; rw [(idx5 t).2]; omega

theorem final6 : (dats m 0 c).arrAt 6 cfg0.N = result6 m c := by
  refine (dats m 0 c).arrAt_eq_of_covers 6 _ (by decide +kernel) fun t hf y => ?_
  blk_simp
  rw [after0_6]
  unfold outsAt0
  dsimp only
  rw [out6 (a := fun r l => actM m c (256 * t.val + r) l) (g := fun r h => gP m c (256 * t.val + r) h) (b := fun r h => bM m c (256 * t.val + r) h)
    (hA := actB m c t) (hG := gB m c t) (ht := gP_ne_top m c t) (hB := bB m c t) (ra := fun r l => ra _ l)
    (rg := fun r h hh => by show IsReal (gP m c (256 * t.val + r) h); rw [gP_eq m c _ h hh]; exact rg _ h) (rb := fun r h _ => rb _ h)]
  refine tiles_laid t _ _ (fun n h i l hn hh hi hl => congrFun (congrFun (wOf_shift h (act_sh m c t n) (g_sh m c t h hh n) (b_sh m c t h n)) i) l) y _ _ ?_ ?_
  · show win0_6.index t 0 * 256 + 1 * (y 0).val = _; rw [(idx6 t).1]; omega
  · show win0_6.index t 1 * 512 + 1 * (y 1).val = _; rw [(idx6 t).2]; omega

end Cert.Kernel6Ideal.Val

end
-- ==== Proof.SolveRef.lean ====
/-
  The solved arrays the preparing call's reference leaves, of its arguments.
-/
module

public import proofs.«01_k».proof.Proof.SolveKernel
public import proofs.«01_k».proof.Proof.PrepRef
public import proofs.«01_k».proof.Proof.Gen.Reference6Ideal.Read
public import proofs.«01_k».proof.Proof.Gen.Reference6Ideal.Run

@[expose] public section

set_option maxRecDepth 65536

noncomputable section

open Idealize.ShloMosaic hiding ix1 ix2 ix3 ix4 eq_ix1 eq_ix2 eq_ix3 eq_ix4
open Idealize.ShloMosaic.TcCoe Idealize.ShloMosaic.ValueIdx

namespace Cert.Reference6Ideal.Val

open Cert.Reference6Ideal Cert.Reference6Ideal.Gen Cert.Reference6Ideal.Read Cert.Core
open Cert.Reference5Ideal.Val (masked laid_of)

variable (x0 : S16384x1536.Idx → EReal) (x1 : S16384x128.Idx → EReal) (x2 : S1x4x1536.Idx → EReal) (x3 x4 : S1x4.Idx → EReal)

/-! ## What the other results' reference computes too -/

/-- The convolution through its gate. -/
theorem act_apply (i : S16384x1536.Idx) : val_main_v29 (F := Ideal) x0 x2 i = prepAct x0 x2 (i 0).val (i 1).val :=
  Cert.Reference5Ideal.Val.act_apply x0 x2 i

/-- The keys: chunk, head, place and channel. -/
theorem k_apply (i : S128x4x128x128.Idx) : val_main_v41 (F := Ideal) x0 x2 i = kOf (prepAct x0 x2) (i 0).val (i 1).val (i 2).val (i 3).val :=
  Cert.Reference5Ideal.Val.k_apply x0 x2 i

/-- The causal mask is on at and below the diagonal. -/
theorem mask_apply (i : S128x128.Idx) : val_main_v70 (F := Ideal) i = BitVec.ofBool (decide ((i 1).val ≤ (i 0).val)) :=
  Cert.Reference5Ideal.Val.mask_apply i

/-- The running sums of the log decays. -/
theorem gc_apply (i : S128x4x128.Idx) : val_main_v75 (F := Ideal) x1 x3 x4 i = gcOf (prepG x1 x3 x4) (i 0).val (i 1).val (i 2).val :=
  Cert.Reference5Ideal.Val.gc_apply x1 x3 x4 i

/-- The decays between the places of a chunk. -/
theorem dec_apply (i : S128x4x128x128.Idx) : val_main_v82 (F := Ideal) x1 x3 x4 i
    = decOf (prepG x1 x3 x4) (i 0).val (i 1).val (i 2).val (i 3).val :=
  Cert.Reference5Ideal.Val.dec_apply x1 x3 x4 i

/-! ## The values, the step sizes and the system -/

/-- The values: chunk, head, place and channel. -/
theorem v_apply (i : S128x4x128x128.Idx) : val_main_v45 (F := Ideal) x0 x2 i
    = prepAct x0 x2 (128 * (i 0).val + (i 2).val) (1024 + 128 * (i 1).val + (i 3).val) := by
  have h0 : (i 0).val < 128 := (i 0).isLt
  have h1 : (i 1).val < 4 := (i 1).isLt
  have h2 : (i 2).val < 128 := (i 2).isLt
  have h3 : (i 3).val < 128 := (i 3).isLt
  have he : ∀ j : S16384x4x128.Idx, val_main_v43 (F := Ideal) x0 x2 j = prepAct x0 x2 (j 0).val (1024 + 128 * (j 1).val + (j 2).val) := fun j => by
    have g0 : (j 0).val < 16384 := (j 0).isLt
    have g1 : (j 1).val < 4 := (j 1).isLt
    have g2 : (j 2).val < 128 := (j 2).isLt
    rw [val_main_v43_apply, val_main_v42_apply, act_apply]
    exact congrArg₂ (prepAct x0 x2) (by show (((j 0).val * 4 + (j 1).val) * 128 + (j 2).val) / 512 = _; omega)
      (by show 1024 + (((j 0).val * 4 + (j 1).val) * 128 + (j 2).val) % 512 = _; omega)
  rw [val_main_v45_apply, val_main_v44_apply, he]
  show prepAct x0 x2 (((((i 0).val * 128 + (i 2).val) * 4 + (i 1).val) * 128 + (i 3).val) / 512)
    (1024 + 128 * (((((i 0).val * 128 + (i 2).val) * 4 + (i 1).val) * 128 + (i 3).val) / 128 % 4)
      + (((((i 0).val * 128 + (i 2).val) * 4 + (i 1).val) * 128 + (i 3).val) % 128)) = _
  rw [show ((((i 0).val * 128 + (i 2).val) * 4 + (i 1).val) * 128 + (i 3).val) / 512 = 128 * (i 0).val + (i 2).val by omega,
    show ((((i 0).val * 128 + (i 2).val) * 4 + (i 1).val) * 128 + (i 3).val) / 128 % 4 = (i 1).val by omega,
    show ((((i 0).val * 128 + (i 2).val) * 4 + (i 1).val) * 128 + (i 3).val) % 128 = (i 3).val by omega]

/-- The step sizes, token by head. -/
theorem b_apply (i : S16384x4.Idx) : val_main_v64 (F := Ideal) x1 i = prepB x1 (i 0).val (i 1).val := by
  rw [val_main_v64_apply, val_main_v63_apply, val_main_v62_apply, val_main_v61_apply, val_main_v60_apply, val_main_v59_apply, val_main_v58_apply,
    val_main_cst_2_apply, val_main_cst_3_apply]
  have e : ∀ z : EReal, Ideal.div (Ideal.ofBits .f32 0x3F800000#32) (Ideal.ofBits .f32 0x3F800000#32 + Ideal.exp (-z)) = Ideal.logistic z := fun z => by
    rw [Ideal.ofBits_one_f32]; rfl
  refine (e _).trans ?_
  exact congrArg Ideal.logistic (at2_of x1 _ rfl rfl)

theorem bt_apply (i : S128x4x128.Idx) : val_main_v68 (F := Ideal) x1 i = prepB x1 (128 * (i 0).val + (i 2).val) (i 1).val := by
  have h1 : (i 1).val < 4 := (i 1).isLt
  rw [val_main_v68_apply, val_main_v67_apply, b_apply]
  exact congrArg₂ (prepB x1) (by show (((i 0).val * 128 + (i 2).val) * 4 + (i 1).val) / 4 = _; omega)
    (by show (((i 0).val * 128 + (i 2).val) * 4 + (i 1).val) % 4 = _; omega)

theorem less_one : ∀ i : Fin 127, IntOp.addi (BitVec.ofNat 32 (i.val + 1)) 4294967295#32 = BitVec.ofNat 32 i.val := by
  decide +kernel

theorem minus_one : ∀ j : Fin 128, IntOp.cmpi .sge (IntOp.addi (BitVec.ofNat 32 0) 4294967295#32) (BitVec.ofNat 32 j.val) = 0#1 := by
  decide +kernel

/-- The strict mask is on below the diagonal. -/
theorem strict_apply (i : S128x128.Idx) : val_main_v72 (F := Ideal) i = BitVec.ofBool (decide ((i 1).val < (i 0).val)) := by
  have h0 : (i 0).val < 128 := (i 0).isLt
  have h1 : (i 1).val < 128 := (i 1).isLt
  rw [val_main_v72_apply, val_main_v71_apply, val_main_c_4_apply, val_main_call3_v5_apply, val_main_call3_c_0_apply, val_main_call3_v4_apply,
    val_main_call3_v3_apply, val_main_call3_v2_apply, val_main_call3_v1_apply, val_main_call3_c_apply, val_main_call3_v0_apply]
  generalize (i 0).val = a at *
  generalize (i 1).val = b at *
  cases a with
  | zero =>
    rw [minus_one ⟨b, h1⟩, decide_eq_false (Nat.not_lt_zero b)]
    rfl
  | succ a =>
    rw [less_one ⟨a, by omega⟩, WordCmp.cmpi_sge_ofNat (w := 32) (a := a) (b := b) (by omega) (by omega)]
    by_cases h : b < a + 1
    · rw [decide_eq_true h, decide_eq_true (by omega : b ≤ a)]; rfl
    · rw [decide_eq_false h, decide_eq_false (by omega : ¬b ≤ a)]; rfl

/-- The keys times the step sizes. -/
theorem kb_apply (i : S128x4x128x128.Idx) : val_main_v85 (F := Ideal) x0 x1 x2 i
    = kOf (prepAct x0 x2) (i 0).val (i 1).val (i 2).val (i 3).val * prepB x1 (128 * (i 0).val + (i 2).val) (i 1).val := by
  rw [val_main_v85_apply, val_main_v84_apply, val_main_v83_apply, bt_apply, k_apply]
  rfl

/-- The system's matrix below the diagonal. -/
theorem low_apply (i : S128x4x128x128.Idx) : val_main_v88 (F := Ideal) x0 x1 x2 x3 x4 i
    = lowOf (prepAct x0 x2) (prepG x1 x3 x4) (prepB x1) (i 0).val (i 1).val (i 2).val (i 3).val := by
  rw [val_main_v88_apply, val_main_call6_v2_apply, val_main_call6_v1_apply, val_main_call6_v0_apply, val_main_cst_8_apply, strict_apply, masked,
    val_main_v87_apply, val_main_v86_apply, dec_apply]
  have e : (∑ k : Fin 128, val_main_v85 (F := Ideal) x0 x1 x2 (lidx_main_v86 i k) * val_main_v41 (F := Ideal) x0 x2 (ridx_main_v86 i k))
      = ∑ l : Fin 128, kOf (prepAct x0 x2) (i 0).val (i 1).val (i 2).val l.val * prepB x1 (128 * (i 0).val + (i 2).val) (i 1).val
        * kOf (prepAct x0 x2) (i 0).val (i 1).val (i 3).val l.val := Finset.sum_congr rfl fun k _ => by rw [kb_apply, k_apply]
  rw [e]
  unfold lowOf
  exact congrArg (fun z : EReal => if (i 3).val < (i 2).val then _ else z) Ideal.ofBits_zero_f32

/-- The values' right side. -/
theorem ru_apply (i : S128x4x128x128.Idx) : val_main_v91 (F := Ideal) x0 x1 x2 i
    = ruOf (prepAct x0 x2) (prepB x1) (i 0).val (i 1).val (i 2).val (i 3).val := by
  rw [val_main_v91_apply, val_main_v90_apply, val_main_v89_apply, bt_apply, v_apply]
  rfl

/-- The keys' right side. -/
theorem rw_apply (i : S128x4x128x128.Idx) : val_main_v95 (F := Ideal) x0 x1 x2 x3 x4 i
    = rwOf (prepAct x0 x2) (prepG x1 x3 x4) (prepB x1) (i 0).val (i 1).val (i 2).val (i 3).val := by
  rw [val_main_v95_apply, val_main_v94_apply, val_main_v93_apply, val_main_v92_apply, gc_apply, kb_apply]
  rfl

/-! ## The solve -/

/-- The array holds a real matrix for every chunk and head. -/
def Is (T : S128x4x128x128.Idx → EReal) (M : ℕ → ℕ → RM) : Prop := ∀ i : S128x4x128x128.Idx, T i = ((M (i 0).val (i 1).val (i 2) (i 3) : ℝ) : EReal)

theorem is_dot {A B T : S128x4x128x128.Idx → EReal} {P Q : ℕ → ℕ → RM} (hA : Is A P) (hB : Is B Q)
    (hT : ∀ i, T i = ∑ k : Fin 128, A (lidx_main_v96 i k) * B (ridx_main_v96 i k)) : Is T (fun n h => P n h * Q n h) := fun i =>
  (hT i).trans ((Finset.sum_congr rfl fun k _ => congrArg₂ (· * ·) (hA _) (hB _)).trans
    (coe_sum_mul (P (i 0).val (i 1).val) (Q (i 0).val (i 1).val) (i 2) (i 3)))

theorem is_sub {A B T : S128x4x128x128.Idx → EReal} {P Q M : ℕ → ℕ → RM} (hA : Is A P) (hB : Is B Q)
    (hT : ∀ i, T i = FloatOps.subf (F := Ideal) (φ := .f32) (A i) (B i)) (hM : ∀ n h, M n h = P n h - Q n h) : Is T M := fun i => by
  rw [hM]
  exact (hT i).trans ((congrArg₂ (· - ·) (hA i) (hB i)).trans (EReal.coe_sub (P (i 0).val (i 1).val (i 2) (i 3)) (Q (i 0).val (i 1).val (i 2) (i 3))).symm)

theorem is_add {A B T : S128x4x128x128.Idx → EReal} {P Q M : ℕ → ℕ → RM} (hA : Is A P) (hB : Is B Q)
    (hT : ∀ i, T i = FloatOps.addf (F := Ideal) (φ := .f32) (A i) (B i)) (hM : ∀ n h, M n h = P n h + Q n h) : Is T M := fun i => by
  rw [hM]
  exact (hT i).trans ((congrArg₂ (· + ·) (hA i) (hB i)).trans (EReal.coe_add (P (i 0).val (i 1).val (i 2) (i 3)) (Q (i 0).val (i 1).val (i 2) (i 3))).symm)

theorem is_of {T : S128x4x128x128.Idx → EReal} (L : ℕ → ℕ → ℕ → ℕ → EReal) (hT : ∀ i, T i = L (i 0).val (i 1).val (i 2).val (i 3).val)
    (hL : ∀ (k : S128x4x128x128.Idx), IsReal (L (k 0).val (k 1).val (k 2).val (k 3).val)) : Is T (fun n h => reM (L n h)) := fun i =>
  (hT i).trans (hL i).coe_toReal

section
variable (ra : ∀ r c, IsReal (prepAct x0 x2 r c)) (rg : ∀ r h, IsReal (prepG x1 x3 x4 r h)) (rb : ∀ r h, IsReal (prepB x1 r h))

include ra rg rb

theorem is_p0 : Is (val_main_v88 (F := Ideal) x0 x1 x2 x3 x4) (fun n h => sqP (reM (lowOf (prepAct x0 x2) (prepG x1 x3 x4) (prepB x1) n h)) 0) :=
  is_of (lowOf (prepAct x0 x2) (prepG x1 x3 x4) (prepB x1)) (low_apply x0 x1 x2 x3 x4) fun _ => lowOf_real ra (fun r => rg r _) (fun r => rb r _) _ _

theorem is_ru : Is (val_main_v91 (F := Ideal) x0 x1 x2) (fun n h => reM (ruOf (prepAct x0 x2) (prepB x1) n h)) :=
  is_of (ruOf (prepAct x0 x2) (prepB x1)) (ru_apply x0 x1 x2) fun _ => ruOf_real ra (fun r => rb r _) _ _

theorem is_rw : Is (val_main_v95 (F := Ideal) x0 x1 x2 x3 x4) (fun n h => reM (rwOf (prepAct x0 x2) (prepG x1 x3 x4) (prepB x1) n h)) :=
  is_of (rwOf (prepAct x0 x2) (prepG x1 x3 x4) (prepB x1)) (rw_apply x0 x1 x2 x3 x4) fun _ => rwOf_real ra (fun r => rg r _) (fun r => rb r _) _ _

theorem is_p1 : Is (val_main_v100 (F := Ideal) x0 x1 x2 x3 x4) (fun n h => sqP (reM (lowOf (prepAct x0 x2) (prepG x1 x3 x4) (prepB x1) n h)) 1) :=
  is_dot (is_p0 x0 x1 x2 x3 x4 ra rg rb) (is_p0 x0 x1 x2 x3 x4 ra rg rb) (val_main_v100_apply x0 x1 x2 x3 x4)

theorem is_p2 : Is (val_main_v105 (F := Ideal) x0 x1 x2 x3 x4) (fun n h => sqP (reM (lowOf (prepAct x0 x2) (prepG x1 x3 x4) (prepB x1) n h)) 2) :=
  is_dot (is_p1 x0 x1 x2 x3 x4 ra rg rb) (is_p1 x0 x1 x2 x3 x4 ra rg rb) (val_main_v105_apply x0 x1 x2 x3 x4)

theorem is_p3 : Is (val_main_v110 (F := Ideal) x0 x1 x2 x3 x4) (fun n h => sqP (reM (lowOf (prepAct x0 x2) (prepG x1 x3 x4) (prepB x1) n h)) 3) :=
  is_dot (is_p2 x0 x1 x2 x3 x4 ra rg rb) (is_p2 x0 x1 x2 x3 x4 ra rg rb) (val_main_v110_apply x0 x1 x2 x3 x4)

theorem is_p4 : Is (val_main_v115 (F := Ideal) x0 x1 x2 x3 x4) (fun n h => sqP (reM (lowOf (prepAct x0 x2) (prepG x1 x3 x4) (prepB x1) n h)) 4) :=
  is_dot (is_p3 x0 x1 x2 x3 x4 ra rg rb) (is_p3 x0 x1 x2 x3 x4 ra rg rb) (val_main_v115_apply x0 x1 x2 x3 x4)

theorem is_p5 : Is (val_main_v120 (F := Ideal) x0 x1 x2 x3 x4) (fun n h => sqP (reM (lowOf (prepAct x0 x2) (prepG x1 x3 x4) (prepB x1) n h)) 5) :=
  is_dot (is_p4 x0 x1 x2 x3 x4 ra rg rb) (is_p4 x0 x1 x2 x3 x4 ra rg rb) (val_main_v120_apply x0 x1 x2 x3 x4)

theorem is_p6 : Is (val_main_v125 (F := Ideal) x0 x1 x2 x3 x4) (fun n h => sqP (reM (lowOf (prepAct x0 x2) (prepG x1 x3 x4) (prepB x1) n h)) 6) :=
  is_dot (is_p5 x0 x1 x2 x3 x4 ra rg rb) (is_p5 x0 x1 x2 x3 x4 ra rg rb) (val_main_v125_apply x0 x1 x2 x3 x4)

theorem is_u0 : Is (val_main_v97 (F := Ideal) x0 x1 x2 x3 x4) (fun n h => sqU (reM (lowOf (prepAct x0 x2) (prepG x1 x3 x4) (prepB x1) n h)) (reM (ruOf (prepAct x0 x2) (prepB x1) n h)) 0) :=
  is_sub (is_ru x0 x1 x2 x3 x4 ra rg rb) (is_dot (T := val_main_v96 (F := Ideal) x0 x1 x2 x3 x4) (is_p0 x0 x1 x2 x3 x4 ra rg rb) (is_ru x0 x1 x2 x3 x4 ra rg rb) (val_main_v96_apply x0 x1 x2 x3 x4))
    (val_main_v97_apply (F := Ideal) x0 x1 x2 x3 x4) fun _ _ => rfl

theorem is_u1 : Is (val_main_v102 (F := Ideal) x0 x1 x2 x3 x4) (fun n h => sqU (reM (lowOf (prepAct x0 x2) (prepG x1 x3 x4) (prepB x1) n h)) (reM (ruOf (prepAct x0 x2) (prepB x1) n h)) 1) :=
  is_add (is_u0 x0 x1 x2 x3 x4 ra rg rb) (is_dot (T := val_main_v101 (F := Ideal) x0 x1 x2 x3 x4) (is_p1 x0 x1 x2 x3 x4 ra rg rb) (is_u0 x0 x1 x2 x3 x4 ra rg rb) (val_main_v101_apply x0 x1 x2 x3 x4))
    (val_main_v102_apply (F := Ideal) x0 x1 x2 x3 x4) fun _ _ => rfl

theorem is_u2 : Is (val_main_v107 (F := Ideal) x0 x1 x2 x3 x4) (fun n h => sqU (reM (lowOf (prepAct x0 x2) (prepG x1 x3 x4) (prepB x1) n h)) (reM (ruOf (prepAct x0 x2) (prepB x1) n h)) 2) :=
  is_add (is_u1 x0 x1 x2 x3 x4 ra rg rb) (is_dot (T := val_main_v106 (F := Ideal) x0 x1 x2 x3 x4) (is_p2 x0 x1 x2 x3 x4 ra rg rb) (is_u1 x0 x1 x2 x3 x4 ra rg rb) (val_main_v106_apply x0 x1 x2 x3 x4))
    (val_main_v107_apply (F := Ideal) x0 x1 x2 x3 x4) fun _ _ => rfl

theorem is_u3 : Is (val_main_v112 (F := Ideal) x0 x1 x2 x3 x4) (fun n h => sqU (reM (lowOf (prepAct x0 x2) (prepG x1 x3 x4) (prepB x1) n h)) (reM (ruOf (prepAct x0 x2) (prepB x1) n h)) 3) :=
  is_add (is_u2 x0 x1 x2 x3 x4 ra rg rb) (is_dot (T := val_main_v111 (F := Ideal) x0 x1 x2 x3 x4) (is_p3 x0 x1 x2 x3 x4 ra rg rb) (is_u2 x0 x1 x2 x3 x4 ra rg rb) (val_main_v111_apply x0 x1 x2 x3 x4))
    (val_main_v112_apply (F := Ideal) x0 x1 x2 x3 x4) fun _ _ => rfl

theorem is_u4 : Is (val_main_v117 (F := Ideal) x0 x1 x2 x3 x4) (fun n h => sqU (reM (lowOf (prepAct x0 x2) (prepG x1 x3 x4) (prepB x1) n h)) (reM (ruOf (prepAct x0 x2) (prepB x1) n h)) 4) :=
  is_add (is_u3 x0 x1 x2 x3 x4 ra rg rb) (is_dot (T := val_main_v116 (F := Ideal) x0 x1 x2 x3 x4) (is_p4 x0 x1 x2 x3 x4 ra rg rb) (is_u3 x0 x1 x2 x3 x4 ra rg rb) (val_main_v116_apply x0 x1 x2 x3 x4))
    (val_main_v117_apply (F := Ideal) x0 x1 x2 x3 x4) fun _ _ => rfl

theorem is_u5 : Is (val_main_v122 (F := Ideal) x0 x1 x2 x3 x4) (fun n h => sqU (reM (lowOf (prepAct x0 x2) (prepG x1 x3 x4) (prepB x1) n h)) (reM (ruOf (prepAct x0 x2) (prepB x1) n h)) 5) :=
  is_add (is_u4 x0 x1 x2 x3 x4 ra rg rb) (is_dot (T := val_main_v121 (F := Ideal) x0 x1 x2 x3 x4) (is_p5 x0 x1 x2 x3 x4 ra rg rb) (is_u4 x0 x1 x2 x3 x4 ra rg rb) (val_main_v121_apply x0 x1 x2 x3 x4))
    (val_main_v122_apply (F := Ideal) x0 x1 x2 x3 x4) fun _ _ => rfl

theorem is_u6 : Is (val_main_v127 (F := Ideal) x0 x1 x2 x3 x4) (fun n h => sqU (reM (lowOf (prepAct x0 x2) (prepG x1 x3 x4) (prepB x1) n h)) (reM (ruOf (prepAct x0 x2) (prepB x1) n h)) 6) :=
  is_add (is_u5 x0 x1 x2 x3 x4 ra rg rb) (is_dot (T := val_main_v126 (F := Ideal) x0 x1 x2 x3 x4) (is_p6 x0 x1 x2 x3 x4 ra rg rb) (is_u5 x0 x1 x2 x3 x4 ra rg rb) (val_main_v126_apply x0 x1 x2 x3 x4))
    (val_main_v127_apply (F := Ideal) x0 x1 x2 x3 x4) fun _ _ => rfl

theorem is_w0 : Is (val_main_v99 (F := Ideal) x0 x1 x2 x3 x4) (fun n h => sqU (reM (lowOf (prepAct x0 x2) (prepG x1 x3 x4) (prepB x1) n h)) (reM (rwOf (prepAct x0 x2) (prepG x1 x3 x4) (prepB x1) n h)) 0) :=
  is_sub (is_rw x0 x1 x2 x3 x4 ra rg rb) (is_dot (T := val_main_v98 (F := Ideal) x0 x1 x2 x3 x4) (is_p0 x0 x1 x2 x3 x4 ra rg rb) (is_rw x0 x1 x2 x3 x4 ra rg rb) (val_main_v98_apply x0 x1 x2 x3 x4))
    (val_main_v99_apply (F := Ideal) x0 x1 x2 x3 x4) fun _ _ => rfl

theorem is_w1 : Is (val_main_v104 (F := Ideal) x0 x1 x2 x3 x4) (fun n h => sqU (reM (lowOf (prepAct x0 x2) (prepG x1 x3 x4) (prepB x1) n h)) (reM (rwOf (prepAct x0 x2) (prepG x1 x3 x4) (prepB x1) n h)) 1) :=
  is_add (is_w0 x0 x1 x2 x3 x4 ra rg rb) (is_dot (T := val_main_v103 (F := Ideal) x0 x1 x2 x3 x4) (is_p1 x0 x1 x2 x3 x4 ra rg rb) (is_w0 x0 x1 x2 x3 x4 ra rg rb) (val_main_v103_apply x0 x1 x2 x3 x4))
    (val_main_v104_apply (F := Ideal) x0 x1 x2 x3 x4) fun _ _ => rfl

theorem is_w2 : Is (val_main_v109 (F := Ideal) x0 x1 x2 x3 x4) (fun n h => sqU (reM (lowOf (prepAct x0 x2) (prepG x1 x3 x4) (prepB x1) n h)) (reM (rwOf (prepAct x0 x2) (prepG x1 x3 x4) (prepB x1) n h)) 2) :=
  is_add (is_w1 x0 x1 x2 x3 x4 ra rg rb) (is_dot (T := val_main_v108 (F := Ideal) x0 x1 x2 x3 x4) (is_p2 x0 x1 x2 x3 x4 ra rg rb) (is_w1 x0 x1 x2 x3 x4 ra rg rb) (val_main_v108_apply x0 x1 x2 x3 x4))
    (val_main_v109_apply (F := Ideal) x0 x1 x2 x3 x4) fun _ _ => rfl

theorem is_w3 : Is (val_main_v114 (F := Ideal) x0 x1 x2 x3 x4) (fun n h => sqU (reM (lowOf (prepAct x0 x2) (prepG x1 x3 x4) (prepB x1) n h)) (reM (rwOf (prepAct x0 x2) (prepG x1 x3 x4) (prepB x1) n h)) 3) :=
  is_add (is_w2 x0 x1 x2 x3 x4 ra rg rb) (is_dot (T := val_main_v113 (F := Ideal) x0 x1 x2 x3 x4) (is_p3 x0 x1 x2 x3 x4 ra rg rb) (is_w2 x0 x1 x2 x3 x4 ra rg rb) (val_main_v113_apply x0 x1 x2 x3 x4))
    (val_main_v114_apply (F := Ideal) x0 x1 x2 x3 x4) fun _ _ => rfl

theorem is_w4 : Is (val_main_v119 (F := Ideal) x0 x1 x2 x3 x4) (fun n h => sqU (reM (lowOf (prepAct x0 x2) (prepG x1 x3 x4) (prepB x1) n h)) (reM (rwOf (prepAct x0 x2) (prepG x1 x3 x4) (prepB x1) n h)) 4) :=
  is_add (is_w3 x0 x1 x2 x3 x4 ra rg rb) (is_dot (T := val_main_v118 (F := Ideal) x0 x1 x2 x3 x4) (is_p4 x0 x1 x2 x3 x4 ra rg rb) (is_w3 x0 x1 x2 x3 x4 ra rg rb) (val_main_v118_apply x0 x1 x2 x3 x4))
    (val_main_v119_apply (F := Ideal) x0 x1 x2 x3 x4) fun _ _ => rfl

theorem is_w5 : Is (val_main_v124 (F := Ideal) x0 x1 x2 x3 x4) (fun n h => sqU (reM (lowOf (prepAct x0 x2) (prepG x1 x3 x4) (prepB x1) n h)) (reM (rwOf (prepAct x0 x2) (prepG x1 x3 x4) (prepB x1) n h)) 5) :=
  is_add (is_w4 x0 x1 x2 x3 x4 ra rg rb) (is_dot (T := val_main_v123 (F := Ideal) x0 x1 x2 x3 x4) (is_p5 x0 x1 x2 x3 x4 ra rg rb) (is_w4 x0 x1 x2 x3 x4 ra rg rb) (val_main_v123_apply x0 x1 x2 x3 x4))
    (val_main_v124_apply (F := Ideal) x0 x1 x2 x3 x4) fun _ _ => rfl

theorem is_w6 : Is (val_main_v129 (F := Ideal) x0 x1 x2 x3 x4) (fun n h => sqU (reM (lowOf (prepAct x0 x2) (prepG x1 x3 x4) (prepB x1) n h)) (reM (rwOf (prepAct x0 x2) (prepG x1 x3 x4) (prepB x1) n h)) 6) :=
  is_add (is_w5 x0 x1 x2 x3 x4 ra rg rb) (is_dot (T := val_main_v128 (F := Ideal) x0 x1 x2 x3 x4) (is_p6 x0 x1 x2 x3 x4 ra rg rb) (is_w5 x0 x1 x2 x3 x4 ra rg rb) (val_main_v128_apply x0 x1 x2 x3 x4))
    (val_main_v129_apply (F := Ideal) x0 x1 x2 x3 x4) fun _ _ => rfl

theorem u_apply (i : S128x4x128x128.Idx) : val_main_v127 (F := Ideal) x0 x1 x2 x3 x4 i
    = uOf (prepAct x0 x2) (prepG x1 x3 x4) (prepB x1) (i 0).val (i 1).val (i 2).val (i 3).val := by
  refine (is_u6 x0 x1 x2 x3 x4 ra rg rb i).trans ?_
  show ((sqU _ _ 6 (i 2) (i 3) : ℝ) : EReal) = _
  rw [sqU_solve _ _ (lowOf_low _ _ _ _ _)]
  exact (sol_fin _ _ (i 2) (i 3)).symm

/-- The solved values. -/
theorem res5_apply (i : S16384x512.Idx) : val_main_v131 (F := Ideal) x0 x1 x2 x3 x4 i
    = laid (uOf (prepAct x0 x2) (prepG x1 x3 x4) (prepB x1)) (i 0).val (i 1).val := by
  rw [val_main_v131_apply, val_main_v130_apply, u_apply x0 x1 x2 x3 x4 ra rg rb]
  exact laid_of (uOf (prepAct x0 x2) (prepG x1 x3 x4) (prepB x1)) (i 0).val (i 1).val (i 0).isLt (i 1).isLt

theorem w_apply (i : S128x4x128x128.Idx) : val_main_v129 (F := Ideal) x0 x1 x2 x3 x4 i
    = wOf (prepAct x0 x2) (prepG x1 x3 x4) (prepB x1) (i 0).val (i 1).val (i 2).val (i 3).val := by
  refine (is_w6 x0 x1 x2 x3 x4 ra rg rb i).trans ?_
  show ((sqU _ _ 6 (i 2) (i 3) : ℝ) : EReal) = _
  rw [sqU_solve _ _ (lowOf_low _ _ _ _ _)]
  exact (sol_fin _ _ (i 2) (i 3)).symm

/-- The solved keys. -/
theorem res6_apply (i : S16384x512.Idx) : val_main_v134 (F := Ideal) x0 x1 x2 x3 x4 i
    = laid (wOf (prepAct x0 x2) (prepG x1 x3 x4) (prepB x1)) (i 0).val (i 1).val := by
  rw [val_main_v134_apply, val_main_v133_apply, val_main_v132_apply, w_apply x0 x1 x2 x3 x4 ra rg rb]
  exact laid_of (wOf (prepAct x0 x2) (prepG x1 x3 x4) (prepB x1)) (i 0).val (i 1).val (i 0).isLt (i 1).isLt

end

end Cert.Reference6Ideal.Val

end
-- ==== Proof.Solve.lean ====
/-
  The in-chunk solve's claim: on finite arguments kernel and reference leave the same two solved arrays.
-/
module

public import proofs.«01_k».proof.Proof.SolveRef
public import proofs.«01_k».proof.Proof.Inproj
public import proofs.«01_k».proof.Defs
public import Idealize.ShloMosaic.Lib.ReduceAll
public import Idealize.ShloMosaic.Lib.Affine
public import Idealize.ShloMosaic.Lib.Decide

@[expose] public section

set_option maxRecDepth 65536

noncomputable section

open Idealize.ShloMosaic hiding ix1 ix2 ix3 ix4 eq_ix1 eq_ix2 eq_ix3 eq_ix4
open Idealize.ShloMosaic.TcCoe Idealize.ShloMosaic.ValueIdx Idealize.SL.Sem Idealize.ShloMosaic.StableHlo

namespace Cert.Solve

open Cert.Core
open Cert.Inproj (real_of_reduce)

/-! ## What the precondition says -/

/-- The shape relations the precondition's operations take. -/
instance preFacts : Cert.Pre_finite6.Facts where
  bcast_S_S16384x1536 := by decide
  reducesTo_S16384x1536_S_d0_1 := by decide
  h_S_ := by decide
  bcast_S_S16384x128 := by decide
  reducesTo_S16384x128_S_d0_1 := by decide
  bcast_S_S1x4x1536 := by decide
  reducesTo_S1x4x1536_S_d0_1_2 := by decide
  bcast_S_S1x4 := by decide
  reducesTo_S1x4_S_d0_1 := by decide

section
variable (a0 : (⟨2, ![16384, 1536]⟩ : Shape).Idx → EReal) (a1 : (⟨2, ![16384, 128]⟩ : Shape).Idx → EReal)
  (a2 : (⟨3, ![1, 4, 1536]⟩ : Shape).Idx → EReal) (a3 a4 : (⟨2, ![1, 4]⟩ : Shape).Idx → EReal)

/-- The precondition makes every argument real. -/
theorem real_of_pre (h : Cert.Pre_finite6.fn (F := Ideal) a0 a1 a2 a3 a4 = fun _ => 1#1) :
    (∀ i, IsReal (a0 i)) ∧ (∀ i, IsReal (a1 i)) ∧ (∀ i, IsReal (a2 i)) ∧ (∀ i, IsReal (a3 i)) ∧ ∀ i, IsReal (a4 i) := by
  have e := congrFun h (fun a => a.elim0)
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_reduce a0 _ _ _ _ e0, real_of_reduce a1 _ _ _ _ e1, real_of_reduce a2 _ _ _ _ e2, real_of_reduce a3 _ _ _ _ e3, real_of_reduce a4 _ _ _ _ e4⟩

/-- Then the convolution, the log decays and the step sizes are real. -/
theorem real_all (h : Cert.Pre_finite6.fn (F := Ideal) a0 a1 a2 a3 a4 = fun _ => 1#1) :
    (∀ r c, IsReal (prepAct a0 a2 r c)) ∧ (∀ r h, IsReal (prepG a1 a3 a4 r h)) ∧ ∀ r h, IsReal (prepB a1 r h) := by
  obtain ⟨h0, h1, h2, h3, h4⟩ := real_of_pre a0 a1 a2 a3 a4 h
  exact ⟨fun r c => actOf_real _ _ (fun _ _ => h0 _) (fun _ _ => h2 _) r c, fun r h => decayOf_real _ _ _ r h (h1 _) (h3 _) (h4 _),
    fun r h => IsReal.logistic (h1 _)⟩
end

open Cert.Reference6Ideal.Read Cert.Reference6Ideal.Val Cert.Kernel6Ideal.Val

section
open Cert.Reference6Ideal Cert.Reference6Ideal.Gen
variable (m' : (ℓ : Loc nD τ sig) → Buf (Elt Ideal) ℓ) (c : Dev nD)

theorem arg0_eq : launchContents m' c (Proc.devRef .tc main_arg0) = m' ((c.tc : Thread nD τ).loc main_arg0) := rfl
theorem arg1_eq : launchContents m' c (Proc.devRef .tc main_arg1) = m' ((c.tc : Thread nD τ).loc main_arg1) := rfl
theorem arg2_eq : launchContents m' c (Proc.devRef .tc main_arg2) = m' ((c.tc : Thread nD τ).loc main_arg2) := rfl
theorem arg3_eq : launchContents m' c (Proc.devRef .tc main_arg3) = m' ((c.tc : Thread nD τ).loc main_arg3) := rfl
theorem arg4_eq : launchContents m' c (Proc.devRef .tc main_arg4) = m' ((c.tc : Thread nD τ).loc main_arg4) := rfl
end

/-- Over the extended reals, on finite arguments, the kernel and the reference leave the same solved values and solved keys. -/
theorem algebraic : Cert.algebraic_Kernel6Ideal_Reference6Ideal_pre_finite6 := by
  intro m ρ m' ρ' hpre hagree
  have hr := fun c => real_all _ _ _ _ _ (hpre c)
  refine ⟨fun c => result5 m c, fun c => result6 m c,
    (θ_run _ _ _).mono (fun _ h c => ⟨(h c).1.trans (final5 m c (hr c).1 (hr c).2.1 (hr c).2.2), (h c).2.1.trans (final6 m c (hr c).1 (hr c).2.1 (hr c).2.2),
      (h c).2.2.2.2.2.2⟩) (Cert.Kernel6Ideal.Value.run_blocks m ρ), ?_⟩
  refine (θ_run _ _ _).mono (fun _ h c => ⟨((h c).1.trans (val_main_v131_eq (F := Ideal) (launchContents m' c))).trans ?_,
    ((h c).2.1.trans (val_main_v134_eq (F := Ideal) (launchContents m' c))).trans ?_, (h c).2.2⟩)
    (Cert.Reference6Ideal.Value.run (F := Ideal) m' ρ')
  · obtain ⟨h0, h1, h2, h3, h4⟩ := hagree c
    rw [arg0_eq m' c, arg1_eq m' c, arg2_eq m' c, arg3_eq m' c, arg4_eq m' c, h0, h1, h2, h3, h4]
    funext i
    exact res5_apply _ _ _ _ _ (hr c).1 (hr c).2.1 (hr c).2.2 i
  · obtain ⟨h0, h1, h2, h3, h4⟩ := hagree c
    rw [arg0_eq m' c, arg1_eq m' c, arg2_eq m' c, arg3_eq m' c, arg4_eq m' c, h0, h1, h2, h3, h4]
    funext i
    exact res6_apply _ _ _ _ _ (hr c).1 (hr c).2.1 (hr c).2.2 i

end Cert.Solve

end
-- ==== Proof.lean ====
module

public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.ReferenceIdeal.Step
public import proofs.«01_k».proof.Proof.Scan
public import proofs.«01_k».proof.Proof.Outproj
public import proofs.«01_k».proof.Proof.Inproj
public import proofs.«01_k».proof.Proof.Ada
public import proofs.«01_k».proof.Proof.Prep
public import proofs.«01_k».proof.Proof.Solve
public import proofs.«01_k».proof.Proof.Gen.Reference2Ideal.Run
public import proofs.«01_k».proof.Proof.Gen.Reference3Ideal.Run
public import proofs.«01_k».proof.Proof.Gen.Reference2Ideal.Read
public import proofs.«01_k».proof.Proof.Gen.Reference3Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import Idealize.ShloMosaic.Adequacy
public import Idealize.ShloMosaic.Init

@[expose] public section

noncomputable section

namespace Cert.Proof

open Idealize.ShloMosaic Idealize.SL.Sem Cert.Kernel

/-- The input projection's reference terminates without fault and keeps its arguments. -/
theorem frame_reference2 : Cert.quiescent_Reference2Ideal := fun m ρ _ =>
  (θ_run _ _ _).mono (fun r h => ⟨fun c => (h c).2.2.2.2, sem_eq_zero_of_no_sems (by decide) r.2⟩) (Cert.Reference2Ideal.Value.run m ρ)

/-- The same on finite arguments. -/
theorem frame_reference2_finite : Cert.quiescent_Reference2Ideal_pre_finite2 := fun m ρ _ => frame_reference2 m ρ trivial

/-- The output projection's reference terminates without fault and keeps its arguments. -/
theorem frame_reference3 : Cert.quiescent_Reference3Ideal := fun m ρ _ =>
  (θ_run _ _ _).mono (fun r h => ⟨fun c => (h c).2.2.2, sem_eq_zero_of_no_sems (by decide) r.2⟩) (Cert.Reference3Ideal.Value.run m ρ)

/-- The modulation vector's reference terminates without fault and keeps its arguments. -/
theorem frame_reference4 : Cert.quiescent_Reference4Ideal := fun m ρ _ =>
  (θ_run _ _ _).mono (fun r h => ⟨fun c => (h c).2, sem_eq_zero_of_no_sems (by decide) r.2⟩) (Cert.Reference4Ideal.Value.run m ρ)

/-- The preparing call's reference terminates without fault and keeps its arguments. -/
theorem frame_reference5 : Cert.quiescent_Reference5Ideal := fun m ρ _ =>
  (θ_run _ _ _).mono (fun r h => ⟨fun c => (h c).2.2.2.2, sem_eq_zero_of_no_sems (by decide) r.2⟩) (Cert.Reference5Ideal.Value.run m ρ)

/-- The in-chunk solve's reference terminates without fault and keeps its arguments. -/
theorem frame_reference6 : Cert.quiescent_Reference6Ideal := fun m ρ _ =>
  (θ_run _ _ _).mono (fun r h => ⟨fun c => (h c).2.2, sem_eq_zero_of_no_sems (by decide) r.2⟩) (Cert.Reference6Ideal.Value.run m ρ)

/-- The same on finite arguments. -/
theorem frame_reference6_finite : Cert.quiescent_Reference6Ideal_pre_finite6 := fun m ρ _ => frame_reference6 m ρ trivial

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Inproj.preFacts, Cert.Solve.preFacts,
  fun m ρ _ => Cert.Kernel.Gen.frame m ρ, fun m ρ _ => Cert.KernelIdeal.Gen.frame m ρ, Cert.Scan.frame_reference,
  fun m ρ _ => Cert.Kernel2.Gen.frame m ρ, fun m ρ _ => Cert.Kernel2Ideal.Gen.frame m ρ, fun m ρ _ => Cert.Kernel2Ideal.Gen.frame m ρ, frame_reference2,
  frame_reference2_finite,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, fun m ρ _ => Cert.Kernel6Ideal.Gen.frame m ρ, frame_reference6,
  frame_reference6_finite,
  trivial, Cert.Scan.algebraic, IdealRules.named_const.statement _ _ _ _ _ rfl, Cert.Inproj.algebraic, trivial, Cert.Outproj.algebraic, trivial, Cert.Ada.algebraic, trivial, Cert.Prep.algebraic, trivial, Cert.Solve.algebraic⟩

end Cert.Proof

end
